-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite4 [hPre_finite4 : Cert.Pre_finite4.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10)) (m ((c.tc : Thread Cert.Kernel4Ideal.nD Cert.Kernel4Ideal.τ).loc Cert.Kernel4Ideal.main_arg11)) (m ((c.tc : Thread Cert.Kernel4Ideal.nD Cert.Kernel4Ideal.τ).loc Cert.Kernel4Ideal.main_arg12)) (m ((c.tc : Thread Cert.Kernel4Ideal.nD Cert.Kernel4Ideal.τ).loc Cert.Kernel4Ideal.main_arg13)) (m ((c.tc : Thread Cert.Kernel4Ideal.nD Cert.Kernel4Ideal.τ).loc Cert.Kernel4Ideal.main_arg14)) (m ((c.tc : Thread Cert.Kernel4Ideal.nD Cert.Kernel4Ideal.τ).loc Cert.Kernel4Ideal.main_arg15)) (m ((c.tc : Thread Cert.Kernel4Ideal.nD Cert.Kernel4Ideal.τ).loc Cert.Kernel4Ideal.main_arg16)) (m ((c.tc : Thread Cert.Kernel4Ideal.nD Cert.Kernel4Ideal.τ).loc Cert.Kernel4Ideal.main_arg17)) (m ((c.tc : Thread Cert.Kernel4Ideal.nD Cert.Kernel4Ideal.τ).loc Cert.Kernel4Ideal.main_arg18)) (m ((c.tc : Thread Cert.Kernel4Ideal.nD Cert.Kernel4Ideal.τ).loc Cert.Kernel4Ideal.main_arg19))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite4 [hPre_finite4 : Cert.Pre_finite4.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9)) (m ((c.tc : Thread Cert.Reference4Ideal.nD Cert.Reference4Ideal.τ).loc Cert.Reference4Ideal.main_arg10)) (m ((c.tc : Thread Cert.Reference4Ideal.nD Cert.Reference4Ideal.τ).loc Cert.Reference4Ideal.main_arg11)) (m ((c.tc : Thread Cert.Reference4Ideal.nD Cert.Reference4Ideal.τ).loc Cert.Reference4Ideal.main_arg12)) (m ((c.tc : Thread Cert.Reference4Ideal.nD Cert.Reference4Ideal.τ).loc Cert.Reference4Ideal.main_arg13)) (m ((c.tc : Thread Cert.Reference4Ideal.nD Cert.Reference4Ideal.τ).loc Cert.Reference4Ideal.main_arg14)) (m ((c.tc : Thread Cert.Reference4Ideal.nD Cert.Reference4Ideal.τ).loc Cert.Reference4Ideal.main_arg15)) (m ((c.tc : Thread Cert.Reference4Ideal.nD Cert.Reference4Ideal.τ).loc Cert.Reference4Ideal.main_arg16)) (m ((c.tc : Thread Cert.Reference4Ideal.nD Cert.Reference4Ideal.τ).loc Cert.Reference4Ideal.main_arg17)) (m ((c.tc : Thread Cert.Reference4Ideal.nD Cert.Reference4Ideal.τ).loc Cert.Reference4Ideal.main_arg18)) (m ((c.tc : Thread Cert.Reference4Ideal.nD Cert.Reference4Ideal.τ).loc Cert.Reference4Ideal.main_arg19))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11)
      ∧ r.2.mem ((c.tc : Thread Cert.Kernel4.nD Cert.Kernel4.τ).loc Cert.Kernel4.main_arg12) = m ((c.tc : Thread Cert.Kernel4.nD Cert.Kernel4.τ).loc Cert.Kernel4.main_arg12)
      ∧ r.2.mem ((c.tc : Thread Cert.Kernel4.nD Cert.Kernel4.τ).loc Cert.Kernel4.main_arg13) = m ((c.tc : Thread Cert.Kernel4.nD Cert.Kernel4.τ).loc Cert.Kernel4.main_arg13)
      ∧ r.2.mem ((c.tc : Thread Cert.Kernel4.nD Cert.Kernel4.τ).loc Cert.Kernel4.main_arg14) = m ((c.tc : Thread Cert.Kernel4.nD Cert.Kernel4.τ).loc Cert.Kernel4.main_arg14)
      ∧ r.2.mem ((c.tc : Thread Cert.Kernel4.nD Cert.Kernel4.τ).loc Cert.Kernel4.main_arg15) = m ((c.tc : Thread Cert.Kernel4.nD Cert.Kernel4.τ).loc Cert.Kernel4.main_arg15)
      ∧ r.2.mem ((c.tc : Thread Cert.Kernel4.nD Cert.Kernel4.τ).loc Cert.Kernel4.main_arg16) = m ((c.tc : Thread Cert.Kernel4.nD Cert.Kernel4.τ).loc Cert.Kernel4.main_arg16)
      ∧ r.2.mem ((c.tc : Thread Cert.Kernel4.nD Cert.Kernel4.τ).loc Cert.Kernel4.main_arg17) = m ((c.tc : Thread Cert.Kernel4.nD Cert.Kernel4.τ).loc Cert.Kernel4.main_arg17)
      ∧ r.2.mem ((c.tc : Thread Cert.Kernel4.nD Cert.Kernel4.τ).loc Cert.Kernel4.main_arg18) = m ((c.tc : Thread Cert.Kernel4.nD Cert.Kernel4.τ).loc Cert.Kernel4.main_arg18)
      ∧ r.2.mem ((c.tc : Thread Cert.Kernel4.nD Cert.Kernel4.τ).loc Cert.Kernel4.main_arg19) = m ((c.tc : Thread Cert.Kernel4.nD Cert.Kernel4.τ).loc Cert.Kernel4.main_arg19))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
      ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
      ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13)
      ∧ r.2.mem ((c.tc : Thread Cert.Kernel4Ideal.nD Cert.Kernel4Ideal.τ).loc Cert.Kernel4Ideal.main_arg14) = m ((c.tc : Thread Cert.Kernel4Ideal.nD Cert.Kernel4Ideal.τ).loc Cert.Kernel4Ideal.main_arg14)
      ∧ r.2.mem ((c.tc : Thread Cert.Kernel4Ideal.nD Cert.Kernel4Ideal.τ).loc Cert.Kernel4Ideal.main_arg15) = m ((c.tc : Thread Cert.Kernel4Ideal.nD Cert.Kernel4Ideal.τ).loc Cert.Kernel4Ideal.main_arg15)
      ∧ r.2.mem ((c.tc : Thread Cert.Kernel4Ideal.nD Cert.Kernel4Ideal.τ).loc Cert.Kernel4Ideal.main_arg16) = m ((c.tc : Thread Cert.Kernel4Ideal.nD Cert.Kernel4Ideal.τ).loc Cert.Kernel4Ideal.main_arg16)
      ∧ r.2.mem ((c.tc : Thread Cert.Kernel4Ideal.nD Cert.Kernel4Ideal.τ).loc Cert.Kernel4Ideal.main_arg17) = m ((c.tc : Thread Cert.Kernel4Ideal.nD Cert.Kernel4Ideal.τ).loc Cert.Kernel4Ideal.main_arg17)
      ∧ r.2.mem ((c.tc : Thread Cert.Kernel4Ideal.nD Cert.Kernel4Ideal.τ).loc Cert.Kernel4Ideal.main_arg18) = m ((c.tc : Thread Cert.Kernel4Ideal.nD Cert.Kernel4Ideal.τ).loc Cert.Kernel4Ideal.main_arg18)
      ∧ r.2.mem ((c.tc : Thread Cert.Kernel4Ideal.nD Cert.Kernel4Ideal.τ).loc Cert.Kernel4Ideal.main_arg19) = m ((c.tc : Thread Cert.Kernel4Ideal.nD Cert.Kernel4Ideal.τ).loc Cert.Kernel4Ideal.main_arg19))
      ∧ r.2.sem = fun _ => 0)

def quiescent_Kernel4Ideal_pre_finite4 [hKernel4Ideal : Cert.Kernel4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite4 m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
      ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
      ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13)
      ∧ r.2.mem ((c.tc : Thread Cert.Kernel4Ideal.nD Cert.Kernel4Ideal.τ).loc Cert.Kernel4Ideal.main_arg14) = m ((c.tc : Thread Cert.Kernel4Ideal.nD Cert.Kernel4Ideal.τ).loc Cert.Kernel4Ideal.main_arg14)
      ∧ r.2.mem ((c.tc : Thread Cert.Kernel4Ideal.nD Cert.Kernel4Ideal.τ).loc Cert.Kernel4Ideal.main_arg15) = m ((c.tc : Thread Cert.Kernel4Ideal.nD Cert.Kernel4Ideal.τ).loc Cert.Kernel4Ideal.main_arg15)
      ∧ r.2.mem ((c.tc : Thread Cert.Kernel4Ideal.nD Cert.Kernel4Ideal.τ).loc Cert.Kernel4Ideal.main_arg16) = m ((c.tc : Thread Cert.Kernel4Ideal.nD Cert.Kernel4Ideal.τ).loc Cert.Kernel4Ideal.main_arg16)
      ∧ r.2.mem ((c.tc : Thread Cert.Kernel4Ideal.nD Cert.Kernel4Ideal.τ).loc Cert.Kernel4Ideal.main_arg17) = m ((c.tc : Thread Cert.Kernel4Ideal.nD Cert.Kernel4Ideal.τ).loc Cert.Kernel4Ideal.main_arg17)
      ∧ r.2.mem ((c.tc : Thread Cert.Kernel4Ideal.nD Cert.Kernel4Ideal.τ).loc Cert.Kernel4Ideal.main_arg18) = m ((c.tc : Thread Cert.Kernel4Ideal.nD Cert.Kernel4Ideal.τ).loc Cert.Kernel4Ideal.main_arg18)
      ∧ r.2.mem ((c.tc : Thread Cert.Kernel4Ideal.nD Cert.Kernel4Ideal.τ).loc Cert.Kernel4Ideal.main_arg19) = m ((c.tc : Thread Cert.Kernel4Ideal.nD Cert.Kernel4Ideal.τ).loc Cert.Kernel4Ideal.main_arg19))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11)
      ∧ r.2.mem ((c.tc : Thread Cert.Reference4Ideal.nD Cert.Reference4Ideal.τ).loc Cert.Reference4Ideal.main_arg12) = m ((c.tc : Thread Cert.Reference4Ideal.nD Cert.Reference4Ideal.τ).loc Cert.Reference4Ideal.main_arg12)
      ∧ r.2.mem ((c.tc : Thread Cert.Reference4Ideal.nD Cert.Reference4Ideal.τ).loc Cert.Reference4Ideal.main_arg13) = m ((c.tc : Thread Cert.Reference4Ideal.nD Cert.Reference4Ideal.τ).loc Cert.Reference4Ideal.main_arg13)
      ∧ r.2.mem ((c.tc : Thread Cert.Reference4Ideal.nD Cert.Reference4Ideal.τ).loc Cert.Reference4Ideal.main_arg14) = m ((c.tc : Thread Cert.Reference4Ideal.nD Cert.Reference4Ideal.τ).loc Cert.Reference4Ideal.main_arg14)
      ∧ r.2.mem ((c.tc : Thread Cert.Reference4Ideal.nD Cert.Reference4Ideal.τ).loc Cert.Reference4Ideal.main_arg15) = m ((c.tc : Thread Cert.Reference4Ideal.nD Cert.Reference4Ideal.τ).loc Cert.Reference4Ideal.main_arg15)
      ∧ r.2.mem ((c.tc : Thread Cert.Reference4Ideal.nD Cert.Reference4Ideal.τ).loc Cert.Reference4Ideal.main_arg16) = m ((c.tc : Thread Cert.Reference4Ideal.nD Cert.Reference4Ideal.τ).loc Cert.Reference4Ideal.main_arg16)
      ∧ r.2.mem ((c.tc : Thread Cert.Reference4Ideal.nD Cert.Reference4Ideal.τ).loc Cert.Reference4Ideal.main_arg17) = m ((c.tc : Thread Cert.Reference4Ideal.nD Cert.Reference4Ideal.τ).loc Cert.Reference4Ideal.main_arg17)
      ∧ r.2.mem ((c.tc : Thread Cert.Reference4Ideal.nD Cert.Reference4Ideal.τ).loc Cert.Reference4Ideal.main_arg18) = m ((c.tc : Thread Cert.Reference4Ideal.nD Cert.Reference4Ideal.τ).loc Cert.Reference4Ideal.main_arg18)
      ∧ r.2.mem ((c.tc : Thread Cert.Reference4Ideal.nD Cert.Reference4Ideal.τ).loc Cert.Reference4Ideal.main_arg19) = m ((c.tc : Thread Cert.Reference4Ideal.nD Cert.Reference4Ideal.τ).loc Cert.Reference4Ideal.main_arg19))
      ∧ r.2.sem = fun _ => 0)

def quiescent_Reference4Ideal_pre_finite4 [hReference4Ideal : Cert.Reference4Ideal.Facts] [hPre_finite4 : Cert.Pre_finite4.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite4 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11)
      ∧ r.2.mem ((c.tc : Thread Cert.Reference4Ideal.nD Cert.Reference4Ideal.τ).loc Cert.Reference4Ideal.main_arg12) = m ((c.tc : Thread Cert.Reference4Ideal.nD Cert.Reference4Ideal.τ).loc Cert.Reference4Ideal.main_arg12)
      ∧ r.2.mem ((c.tc : Thread Cert.Reference4Ideal.nD Cert.Reference4Ideal.τ).loc Cert.Reference4Ideal.main_arg13) = m ((c.tc : Thread Cert.Reference4Ideal.nD Cert.Reference4Ideal.τ).loc Cert.Reference4Ideal.main_arg13)
      ∧ r.2.mem ((c.tc : Thread Cert.Reference4Ideal.nD Cert.Reference4Ideal.τ).loc Cert.Reference4Ideal.main_arg14) = m ((c.tc : Thread Cert.Reference4Ideal.nD Cert.Reference4Ideal.τ).loc Cert.Reference4Ideal.main_arg14)
      ∧ r.2.mem ((c.tc : Thread Cert.Reference4Ideal.nD Cert.Reference4Ideal.τ).loc Cert.Reference4Ideal.main_arg15) = m ((c.tc : Thread Cert.Reference4Ideal.nD Cert.Reference4Ideal.τ).loc Cert.Reference4Ideal.main_arg15)
      ∧ r.2.mem ((c.tc : Thread Cert.Reference4Ideal.nD Cert.Reference4Ideal.τ).loc Cert.Reference4Ideal.main_arg16) = m ((c.tc : Thread Cert.Reference4Ideal.nD Cert.Reference4Ideal.τ).loc Cert.Reference4Ideal.main_arg16)
      ∧ r.2.mem ((c.tc : Thread Cert.Reference4Ideal.nD Cert.Reference4Ideal.τ).loc Cert.Reference4Ideal.main_arg17) = m ((c.tc : Thread Cert.Reference4Ideal.nD Cert.Reference4Ideal.τ).loc Cert.Reference4Ideal.main_arg17)
      ∧ r.2.mem ((c.tc : Thread Cert.Reference4Ideal.nD Cert.Reference4Ideal.τ).loc Cert.Reference4Ideal.main_arg18) = m ((c.tc : Thread Cert.Reference4Ideal.nD Cert.Reference4Ideal.τ).loc Cert.Reference4Ideal.main_arg18)
      ∧ r.2.mem ((c.tc : Thread Cert.Reference4Ideal.nD Cert.Reference4Ideal.τ).loc Cert.Reference4Ideal.main_arg19) = m ((c.tc : Thread Cert.Reference4Ideal.nD Cert.Reference4Ideal.τ).loc Cert.Reference4Ideal.main_arg19))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v9)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v9) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v72) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v23)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v23) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v92) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal_pre_finite4 [hKernel4Ideal : Cert.Kernel4Ideal.Facts] [hReference4Ideal : Cert.Reference4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite4 m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)
      ∧ m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)
      ∧ m' ((c.tc : Thread Cert.Reference4Ideal.nD Cert.Reference4Ideal.τ).loc Cert.Reference4Ideal.main_arg12) = m ((c.tc : Thread Cert.Kernel4Ideal.nD Cert.Kernel4Ideal.τ).loc Cert.Kernel4Ideal.main_arg12)
      ∧ m' ((c.tc : Thread Cert.Reference4Ideal.nD Cert.Reference4Ideal.τ).loc Cert.Reference4Ideal.main_arg13) = m ((c.tc : Thread Cert.Kernel4Ideal.nD Cert.Kernel4Ideal.τ).loc Cert.Kernel4Ideal.main_arg13)
      ∧ m' ((c.tc : Thread Cert.Reference4Ideal.nD Cert.Reference4Ideal.τ).loc Cert.Reference4Ideal.main_arg14) = m ((c.tc : Thread Cert.Kernel4Ideal.nD Cert.Kernel4Ideal.τ).loc Cert.Kernel4Ideal.main_arg14)
      ∧ m' ((c.tc : Thread Cert.Reference4Ideal.nD Cert.Reference4Ideal.τ).loc Cert.Reference4Ideal.main_arg15) = m ((c.tc : Thread Cert.Kernel4Ideal.nD Cert.Kernel4Ideal.τ).loc Cert.Kernel4Ideal.main_arg15)
      ∧ m' ((c.tc : Thread Cert.Reference4Ideal.nD Cert.Reference4Ideal.τ).loc Cert.Reference4Ideal.main_arg16) = m ((c.tc : Thread Cert.Kernel4Ideal.nD Cert.Kernel4Ideal.τ).loc Cert.Kernel4Ideal.main_arg16)
      ∧ m' ((c.tc : Thread Cert.Reference4Ideal.nD Cert.Reference4Ideal.τ).loc Cert.Reference4Ideal.main_arg17) = m ((c.tc : Thread Cert.Kernel4Ideal.nD Cert.Kernel4Ideal.τ).loc Cert.Kernel4Ideal.main_arg17)
      ∧ m' ((c.tc : Thread Cert.Reference4Ideal.nD Cert.Reference4Ideal.τ).loc Cert.Reference4Ideal.main_arg18) = m ((c.tc : Thread Cert.Kernel4Ideal.nD Cert.Kernel4Ideal.τ).loc Cert.Kernel4Ideal.main_arg18)
      ∧ m' ((c.tc : Thread Cert.Reference4Ideal.nD Cert.Reference4Ideal.τ).loc Cert.Reference4Ideal.main_arg19) = m ((c.tc : Thread Cert.Kernel4Ideal.nD Cert.Kernel4Ideal.τ).loc Cert.Kernel4Ideal.main_arg19)) →
    ∃ (v0 : (c : Dev Cert.Kernel4Ideal.nD) → Buf (Elt Ideal) ((c.tc : Thread Cert.Kernel4Ideal.nD Cert.Kernel4Ideal.τ).loc Cert.Kernel4Ideal.main_v31)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v31) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
          ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
          ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
          ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13)
          ∧ r.2.mem ((c.tc : Thread Cert.Kernel4Ideal.nD Cert.Kernel4Ideal.τ).loc Cert.Kernel4Ideal.main_arg14) = m ((c.tc : Thread Cert.Kernel4Ideal.nD Cert.Kernel4Ideal.τ).loc Cert.Kernel4Ideal.main_arg14)
          ∧ r.2.mem ((c.tc : Thread Cert.Kernel4Ideal.nD Cert.Kernel4Ideal.τ).loc Cert.Kernel4Ideal.main_arg15) = m ((c.tc : Thread Cert.Kernel4Ideal.nD Cert.Kernel4Ideal.τ).loc Cert.Kernel4Ideal.main_arg15)
          ∧ r.2.mem ((c.tc : Thread Cert.Kernel4Ideal.nD Cert.Kernel4Ideal.τ).loc Cert.Kernel4Ideal.main_arg16) = m ((c.tc : Thread Cert.Kernel4Ideal.nD Cert.Kernel4Ideal.τ).loc Cert.Kernel4Ideal.main_arg16)
          ∧ r.2.mem ((c.tc : Thread Cert.Kernel4Ideal.nD Cert.Kernel4Ideal.τ).loc Cert.Kernel4Ideal.main_arg17) = m ((c.tc : Thread Cert.Kernel4Ideal.nD Cert.Kernel4Ideal.τ).loc Cert.Kernel4Ideal.main_arg17)
          ∧ r.2.mem ((c.tc : Thread Cert.Kernel4Ideal.nD Cert.Kernel4Ideal.τ).loc Cert.Kernel4Ideal.main_arg18) = m ((c.tc : Thread Cert.Kernel4Ideal.nD Cert.Kernel4Ideal.τ).loc Cert.Kernel4Ideal.main_arg18)
          ∧ r.2.mem ((c.tc : Thread Cert.Kernel4Ideal.nD Cert.Kernel4Ideal.τ).loc Cert.Kernel4Ideal.main_arg19) = m ((c.tc : Thread Cert.Kernel4Ideal.nD Cert.Kernel4Ideal.τ).loc Cert.Kernel4Ideal.main_arg19))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v114) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10)
          ∧ r.2.mem ((c.tc : Thread Cert.Reference4Ideal.nD Cert.Reference4Ideal.τ).loc Cert.Reference4Ideal.main_arg11) = m' ((c.tc : Thread Cert.Reference4Ideal.nD Cert.Reference4Ideal.τ).loc Cert.Reference4Ideal.main_arg11)
          ∧ r.2.mem ((c.tc : Thread Cert.Reference4Ideal.nD Cert.Reference4Ideal.τ).loc Cert.Reference4Ideal.main_arg12) = m' ((c.tc : Thread Cert.Reference4Ideal.nD Cert.Reference4Ideal.τ).loc Cert.Reference4Ideal.main_arg12)
          ∧ r.2.mem ((c.tc : Thread Cert.Reference4Ideal.nD Cert.Reference4Ideal.τ).loc Cert.Reference4Ideal.main_arg13) = m' ((c.tc : Thread Cert.Reference4Ideal.nD Cert.Reference4Ideal.τ).loc Cert.Reference4Ideal.main_arg13)
          ∧ r.2.mem ((c.tc : Thread Cert.Reference4Ideal.nD Cert.Reference4Ideal.τ).loc Cert.Reference4Ideal.main_arg14) = m' ((c.tc : Thread Cert.Reference4Ideal.nD Cert.Reference4Ideal.τ).loc Cert.Reference4Ideal.main_arg14)
          ∧ r.2.mem ((c.tc : Thread Cert.Reference4Ideal.nD Cert.Reference4Ideal.τ).loc Cert.Reference4Ideal.main_arg15) = m' ((c.tc : Thread Cert.Reference4Ideal.nD Cert.Reference4Ideal.τ).loc Cert.Reference4Ideal.main_arg15)
          ∧ r.2.mem ((c.tc : Thread Cert.Reference4Ideal.nD Cert.Reference4Ideal.τ).loc Cert.Reference4Ideal.main_arg16) = m' ((c.tc : Thread Cert.Reference4Ideal.nD Cert.Reference4Ideal.τ).loc Cert.Reference4Ideal.main_arg16)
          ∧ r.2.mem ((c.tc : Thread Cert.Reference4Ideal.nD Cert.Reference4Ideal.τ).loc Cert.Reference4Ideal.main_arg17) = m' ((c.tc : Thread Cert.Reference4Ideal.nD Cert.Reference4Ideal.τ).loc Cert.Reference4Ideal.main_arg17)
          ∧ r.2.mem ((c.tc : Thread Cert.Reference4Ideal.nD Cert.Reference4Ideal.τ).loc Cert.Reference4Ideal.main_arg18) = m' ((c.tc : Thread Cert.Reference4Ideal.nD Cert.Reference4Ideal.τ).loc Cert.Reference4Ideal.main_arg18)
          ∧ r.2.mem ((c.tc : Thread Cert.Reference4Ideal.nD Cert.Reference4Ideal.τ).loc Cert.Reference4Ideal.main_arg19) = m' ((c.tc : Thread Cert.Reference4Ideal.nD Cert.Reference4Ideal.τ).loc Cert.Reference4Ideal.main_arg19))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite : Cert.Pre_finite.Facts) (hPre_finite3 : Cert.Pre_finite3.Facts) (hPre_finite4 : Cert.Pre_finite4.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ quiescent_Kernel4 (hKernel4 := hKernel4)
    ∧ quiescent_Kernel4Ideal (hKernel4Ideal := hKernel4Ideal)
    ∧ quiescent_Kernel4Ideal_pre_finite4 (hKernel4Ideal := hKernel4Ideal) (hPre_finite4 := hPre_finite4)
    ∧ quiescent_Reference4Ideal (hReference4Ideal := hReference4Ideal)
    ∧ quiescent_Reference4Ideal_pre_finite4 (hReference4Ideal := hReference4Ideal) (hPre_finite4 := hPre_finite4)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_finite3 (hKernel3Ideal := hKernel3Ideal) (hReference3Ideal := hReference3Ideal) (hPre_finite3 := hPre_finite3)
    ∧ preserves_Kernel4_Kernel4Ideal
    ∧ algebraic_Kernel4Ideal_Reference4Ideal_pre_finite4 (hKernel4Ideal := hKernel4Ideal) (hReference4Ideal := hReference4Ideal) (hPre_finite4 := hPre_finite4)
-- ==== Pre_finite.lean ====
abbrev S8x2048x8x2x64 : Shape := ⟨5, ![8, 2048, 8, 2, 64]⟩
abbrev S8x2048x8x128 : Shape := ⟨4, ![8, 2048, 8, 128]⟩
abbrev S8x256x8x2x64 : Shape := ⟨5, ![8, 256, 8, 2, 64]⟩
abbrev S8x256x8x128 : Shape := ⟨4, ![8, 256, 8, 128]⟩
abbrev S4x64 : Shape := ⟨2, ![4, 64]⟩
abbrev S128 : Shape := ⟨1, ![128]⟩
abbrev S_ : Shape := ⟨0, ![]⟩

class Facts : Prop where
  bcast_S_S8x2048x8x2x64 : S_.BroadcastsInDim S8x2048x8x2x64 (![] : Fin 0 → Fin S8x2048x8x2x64.rank)
  reducesTo_S8x2048x8x2x64_S_d0_1_2_3_4 : S8x2048x8x2x64.ReducesTo [0, 1, 2, 3, 4] S_
  h_S_ : 0 < S_.numel
  bcast_S_S8x2048x8x128 : S_.BroadcastsInDim S8x2048x8x128 (![] : Fin 0 → Fin S8x2048x8x128.rank)
  reducesTo_S8x2048x8x128_S_d0_1_2_3 : S8x2048x8x128.ReducesTo [0, 1, 2, 3] S_
  bcast_S_S8x256x8x2x64 : S_.BroadcastsInDim S8x256x8x2x64 (![] : Fin 0 → Fin S8x256x8x2x64.rank)
  reducesTo_S8x256x8x2x64_S_d0_1_2_3_4 : S8x256x8x2x64.ReducesTo [0, 1, 2, 3, 4] S_
  bcast_S_S8x256x8x128 : S_.BroadcastsInDim S8x256x8x128 (![] : Fin 0 → Fin S8x256x8x128.rank)
  reducesTo_S8x256x8x128_S_d0_1_2_3 : S8x256x8x128.ReducesTo [0, 1, 2, 3] S_
  bcast_S_S4x64 : S_.BroadcastsInDim S4x64 (![] : Fin 0 → Fin S4x64.rank)
  reducesTo_S4x64_S_d0_1 : S4x64.ReducesTo [0, 1] S_

variable [Facts]

def fn_part1 {F : FTy → Type} [FloatOps F] (main_arg5 : FVec F S8x256x8x128 .f32) (main_arg6 : FVec F S4x64 .f32) (main_v13 : IVec S_ 1) (main_v16 : IVec S8x256x8x2x64 1) : IVec S_ 1 :=
  let main_c_5 : IVec S_ 1 := constantI S_ 1 1#1
  let main_v17 : IVec S_ 1 := (fun x v => Host.reduce IntOp.andi x v reducesTo_S8x256x8x2x64_S_d0_1_2_3_4 h_S_) main_v16 main_c_5
  let main_v18 : IVec S_ 1 := andi main_v13 main_v17
  let main_v19 : FVec F S8x256x8x128 .f32 := Host.absf main_arg5
  let main_cst_6 : FVec F S_ .f32 := constant S_ .f32 0x7F800000#32
  let main_v20 : FVec F S8x256x8x128 .f32 := broadcastInDim S8x256x8x128 ![] bcast_S_S8x256x8x128 main_cst_6
  let main_v21 : IVec S8x256x8x128 1 := cmpf .olt main_v19 main_v20
  let main_c_7 : IVec S_ 1 := constantI S_ 1 1#1
  let main_v22 : IVec S_ 1 := (fun x v => Host.reduce IntOp.andi x v reducesTo_S8x256x8x128_S_d0_1_2_3 h_S_) main_v21 main_c_7
  let main_v23 : IVec S_ 1 := andi main_v18 main_v22
  let main_v24 : FVec F S4x64 .f32 := Host.absf main_arg6
  let main_cst_8 : FVec F S_ .f32 := constant S_ .f32 0x7F800000#32
  let main_v25 : FVec F S4x64 .f32 := broadcastInDim S4x64 ![] bcast_S_S4x64 main_cst_8
  let main_v26 : IVec S4x64 1 := cmpf .olt main_v24 main_v25
  let main_c_9 : IVec S_ 1 := constantI S_ 1 1#1
  let main_v27 : IVec S_ 1 := (fun x v => Host.reduce IntOp.andi x v reducesTo_S4x64_S_d0_1 h_S_) main_v26 main_c_9
  let main_v28 : IVec S_ 1 := andi main_v23 main_v27
  main_v28

def fn {F : FTy → Type} [FloatOps F] (main_arg0 : FVec F S8x2048x8x2x64 .f32) (main_arg1 : FVec F S8x2048x8x2x64 .f32) (main_arg2 : FVec F S8x2048x8x128 .f32) (main_arg3 : FVec F S8x256x8x2x64 .f32) (main_arg4 : FVec F S8x256x8x2x64 .f32) (main_arg5 : FVec F S8x256x8x128 .f32) (main_arg6 : FVec F S4x64 .f32) (main_arg7 : FVec F S128 .f32) : IVec S_ 1 :=
  let main_v0 : FVec F S8x2048x8x2x64 .f32 := Host.absf main_arg0
  let main_cst : FVec F S_ .f32 := constant S_ .f32 0x7F800000#32
  let main_v1 : FVec F S8x2048x8x2x64 .f32 := broadcastInDim S8x2048x8x2x64 ![] bcast_S_S8x2048x8x2x64 main_cst
  let main_v2 : IVec S8x2048x8x2x64 1 := cmpf .olt main_v0 main_v1
  let main_c : IVec S_ 1 := constantI S_ 1 1#1
  let main_v3 : IVec S_ 1 := (fun x v => Host.reduce IntOp.andi x v reducesTo_S8x2048x8x2x64_S_d0_1_2_3_4 h_S_) main_v2 main_c
  let main_v4 : FVec F S8x2048x8x2x64 .f32 := Host.absf main_arg1
  let main_cst_0 : FVec F S_ .f32 := constant S_ .f32 0x7F800000#32
  let main_v5 : FVec F S8x2048x8x2x64 .f32 := broadcastInDim S8x2048x8x2x64 ![] bcast_S_S8x2048x8x2x64 main_cst_0
  let main_v6 : IVec S8x2048x8x2x64 1 := cmpf .olt main_v4 main_v5
  let main_c_1 : IVec S_ 1 := constantI S_ 1 1#1
  let main_v7 : IVec S_ 1 := (fun x v => Host.reduce IntOp.andi x v reducesTo_S8x2048x8x2x64_S_d0_1_2_3_4 h_S_) main_v6 main_c_1
  let main_v8 : IVec S_ 1 := andi main_v3 main_v7
  let main_v9 : FVec F S8x2048x8x128 .f32 := Host.absf main_arg2
  let main_cst_2 : FVec F S_ .f32 := constant S_ .f32 0x7F800000#32
  let main_v10 : FVec F S8x2048x8x128 .f32 := broadcastInDim S8x2048x8x128 ![] bcast_S_S8x2048x8x128 main_cst_2
  let main_v11 : IVec S8x2048x8x128 1 := cmpf .olt main_v9 main_v10
  let main_c_3 : IVec S_ 1 := constantI S_ 1 1#1
  let main_v12 : IVec S_ 1 := (fun x v => Host.reduce IntOp.andi x v reducesTo_S8x2048x8x128_S_d0_1_2_3 h_S_) main_v11 main_c_3
  let main_v13 : IVec S_ 1 := andi main_v8 main_v12
  let main_v14 : FVec F S8x256x8x2x64 .f32 := Host.absf main_arg4
  let main_cst_4 : FVec F S_ .f32 := constant S_ .f32 0x7F800000#32
  let main_v15 : FVec F S8x256x8x2x64 .f32 := broadcastInDim S8x256x8x2x64 ![] bcast_S_S8x256x8x2x64 main_cst_4
  let main_v16 : IVec S8x256x8x2x64 1 := cmpf .olt main_v14 main_v15
  fn_part1 (F := F) main_arg5 main_arg6 main_v13 main_v16
-- ==== Pre_finite3.lean ====
abbrev S8x2048x1024 : Shape := ⟨3, ![8, 2048, 1024]⟩
abbrev S8x256x1024 : Shape := ⟨3, ![8, 256, 1024]⟩
abbrev S8x6144 : Shape := ⟨2, ![8, 6144]⟩
abbrev S6144 : Shape := ⟨1, ![6144]⟩
abbrev S1024 : Shape := ⟨1, ![1024]⟩
abbrev S1024x11680 : Shape := ⟨2, ![1024, 11680]⟩
abbrev S3488 : Shape := ⟨1, ![3488]⟩
abbrev S_ : Shape := ⟨0, ![]⟩

class Facts : Prop where
  bcast_S_S8x6144 : S_.BroadcastsInDim S8x6144 (![] : Fin 0 → Fin S8x6144.rank)
  reducesTo_S8x6144_S_d0_1 : S8x6144.ReducesTo [0, 1] S_
  h_S_ : 0 < S_.numel
  bcast_S_S6144 : S_.BroadcastsInDim S6144 (![] : Fin 0 → Fin S6144.rank)
  reducesTo_S6144_S_d0 : S6144.ReducesTo [0] S_
  bcast_S_S1024 : S_.BroadcastsInDim S1024 (![] : Fin 0 → Fin S1024.rank)
  reducesTo_S1024_S_d0 : S1024.ReducesTo [0] S_
  bcast_S_S1024x11680 : S_.BroadcastsInDim S1024x11680 (![] : Fin 0 → Fin S1024x11680.rank)
  reducesTo_S1024x11680_S_d0_1 : S1024x11680.ReducesTo [0, 1] S_
  bcast_S_S3488 : S_.BroadcastsInDim S3488 (![] : Fin 0 → Fin S3488.rank)
  reducesTo_S3488_S_d0 : S3488.ReducesTo [0] S_

variable [Facts]

def fn_part1 {F : FTy → Type} [FloatOps F] (main_arg6 : FVec F S3488 .f32) (main_v13 : IVec S_ 1) (main_v16 : IVec S1024x11680 1) : IVec S_ 1 :=
  let main_c_5 : IVec S_ 1 := constantI S_ 1 1#1
  let main_v17 : IVec S_ 1 := (fun x v => Host.reduce IntOp.andi x v reducesTo_S1024x11680_S_d0_1 h_S_) main_v16 main_c_5
  let main_v18 : IVec S_ 1 := andi main_v13 main_v17
  let main_v19 : FVec F S3488 .f32 := Host.absf main_arg6
  let main_cst_6 : FVec F S_ .f32 := constant S_ .f32 0x7F800000#32
  let main_v20 : FVec F S3488 .f32 := broadcastInDim S3488 ![] bcast_S_S3488 main_cst_6
  let main_v21 : IVec S3488 1 := cmpf .olt main_v19 main_v20
  let main_c_7 : IVec S_ 1 := constantI S_ 1 1#1
  let main_v22 : IVec S_ 1 := (fun x v => Host.reduce IntOp.andi x v reducesTo_S3488_S_d0 h_S_) main_v21 main_c_7
  let main_v23 : IVec S_ 1 := andi main_v18 main_v22
  main_v23

def fn {F : FTy → Type} [FloatOps F] (main_arg0 : FVec F S8x2048x1024 .f32) (main_arg1 : FVec F S8x256x1024 .f32) (main_arg2 : FVec F S8x6144 .f32) (main_arg3 : FVec F S6144 .f32) (main_arg4 : FVec F S1024 .f32) (main_arg5 : FVec F S1024x11680 .f32) (main_arg6 : FVec F S3488 .f32) : IVec S_ 1 :=
  let main_v0 : FVec F S8x6144 .f32 := Host.absf main_arg2
  let main_cst : FVec F S_ .f32 := constant S_ .f32 0x7F800000#32
  let main_v1 : FVec F S8x6144 .f32 := broadcastInDim S8x6144 ![] bcast_S_S8x6144 main_cst
  let main_v2 : IVec S8x6144 1 := cmpf .olt main_v0 main_v1
  let main_c : IVec S_ 1 := constantI S_ 1 1#1
  let main_v3 : IVec S_ 1 := (fun x v => Host.reduce IntOp.andi x v reducesTo_S8x6144_S_d0_1 h_S_) main_v2 main_c
  let main_v4 : FVec F S6144 .f32 := Host.absf main_arg3
  let main_cst_0 : FVec F S_ .f32 := constant S_ .f32 0x7F800000#32
  let main_v5 : FVec F S6144 .f32 := broadcastInDim S6144 ![] bcast_S_S6144 main_cst_0
  let main_v6 : IVec S6144 1 := cmpf .olt main_v4 main_v5
  let main_c_1 : IVec S_ 1 := constantI S_ 1 1#1
  let main_v7 : IVec S_ 1 := (fun x v => Host.reduce IntOp.andi x v reducesTo_S6144_S_d0 h_S_) main_v6 main_c_1
  let main_v8 : IVec S_ 1 := andi main_v3 main_v7
  let main_v9 : FVec F S1024 .f32 := Host.absf main_arg4
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x11680 .f32 := Host.absf main_arg5
  let main_cst_4 : FVec F S_ .f32 := constant S_ .f32 0x7F800000#32
  let main_v15 : FVec F S1024x11680 .f32 := broadcastInDim S1024x11680 ![] bcast_S_S1024x11680 main_cst_4
  let main_v16 : IVec S1024x11680 1 := cmpf .olt main_v14 main_v15
  fn_part1 (F := F) main_arg6 main_v13 main_v16
-- ==== Pre_finite4.lean ====
abbrev S8x2048x1024 : Shape := ⟨3, ![8, 2048, 1024]⟩
abbrev S8x256x1024 : Shape := ⟨3, ![8, 256, 1024]⟩
abbrev S8x6144 : Shape := ⟨2, ![8, 6144]⟩
abbrev S6144 : Shape := ⟨1, ![6144]⟩
abbrev S8x2304x1024 : Shape := ⟨3, ![8, 2304, 1024]⟩
abbrev S8x2304x2x1024 : Shape := ⟨4, ![8, 2304, 2, 1024]⟩
abbrev S8x2304x11776 : Shape := ⟨3, ![8, 2304, 11776]⟩
abbrev S160x1024 : Shape := ⟨2, ![160, 1024]⟩
abbrev S1024 : Shape := ⟨1, ![1024]⟩
abbrev S16x64 : Shape := ⟨2, ![16, 64]⟩
abbrev S1024x1024 : Shape := ⟨2, ![1024, 1024]⟩
abbrev S_ : Shape := ⟨0, ![]⟩
abbrev S8x2304x2048 : Shape := ⟨3, ![8, 2304, 2048]⟩

class Facts : Prop where
  bcast_S_S8x2304x1024 : S_.BroadcastsInDim S8x2304x1024 (![] : Fin 0 → Fin S8x2304x1024.rank)
  reducesTo_S8x2304x1024_S_d0_1_2 : S8x2304x1024.ReducesTo [0, 1, 2] S_
  h_S_ : 0 < S_.numel
  bcast_S_S8x2304x2x1024 : S_.BroadcastsInDim S8x2304x2x1024 (![] : Fin 0 → Fin S8x2304x2x1024.rank)
  reducesTo_S8x2304x2x1024_S_d0_1_2_3 : S8x2304x2x1024.ReducesTo [0, 1, 2, 3] S_
  slices_S8x2304x11776_S8x2304x2048_0_0_8192 : S8x2304x11776.Slices ![0, 0, 8192] S8x2304x2048
  bcast_S_S8x2304x2048 : S_.BroadcastsInDim S8x2304x2048 (![] : Fin 0 → Fin S8x2304x2048.rank)
  reducesTo_S8x2304x2048_S_d0_1_2 : S8x2304x2048.ReducesTo [0, 1, 2] S_
  bcast_S_S1024 : S_.BroadcastsInDim S1024 (![] : Fin 0 → Fin S1024.rank)
  reducesTo_S1024_S_d0 : S1024.ReducesTo [0] S_
  bcast_S_S16x64 : S_.BroadcastsInDim S16x64 (![] : Fin 0 → Fin S16x64.rank)
  reducesTo_S16x64_S_d0_1 : S16x64.ReducesTo [0, 1] S_

variable [Facts]

def fn_part1 {F : FTy → Type} [FloatOps F] (main_arg12 : FVec F S1024 .f32) (main_arg13 : FVec F S16x64 .f32) (main_v13 : IVec S_ 1) (main_v15 : FVec F S8x2304x2048 .f32) (main_v16 : FVec F S8x2304x2048 .f32) : IVec S_ 1 :=
  let main_v17 : IVec S8x2304x2048 1 := cmpf .olt main_v15 main_v16
  let main_c_5 : IVec S_ 1 := constantI S_ 1 1#1
  let main_v18 : IVec S_ 1 := (fun x v => Host.reduce IntOp.andi x v reducesTo_S8x2304x2048_S_d0_1_2 h_S_) main_v17 main_c_5
  let main_v19 : IVec S_ 1 := andi main_v13 main_v18
  let main_v20 : FVec F S1024 .f32 := Host.absf main_arg12
  let main_cst_6 : FVec F S_ .f32 := constant S_ .f32 0x7F800000#32
  let main_v21 : FVec F S1024 .f32 := broadcastInDim S1024 ![] bcast_S_S1024 main_cst_6
  let main_v22 : IVec S1024 1 := cmpf .olt main_v20 main_v21
  let main_c_7 : IVec S_ 1 := constantI S_ 1 1#1
  let main_v23 : IVec S_ 1 := (fun x v => Host.reduce IntOp.andi x v reducesTo_S1024_S_d0 h_S_) main_v22 main_c_7
  let main_v24 : IVec S_ 1 := andi main_v19 main_v23
  let main_v25 : FVec F S16x64 .f32 := Host.absf main_arg13
  let main_cst_8 : FVec F S_ .f32 := constant S_ .f32 0x7F800000#32
  let main_v26 : FVec F S16x64 .f32 := broadcastInDim S16x64 ![] bcast_S_S16x64 main_cst_8
  let main_v27 : IVec S16x64 1 := cmpf .olt main_v25 main_v26
  let main_c_9 : IVec S_ 1 := constantI S_ 1 1#1
  let main_v28 : IVec S_ 1 := (fun x v => Host.reduce IntOp.andi x v reducesTo_S16x64_S_d0_1 h_S_) main_v27 main_c_9
  let main_v29 : IVec S_ 1 := andi main_v24 main_v28
  main_v29

def fn {F : FTy → Type} [FloatOps F] (main_arg0 : FVec F S8x2048x1024 .f32) (main_arg1 : FVec F S8x256x1024 .f32) (main_arg2 : FVec F S8x6144 .f32) (main_arg3 : FVec F S6144 .f32) (main_arg4 : FVec F S8x2304x1024 .f32) (main_arg5 : FVec F S8x2304x1024 .f32) (main_arg6 : FVec F S8x2304x2x1024 .f32) (main_arg7 : FVec F S8x2304x11776 .f32) (main_arg8 : FVec F S8x2304x1024 .f32) (main_arg9 : FVec F S8x2048x1024 .f32) (main_arg10 : FVec F S8x256x1024 .f32) (main_arg11 : FVec F S160x1024 .f32) (main_arg12 : FVec F S1024 .f32) (main_arg13 : FVec F S16x64 .f32) (main_arg14 : FVec F S1024 .f32) (main_arg15 : FVec F S1024 .f32) (main_arg16 : FVec F S1024x1024 .f32) (main_arg17 : FVec F S1024x1024 .f32) (main_arg18 : FVec F S1024x1024 .f32) (main_arg19 : FVec F S1024x1024 .f32) : IVec S_ 1 :=
  let main_v0 : FVec F S8x2304x1024 .f32 := Host.absf main_arg4
  let main_cst : FVec F S_ .f32 := constant S_ .f32 0x7F800000#32
  let main_v1 : FVec F S8x2304x1024 .f32 := broadcastInDim S8x2304x1024 ![] bcast_S_S8x2304x1024 main_cst
  let main_v2 : IVec S8x2304x1024 1 := cmpf .olt main_v0 main_v1
  let main_c : IVec S_ 1 := constantI S_ 1 1#1
  let main_v3 : IVec S_ 1 := (fun x v => Host.reduce IntOp.andi x v reducesTo_S8x2304x1024_S_d0_1_2 h_S_) main_v2 main_c
  let main_v4 : FVec F S8x2304x1024 .f32 := Host.absf main_arg5
  let main_cst_0 : FVec F S_ .f32 := constant S_ .f32 0x7F800000#32
  let main_v5 : FVec F S8x2304x1024 .f32 := broadcastInDim S8x2304x1024 ![] bcast_S_S8x2304x1024 main_cst_0
  let main_v6 : IVec S8x2304x1024 1 := cmpf .olt main_v4 main_v5
  let main_c_1 : IVec S_ 1 := constantI S_ 1 1#1
  let main_v7 : IVec S_ 1 := (fun x v => Host.reduce IntOp.andi x v reducesTo_S8x2304x1024_S_d0_1_2 h_S_) main_v6 main_c_1
  let main_v8 : IVec S_ 1 := andi main_v3 main_v7
  let main_v9 : FVec F S8x2304x2x1024 .f32 := Host.absf main_arg6
  let main_cst_2 : FVec F S_ .f32 := constant S_ .f32 0x7F800000#32
  let main_v10 : FVec F S8x2304x2x1024 .f32 := broadcastInDim S8x2304x2x1024 ![] bcast_S_S8x2304x2x1024 main_cst_2
  let main_v11 : IVec S8x2304x2x1024 1 := cmpf .olt main_v9 main_v10
  let main_c_3 : IVec S_ 1 := constantI S_ 1 1#1
  let main_v12 : IVec S_ 1 := (fun x v => Host.reduce IntOp.andi x v reducesTo_S8x2304x2x1024_S_d0_1_2_3 h_S_) main_v11 main_c_3
  let main_v13 : IVec S_ 1 := andi main_v8 main_v12
  let main_v14 : FVec F S8x2304x2048 .f32 := (extractStridedSlice S8x2304x2048 ![0, 0, 8192] · slices_S8x2304x11776_S8x2304x2048_0_0_8192) main_arg7
  let main_v15 : FVec F S8x2304x2048 .f32 := Host.absf main_v14
  let main_cst_4 : FVec F S_ .f32 := constant S_ .f32 0x7F800000#32
  let main_v16 : FVec F S8x2304x2048 .f32 := broadcastInDim S8x2304x2048 ![] bcast_S_S8x2304x2048 main_cst_4
  fn_part1 (F := F) main_arg12 main_arg13 main_v13 main_v15 main_v16
-- ==== Kernel.lean ====
abbrev S8x2048x8x2x64 : Shape := ⟨5, ![8, 2048, 8, 2, 64]⟩
abbrev S8x2048x8x128 : Shape := ⟨4, ![8, 2048, 8, 128]⟩
abbrev S8x256x8x2x64 : Shape := ⟨5, ![8, 256, 8, 2, 64]⟩
abbrev S8x256x8x128 : Shape := ⟨4, ![8, 256, 8, 128]⟩
abbrev S4x64 : Shape := ⟨2, ![4, 64]⟩
abbrev S128 : Shape := ⟨1, ![128]⟩
abbrev S8x2304x8x2x64 : Shape := ⟨5, ![8, 2304, 8, 2, 64]⟩
abbrev S8x2304x8x128 : Shape := ⟨4, ![8, 2304, 8, 128]⟩
abbrev S_ : Shape := ⟨0, ![]⟩
abbrev S8x2304x1024 : Shape := ⟨3, ![8, 2304, 1024]⟩
abbrev S8x8x128x2304 : Shape := ⟨4, ![8, 8, 128, 2304]⟩
abbrev S1x128 : Shape := ⟨2, ![1, 128]⟩
abbrev S8x2048x1024 : Shape := ⟨3, ![8, 2048, 1024]⟩
abbrev S1x256x128 : Shape := ⟨3, ![1, 256, 128]⟩
abbrev S1x2304x128 : Shape := ⟨3, ![1, 2304, 128]⟩
abbrev S1x1x128x2304 : Shape := ⟨4, ![1, 1, 128, 2304]⟩
abbrev S1x512x128 : Shape := ⟨3, ![1, 512, 128]⟩
abbrev S2x2304x1024 : Shape := ⟨3, ![2, 2304, 1024]⟩
abbrev S2x1x1024 : Shape := ⟨3, ![2, 1, 1024]⟩
abbrev S256x128 : Shape := ⟨2, ![256, 128]⟩
abbrev S512x128 : Shape := ⟨2, ![512, 128]⟩
abbrev S1024x128 : Shape := ⟨2, ![1024, 128]⟩
abbrev S256x1024 : Shape := ⟨2, ![256, 1024]⟩
abbrev S1x256x1024 : Shape := ⟨3, ![1, 256, 1024]⟩
abbrev S8x1024 : Shape := ⟨2, ![8, 1024]⟩
abbrev S1024 : Shape := ⟨1, ![1024]⟩
abbrev S1x1024 : Shape := ⟨2, ![1, 1024]⟩
abbrev S1x1x1024 : Shape := ⟨3, ![1, 1, 1024]⟩
abbrev S1x1x128x256 : Shape := ⟨4, ![1, 1, 128, 256]⟩
abbrev S128x256 : Shape := ⟨2, ![128, 256]⟩
abbrev S128x1024 : Shape := ⟨2, ![128, 1024]⟩
abbrev S1x64 : Shape := ⟨2, ![1, 64]⟩
abbrev S1 : Shape := ⟨1, ![1]⟩
abbrev S1x1 : Shape := ⟨2, ![1, 1]⟩
abbrev S128x512 : Shape := ⟨2, ![128, 512]⟩
abbrev S1x512 : Shape := ⟨2, ![1, 512]⟩
abbrev S512 : Shape := ⟨1, ![512]⟩

abbrev nBuf : Space → Nat
  | .hbm => 26
  | .vmem => 14
  | .smem => 0
  | _ => 0

abbrev bufTy : (tb : Table) → Fin (tcTables nBuf tb) → BufTy
  | .hbm, ⟨0, _⟩ => ⟨S8x2048x8x2x64, .f32⟩
  | .hbm, ⟨1, _⟩ => ⟨S8x2048x8x2x64, .f32⟩
  | .hbm, ⟨2, _⟩ => ⟨S8x2048x8x128, .f32⟩
  | .hbm, ⟨3, _⟩ => ⟨S8x256x8x2x64, .f32⟩
  | .hbm, ⟨4, _⟩ => ⟨S8x256x8x2x64, .f32⟩
  | .hbm, ⟨5, _⟩ => ⟨S8x256x8x128, .f32⟩
  | .hbm, ⟨6, _⟩ => ⟨S4x64, .f32⟩
  | .hbm, ⟨7, _⟩ => ⟨S128, .f32⟩
  | .hbm, ⟨8, _⟩ => ⟨S8x2304x8x2x64, .f32⟩
  | .hbm, ⟨9, _⟩ => ⟨S8x2304x8x2x64, .f32⟩
  | .hbm, ⟨10, _⟩ => ⟨S8x2304x8x128, .f32⟩
  | .hbm, ⟨11, _⟩ => ⟨S_, .f32⟩
  | .hbm, ⟨12, _⟩ => ⟨S8x2304x8x2x64, .f32⟩
  | .hbm, ⟨13, _⟩ => ⟨S8x2304x8x2x64, .f32⟩
  | .hbm, ⟨14, _⟩ => ⟨S_, .f32⟩
  | .hbm, ⟨15, _⟩ => ⟨S_, .f32⟩
  | .hbm, ⟨16, _⟩ => ⟨S8x2304x8x2x64, .f32⟩
  | .hbm, ⟨17, _⟩ => ⟨S8x2304x8x2x64, .f32⟩
  | .hbm, ⟨18, _⟩ => ⟨S8x2304x1024, .f32⟩
  | .hbm, ⟨19, _⟩ => ⟨S8x2304x1024, .bf16⟩
  | .hbm, ⟨20, _⟩ => ⟨S8x2304x1024, .f32⟩
  | .hbm, ⟨21, _⟩ => ⟨S8x2304x1024, .bf16⟩
  | .hbm, ⟨22, _⟩ => ⟨S8x8x128x2304, .f32⟩
  | .hbm, ⟨23, _⟩ => ⟨S8x8x128x2304, .bf16⟩
  | .hbm, ⟨24, _⟩ => ⟨S1x128, .f32⟩
  | .hbm, ⟨25, _⟩ => ⟨S8x2048x1024, .bf16⟩
  | .local _ .vmem, ⟨0, _⟩ => ⟨S1x256x128, .bf16⟩
  | .local _ .vmem, ⟨1, _⟩ => ⟨S1x256x128, .bf16⟩
  | .local _ .vmem, ⟨2, _⟩ => ⟨S1x256x128, .bf16⟩
  | .local _ .vmem, ⟨3, _⟩ => ⟨S1x256x128, .bf16⟩
  | .local _ .vmem, ⟨4, _⟩ => ⟨S1x2304x128, .bf16⟩
  | .local _ .vmem, ⟨5, _⟩ => ⟨S1x2304x128, .bf16⟩
  | .local _ .vmem, ⟨6, _⟩ => ⟨S1x1x128x2304, .bf16⟩
  | .local _ .vmem, ⟨7, _⟩ => ⟨S1x1x128x2304, .bf16⟩
  | .local _ .vmem, ⟨8, _⟩ => ⟨S4x64, .f32⟩
  | .local _ .vmem, ⟨9, _⟩ => ⟨S1x128, .f32⟩
  | .local _ .vmem, ⟨10, _⟩ => ⟨S1x512x128, .bf16⟩
  | .local _ .vmem, ⟨11, _⟩ => ⟨S1x512x128, .bf16⟩
  | .local _ .vmem, ⟨12, _⟩ => ⟨S2x2304x1024, .f32⟩
  | .local _ .vmem, ⟨13, _⟩ => ⟨S2x1x1024, .f32⟩
  | _, _ => ⟨S8x2048x8x2x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![257], ![false]⟩

def k0_cond2 (i : grid0.Coords) : BitVec 1 :=
  let arg0 : BitVec 32 := BitVec.ofNat 32 (i 0).val
  let c0_i32_1 : BitVec 32 := 0#32
  let v3 : BitVec 1 := Scalar.cmpi .sgt arg0 c0_i32_1
  let c256_i32 : BitVec 32 := 256#32
  let v4 : BitVec 1 := Scalar.cmpi .slt arg0 c256_i32
  let v5 : BitVec 1 := Scalar.andi v3 v4
  let c2_i32 : BitVec 32 := 2#32
  let c0_i32_2 : BitVec 32 := 0#32
  let v6 : BitVec 1 := Scalar.cmpi .eq c2_i32 c0_i32_2
  let c1_i32 : BitVec 32 := 1#32
  let v7 : BitVec 32 := Scalar.select v6 c1_i32 c2_i32
  let v8 : BitVec 32 := Scalar.remsi arg0 v7
  let c0_i32_4 : BitVec 32 := 0#32
  let v10 : BitVec 1 := Scalar.cmpi .slt v8 c0_i32_4
  let c0_i32_5 : BitVec 32 := 0#32
  let v11 : BitVec 1 := Scalar.cmpi .slt v7 c0_i32_5
  let v12 : BitVec 1 := Scalar.xori v10 v11
  let c0_i32_3 : BitVec 32 := 0#32
  let v9 : BitVec 1 := Scalar.cmpi .ne v8 c0_i32_3
  let v13 : BitVec 1 := Scalar.andi v12 v9
  let v14 : BitVec 32 := Scalar.addi v8 v7
  let v15 : BitVec 32 := Scalar.select v13 v14 v8
  let c0_i32_6 : BitVec 32 := 0#32
  let v16 : BitVec 1 := Scalar.cmpi .eq v15 c0_i32_6
  let v17 : BitVec 1 := Scalar.andi v5 v16
  let v18 : BitVec 32 := Scalar.extui v17
  let c0_i32_7 : BitVec 32 := 0#32
  let v19 : BitVec 1 := Scalar.cmpi .ne v18 c0_i32_7
  v19

def k0_cond3 (i : grid0.Coords) : BitVec 1 :=
  let arg0 : BitVec 32 := BitVec.ofNat 32 (i 0).val
  let c0_i32_8 : BitVec 32 := 0#32
  let v20 : BitVec 1 := Scalar.cmpi .sgt arg0 c0_i32_8
  let c256_i32_9 : BitVec 32 := 256#32
  let v21 : BitVec 1 := Scalar.cmpi .slt arg0 c256_i32_9
  let v22 : BitVec 1 := Scalar.andi v20 v21
  let c2_i32_10 : BitVec 32 := 2#32
  let c0_i32_11 : BitVec 32 := 0#32
  let v23 : BitVec 1 := Scalar.cmpi .eq c2_i32_10 c0_i32_11
  let c1_i32_12 : BitVec 32 := 1#32
  let v24 : BitVec 32 := Scalar.select v23 c1_i32_12 c2_i32_10
  let v25 : BitVec 32 := Scalar.remsi arg0 v24
  let c0_i32_14 : BitVec 32 := 0#32
  let v27 : BitVec 1 := Scalar.cmpi .slt v25 c0_i32_14
  let c0_i32_15 : BitVec 32 := 0#32
  let v28 : BitVec 1 := Scalar.cmpi .slt v24 c0_i32_15
  let v29 : BitVec 1 := Scalar.xori v27 v28
  let c0_i32_13 : BitVec 32 := 0#32
  let v26 : BitVec 1 := Scalar.cmpi .ne v25 c0_i32_13
  let v30 : BitVec 1 := Scalar.andi v29 v26
  let v31 : BitVec 32 := Scalar.addi v25 v24
  let v32 : BitVec 32 := Scalar.select v30 v31 v25
  let c1_i32_16 : BitVec 32 := 1#32
  let v33 : BitVec 1 := Scalar.cmpi .eq v32 c1_i32_16
  let v34 : BitVec 1 := Scalar.andi v22 v33
  let v35 : BitVec 32 := Scalar.extui v34
  let c0_i32_17 : BitVec 32 := 0#32
  let v36 : BitVec 1 := Scalar.cmpi .ne v35 c0_i32_17
  v36

def k0_cond4 (i : grid0.Coords) : BitVec 1 :=
  let arg0 : BitVec 32 := BitVec.ofNat 32 (i 0).val
  let c256_i32_18 : BitVec 32 := 256#32
  let v37 : BitVec 1 := Scalar.cmpi .eq arg0 c256_i32_18
  let v38 : BitVec 32 := Scalar.extui v37
  let c0_i32_19 : BitVec 32 := 0#32
  let v39 : BitVec 1 := Scalar.cmpi .ne v38 c0_i32_19
  v39

def cc0_transform_0 (i : grid0.Coords) : Fin 3 → Nat :=
  let arg0 : BitVec 32 := BitVec.ofNat 32 (i 0).val
  let c255_i32 : BitVec 32 := 255#32
  let v0 : BitVec 32 := Scalar.minsi arg0 c255_i32
  let c32_i32 : BitVec 32 := 32#32
  let v1 : BitVec 32 := Scalar.divsi v0 c32_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c32_i32 c0_i32_1
  let v8 : BitVec 32 := Scalar.extui v7
  let c0_i32_2 : BitVec 32 := 0#32
  let v9 : BitVec 1 := Scalar.cmpi .slt c32_i32 c0_i32_2
  let v10 : BitVec 32 := Scalar.extui v9
  let v11 : BitVec 32 := Scalar.subi v8 v10
  let v12 : BitVec 1 := Scalar.cmpi .ne v6 v11
  let v13 : BitVec 32 := Scalar.remsi v0 c32_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32 : BitVec 32 := 4#32
  let c0_i32_4 : BitVec 32 := 0#32
  let v18 : BitVec 1 := Scalar.cmpi .eq c4_i32 c0_i32_4
  let c1_i32_5 : BitVec 32 := 1#32
  let v19 : BitVec 32 := Scalar.select v18 c1_i32_5 c4_i32
  let v20 : BitVec 32 := Scalar.remsi v0 v19
  let c0_i32_6 : BitVec 32 := 0#32
  let v21 : BitVec 1 := Scalar.cmpi .ne v20 c0_i32_6
  let c0_i32_7 : BitVec 32 := 0#32
  let v22 : BitVec 1 := Scalar.cmpi .slt v20 c0_i32_7
  let c0_i32_8 : BitVec 32 := 0#32
  let v23 : BitVec 1 := Scalar.cmpi .slt v19 c0_i32_8
  let v24 : BitVec 1 := Scalar.xori v22 v23
  let v25 : BitVec 1 := Scalar.andi v24 v21
  let v26 : BitVec 32 := Scalar.addi v20 v19
  let v27 : BitVec 32 := Scalar.select v25 v26 v20
  let c4_i32_9 : BitVec 32 := 4#32
  let v28 : BitVec 32 := Scalar.divsi v0 c4_i32_9
  let c0_i32_10 : BitVec 32 := 0#32
  let v29 : BitVec 1 := Scalar.cmpi .sgt v0 c0_i32_10
  let v30 : BitVec 32 := Scalar.extui v29
  let c0_i32_11 : BitVec 32 := 0#32
  let v31 : BitVec 1 := Scalar.cmpi .slt v0 c0_i32_11
  let v32 : BitVec 32 := Scalar.extui v31
  let v33 : BitVec 32 := Scalar.subi v30 v32
  let c0_i32_12 : BitVec 32 := 0#32
  let v34 : BitVec 1 := Scalar.cmpi .sgt c4_i32_9 c0_i32_12
  let v35 : BitVec 32 := Scalar.extui v34
  let c0_i32_13 : BitVec 32 := 0#32
  let v36 : BitVec 1 := Scalar.cmpi .slt c4_i32_9 c0_i32_13
  let v37 : BitVec 32 := Scalar.extui v36
  let v38 : BitVec 32 := Scalar.subi v35 v37
  let v39 : BitVec 1 := Scalar.cmpi .ne v33 v38
  let v40 : BitVec 32 := Scalar.remsi v0 c4_i32_9
  let c0_i32_14 : BitVec 32 := 0#32
  let v41 : BitVec 1 := Scalar.cmpi .ne v40 c0_i32_14
  let v42 : BitVec 1 := Scalar.andi v39 v41
  let c1_i32_15 : BitVec 32 := 1#32
  let v43 : BitVec 32 := Scalar.subi v28 c1_i32_15
  let v44 : BitVec 32 := Scalar.select v42 v43 v28
  let c8_i32 : BitVec 32 := 8#32
  let c0_i32_16 : BitVec 32 := 0#32
  let v45 : BitVec 1 := Scalar.cmpi .eq c8_i32 c0_i32_16
  let c1_i32_17 : BitVec 32 := 1#32
  let v46 : BitVec 32 := Scalar.select v45 c1_i32_17 c8_i32
  let v47 : BitVec 32 := Scalar.remsi v44 v46
  let c0_i32_18 : BitVec 32 := 0#32
  let v48 : BitVec 1 := Scalar.cmpi .ne v47 c0_i32_18
  let c0_i32_19 : BitVec 32 := 0#32
  let v49 : BitVec 1 := Scalar.cmpi .slt v47 c0_i32_19
  let c0_i32_20 : BitVec 32 := 0#32
  let v50 : BitVec 1 := Scalar.cmpi .slt v46 c0_i32_20
  let v51 : BitVec 1 := Scalar.xori v49 v50
  let v52 : BitVec 1 := Scalar.andi v51 v48
  let v53 : BitVec 32 := Scalar.addi v47 v46
  let v54 : BitVec 32 := Scalar.select v52 v53 v47
  let c255_i32_21 : BitVec 32 := 255#32
  let v55 : BitVec 32 := Scalar.minsi arg0 c255_i32_21
  let c32_i32_22 : BitVec 32 := 32#32
  let v56 : BitVec 32 := Scalar.divsi v55 c32_i32_22
  let c0_i32_23 : BitVec 32 := 0#32
  let v57 : BitVec 1 := Scalar.cmpi .sgt v55 c0_i32_23
  let v58 : BitVec 32 := Scalar.extui v57
  let c0_i32_24 : BitVec 32 := 0#32
  let v59 : BitVec 1 := Scalar.cmpi .slt v55 c0_i32_24
  let v60 : BitVec 32 := Scalar.extui v59
  let v61 : BitVec 32 := Scalar.subi v58 v60
  let c0_i32_25 : BitVec 32 := 0#32
  let v62 : BitVec 1 := Scalar.cmpi .sgt c32_i32_22 c0_i32_25
  let v63 : BitVec 32 := Scalar.extui v62
  let c0_i32_26 : BitVec 32 := 0#32
  let v64 : BitVec 1 := Scalar.cmpi .slt c32_i32_22 c0_i32_26
  let v65 : BitVec 32 := Scalar.extui v64
  let v66 : BitVec 32 := Scalar.subi v63 v65
  let v67 : BitVec 1 := Scalar.cmpi .ne v61 v66
  let v68 : BitVec 32 := Scalar.remsi v55 c32_i32_22
  let c0_i32_27 : BitVec 32 := 0#32
  let v69 : BitVec 1 := Scalar.cmpi .ne v68 c0_i32_27
  let v70 : BitVec 1 := Scalar.andi v67 v69
  let c1_i32_28 : BitVec 32 := 1#32
  let v71 : BitVec 32 := Scalar.subi v56 c1_i32_28
  let v72 : BitVec 32 := Scalar.select v70 v71 v56
  let c4_i32_29 : BitVec 32 := 4#32
  let c0_i32_30 : BitVec 32 := 0#32
  let v73 : BitVec 1 := Scalar.cmpi .eq c4_i32_29 c0_i32_30
  let c1_i32_31 : BitVec 32 := 1#32
  let v74 : BitVec 32 := Scalar.select v73 c1_i32_31 c4_i32_29
  let v75 : BitVec 32 := Scalar.remsi v55 v74
  let c0_i32_32 : BitVec 32 := 0#32
  let v76 : BitVec 1 := Scalar.cmpi .ne v75 c0_i32_32
  let c0_i32_33 : BitVec 32 := 0#32
  let v77 : BitVec 1 := Scalar.cmpi .slt v75 c0_i32_33
  let c0_i32_34 : BitVec 32 := 0#32
  let v78 : BitVec 1 := Scalar.cmpi .slt v74 c0_i32_34
  let v79 : BitVec 1 := Scalar.xori v77 v78
  let v80 : BitVec 1 := Scalar.andi v79 v76
  let v81 : BitVec 32 := Scalar.addi v75 v74
  let v82 : BitVec 32 := Scalar.select v80 v81 v75
  let c4_i32_35 : BitVec 32 := 4#32
  let v83 : BitVec 32 := Scalar.divsi v55 c4_i32_35
  let c0_i32_36 : BitVec 32 := 0#32
  let v84 : BitVec 1 := Scalar.cmpi .sgt v55 c0_i32_36
  let v85 : BitVec 32 := Scalar.extui v84
  let c0_i32_37 : BitVec 32 := 0#32
  let v86 : BitVec 1 := Scalar.cmpi .slt v55 c0_i32_37
  let v87 : BitVec 32 := Scalar.extui v86
  let v88 : BitVec 32 := Scalar.subi v85 v87
  let c0_i32_38 : BitVec 32 := 0#32
  let v89 : BitVec 1 := Scalar.cmpi .sgt c4_i32_35 c0_i32_38
  let v90 : BitVec 32 := Scalar.extui v89
  let c0_i32_39 : BitVec 32 := 0#32
  let v91 : BitVec 1 := Scalar.cmpi .slt c4_i32_35 c0_i32_39
  let v92 : BitVec 32 := Scalar.extui v91
  let v93 : BitVec 32 := Scalar.subi v90 v92
  let v94 : BitVec 1 := Scalar.cmpi .ne v88 v93
  let v95 : BitVec 32 := Scalar.remsi v55 c4_i32_35
  let c0_i32_40 : BitVec 32 := 0#32
  let v96 : BitVec 1 := Scalar.cmpi .ne v95 c0_i32_40
  let v97 : BitVec 1 := Scalar.andi v94 v96
  let c1_i32_41 : BitVec 32 := 1#32
  let v98 : BitVec 32 := Scalar.subi v83 c1_i32_41
  let v99 : BitVec 32 := Scalar.select v97 v98 v83
  let c8_i32_42 : BitVec 32 := 8#32
  let c0_i32_43 : BitVec 32 := 0#32
  let v100 : BitVec 1 := Scalar.cmpi .eq c8_i32_42 c0_i32_43
  let c1_i32_44 : BitVec 32 := 1#32
  let v101 : BitVec 32 := Scalar.select v100 c1_i32_44 c8_i32_42
  let v102 : BitVec 32 := Scalar.remsi v99 v101
  let c0_i32_45 : BitVec 32 := 0#32
  let v103 : BitVec 1 := Scalar.cmpi .ne v102 c0_i32_45
  let c0_i32_46 : BitVec 32 := 0#32
  let v104 : BitVec 1 := Scalar.cmpi .slt v102 c0_i32_46
  let c0_i32_47 : BitVec 32 := 0#32
  let v105 : BitVec 1 := Scalar.cmpi .slt v101 c0_i32_47
  let v106 : BitVec 1 := Scalar.xori v104 v105
  let v107 : BitVec 1 := Scalar.andi v106 v103
  let v108 : BitVec 32 := Scalar.addi v102 v101
  let v109 : BitVec 32 := Scalar.select v107 v108 v102
  let c2_i32 : BitVec 32 := 2#32
  let v110 : BitVec 32 := Scalar.muli v82 c2_i32
  let c1_i32_48 : BitVec 32 := 1#32
  let v111 : BitVec 32 := Scalar.addi c1_i32_48 v110
  let c0_i32_49 : BitVec 32 := 0#32
  let v112 : BitVec 32 := Scalar.addi v111 c0_i32_49
  let c255_i32_50 : BitVec 32 := 255#32
  let v113 : BitVec 32 := Scalar.minsi arg0 c255_i32_50
  let c32_i32_51 : BitVec 32 := 32#32
  let v114 : BitVec 32 := Scalar.divsi v113 c32_i32_51
  let c0_i32_52 : BitVec 32 := 0#32
  let v115 : BitVec 1 := Scalar.cmpi .sgt v113 c0_i32_52
  let v116 : BitVec 32 := Scalar.extui v115
  let c0_i32_53 : BitVec 32 := 0#32
  let v117 : BitVec 1 := Scalar.cmpi .slt v113 c0_i32_53
  let v118 : BitVec 32 := Scalar.extui v117
  let v119 : BitVec 32 := Scalar.subi v116 v118
  let c0_i32_54 : BitVec 32 := 0#32
  let v120 : BitVec 1 := Scalar.cmpi .sgt c32_i32_51 c0_i32_54
  let v121 : BitVec 32 := Scalar.extui v120
  let c0_i32_55 : BitVec 32 := 0#32
  let v122 : BitVec 1 := Scalar.cmpi .slt c32_i32_51 c0_i32_55
  let v123 : BitVec 32 := Scalar.extui v122
  let v124 : BitVec 32 := Scalar.subi v121 v123
  let v125 : BitVec 1 := Scalar.cmpi .ne v119 v124
  let v126 : BitVec 32 := Scalar.remsi v113 c32_i32_51
  let c0_i32_56 : BitVec 32 := 0#32
  let v127 : BitVec 1 := Scalar.cmpi .ne v126 c0_i32_56
  let v128 : BitVec 1 := Scalar.andi v125 v127
  let c1_i32_57 : BitVec 32 := 1#32
  let v129 : BitVec 32 := Scalar.subi v114 c1_i32_57
  let v130 : BitVec 32 := Scalar.select v128 v129 v114
  let c4_i32_58 : BitVec 32 := 4#32
  let c0_i32_59 : BitVec 32 := 0#32
  let v131 : BitVec 1 := Scalar.cmpi .eq c4_i32_58 c0_i32_59
  let c1_i32_60 : BitVec 32 := 1#32
  let v132 : BitVec 32 := Scalar.select v131 c1_i32_60 c4_i32_58
  let v133 : BitVec 32 := Scalar.remsi v113 v132
  let c0_i32_61 : BitVec 32 := 0#32
  let v134 : BitVec 1 := Scalar.cmpi .ne v133 c0_i32_61
  let c0_i32_62 : BitVec 32 := 0#32
  let v135 : BitVec 1 := Scalar.cmpi .slt v133 c0_i32_62
  let c0_i32_63 : BitVec 32 := 0#32
  let v136 : BitVec 1 := Scalar.cmpi .slt v132 c0_i32_63
  let v137 : BitVec 1 := Scalar.xori v135 v136
  let v138 : BitVec 1 := Scalar.andi v137 v134
  let v139 : BitVec 32 := Scalar.addi v133 v132
  let v140 : BitVec 32 := Scalar.select v138 v139 v133
  let c4_i32_64 : BitVec 32 := 4#32
  let v141 : BitVec 32 := Scalar.divsi v113 c4_i32_64
  let c0_i32_65 : BitVec 32 := 0#32
  let v142 : BitVec 1 := Scalar.cmpi .sgt v113 c0_i32_65
  let v143 : BitVec 32 := Scalar.extui v142
  let c0_i32_66 : BitVec 32 := 0#32
  let v144 : BitVec 1 := Scalar.cmpi .slt v113 c0_i32_66
  let v145 : BitVec 32 := Scalar.extui v144
  let v146 : BitVec 32 := Scalar.subi v143 v145
  let c0_i32_67 : BitVec 32 := 0#32
  let v147 : BitVec 1 := Scalar.cmpi .sgt c4_i32_64 c0_i32_67
  let v148 : BitVec 32 := Scalar.extui v147
  let c0_i32_68 : BitVec 32 := 0#32
  let v149 : BitVec 1 := Scalar.cmpi .slt c4_i32_64 c0_i32_68
  let v150 : BitVec 32 := Scalar.extui v149
  let v151 : BitVec 32 := Scalar.subi v148 v150
  let v152 : BitVec 1 := Scalar.cmpi .ne v146 v151
  let v153 : BitVec 32 := Scalar.remsi v113 c4_i32_64
  let c0_i32_69 : BitVec 32 := 0#32
  let v154 : BitVec 1 := Scalar.cmpi .ne v153 c0_i32_69
  let v155 : BitVec 1 := Scalar.andi v152 v154
  let c1_i32_70 : BitVec 32 := 1#32
  let v156 : BitVec 32 := Scalar.subi v141 c1_i32_70
  let v157 : BitVec 32 := Scalar.select v155 v156 v141
  let c8_i32_71 : BitVec 32 := 8#32
  let c0_i32_72 : BitVec 32 := 0#32
  let v158 : BitVec 1 := Scalar.cmpi .eq c8_i32_71 c0_i32_72
  let c1_i32_73 : BitVec 32 := 1#32
  let v159 : BitVec 32 := Scalar.select v158 c1_i32_73 c8_i32_71
  let v160 : BitVec 32 := Scalar.remsi v157 v159
  let c0_i32_74 : BitVec 32 := 0#32
  let v161 : BitVec 1 := Scalar.cmpi .ne v160 c0_i32_74
  let c0_i32_75 : BitVec 32 := 0#32
  let v162 : BitVec 1 := Scalar.cmpi .slt v160 c0_i32_75
  let c0_i32_76 : BitVec 32 := 0#32
  let v163 : BitVec 1 := Scalar.cmpi .slt v159 c0_i32_76
  let v164 : BitVec 1 := Scalar.xori v162 v163
  let v165 : BitVec 1 := Scalar.andi v164 v161
  let v166 : BitVec 32 := Scalar.addi v160 v159
  let v167 : BitVec 32 := Scalar.select v165 v166 v160
  let c0_i32_77 : BitVec 32 := 0#32
  ![v17.toNat, v112.toNat, v167.toNat]

def cc0_transform_1 (i : grid0.Coords) : Fin 3 → Nat :=
  let arg0 : BitVec 32 := BitVec.ofNat 32 (i 0).val
  let c255_i32 : BitVec 32 := 255#32
  let v0 : BitVec 32 := Scalar.minsi arg0 c255_i32
  let c32_i32 : BitVec 32 := 32#32
  let v1 : BitVec 32 := Scalar.divsi v0 c32_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c32_i32 c0_i32_1
  let v8 : BitVec 32 := Scalar.extui v7
  let c0_i32_2 : BitVec 32 := 0#32
  let v9 : BitVec 1 := Scalar.cmpi .slt c32_i32 c0_i32_2
  let v10 : BitVec 32 := Scalar.extui v9
  let v11 : BitVec 32 := Scalar.subi v8 v10
  let v12 : BitVec 1 := Scalar.cmpi .ne v6 v11
  let v13 : BitVec 32 := Scalar.remsi v0 c32_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32 : BitVec 32 := 4#32
  let c0_i32_4 : BitVec 32 := 0#32
  let v18 : BitVec 1 := Scalar.cmpi .eq c4_i32 c0_i32_4
  let c1_i32_5 : BitVec 32 := 1#32
  let v19 : BitVec 32 := Scalar.select v18 c1_i32_5 c4_i32
  let v20 : BitVec 32 := Scalar.remsi v0 v19
  let c0_i32_6 : BitVec 32 := 0#32
  let v21 : BitVec 1 := Scalar.cmpi .ne v20 c0_i32_6
  let c0_i32_7 : BitVec 32 := 0#32
  let v22 : BitVec 1 := Scalar.cmpi .slt v20 c0_i32_7
  let c0_i32_8 : BitVec 32 := 0#32
  let v23 : BitVec 1 := Scalar.cmpi .slt v19 c0_i32_8
  let v24 : BitVec 1 := Scalar.xori v22 v23
  let v25 : BitVec 1 := Scalar.andi v24 v21
  let v26 : BitVec 32 := Scalar.addi v20 v19
  let v27 : BitVec 32 := Scalar.select v25 v26 v20
  let c4_i32_9 : BitVec 32 := 4#32
  let v28 : BitVec 32 := Scalar.divsi v0 c4_i32_9
  let c0_i32_10 : BitVec 32 := 0#32
  let v29 : BitVec 1 := Scalar.cmpi .sgt v0 c0_i32_10
  let v30 : BitVec 32 := Scalar.extui v29
  let c0_i32_11 : BitVec 32 := 0#32
  let v31 : BitVec 1 := Scalar.cmpi .slt v0 c0_i32_11
  let v32 : BitVec 32 := Scalar.extui v31
  let v33 : BitVec 32 := Scalar.subi v30 v32
  let c0_i32_12 : BitVec 32 := 0#32
  let v34 : BitVec 1 := Scalar.cmpi .sgt c4_i32_9 c0_i32_12
  let v35 : BitVec 32 := Scalar.extui v34
  let c0_i32_13 : BitVec 32 := 0#32
  let v36 : BitVec 1 := Scalar.cmpi .slt c4_i32_9 c0_i32_13
  let v37 : BitVec 32 := Scalar.extui v36
  let v38 : BitVec 32 := Scalar.subi v35 v37
  let v39 : BitVec 1 := Scalar.cmpi .ne v33 v38
  let v40 : BitVec 32 := Scalar.remsi v0 c4_i32_9
  let c0_i32_14 : BitVec 32 := 0#32
  let v41 : BitVec 1 := Scalar.cmpi .ne v40 c0_i32_14
  let v42 : BitVec 1 := Scalar.andi v39 v41
  let c1_i32_15 : BitVec 32 := 1#32
  let v43 : BitVec 32 := Scalar.subi v28 c1_i32_15
  let v44 : BitVec 32 := Scalar.select v42 v43 v28
  let c8_i32 : BitVec 32 := 8#32
  let c0_i32_16 : BitVec 32 := 0#32
  let v45 : BitVec 1 := Scalar.cmpi .eq c8_i32 c0_i32_16
  let c1_i32_17 : BitVec 32 := 1#32
  let v46 : BitVec 32 := Scalar.select v45 c1_i32_17 c8_i32
  let v47 : BitVec 32 := Scalar.remsi v44 v46
  let c0_i32_18 : BitVec 32 := 0#32
  let v48 : BitVec 1 := Scalar.cmpi .ne v47 c0_i32_18
  let c0_i32_19 : BitVec 32 := 0#32
  let v49 : BitVec 1 := Scalar.cmpi .slt v47 c0_i32_19
  let c0_i32_20 : BitVec 32 := 0#32
  let v50 : BitVec 1 := Scalar.cmpi .slt v46 c0_i32_20
  let v51 : BitVec 1 := Scalar.xori v49 v50
  let v52 : BitVec 1 := Scalar.andi v51 v48
  let v53 : BitVec 32 := Scalar.addi v47 v46
  let v54 : BitVec 32 := Scalar.select v52 v53 v47
  let c255_i32_21 : BitVec 32 := 255#32
  let v55 : BitVec 32 := Scalar.minsi arg0 c255_i32_21
  let c32_i32_22 : BitVec 32 := 32#32
  let v56 : BitVec 32 := Scalar.divsi v55 c32_i32_22
  let c0_i32_23 : BitVec 32 := 0#32
  let v57 : BitVec 1 := Scalar.cmpi .sgt v55 c0_i32_23
  let v58 : BitVec 32 := Scalar.extui v57
  let c0_i32_24 : BitVec 32 := 0#32
  let v59 : BitVec 1 := Scalar.cmpi .slt v55 c0_i32_24
  let v60 : BitVec 32 := Scalar.extui v59
  let v61 : BitVec 32 := Scalar.subi v58 v60
  let c0_i32_25 : BitVec 32 := 0#32
  let v62 : BitVec 1 := Scalar.cmpi .sgt c32_i32_22 c0_i32_25
  let v63 : BitVec 32 := Scalar.extui v62
  let c0_i32_26 : BitVec 32 := 0#32
  let v64 : BitVec 1 := Scalar.cmpi .slt c32_i32_22 c0_i32_26
  let v65 : BitVec 32 := Scalar.extui v64
  let v66 : BitVec 32 := Scalar.subi v63 v65
  let v67 : BitVec 1 := Scalar.cmpi .ne v61 v66
  let v68 : BitVec 32 := Scalar.remsi v55 c32_i32_22
  let c0_i32_27 : BitVec 32 := 0#32
  let v69 : BitVec 1 := Scalar.cmpi .ne v68 c0_i32_27
  let v70 : BitVec 1 := Scalar.andi v67 v69
  let c1_i32_28 : BitVec 32 := 1#32
  let v71 : BitVec 32 := Scalar.subi v56 c1_i32_28
  let v72 : BitVec 32 := Scalar.select v70 v71 v56
  let c4_i32_29 : BitVec 32 := 4#32
  let c0_i32_30 : BitVec 32 := 0#32
  let v73 : BitVec 1 := Scalar.cmpi .eq c4_i32_29 c0_i32_30
  let c1_i32_31 : BitVec 32 := 1#32
  let v74 : BitVec 32 := Scalar.select v73 c1_i32_31 c4_i32_29
  let v75 : BitVec 32 := Scalar.remsi v55 v74
  let c0_i32_32 : BitVec 32 := 0#32
  let v76 : BitVec 1 := Scalar.cmpi .ne v75 c0_i32_32
  let c0_i32_33 : BitVec 32 := 0#32
  let v77 : BitVec 1 := Scalar.cmpi .slt v75 c0_i32_33
  let c0_i32_34 : BitVec 32 := 0#32
  let v78 : BitVec 1 := Scalar.cmpi .slt v74 c0_i32_34
  let v79 : BitVec 1 := Scalar.xori v77 v78
  let v80 : BitVec 1 := Scalar.andi v79 v76
  let v81 : BitVec 32 := Scalar.addi v75 v74
  let v82 : BitVec 32 := Scalar.select v80 v81 v75
  let c4_i32_35 : BitVec 32 := 4#32
  let v83 : BitVec 32 := Scalar.divsi v55 c4_i32_35
  let c0_i32_36 : BitVec 32 := 0#32
  let v84 : BitVec 1 := Scalar.cmpi .sgt v55 c0_i32_36
  let v85 : BitVec 32 := Scalar.extui v84
  let c0_i32_37 : BitVec 32 := 0#32
  let v86 : BitVec 1 := Scalar.cmpi .slt v55 c0_i32_37
  let v87 : BitVec 32 := Scalar.extui v86
  let v88 : BitVec 32 := Scalar.subi v85 v87
  let c0_i32_38 : BitVec 32 := 0#32
  let v89 : BitVec 1 := Scalar.cmpi .sgt c4_i32_35 c0_i32_38
  let v90 : BitVec 32 := Scalar.extui v89
  let c0_i32_39 : BitVec 32 := 0#32
  let v91 : BitVec 1 := Scalar.cmpi .slt c4_i32_35 c0_i32_39
  let v92 : BitVec 32 := Scalar.extui v91
  let v93 : BitVec 32 := Scalar.subi v90 v92
  let v94 : BitVec 1 := Scalar.cmpi .ne v88 v93
  let v95 : BitVec 32 := Scalar.remsi v55 c4_i32_35
  let c0_i32_40 : BitVec 32 := 0#32
  let v96 : BitVec 1 := Scalar.cmpi .ne v95 c0_i32_40
  let v97 : BitVec 1 := Scalar.andi v94 v96
  let c1_i32_41 : BitVec 32 := 1#32
  let v98 : BitVec 32 := Scalar.subi v83 c1_i32_41
  let v99 : BitVec 32 := Scalar.select v97 v98 v83
  let c8_i32_42 : BitVec 32 := 8#32
  let c0_i32_43 : BitVec 32 := 0#32
  let v100 : BitVec 1 := Scalar.cmpi .eq c8_i32_42 c0_i32_43
  let c1_i32_44 : BitVec 32 := 1#32
  let v101 : BitVec 32 := Scalar.select v100 c1_i32_44 c8_i32_42
  let v102 : BitVec 32 := Scalar.remsi v99 v101
  let c0_i32_45 : BitVec 32 := 0#32
  let v103 : BitVec 1 := Scalar.cmpi .ne v102 c0_i32_45
  let c0_i32_46 : BitVec 32 := 0#32
  let v104 : BitVec 1 := Scalar.cmpi .slt v102 c0_i32_46
  let c0_i32_47 : BitVec 32 := 0#32
  let v105 : BitVec 1 := Scalar.cmpi .slt v101 c0_i32_47
  let v106 : BitVec 1 := Scalar.xori v104 v105
  let v107 : BitVec 1 := Scalar.andi v106 v103
  let v108 : BitVec 32 := Scalar.addi v102 v101
  let v109 : BitVec 32 := Scalar.select v107 v108 v102
  let c2_i32 : BitVec 32 := 2#32
  let v110 : BitVec 32 := Scalar.muli v82 c2_i32
  let c1_i32_48 : BitVec 32 := 1#32
  let v111 : BitVec 32 := Scalar.addi c1_i32_48 v110
  let c1_i32_49 : BitVec 32 := 1#32
  let v112 : BitVec 32 := Scalar.addi v111 c1_i32_49
  let c255_i32_50 : BitVec 32 := 255#32
  let v113 : BitVec 32 := Scalar.minsi arg0 c255_i32_50
  let c32_i32_51 : BitVec 32 := 32#32
  let v114 : BitVec 32 := Scalar.divsi v113 c32_i32_51
  let c0_i32_52 : BitVec 32 := 0#32
  let v115 : BitVec 1 := Scalar.cmpi .sgt v113 c0_i32_52
  let v116 : BitVec 32 := Scalar.extui v115
  let c0_i32_53 : BitVec 32 := 0#32
  let v117 : BitVec 1 := Scalar.cmpi .slt v113 c0_i32_53
  let v118 : BitVec 32 := Scalar.extui v117
  let v119 : BitVec 32 := Scalar.subi v116 v118
  let c0_i32_54 : BitVec 32 := 0#32
  let v120 : BitVec 1 := Scalar.cmpi .sgt c32_i32_51 c0_i32_54
  let v121 : BitVec 32 := Scalar.extui v120
  let c0_i32_55 : BitVec 32 := 0#32
  let v122 : BitVec 1 := Scalar.cmpi .slt c32_i32_51 c0_i32_55
  let v123 : BitVec 32 := Scalar.extui v122
  let v124 : BitVec 32 := Scalar.subi v121 v123
  let v125 : BitVec 1 := Scalar.cmpi .ne v119 v124
  let v126 : BitVec 32 := Scalar.remsi v113 c32_i32_51
  let c0_i32_56 : BitVec 32 := 0#32
  let v127 : BitVec 1 := Scalar.cmpi .ne v126 c0_i32_56
  let v128 : BitVec 1 := Scalar.andi v125 v127
  let c1_i32_57 : BitVec 32 := 1#32
  let v129 : BitVec 32 := Scalar.subi v114 c1_i32_57
  let v130 : BitVec 32 := Scalar.select v128 v129 v114
  let c4_i32_58 : BitVec 32 := 4#32
  let c0_i32_59 : BitVec 32 := 0#32
  let v131 : BitVec 1 := Scalar.cmpi .eq c4_i32_58 c0_i32_59
  let c1_i32_60 : BitVec 32 := 1#32
  let v132 : BitVec 32 := Scalar.select v131 c1_i32_60 c4_i32_58
  let v133 : BitVec 32 := Scalar.remsi v113 v132
  let c0_i32_61 : BitVec 32 := 0#32
  let v134 : BitVec 1 := Scalar.cmpi .ne v133 c0_i32_61
  let c0_i32_62 : BitVec 32 := 0#32
  let v135 : BitVec 1 := Scalar.cmpi .slt v133 c0_i32_62
  let c0_i32_63 : BitVec 32 := 0#32
  let v136 : BitVec 1 := Scalar.cmpi .slt v132 c0_i32_63
  let v137 : BitVec 1 := Scalar.xori v135 v136
  let v138 : BitVec 1 := Scalar.andi v137 v134
  let v139 : BitVec 32 := Scalar.addi v133 v132
  let v140 : BitVec 32 := Scalar.select v138 v139 v133
  let c4_i32_64 : BitVec 32 := 4#32
  let v141 : BitVec 32 := Scalar.divsi v113 c4_i32_64
  let c0_i32_65 : BitVec 32 := 0#32
  let v142 : BitVec 1 := Scalar.cmpi .sgt v113 c0_i32_65
  let v143 : BitVec 32 := Scalar.extui v142
  let c0_i32_66 : BitVec 32 := 0#32
  let v144 : BitVec 1 := Scalar.cmpi .slt v113 c0_i32_66
  let v145 : BitVec 32 := Scalar.extui v144
  let v146 : BitVec 32 := Scalar.subi v143 v145
  let c0_i32_67 : BitVec 32 := 0#32
  let v147 : BitVec 1 := Scalar.cmpi .sgt c4_i32_64 c0_i32_67
  let v148 : BitVec 32 := Scalar.extui v147
  let c0_i32_68 : BitVec 32 := 0#32
  let v149 : BitVec 1 := Scalar.cmpi .slt c4_i32_64 c0_i32_68
  let v150 : BitVec 32 := Scalar.extui v149
  let v151 : BitVec 32 := Scalar.subi v148 v150
  let v152 : BitVec 1 := Scalar.cmpi .ne v146 v151
  let v153 : BitVec 32 := Scalar.remsi v113 c4_i32_64
  let c0_i32_69 : BitVec 32 := 0#32
  let v154 : BitVec 1 := Scalar.cmpi .ne v153 c0_i32_69
  let v155 : BitVec 1 := Scalar.andi v152 v154
  let c1_i32_70 : BitVec 32 := 1#32
  let v156 : BitVec 32 := Scalar.subi v141 c1_i32_70
  let v157 : BitVec 32 := Scalar.select v155 v156 v141
  let c8_i32_71 : BitVec 32 := 8#32
  let c0_i32_72 : BitVec 32 := 0#32
  let v158 : BitVec 1 := Scalar.cmpi .eq c8_i32_71 c0_i32_72
  let c1_i32_73 : BitVec 32 := 1#32
  let v159 : BitVec 32 := Scalar.select v158 c1_i32_73 c8_i32_71
  let v160 : BitVec 32 := Scalar.remsi v157 v159
  let c0_i32_74 : BitVec 32 := 0#32
  let v161 : BitVec 1 := Scalar.cmpi .ne v160 c0_i32_74
  let c0_i32_75 : BitVec 32 := 0#32
  let v162 : BitVec 1 := Scalar.cmpi .slt v160 c0_i32_75
  let c0_i32_76 : BitVec 32 := 0#32
  let v163 : BitVec 1 := Scalar.cmpi .slt v159 c0_i32_76
  let v164 : BitVec 1 := Scalar.xori v162 v163
  let v165 : BitVec 1 := Scalar.andi v164 v161
  let v166 : BitVec 32 := Scalar.addi v160 v159
  let v167 : BitVec 32 := Scalar.select v165 v166 v160
  let c0_i32_77 : BitVec 32 := 0#32
  ![v17.toNat, v112.toNat, v167.toNat]

def cc0_transform_2 (i : grid0.Coords) : Fin 3 → Nat :=
  let arg0 : BitVec 32 := BitVec.ofNat 32 (i 0).val
  let c255_i32 : BitVec 32 := 255#32
  let v0 : BitVec 32 := Scalar.minsi arg0 c255_i32
  let c32_i32 : BitVec 32 := 32#32
  let v1 : BitVec 32 := Scalar.divsi v0 c32_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c32_i32 c0_i32_1
  let v8 : BitVec 32 := Scalar.extui v7
  let c0_i32_2 : BitVec 32 := 0#32
  let v9 : BitVec 1 := Scalar.cmpi .slt c32_i32 c0_i32_2
  let v10 : BitVec 32 := Scalar.extui v9
  let v11 : BitVec 32 := Scalar.subi v8 v10
  let v12 : BitVec 1 := Scalar.cmpi .ne v6 v11
  let v13 : BitVec 32 := Scalar.remsi v0 c32_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32 : BitVec 32 := 4#32
  let c0_i32_4 : BitVec 32 := 0#32
  let v18 : BitVec 1 := Scalar.cmpi .eq c4_i32 c0_i32_4
  let c1_i32_5 : BitVec 32 := 1#32
  let v19 : BitVec 32 := Scalar.select v18 c1_i32_5 c4_i32
  let v20 : BitVec 32 := Scalar.remsi v0 v19
  let c0_i32_6 : BitVec 32 := 0#32
  let v21 : BitVec 1 := Scalar.cmpi .ne v20 c0_i32_6
  let c0_i32_7 : BitVec 32 := 0#32
  let v22 : BitVec 1 := Scalar.cmpi .slt v20 c0_i32_7
  let c0_i32_8 : BitVec 32 := 0#32
  let v23 : BitVec 1 := Scalar.cmpi .slt v19 c0_i32_8
  let v24 : BitVec 1 := Scalar.xori v22 v23
  let v25 : BitVec 1 := Scalar.andi v24 v21
  let v26 : BitVec 32 := Scalar.addi v20 v19
  let v27 : BitVec 32 := Scalar.select v25 v26 v20
  let c4_i32_9 : BitVec 32 := 4#32
  let v28 : BitVec 32 := Scalar.divsi v0 c4_i32_9
  let c0_i32_10 : BitVec 32 := 0#32
  let v29 : BitVec 1 := Scalar.cmpi .sgt v0 c0_i32_10
  let v30 : BitVec 32 := Scalar.extui v29
  let c0_i32_11 : BitVec 32 := 0#32
  let v31 : BitVec 1 := Scalar.cmpi .slt v0 c0_i32_11
  let v32 : BitVec 32 := Scalar.extui v31
  let v33 : BitVec 32 := Scalar.subi v30 v32
  let c0_i32_12 : BitVec 32 := 0#32
  let v34 : BitVec 1 := Scalar.cmpi .sgt c4_i32_9 c0_i32_12
  let v35 : BitVec 32 := Scalar.extui v34
  let c0_i32_13 : BitVec 32 := 0#32
  let v36 : BitVec 1 := Scalar.cmpi .slt c4_i32_9 c0_i32_13
  let v37 : BitVec 32 := Scalar.extui v36
  let v38 : BitVec 32 := Scalar.subi v35 v37
  let v39 : BitVec 1 := Scalar.cmpi .ne v33 v38
  let v40 : BitVec 32 := Scalar.remsi v0 c4_i32_9
  let c0_i32_14 : BitVec 32 := 0#32
  let v41 : BitVec 1 := Scalar.cmpi .ne v40 c0_i32_14
  let v42 : BitVec 1 := Scalar.andi v39 v41
  let c1_i32_15 : BitVec 32 := 1#32
  let v43 : BitVec 32 := Scalar.subi v28 c1_i32_15
  let v44 : BitVec 32 := Scalar.select v42 v43 v28
  let c8_i32 : BitVec 32 := 8#32
  let c0_i32_16 : BitVec 32 := 0#32
  let v45 : BitVec 1 := Scalar.cmpi .eq c8_i32 c0_i32_16
  let c1_i32_17 : BitVec 32 := 1#32
  let v46 : BitVec 32 := Scalar.select v45 c1_i32_17 c8_i32
  let v47 : BitVec 32 := Scalar.remsi v44 v46
  let c0_i32_18 : BitVec 32 := 0#32
  let v48 : BitVec 1 := Scalar.cmpi .ne v47 c0_i32_18
  let c0_i32_19 : BitVec 32 := 0#32
  let v49 : BitVec 1 := Scalar.cmpi .slt v47 c0_i32_19
  let c0_i32_20 : BitVec 32 := 0#32
  let v50 : BitVec 1 := Scalar.cmpi .slt v46 c0_i32_20
  let v51 : BitVec 1 := Scalar.xori v49 v50
  let v52 : BitVec 1 := Scalar.andi v51 v48
  let v53 : BitVec 32 := Scalar.addi v47 v46
  let v54 : BitVec 32 := Scalar.select v52 v53 v47
  let c255_i32_21 : BitVec 32 := 255#32
  let v55 : BitVec 32 := Scalar.minsi arg0 c255_i32_21
  let c32_i32_22 : BitVec 32 := 32#32
  let v56 : BitVec 32 := Scalar.divsi v55 c32_i32_22
  let c0_i32_23 : BitVec 32 := 0#32
  let v57 : BitVec 1 := Scalar.cmpi .sgt v55 c0_i32_23
  let v58 : BitVec 32 := Scalar.extui v57
  let c0_i32_24 : BitVec 32 := 0#32
  let v59 : BitVec 1 := Scalar.cmpi .slt v55 c0_i32_24
  let v60 : BitVec 32 := Scalar.extui v59
  let v61 : BitVec 32 := Scalar.subi v58 v60
  let c0_i32_25 : BitVec 32 := 0#32
  let v62 : BitVec 1 := Scalar.cmpi .sgt c32_i32_22 c0_i32_25
  let v63 : BitVec 32 := Scalar.extui v62
  let c0_i32_26 : BitVec 32 := 0#32
  let v64 : BitVec 1 := Scalar.cmpi .slt c32_i32_22 c0_i32_26
  let v65 : BitVec 32 := Scalar.extui v64
  let v66 : BitVec 32 := Scalar.subi v63 v65
  let v67 : BitVec 1 := Scalar.cmpi .ne v61 v66
  let v68 : BitVec 32 := Scalar.remsi v55 c32_i32_22
  let c0_i32_27 : BitVec 32 := 0#32
  let v69 : BitVec 1 := Scalar.cmpi .ne v68 c0_i32_27
  let v70 : BitVec 1 := Scalar.andi v67 v69
  let c1_i32_28 : BitVec 32 := 1#32
  let v71 : BitVec 32 := Scalar.subi v56 c1_i32_28
  let v72 : BitVec 32 := Scalar.select v70 v71 v56
  let c4_i32_29 : BitVec 32 := 4#32
  let c0_i32_30 : BitVec 32 := 0#32
  let v73 : BitVec 1 := Scalar.cmpi .eq c4_i32_29 c0_i32_30
  let c1_i32_31 : BitVec 32 := 1#32
  let v74 : BitVec 32 := Scalar.select v73 c1_i32_31 c4_i32_29
  let v75 : BitVec 32 := Scalar.remsi v55 v74
  let c0_i32_32 : BitVec 32 := 0#32
  let v76 : BitVec 1 := Scalar.cmpi .ne v75 c0_i32_32
  let c0_i32_33 : BitVec 32 := 0#32
  let v77 : BitVec 1 := Scalar.cmpi .slt v75 c0_i32_33
  let c0_i32_34 : BitVec 32 := 0#32
  let v78 : BitVec 1 := Scalar.cmpi .slt v74 c0_i32_34
  let v79 : BitVec 1 := Scalar.xori v77 v78
  let v80 : BitVec 1 := Scalar.andi v79 v76
  let v81 : BitVec 32 := Scalar.addi v75 v74
  let v82 : BitVec 32 := Scalar.select v80 v81 v75
  let c4_i32_35 : BitVec 32 := 4#32
  let v83 : BitVec 32 := Scalar.divsi v55 c4_i32_35
  let c0_i32_36 : BitVec 32 := 0#32
  let v84 : BitVec 1 := Scalar.cmpi .sgt v55 c0_i32_36
  let v85 : BitVec 32 := Scalar.extui v84
  let c0_i32_37 : BitVec 32 := 0#32
  let v86 : BitVec 1 := Scalar.cmpi .slt v55 c0_i32_37
  let v87 : BitVec 32 := Scalar.extui v86
  let v88 : BitVec 32 := Scalar.subi v85 v87
  let c0_i32_38 : BitVec 32 := 0#32
  let v89 : BitVec 1 := Scalar.cmpi .sgt c4_i32_35 c0_i32_38
  let v90 : BitVec 32 := Scalar.extui v89
  let c0_i32_39 : BitVec 32 := 0#32
  let v91 : BitVec 1 := Scalar.cmpi .slt c4_i32_35 c0_i32_39
  let v92 : BitVec 32 := Scalar.extui v91
  let v93 : BitVec 32 := Scalar.subi v90 v92
  let v94 : BitVec 1 := Scalar.cmpi .ne v88 v93
  let v95 : BitVec 32 := Scalar.remsi v55 c4_i32_35
  let c0_i32_40 : BitVec 32 := 0#32
  let v96 : BitVec 1 := Scalar.cmpi .ne v95 c0_i32_40
  let v97 : BitVec 1 := Scalar.andi v94 v96
  let c1_i32_41 : BitVec 32 := 1#32
  let v98 : BitVec 32 := Scalar.subi v83 c1_i32_41
  let v99 : BitVec 32 := Scalar.select v97 v98 v83
  let c8_i32_42 : BitVec 32 := 8#32
  let c0_i32_43 : BitVec 32 := 0#32
  let v100 : BitVec 1 := Scalar.cmpi .eq c8_i32_42 c0_i32_43
  let c1_i32_44 : BitVec 32 := 1#32
  let v101 : BitVec 32 := Scalar.select v100 c1_i32_44 c8_i32_42
  let v102 : BitVec 32 := Scalar.remsi v99 v101
  let c0_i32_45 : BitVec 32 := 0#32
  let v103 : BitVec 1 := Scalar.cmpi .ne v102 c0_i32_45
  let c0_i32_46 : BitVec 32 := 0#32
  let v104 : BitVec 1 := Scalar.cmpi .slt v102 c0_i32_46
  let c0_i32_47 : BitVec 32 := 0#32
  let v105 : BitVec 1 := Scalar.cmpi .slt v101 c0_i32_47
  let v106 : BitVec 1 := Scalar.xori v104 v105
  let v107 : BitVec 1 := Scalar.andi v106 v103
  let v108 : BitVec 32 := Scalar.addi v102 v101
  let v109 : BitVec 32 := Scalar.select v107 v108 v102
  let c0_i32_48 : BitVec 32 := 0#32
  let c0_i32_49 : BitVec 32 := 0#32
  ![v17.toNat, c0_i32_48.toNat, v109.toNat]

def cc0_transform_3 (i : grid0.Coords) : Fin 4 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c32_i32 : BitVec 32 := 32#32
  let v2 : BitVec 32 := Scalar.divsi v1 c32_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c32_i32 c0_i32_2
  let v9 : BitVec 32 := Scalar.extui v8
  let c0_i32_3 : BitVec 32 := 0#32
  let v10 : BitVec 1 := Scalar.cmpi .slt c32_i32 c0_i32_3
  let v11 : BitVec 32 := Scalar.extui v10
  let v12 : BitVec 32 := Scalar.subi v9 v11
  let v13 : BitVec 1 := Scalar.cmpi .ne v7 v12
  let v14 : BitVec 32 := Scalar.remsi v1 c32_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c4_i32 : BitVec 32 := 4#32
  let c0_i32_6 : BitVec 32 := 0#32
  let v19 : BitVec 1 := Scalar.cmpi .eq c4_i32 c0_i32_6
  let c1_i32_7 : BitVec 32 := 1#32
  let v20 : BitVec 32 := Scalar.select v19 c1_i32_7 c4_i32
  let v21 : BitVec 32 := Scalar.remsi v1 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c4_i32_11 : BitVec 32 := 4#32
  let v29 : BitVec 32 := Scalar.divsi v1 c4_i32_11
  let c0_i32_12 : BitVec 32 := 0#32
  let v30 : BitVec 1 := Scalar.cmpi .sgt v1 c0_i32_12
  let v31 : BitVec 32 := Scalar.extui v30
  let c0_i32_13 : BitVec 32 := 0#32
  let v32 : BitVec 1 := Scalar.cmpi .slt v1 c0_i32_13
  let v33 : BitVec 32 := Scalar.extui v32
  let v34 : BitVec 32 := Scalar.subi v31 v33
  let c0_i32_14 : BitVec 32 := 0#32
  let v35 : BitVec 1 := Scalar.cmpi .sgt c4_i32_11 c0_i32_14
  let v36 : BitVec 32 := Scalar.extui v35
  let c0_i32_15 : BitVec 32 := 0#32
  let v37 : BitVec 1 := Scalar.cmpi .slt c4_i32_11 c0_i32_15
  let v38 : BitVec 32 := Scalar.extui v37
  let v39 : BitVec 32 := Scalar.subi v36 v38
  let v40 : BitVec 1 := Scalar.cmpi .ne v34 v39
  let v41 : BitVec 32 := Scalar.remsi v1 c4_i32_11
  let c0_i32_16 : BitVec 32 := 0#32
  let v42 : BitVec 1 := Scalar.cmpi .ne v41 c0_i32_16
  let v43 : BitVec 1 := Scalar.andi v40 v42
  let c1_i32_17 : BitVec 32 := 1#32
  let v44 : BitVec 32 := Scalar.subi v29 c1_i32_17
  let v45 : BitVec 32 := Scalar.select v43 v44 v29
  let c8_i32 : BitVec 32 := 8#32
  let c0_i32_18 : BitVec 32 := 0#32
  let v46 : BitVec 1 := Scalar.cmpi .eq c8_i32 c0_i32_18
  let c1_i32_19 : BitVec 32 := 1#32
  let v47 : BitVec 32 := Scalar.select v46 c1_i32_19 c8_i32
  let v48 : BitVec 32 := Scalar.remsi v45 v47
  let c0_i32_20 : BitVec 32 := 0#32
  let v49 : BitVec 1 := Scalar.cmpi .ne v48 c0_i32_20
  let c0_i32_21 : BitVec 32 := 0#32
  let v50 : BitVec 1 := Scalar.cmpi .slt v48 c0_i32_21
  let c0_i32_22 : BitVec 32 := 0#32
  let v51 : BitVec 1 := Scalar.cmpi .slt v47 c0_i32_22
  let v52 : BitVec 1 := Scalar.xori v50 v51
  let v53 : BitVec 1 := Scalar.andi v52 v49
  let v54 : BitVec 32 := Scalar.addi v48 v47
  let v55 : BitVec 32 := Scalar.select v53 v54 v48
  let c1_i32_23 : BitVec 32 := 1#32
  let v56 : BitVec 32 := Scalar.subi arg0 c1_i32_23
  let c0_i32_24 : BitVec 32 := 0#32
  let v57 : BitVec 32 := Scalar.maxsi v56 c0_i32_24
  let c32_i32_25 : BitVec 32 := 32#32
  let v58 : BitVec 32 := Scalar.divsi v57 c32_i32_25
  let c0_i32_26 : BitVec 32 := 0#32
  let v59 : BitVec 1 := Scalar.cmpi .sgt v57 c0_i32_26
  let v60 : BitVec 32 := Scalar.extui v59
  let c0_i32_27 : BitVec 32 := 0#32
  let v61 : BitVec 1 := Scalar.cmpi .slt v57 c0_i32_27
  let v62 : BitVec 32 := Scalar.extui v61
  let v63 : BitVec 32 := Scalar.subi v60 v62
  let c0_i32_28 : BitVec 32 := 0#32
  let v64 : BitVec 1 := Scalar.cmpi .sgt c32_i32_25 c0_i32_28
  let v65 : BitVec 32 := Scalar.extui v64
  let c0_i32_29 : BitVec 32 := 0#32
  let v66 : BitVec 1 := Scalar.cmpi .slt c32_i32_25 c0_i32_29
  let v67 : BitVec 32 := Scalar.extui v66
  let v68 : BitVec 32 := Scalar.subi v65 v67
  let v69 : BitVec 1 := Scalar.cmpi .ne v63 v68
  let v70 : BitVec 32 := Scalar.remsi v57 c32_i32_25
  let c0_i32_30 : BitVec 32 := 0#32
  let v71 : BitVec 1 := Scalar.cmpi .ne v70 c0_i32_30
  let v72 : BitVec 1 := Scalar.andi v69 v71
  let c1_i32_31 : BitVec 32 := 1#32
  let v73 : BitVec 32 := Scalar.subi v58 c1_i32_31
  let v74 : BitVec 32 := Scalar.select v72 v73 v58
  let c4_i32_32 : BitVec 32 := 4#32
  let c0_i32_33 : BitVec 32 := 0#32
  let v75 : BitVec 1 := Scalar.cmpi .eq c4_i32_32 c0_i32_33
  let c1_i32_34 : BitVec 32 := 1#32
  let v76 : BitVec 32 := Scalar.select v75 c1_i32_34 c4_i32_32
  let v77 : BitVec 32 := Scalar.remsi v57 v76
  let c0_i32_35 : BitVec 32 := 0#32
  let v78 : BitVec 1 := Scalar.cmpi .ne v77 c0_i32_35
  let c0_i32_36 : BitVec 32 := 0#32
  let v79 : BitVec 1 := Scalar.cmpi .slt v77 c0_i32_36
  let c0_i32_37 : BitVec 32 := 0#32
  let v80 : BitVec 1 := Scalar.cmpi .slt v76 c0_i32_37
  let v81 : BitVec 1 := Scalar.xori v79 v80
  let v82 : BitVec 1 := Scalar.andi v81 v78
  let v83 : BitVec 32 := Scalar.addi v77 v76
  let v84 : BitVec 32 := Scalar.select v82 v83 v77
  let c4_i32_38 : BitVec 32 := 4#32
  let v85 : BitVec 32 := Scalar.divsi v57 c4_i32_38
  let c0_i32_39 : BitVec 32 := 0#32
  let v86 : BitVec 1 := Scalar.cmpi .sgt v57 c0_i32_39
  let v87 : BitVec 32 := Scalar.extui v86
  let c0_i32_40 : BitVec 32 := 0#32
  let v88 : BitVec 1 := Scalar.cmpi .slt v57 c0_i32_40
  let v89 : BitVec 32 := Scalar.extui v88
  let v90 : BitVec 32 := Scalar.subi v87 v89
  let c0_i32_41 : BitVec 32 := 0#32
  let v91 : BitVec 1 := Scalar.cmpi .sgt c4_i32_38 c0_i32_41
  let v92 : BitVec 32 := Scalar.extui v91
  let c0_i32_42 : BitVec 32 := 0#32
  let v93 : BitVec 1 := Scalar.cmpi .slt c4_i32_38 c0_i32_42
  let v94 : BitVec 32 := Scalar.extui v93
  let v95 : BitVec 32 := Scalar.subi v92 v94
  let v96 : BitVec 1 := Scalar.cmpi .ne v90 v95
  let v97 : BitVec 32 := Scalar.remsi v57 c4_i32_38
  let c0_i32_43 : BitVec 32 := 0#32
  let v98 : BitVec 1 := Scalar.cmpi .ne v97 c0_i32_43
  let v99 : BitVec 1 := Scalar.andi v96 v98
  let c1_i32_44 : BitVec 32 := 1#32
  let v100 : BitVec 32 := Scalar.subi v85 c1_i32_44
  let v101 : BitVec 32 := Scalar.select v99 v100 v85
  let c8_i32_45 : BitVec 32 := 8#32
  let c0_i32_46 : BitVec 32 := 0#32
  let v102 : BitVec 1 := Scalar.cmpi .eq c8_i32_45 c0_i32_46
  let c1_i32_47 : BitVec 32 := 1#32
  let v103 : BitVec 32 := Scalar.select v102 c1_i32_47 c8_i32_45
  let v104 : BitVec 32 := Scalar.remsi v101 v103
  let c0_i32_48 : BitVec 32 := 0#32
  let v105 : BitVec 1 := Scalar.cmpi .ne v104 c0_i32_48
  let c0_i32_49 : BitVec 32 := 0#32
  let v106 : BitVec 1 := Scalar.cmpi .slt v104 c0_i32_49
  let c0_i32_50 : BitVec 32 := 0#32
  let v107 : BitVec 1 := Scalar.cmpi .slt v103 c0_i32_50
  let v108 : BitVec 1 := Scalar.xori v106 v107
  let v109 : BitVec 1 := Scalar.andi v108 v105
  let v110 : BitVec 32 := Scalar.addi v104 v103
  let v111 : BitVec 32 := Scalar.select v109 v110 v104
  let c0_i32_51 : BitVec 32 := 0#32
  let c0_i32_52 : BitVec 32 := 0#32
  let c0_i32_53 : BitVec 32 := 0#32
  ![v18.toNat, v111.toNat, c0_i32_51.toNat, c0_i32_52.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c32_i32 : BitVec 32 := 32#32
  let v2 : BitVec 32 := Scalar.divsi v1 c32_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c32_i32 c0_i32_2
  let v9 : BitVec 32 := Scalar.extui v8
  let c0_i32_3 : BitVec 32 := 0#32
  let v10 : BitVec 1 := Scalar.cmpi .slt c32_i32 c0_i32_3
  let v11 : BitVec 32 := Scalar.extui v10
  let v12 : BitVec 32 := Scalar.subi v9 v11
  let v13 : BitVec 1 := Scalar.cmpi .ne v7 v12
  let v14 : BitVec 32 := Scalar.remsi v1 c32_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c4_i32 : BitVec 32 := 4#32
  let c0_i32_6 : BitVec 32 := 0#32
  let v19 : BitVec 1 := Scalar.cmpi .eq c4_i32 c0_i32_6
  let c1_i32_7 : BitVec 32 := 1#32
  let v20 : BitVec 32 := Scalar.select v19 c1_i32_7 c4_i32
  let v21 : BitVec 32 := Scalar.remsi v1 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c4_i32_11 : BitVec 32 := 4#32
  let v29 : BitVec 32 := Scalar.divsi v1 c4_i32_11
  let c0_i32_12 : BitVec 32 := 0#32
  let v30 : BitVec 1 := Scalar.cmpi .sgt v1 c0_i32_12
  let v31 : BitVec 32 := Scalar.extui v30
  let c0_i32_13 : BitVec 32 := 0#32
  let v32 : BitVec 1 := Scalar.cmpi .slt v1 c0_i32_13
  let v33 : BitVec 32 := Scalar.extui v32
  let v34 : BitVec 32 := Scalar.subi v31 v33
  let c0_i32_14 : BitVec 32 := 0#32
  let v35 : BitVec 1 := Scalar.cmpi .sgt c4_i32_11 c0_i32_14
  let v36 : BitVec 32 := Scalar.extui v35
  let c0_i32_15 : BitVec 32 := 0#32
  let v37 : BitVec 1 := Scalar.cmpi .slt c4_i32_11 c0_i32_15
  let v38 : BitVec 32 := Scalar.extui v37
  let v39 : BitVec 32 := Scalar.subi v36 v38
  let v40 : BitVec 1 := Scalar.cmpi .ne v34 v39
  let v41 : BitVec 32 := Scalar.remsi v1 c4_i32_11
  let c0_i32_16 : BitVec 32 := 0#32
  let v42 : BitVec 1 := Scalar.cmpi .ne v41 c0_i32_16
  let v43 : BitVec 1 := Scalar.andi v40 v42
  let c1_i32_17 : BitVec 32 := 1#32
  let v44 : BitVec 32 := Scalar.subi v29 c1_i32_17
  let v45 : BitVec 32 := Scalar.select v43 v44 v29
  let c8_i32 : BitVec 32 := 8#32
  let c0_i32_18 : BitVec 32 := 0#32
  let v46 : BitVec 1 := Scalar.cmpi .eq c8_i32 c0_i32_18
  let c1_i32_19 : BitVec 32 := 1#32
  let v47 : BitVec 32 := Scalar.select v46 c1_i32_19 c8_i32
  let v48 : BitVec 32 := Scalar.remsi v45 v47
  let c0_i32_20 : BitVec 32 := 0#32
  let v49 : BitVec 1 := Scalar.cmpi .ne v48 c0_i32_20
  let c0_i32_21 : BitVec 32 := 0#32
  let v50 : BitVec 1 := Scalar.cmpi .slt v48 c0_i32_21
  let c0_i32_22 : BitVec 32 := 0#32
  let v51 : BitVec 1 := Scalar.cmpi .slt v47 c0_i32_22
  let v52 : BitVec 1 := Scalar.xori v50 v51
  let v53 : BitVec 1 := Scalar.andi v52 v49
  let v54 : BitVec 32 := Scalar.addi v48 v47
  let v55 : BitVec 32 := Scalar.select v53 v54 v48
  let c0_i32_23 : BitVec 32 := 0#32
  ![v18.toNat, v28.toNat, v55.toNat]

abbrev stage0_0 : Fin 2 → Memref sig .tc .vmem S1x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2304x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x128x2304 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S8x2048x8x2x64 : Shape := ⟨5, ![8, 2048, 8, 2, 64]⟩
abbrev S8x2048x8x128 : Shape := ⟨4, ![8, 2048, 8, 128]⟩
abbrev S8x256x8x2x64 : Shape := ⟨5, ![8, 256, 8, 2, 64]⟩
abbrev S8x256x8x128 : Shape := ⟨4, ![8, 256, 8, 128]⟩
abbrev S4x64 : Shape := ⟨2, ![4, 64]⟩
abbrev S128 : Shape := ⟨1, ![128]⟩
abbrev S1x64 : Shape := ⟨2, ![1, 64]⟩
abbrev S64 : Shape := ⟨1, ![64]⟩
abbrev S_ : Shape := ⟨0, ![]⟩
abbrev S8x2304x8x2x64 : Shape := ⟨5, ![8, 2304, 8, 2, 64]⟩
abbrev S8x2304x8x128 : Shape := ⟨4, ![8, 2304, 8, 128]⟩
abbrev S8x8x2x2048x2304 : Shape := ⟨5, ![8, 8, 2, 2048, 2304]⟩
abbrev S8x8x2x2048 : Shape := ⟨4, ![8, 8, 2, 2048]⟩
abbrev S8x8x2x2048x1 : Shape := ⟨5, ![8, 8, 2, 2048, 1]⟩
abbrev S8x8x1x2048x2304 : Shape := ⟨5, ![8, 8, 1, 2048, 2304]⟩
abbrev S8x8x2048x2304 : Shape := ⟨4, ![8, 8, 2048, 2304]⟩
abbrev S8x8x128x2048 : Shape := ⟨4, ![8, 8, 128, 2048]⟩
abbrev S8x2048x8 : Shape := ⟨3, ![8, 2048, 8]⟩
abbrev S8x2048x8x1 : Shape := ⟨4, ![8, 2048, 8, 1]⟩
abbrev S1x1x1x128 : Shape := ⟨4, ![1, 1, 1, 128]⟩
abbrev S8x2048x1024 : Shape := ⟨3, ![8, 2048, 1024]⟩

abbrev nBuf : Space → Nat
  | .hbm => 77
  | .vmem => 0
  | .smem => 0
  | _ => 0

abbrev bufTy : (tb : Table) → Fin (tcTables nBuf tb) → BufTy
  | .hbm, ⟨0, _⟩ => ⟨S8x2048x8x2x64, .f32⟩
  | .hbm, ⟨1, _⟩ => ⟨S8x2048x8x2x64, .f32⟩
  | .hbm, ⟨2, _⟩ => ⟨S8x2048x8x128, .f32⟩
  | .hbm, ⟨3, _⟩ => ⟨S8x256x8x2x64, .f32⟩
  | .hbm, ⟨4, _⟩ => ⟨S8x256x8x2x64, .f32⟩
  | .hbm, ⟨5, _⟩ => ⟨S8x256x8x128, .f32⟩
  | .hbm, ⟨6, _⟩ => ⟨S4x64, .f32⟩
  | .hbm, ⟨7, _⟩ => ⟨S128, .f32⟩
  | .hbm, ⟨8, _⟩ => ⟨S1x64, .f32⟩
  | .hbm, ⟨9, _⟩ => ⟨S64, .f32⟩
  | .hbm, ⟨10, _⟩ => ⟨S1x64, .f32⟩
  | .hbm, ⟨11, _⟩ => ⟨S64, .f32⟩
  | .hbm, ⟨12, _⟩ => ⟨S1x64, .f32⟩
  | .hbm, ⟨13, _⟩ => ⟨S64, .f32⟩
  | .hbm, ⟨14, _⟩ => ⟨S1x64, .f32⟩
  | .hbm, ⟨15, _⟩ => ⟨S64, .f32⟩
  | .hbm, ⟨16, _⟩ => ⟨S64, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S64, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S8x2304x8x2x64, .f32⟩
  | .hbm, ⟨28, _⟩ => ⟨S8x2304x8x128, .f32⟩
  | .hbm, ⟨29, _⟩ => ⟨S8x8x2x2048x2304, .f32⟩
  | .hbm, ⟨30, _⟩ => ⟨S_, .f32⟩
  | .hbm, ⟨31, _⟩ => ⟨S8x8x2x2048x2304, .f32⟩
  | .hbm, ⟨32, _⟩ => ⟨S8x8x2x2048x2304, .f32⟩
  | .hbm, ⟨33, _⟩ => ⟨S_, .f32⟩
  | .hbm, ⟨34, _⟩ => ⟨S8x8x2x2048, .f32⟩
  | .hbm, ⟨35, _⟩ => ⟨S_, .f32⟩
  | .hbm, ⟨36, _⟩ => ⟨S8x8x2x2048, .f32⟩
  | .hbm, ⟨37, _⟩ => ⟨S8x8x2x2048, .f32⟩
  | .hbm, ⟨38, _⟩ => ⟨S8x8x2x2048x1, .f32⟩
  | .hbm, ⟨39, _⟩ => ⟨S8x8x2x2048x2304, .f32⟩
  | .hbm, ⟨40, _⟩ => ⟨S8x8x2x2048x2304, .f32⟩
  | .hbm, ⟨41, _⟩ => ⟨S8x8x2x2048x2304, .f32⟩
  | .hbm, ⟨42, _⟩ => ⟨S_, .f32⟩
  | .hbm, ⟨43, _⟩ => ⟨S8x8x2x2048, .f32⟩
  | .hbm, ⟨44, _⟩ => ⟨S8x8x2x2048x1, .f32⟩
  | .hbm, ⟨45, _⟩ => ⟨S8x8x2x2048x2304, .f32⟩
  | .hbm, ⟨46, _⟩ => ⟨S8x8x2x2048x2304, .f32⟩
  | .hbm, ⟨47, _⟩ => ⟨S8x8x1x2048x2304, .f32⟩
  | .hbm, ⟨48, _⟩ => ⟨S8x8x2048x2304, .f32⟩
  | .hbm, ⟨49, _⟩ => ⟨S8x8x1x2048x2304, .f32⟩
  | .hbm, ⟨50, _⟩ => ⟨S8x8x2048x2304, .f32⟩
  | .hbm, ⟨51, _⟩ => ⟨S8x8x2048x2304, .f32⟩
  | .hbm, ⟨52, _⟩ => ⟨S8x8x2048x2304, .f32⟩
  | .hbm, ⟨53, _⟩ => ⟨S8x8x2048x2304, .f32⟩
  | .hbm, ⟨54, _⟩ => ⟨S8x8x128x2048, .f32⟩
  | .hbm, ⟨55, _⟩ => ⟨S8x2048x8x128, .f32⟩
  | .hbm, ⟨56, _⟩ => ⟨S8x2048x8x128, .f32⟩
  | .hbm, ⟨57, _⟩ => ⟨S_, .f32⟩
  | .hbm, ⟨58, _⟩ => ⟨S8x2048x8, .f32⟩
  | .hbm, ⟨59, _⟩ => ⟨S8x2048x8x1, .f32⟩
  | .hbm, ⟨60, _⟩ => ⟨S_, .f32⟩
  | .hbm, ⟨61, _⟩ => ⟨S8x2048x8x1, .f32⟩
  | .hbm, ⟨62, _⟩ => ⟨S8x2048x8x1, .f32⟩
  | .hbm, ⟨63, _⟩ => ⟨S_, .f32⟩
  | .hbm, ⟨64, _⟩ => ⟨S8x2048x8x1, .f32⟩
  | .hbm, ⟨65, _⟩ => ⟨S8x2048x8x1, .f32⟩
  | .hbm, ⟨66, _⟩ => ⟨S8x2048x8x1, .f32⟩
  | .hbm, ⟨67, _⟩ => ⟨S8x2048x8x128, .f32⟩
  | .hbm, ⟨68, _⟩ => ⟨S8x2048x8x128, .f32⟩
  | .hbm, ⟨69, _⟩ => ⟨S1x1x1x128, .f32⟩
  | .hbm, ⟨70, _⟩ => ⟨S8x2048x8x128, .f32⟩
  | .hbm, ⟨71, _⟩ => ⟨S8x2048x8x128, .f32⟩
  | .hbm, ⟨72, _⟩ => ⟨S_, .f32⟩
  | .hbm, ⟨73, _⟩ => ⟨S8x2048x8x128, .f32⟩
  | .hbm, ⟨74, _⟩ => ⟨S8x2048x8x128, .f32⟩
  | .hbm, ⟨75, _⟩ => ⟨S8x2048x1024, .f32⟩
  | .hbm, ⟨76, _⟩ => ⟨S8x2048x1024, .bf16⟩
  | _, _ => ⟨S8x2048x8x2x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_0 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_1 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_2 : Ref sig .tc := ⟨.hbm, 30, rfl⟩
abbrev main_v19 : Ref sig .tc := ⟨.hbm, 31, rfl⟩
abbrev main_v20 : Ref sig .tc := ⟨.hbm, 32, rfl⟩
abbrev main_cst_3 : Ref sig .tc := ⟨.hbm, 33, rfl⟩
abbrev main_v21 : Ref sig .tc := ⟨.hbm, 34, rfl⟩
abbrev main_cst_4 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_5 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_6 : Ref sig .tc := ⟨.hbm, 57, rfl⟩
abbrev main_v42 : Ref sig .tc := ⟨.hbm, 58, rfl⟩
abbrev main_v43 : Ref sig .tc := ⟨.hbm, 59, rfl⟩
abbrev main_cst_7 : Ref sig .tc := ⟨.hbm, 60, rfl⟩
abbrev main_v44 : Ref sig .tc := ⟨.hbm, 61, rfl⟩
abbrev main_v45 : Ref sig .tc := ⟨.hbm, 62, rfl⟩
abbrev main_cst_8 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_cst_9 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩

abbrev nD : Nat := 1
abbrev τ : Topo := Topo.v7x

variable {F : FTy → Type} [FloatOps F]
-- ==== Kernel2.lean ====
abbrev S8x2048x1024 : Shape := ⟨3, ![8, 2048, 1024]⟩
abbrev S8x256x1024 : Shape := ⟨3, ![8, 256, 1024]⟩
abbrev S8x6144 : Shape := ⟨2, ![8, 6144]⟩
abbrev S6144 : Shape := ⟨1, ![6144]⟩
abbrev S1024 : Shape := ⟨1, ![1024]⟩
abbrev S1024x5632 : Shape := ⟨2, ![1024, 5632]⟩
abbrev S2816x1024 : Shape := ⟨2, ![2816, 1024]⟩
abbrev S8x2304x1024 : Shape := ⟨3, ![8, 2304, 1024]⟩
abbrev S1x6x1x1024 : Shape := ⟨4, ![1, 6, 1, 1024]⟩
abbrev S8x6x1x1024 : Shape := ⟨4, ![8, 6, 1, 1024]⟩
abbrev S8x6x2x1024 : Shape := ⟨4, ![8, 6, 2, 1024]⟩
abbrev S8x12x1024 : Shape := ⟨3, ![8, 12, 1024]⟩
abbrev S1x1024 : Shape := ⟨2, ![1, 1024]⟩
abbrev S1x768x1024 : Shape := ⟨3, ![1, 768, 1024]⟩
abbrev S1x12x1024 : Shape := ⟨3, ![1, 12, 1024]⟩
abbrev S768x1024 : Shape := ⟨2, ![768, 1024]⟩
abbrev S768x1 : Shape := ⟨2, ![768, 1]⟩
abbrev S1x1x1024 : Shape := ⟨3, ![1, 1, 1024]⟩
abbrev S768 : Shape := ⟨1, ![768]⟩
abbrev S1024x256 : Shape := ⟨2, ![1024, 256]⟩
abbrev S768x256 : Shape := ⟨2, ![768, 256]⟩
abbrev S256x1024 : Shape := ⟨2, ![256, 1024]⟩

abbrev nBuf : Space → Nat
  | .hbm => 17
  | .vmem => 9
  | .smem => 0
  | _ => 0

abbrev bufTy : (tb : Table) → Fin (tcTables nBuf tb) → BufTy
  | .hbm, ⟨0, _⟩ => ⟨S8x2048x1024, .f32⟩
  | .hbm, ⟨1, _⟩ => ⟨S8x256x1024, .f32⟩
  | .hbm, ⟨2, _⟩ => ⟨S8x6144, .f32⟩
  | .hbm, ⟨3, _⟩ => ⟨S6144, .f32⟩
  | .hbm, ⟨4, _⟩ => ⟨S1024, .f32⟩
  | .hbm, ⟨5, _⟩ => ⟨S1024x5632, .f32⟩
  | .hbm, ⟨6, _⟩ => ⟨S2816x1024, .f32⟩
  | .hbm, ⟨7, _⟩ => ⟨S8x2304x1024, .f32⟩
  | .hbm, ⟨8, _⟩ => ⟨S1x6x1x1024, .f32⟩
  | .hbm, ⟨9, _⟩ => ⟨S8x6x1x1024, .f32⟩
  | .hbm, ⟨10, _⟩ => ⟨S8x6x1x1024, .f32⟩
  | .hbm, ⟨11, _⟩ => ⟨S8x6x2x1024, .f32⟩
  | .hbm, ⟨12, _⟩ => ⟨S8x12x1024, .f32⟩
  | .hbm, ⟨13, _⟩ => ⟨S1x1024, .f32⟩
  | .hbm, ⟨14, _⟩ => ⟨S1024x5632, .bf16⟩
  | .hbm, ⟨15, _⟩ => ⟨S2816x1024, .bf16⟩
  | .hbm, ⟨16, _⟩ => ⟨S8x2304x1024, .f32⟩
  | .local _ .vmem, ⟨0, _⟩ => ⟨S1x768x1024, .f32⟩
  | .local _ .vmem, ⟨1, _⟩ => ⟨S1x768x1024, .f32⟩
  | .local _ .vmem, ⟨2, _⟩ => ⟨S1x12x1024, .f32⟩
  | .local _ .vmem, ⟨3, _⟩ => ⟨S1x12x1024, .f32⟩
  | .local _ .vmem, ⟨4, _⟩ => ⟨S1x1024, .f32⟩
  | .local _ .vmem, ⟨5, _⟩ => ⟨S1024x5632, .bf16⟩
  | .local _ .vmem, ⟨6, _⟩ => ⟨S2816x1024, .bf16⟩
  | .local _ .vmem, ⟨7, _⟩ => ⟨S1x768x1024, .f32⟩
  | .local _ .vmem, ⟨8, _⟩ => ⟨S1x768x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![8, 3], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x768x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x12x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x5632 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x768x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference2Ideal.lean ====
abbrev S8x2048x1024 : Shape := ⟨3, ![8, 2048, 1024]⟩
abbrev S8x256x1024 : Shape := ⟨3, ![8, 256, 1024]⟩
abbrev S8x6144 : Shape := ⟨2, ![8, 6144]⟩
abbrev S6144 : Shape := ⟨1, ![6144]⟩
abbrev S1024 : Shape := ⟨1, ![1024]⟩
abbrev S1024x5632 : Shape := ⟨2, ![1024, 5632]⟩
abbrev S2816x1024 : Shape := ⟨2, ![2816, 1024]⟩
abbrev S8x1x6144 : Shape := ⟨3, ![8, 1, 6144]⟩
abbrev S8x1x1024 : Shape := ⟨3, ![8, 1, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x5632 : Shape := ⟨3, ![8, 2048, 5632]⟩
abbrev S8x2048x2816 : Shape := ⟨3, ![8, 2048, 2816]⟩
abbrev S8x256 : Shape := ⟨2, ![8, 256]⟩
abbrev S8x256x1 : Shape := ⟨3, ![8, 256, 1]⟩
abbrev S8x256x5632 : Shape := ⟨3, ![8, 256, 5632]⟩
abbrev S8x256x2816 : Shape := ⟨3, ![8, 256, 2816]⟩
abbrev S8x2304x1024 : Shape := ⟨3, ![8, 2304, 1024]⟩

abbrev nBuf : Space → Nat
  | .hbm => 104
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x256x1024, .f32⟩
  | .hbm, ⟨2, _⟩ => ⟨S8x6144, .f32⟩
  | .hbm, ⟨3, _⟩ => ⟨S6144, .f32⟩
  | .hbm, ⟨4, _⟩ => ⟨S1024, .f32⟩
  | .hbm, ⟨5, _⟩ => ⟨S1024x5632, .f32⟩
  | .hbm, ⟨6, _⟩ => ⟨S2816x1024, .f32⟩
  | .hbm, ⟨7, _⟩ => ⟨S8x1x6144, .f32⟩
  | .hbm, ⟨8, _⟩ => ⟨S8x1x1024, .f32⟩
  | .hbm, ⟨9, _⟩ => ⟨S8x1x1024, .f32⟩
  | .hbm, ⟨10, _⟩ => ⟨S8x1x1024, .f32⟩
  | .hbm, ⟨11, _⟩ => ⟨S8x1x1024, .f32⟩
  | .hbm, ⟨12, _⟩ => ⟨S8x1x1024, .f32⟩
  | .hbm, ⟨13, _⟩ => ⟨S8x1x1024, .f32⟩
  | .hbm, ⟨14, _⟩ => ⟨S1024, .f32⟩
  | .hbm, ⟨15, _⟩ => ⟨S1024, .f32⟩
  | .hbm, ⟨16, _⟩ => ⟨S1024, .f32⟩
  | .hbm, ⟨17, _⟩ => ⟨S1024, .f32⟩
  | .hbm, ⟨18, _⟩ => ⟨S1024, .f32⟩
  | .hbm, ⟨19, _⟩ => ⟨S1024, .f32⟩
  | .hbm, ⟨20, _⟩ => ⟨S8x2048x1024, .f32⟩
  | .hbm, ⟨21, _⟩ => ⟨S_, .f32⟩
  | .hbm, ⟨22, _⟩ => ⟨S8x2048, .f32⟩
  | .hbm, ⟨23, _⟩ => ⟨S8x2048x1, .f32⟩
  | .hbm, ⟨24, _⟩ => ⟨S_, .f32⟩
  | .hbm, ⟨25, _⟩ => ⟨S8x2048x1, .f32⟩
  | .hbm, ⟨26, _⟩ => ⟨S8x2048x1, .f32⟩
  | .hbm, ⟨27, _⟩ => ⟨S_, .f32⟩
  | .hbm, ⟨28, _⟩ => ⟨S8x2048x1, .f32⟩
  | .hbm, ⟨29, _⟩ => ⟨S8x2048x1, .f32⟩
  | .hbm, ⟨30, _⟩ => ⟨S8x2048x1, .f32⟩
  | .hbm, ⟨31, _⟩ => ⟨S8x2048x1024, .f32⟩
  | .hbm, ⟨32, _⟩ => ⟨S8x2048x1024, .f32⟩
  | .hbm, ⟨33, _⟩ => ⟨S1x1x1024, .f32⟩
  | .hbm, ⟨34, _⟩ => ⟨S8x2048x1024, .f32⟩
  | .hbm, ⟨35, _⟩ => ⟨S8x2048x1024, .f32⟩
  | .hbm, ⟨36, _⟩ => ⟨S_, .f32⟩
  | .hbm, ⟨37, _⟩ => ⟨S8x1x1024, .f32⟩
  | .hbm, ⟨38, _⟩ => ⟨S8x1x1024, .f32⟩
  | .hbm, ⟨39, _⟩ => ⟨S8x2048x1024, .f32⟩
  | .hbm, ⟨40, _⟩ => ⟨S8x2048x1024, .f32⟩
  | .hbm, ⟨41, _⟩ => ⟨S8x2048x1024, .f32⟩
  | .hbm, ⟨42, _⟩ => ⟨S8x2048x1024, .f32⟩
  | .hbm, ⟨43, _⟩ => ⟨S8x2048x5632, .f32⟩
  | .hbm, ⟨44, _⟩ => ⟨S8x2048x2816, .f32⟩
  | .hbm, ⟨45, _⟩ => ⟨S8x2048x2816, .f32⟩
  | .hbm, ⟨46, _⟩ => ⟨S8x2048x2816, .f32⟩
  | .hbm, ⟨47, _⟩ => ⟨S8x2048x2816, .f32⟩
  | .hbm, ⟨48, _⟩ => ⟨S_, .f32⟩
  | .hbm, ⟨49, _⟩ => ⟨S8x2048x2816, .f32⟩
  | .hbm, ⟨50, _⟩ => ⟨S8x2048x2816, .f32⟩
  | .hbm, ⟨51, _⟩ => ⟨S_, .f32⟩
  | .hbm, ⟨52, _⟩ => ⟨S8x2048x2816, .f32⟩
  | .hbm, ⟨53, _⟩ => ⟨S8x2048x2816, .f32⟩
  | .hbm, ⟨54, _⟩ => ⟨S8x2048x2816, .f32⟩
  | .hbm, ⟨55, _⟩ => ⟨S8x2048x2816, .f32⟩
  | .hbm, ⟨56, _⟩ => ⟨S8x2048x1024, .f32⟩
  | .hbm, ⟨57, _⟩ => ⟨S8x2048x1024, .f32⟩
  | .hbm, ⟨58, _⟩ => ⟨S8x2048x1024, .f32⟩
  | .hbm, ⟨59, _⟩ => ⟨S8x2048x1024, .f32⟩
  | .hbm, ⟨60, _⟩ => ⟨S8x256x1024, .f32⟩
  | .hbm, ⟨61, _⟩ => ⟨S_, .f32⟩
  | .hbm, ⟨62, _⟩ => ⟨S8x256, .f32⟩
  | .hbm, ⟨63, _⟩ => ⟨S8x256x1, .f32⟩
  | .hbm, ⟨64, _⟩ => ⟨S_, .f32⟩
  | .hbm, ⟨65, _⟩ => ⟨S8x256x1, .f32⟩
  | .hbm, ⟨66, _⟩ => ⟨S8x256x1, .f32⟩
  | .hbm, ⟨67, _⟩ => ⟨S_, .f32⟩
  | .hbm, ⟨68, _⟩ => ⟨S8x256x1, .f32⟩
  | .hbm, ⟨69, _⟩ => ⟨S8x256x1, .f32⟩
  | .hbm, ⟨70, _⟩ => ⟨S8x256x1, .f32⟩
  | .hbm, ⟨71, _⟩ => ⟨S8x256x1024, .f32⟩
  | .hbm, ⟨72, _⟩ => ⟨S8x256x1024, .f32⟩
  | .hbm, ⟨73, _⟩ => ⟨S1x1x1024, .f32⟩
  | .hbm, ⟨74, _⟩ => ⟨S8x256x1024, .f32⟩
  | .hbm, ⟨75, _⟩ => ⟨S8x256x1024, .f32⟩
  | .hbm, ⟨76, _⟩ => ⟨S_, .f32⟩
  | .hbm, ⟨77, _⟩ => ⟨S1024, .f32⟩
  | .hbm, ⟨78, _⟩ => ⟨S1024, .f32⟩
  | .hbm, ⟨79, _⟩ => ⟨S1x1x1024, .f32⟩
  | .hbm, ⟨80, _⟩ => ⟨S8x256x1024, .f32⟩
  | .hbm, ⟨81, _⟩ => ⟨S8x256x1024, .f32⟩
  | .hbm, ⟨82, _⟩ => ⟨S1x1x1024, .f32⟩
  | .hbm, ⟨83, _⟩ => ⟨S8x256x1024, .f32⟩
  | .hbm, ⟨84, _⟩ => ⟨S8x256x1024, .f32⟩
  | .hbm, ⟨85, _⟩ => ⟨S8x256x5632, .f32⟩
  | .hbm, ⟨86, _⟩ => ⟨S8x256x2816, .f32⟩
  | .hbm, ⟨87, _⟩ => ⟨S8x256x2816, .f32⟩
  | .hbm, ⟨88, _⟩ => ⟨S8x256x2816, .f32⟩
  | .hbm, ⟨89, _⟩ => ⟨S8x256x2816, .f32⟩
  | .hbm, ⟨90, _⟩ => ⟨S_, .f32⟩
  | .hbm, ⟨91, _⟩ => ⟨S8x256x2816, .f32⟩
  | .hbm, ⟨92, _⟩ => ⟨S8x256x2816, .f32⟩
  | .hbm, ⟨93, _⟩ => ⟨S_, .f32⟩
  | .hbm, ⟨94, _⟩ => ⟨S8x256x2816, .f32⟩
  | .hbm, ⟨95, _⟩ => ⟨S8x256x2816, .f32⟩
  | .hbm, ⟨96, _⟩ => ⟨S8x256x2816, .f32⟩
  | .hbm, ⟨97, _⟩ => ⟨S8x256x2816, .f32⟩
  | .hbm, ⟨98, _⟩ => ⟨S8x256x1024, .f32⟩
  | .hbm, ⟨99, _⟩ => ⟨S1x1x1024, .f32⟩
  | .hbm, ⟨100, _⟩ => ⟨S8x256x1024, .f32⟩
  | .hbm, ⟨101, _⟩ => ⟨S8x256x1024, .f32⟩
  | .hbm, ⟨102, _⟩ => ⟨S8x256x1024, .f32⟩
  | .hbm, ⟨103, _⟩ => ⟨S8x2304x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst : Ref sig .tc := ⟨.hbm, 21, rfl⟩
abbrev main_v14 : Ref sig .tc := ⟨.hbm, 22, rfl⟩
abbrev main_v15 : Ref sig .tc := ⟨.hbm, 23, rfl⟩
abbrev main_cst_0 : Ref sig .tc := ⟨.hbm, 24, rfl⟩
abbrev main_v16 : Ref sig .tc := ⟨.hbm, 25, rfl⟩
abbrev main_v17 : Ref sig .tc := ⟨.hbm, 26, rfl⟩
abbrev main_cst_1 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_2 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_call0_v0 : Ref sig .tc := ⟨.hbm, 46, rfl⟩
abbrev main_call0_v1 : Ref sig .tc := ⟨.hbm, 47, rfl⟩
abbrev main_call0_cst : Ref sig .tc := ⟨.hbm, 48, rfl⟩
abbrev main_call0_v2 : Ref sig .tc := ⟨.hbm, 49, rfl⟩
abbrev main_call0_v3 : Ref sig .tc := ⟨.hbm, 50, rfl⟩
abbrev main_call0_cst_0 : Ref sig .tc := ⟨.hbm, 51, rfl⟩
abbrev main_call0_v4 : Ref sig .tc := ⟨.hbm, 52, rfl⟩
abbrev main_call0_v5 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_3 : Ref sig .tc := ⟨.hbm, 61, rfl⟩
abbrev main_v42 : Ref sig .tc := ⟨.hbm, 62, rfl⟩
abbrev main_v43 : Ref sig .tc := ⟨.hbm, 63, rfl⟩
abbrev main_cst_4 : Ref sig .tc := ⟨.hbm, 64, rfl⟩
abbrev main_v44 : Ref sig .tc := ⟨.hbm, 65, rfl⟩
abbrev main_v45 : Ref sig .tc := ⟨.hbm, 66, rfl⟩
abbrev main_cst_5 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_cst_6 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_call1_v0 : Ref sig .tc := ⟨.hbm, 88, rfl⟩
abbrev main_call1_v1 : Ref sig .tc := ⟨.hbm, 89, rfl⟩
abbrev main_call1_cst : Ref sig .tc := ⟨.hbm, 90, rfl⟩
abbrev main_call1_v2 : Ref sig .tc := ⟨.hbm, 91, rfl⟩
abbrev main_call1_v3 : Ref sig .tc := ⟨.hbm, 92, rfl⟩
abbrev main_call1_cst_0 : Ref sig .tc := ⟨.hbm, 93, rfl⟩
abbrev main_call1_v4 : Ref sig .tc := ⟨.hbm, 94, rfl⟩
abbrev main_call1_v5 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩

abbrev nD : Nat := 1
abbrev τ : Topo := Topo.v7x

variable {F : FTy → Type} [FloatOps F]
-- ==== Kernel3.lean ====
abbrev S8x2048x1024 : Shape := ⟨3, ![8, 2048, 1024]⟩
abbrev S8x256x1024 : Shape := ⟨3, ![8, 256, 1024]⟩
abbrev S8x6144 : Shape := ⟨2, ![8, 6144]⟩
abbrev S6144 : Shape := ⟨1, ![6144]⟩
abbrev S1024 : Shape := ⟨1, ![1024]⟩
abbrev S1024x11680 : Shape := ⟨2, ![1024, 11680]⟩
abbrev S3488 : Shape := ⟨1, ![3488]⟩
abbrev S8x2304x1024 : Shape := ⟨3, ![8, 2304, 1024]⟩
abbrev S1024x2048 : Shape := ⟨2, ![1024, 2048]⟩
abbrev S1024x3072 : Shape := ⟨2, ![1024, 3072]⟩
abbrev S1024x416 : Shape := ⟨2, ![1024, 416]⟩
abbrev S_ : Shape := ⟨0, ![]⟩
abbrev S1024x96 : Shape := ⟨2, ![1024, 96]⟩
abbrev S1024x11776 : Shape := ⟨2, ![1024, 11776]⟩
abbrev S8192 : Shape := ⟨1, ![8192]⟩
abbrev S96 : Shape := ⟨1, ![96]⟩
abbrev S11776 : Shape := ⟨1, ![11776]⟩
abbrev S1x11776 : Shape := ⟨2, ![1, 11776]⟩
abbrev S1x6x1x1024 : Shape := ⟨4, ![1, 6, 1, 1024]⟩
abbrev S8x6x1x1024 : Shape := ⟨4, ![8, 6, 1, 1024]⟩
abbrev S8x6x2x1024 : Shape := ⟨4, ![8, 6, 2, 1024]⟩
abbrev S8x12x1024 : Shape := ⟨3, ![8, 12, 1024]⟩
abbrev S1x1024 : Shape := ⟨2, ![1, 1024]⟩
abbrev S8x2304x11776 : Shape := ⟨3, ![8, 2304, 11776]⟩
abbrev S1x2304x1024 : Shape := ⟨3, ![1, 2304, 1024]⟩
abbrev S1x12x1024 : Shape := ⟨3, ![1, 12, 1024]⟩
abbrev S1024x512 : Shape := ⟨2, ![1024, 512]⟩
abbrev S1x512 : Shape := ⟨2, ![1, 512]⟩
abbrev S1x2304x512 : Shape := ⟨3, ![1, 2304, 512]⟩
abbrev S2304x1024 : Shape := ⟨2, ![2304, 1024]⟩
abbrev S2328x512 : Shape := ⟨2, ![2328, 512]⟩
abbrev S1x256x1024 : Shape := ⟨3, ![1, 256, 1024]⟩
abbrev S256x1024 : Shape := ⟨2, ![256, 1024]⟩
abbrev S256x1 : Shape := ⟨2, ![256, 1]⟩
abbrev S1x1x1024 : Shape := ⟨3, ![1, 1, 1024]⟩
abbrev S256 : Shape := ⟨1, ![256]⟩
abbrev S256x512 : Shape := ⟨2, ![256, 512]⟩
abbrev S1x256x512 : Shape := ⟨3, ![1, 256, 512]⟩
abbrev S1024x1024 : Shape := ⟨2, ![1024, 1024]⟩
abbrev S1x1024x512 : Shape := ⟨3, ![1, 1024, 512]⟩
abbrev S8x512 : Shape := ⟨2, ![8, 512]⟩

abbrev nBuf : Space → Nat
  | .hbm => 34
  | .vmem => 13
  | .smem => 0
  | _ => 0

abbrev bufTy : (tb : Table) → Fin (tcTables nBuf tb) → BufTy
  | .hbm, ⟨0, _⟩ => ⟨S8x2048x1024, .f32⟩
  | .hbm, ⟨1, _⟩ => ⟨S8x256x1024, .f32⟩
  | .hbm, ⟨2, _⟩ => ⟨S8x6144, .f32⟩
  | .hbm, ⟨3, _⟩ => ⟨S6144, .f32⟩
  | .hbm, ⟨4, _⟩ => ⟨S1024, .f32⟩
  | .hbm, ⟨5, _⟩ => ⟨S1024x11680, .f32⟩
  | .hbm, ⟨6, _⟩ => ⟨S3488, .f32⟩
  | .hbm, ⟨7, _⟩ => ⟨S8x2304x1024, .f32⟩
  | .hbm, ⟨8, _⟩ => ⟨S1024x2048, .f32⟩
  | .hbm, ⟨9, _⟩ => ⟨S1024x2048, .bf16⟩
  | .hbm, ⟨10, _⟩ => ⟨S1024x3072, .f32⟩
  | .hbm, ⟨11, _⟩ => ⟨S1024x3072, .bf16⟩
  | .hbm, ⟨12, _⟩ => ⟨S1024x3072, .f32⟩
  | .hbm, ⟨13, _⟩ => ⟨S1024x3072, .bf16⟩
  | .hbm, ⟨14, _⟩ => ⟨S1024x3072, .f32⟩
  | .hbm, ⟨15, _⟩ => ⟨S1024x3072, .bf16⟩
  | .hbm, ⟨16, _⟩ => ⟨S1024x416, .f32⟩
  | .hbm, ⟨17, _⟩ => ⟨S1024x416, .bf16⟩
  | .hbm, ⟨18, _⟩ => ⟨S_, .bf16⟩
  | .hbm, ⟨19, _⟩ => ⟨S1024x96, .bf16⟩
  | .hbm, ⟨20, _⟩ => ⟨S1024x11776, .bf16⟩
  | .hbm, ⟨21, _⟩ => ⟨S_, .f32⟩
  | .hbm, ⟨22, _⟩ => ⟨S8192, .f32⟩
  | .hbm, ⟨23, _⟩ => ⟨S_, .f32⟩
  | .hbm, ⟨24, _⟩ => ⟨S96, .f32⟩
  | .hbm, ⟨25, _⟩ => ⟨S11776, .f32⟩
  | .hbm, ⟨26, _⟩ => ⟨S1x11776, .f32⟩
  | .hbm, ⟨27, _⟩ => ⟨S1x6x1x1024, .f32⟩
  | .hbm, ⟨28, _⟩ => ⟨S8x6x1x1024, .f32⟩
  | .hbm, ⟨29, _⟩ => ⟨S8x6x1x1024, .f32⟩
  | .hbm, ⟨30, _⟩ => ⟨S8x6x2x1024, .f32⟩
  | .hbm, ⟨31, _⟩ => ⟨S8x12x1024, .f32⟩
  | .hbm, ⟨32, _⟩ => ⟨S1x1024, .f32⟩
  | .hbm, ⟨33, _⟩ => ⟨S8x2304x11776, .bf16⟩
  | .local _ .vmem, ⟨0, _⟩ => ⟨S1x2304x1024, .f32⟩
  | .local _ .vmem, ⟨1, _⟩ => ⟨S1x2304x1024, .f32⟩
  | .local _ .vmem, ⟨2, _⟩ => ⟨S1x12x1024, .f32⟩
  | .local _ .vmem, ⟨3, _⟩ => ⟨S1x12x1024, .f32⟩
  | .local _ .vmem, ⟨4, _⟩ => ⟨S1x1024, .f32⟩
  | .local _ .vmem, ⟨5, _⟩ => ⟨S1024x512, .bf16⟩
  | .local _ .vmem, ⟨6, _⟩ => ⟨S1024x512, .bf16⟩
  | .local _ .vmem, ⟨7, _⟩ => ⟨S1x512, .f32⟩
  | .local _ .vmem, ⟨8, _⟩ => ⟨S1x512, .f32⟩
  | .local _ .vmem, ⟨9, _⟩ => ⟨S1x2304x512, .bf16⟩
  | .local _ .vmem, ⟨10, _⟩ => ⟨S1x2304x512, .bf16⟩
  | .local _ .vmem, ⟨11, _⟩ => ⟨S2304x1024, .bf16⟩
  | .local _ .vmem, ⟨12, _⟩ => ⟨S2328x512, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![8, 23], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_4 : BitVec 32 := 0#32
  let c9_i32 : BitVec 32 := 9#32
  let v9 : BitVec 32 := Scalar.addi c0_i32_4 c9_i32
  let c1_i32 : BitVec 32 := 1#32
  ⟨c0_i32_4, v9, c1_i32⟩
def k0_mult1 (k0_t1 : Fin k0_t1_loop.trips) : BitVec 32 :=
  let c0_i32_4 : BitVec 32 := 0#32
  let c1_i32 : BitVec 32 := 1#32
  let arg10 : BitVec 32 := Scf.iv c0_i32_4 c1_i32 k0_t1
  let c256_i32 : BitVec 32 := 256#32
  let v10 : BitVec 32 := Scalar.muli arg10 c256_i32
  v10
def k0_off1 (k0_t1 : Fin k0_t1_loop.trips) : Fin 3 → Nat :=
  let c0 : Index := 0#32
  let c0_i32_4 : BitVec 32 := 0#32
  let c1_i32 : BitVec 32 := 1#32
  let arg10 : BitVec 32 := Scf.iv c0_i32_4 c1_i32 k0_t1
  let c256_i32 : BitVec 32 := 256#32
  let v10 : BitVec 32 := Scalar.muli arg10 c256_i32
  let v11 : BitVec 32 := v10
  let v12 : Index := Scalar.indexCast v11
  let c0_6 : Index := 0#32
  ![0, v12.toNat, 0]
def k0_off2 (k0_t1 : Fin k0_t1_loop.trips) : Fin 2 → Nat :=
  let c0_i32_4 : BitVec 32 := 0#32
  let c1_i32 : BitVec 32 := 1#32
  let arg10 : BitVec 32 := Scf.iv c0_i32_4 c1_i32 k0_t1
  let c256_i32 : BitVec 32 := 256#32
  let v10 : BitVec 32 := Scalar.muli arg10 c256_i32
  let v11 : BitVec 32 := v10
  let v61 : Index := Scalar.indexCast v11
  let c0_22 : Index := 0#32
  ![v61.toNat, 0]
def k0_cond2 (i : grid0.Coords) : BitVec 1 :=
  let arg1 : BitVec 32 := BitVec.ofNat 32 (i 1).val
  let c16_i32 : BitVec 32 := 16#32
  let v3 : BitVec 1 := Scalar.cmpi .slt arg1 c16_i32
  let v4 : BitVec 32 := Scalar.extui v3
  let c0_i32_1 : BitVec 32 := 0#32
  let v5 : BitVec 1 := Scalar.cmpi .ne v4 c0_i32_1
  v5

@[reducible] def k0_t2_loop : Scf.Loop 32 :=
  let c0_i32_10 : BitVec 32 := 0#32
  let c2_i32 : BitVec 32 := 2#32
  let v17 : BitVec 32 := Scalar.addi c0_i32_10 c2_i32
  let c1_i32 : BitVec 32 := 1#32
  ⟨c0_i32_10, v17, c1_i32⟩
def k0_mult2 (k0_t2 : Fin k0_t2_loop.trips) : BitVec 32 :=
  let c256_i32 : BitVec 32 := 256#32
  let c0_i32_10 : BitVec 32 := 0#32
  let c1_i32 : BitVec 32 := 1#32
  let arg10 : BitVec 32 := Scf.iv c0_i32_10 c1_i32 k0_t2
  let c1024_i32 : BitVec 32 := 1024#32
  let v18 : BitVec 32 := Scalar.muli arg10 c1024_i32
  let v19 : BitVec 32 := Scalar.addi c256_i32 v18
  v19
def k0_off3 (k0_t2 : Fin k0_t2_loop.trips) : Fin 2 → Nat :=
  let c256_i32 : BitVec 32 := 256#32
  let c0_i32_10 : BitVec 32 := 0#32
  let c1_i32 : BitVec 32 := 1#32
  let arg10 : BitVec 32 := Scf.iv c0_i32_10 c1_i32 k0_t2
  let c1024_i32 : BitVec 32 := 1024#32
  let v18 : BitVec 32 := Scalar.muli arg10 c1024_i32
  let v19 : BitVec 32 := Scalar.addi c256_i32 v18
  let v20 : BitVec 32 := v19
  let v21 : Index := Scalar.indexCast v20
  let c0_12 : Index := 0#32
  ![v21.toNat, 0]
def k0_off4 (k0_t2 : Fin k0_t2_loop.trips) : Fin 3 → Nat :=
  let c0_16 : Index := 0#32
  let c256_i32 : BitVec 32 := 256#32
  let c0_i32_10 : BitVec 32 := 0#32
  let c1_i32 : BitVec 32 := 1#32
  let arg10 : BitVec 32 := Scf.iv c0_i32_10 c1_i32 k0_t2
  let c1024_i32 : BitVec 32 := 1024#32
  let v18 : BitVec 32 := Scalar.muli arg10 c1024_i32
  let v19 : BitVec 32 := Scalar.addi c256_i32 v18
  let v20 : BitVec 32 := v19
  let v27 : Index := Scalar.indexCast v20
  let c0_17 : Index := 0#32
  ![0, v27.toNat, 0]
def k0_cond3 (i : grid0.Coords) : BitVec 1 :=
  let arg1 : BitVec 32 := BitVec.ofNat 32 (i 1).val
  let c16_i32_2 : BitVec 32 := 16#32
  let v6 : BitVec 1 := Scalar.cmpi .sge arg1 c16_i32_2
  let v7 : BitVec 32 := Scalar.extui v6
  let c0_i32_3 : BitVec 32 := 0#32
  let v8 : BitVec 1 := Scalar.cmpi .ne v7 c0_i32_3
  v8

@[reducible] def k0_t3_loop : Scf.Loop 32 :=
  let c0_i32_13 : BitVec 32 := 0#32
  let c2_i32 : BitVec 32 := 2#32
  let v26 : BitVec 32 := Scalar.addi c0_i32_13 c2_i32
  let c1_i32 : BitVec 32 := 1#32
  ⟨c0_i32_13, v26, c1_i32⟩
def k0_mult3 (k0_t3 : Fin k0_t3_loop.trips) : BitVec 32 :=
  let c256_i32 : BitVec 32 := 256#32
  let c0_i32_13 : BitVec 32 := 0#32
  let c1_i32 : BitVec 32 := 1#32
  let arg10 : BitVec 32 := Scf.iv c0_i32_13 c1_i32 k0_t3
  let c1024_i32 : BitVec 32 := 1024#32
  let v152 : BitVec 32 := Scalar.muli arg10 c1024_i32
  let v153 : BitVec 32 := Scalar.addi c256_i32 v152
  v153
def k0_off5 (k0_t3 : Fin k0_t3_loop.trips) : Fin 2 → Nat :=
  let c256_i32 : BitVec 32 := 256#32
  let c0_i32_13 : BitVec 32 := 0#32
  let c1_i32 : BitVec 32 := 1#32
  let arg10 : BitVec 32 := Scf.iv c0_i32_13 c1_i32 k0_t3
  let c1024_i32 : BitVec 32 := 1024#32
  let v152 : BitVec 32 := Scalar.muli arg10 c1024_i32
  let v153 : BitVec 32 := Scalar.addi c256_i32 v152
  let v154 : BitVec 32 := v153
  let v155 : Index := Scalar.indexCast v154
  let c0_68 : Index := 0#32
  ![v155.toNat, 0]
def k0_off6 (k0_t3 : Fin k0_t3_loop.trips) : Fin 2 → Nat :=
  let c256_i32 : BitVec 32 := 256#32
  let c0_i32_13 : BitVec 32 := 0#32
  let c1_i32 : BitVec 32 := 1#32
  let arg10 : BitVec 32 := Scf.iv c0_i32_13 c1_i32 k0_t3
  let c1024_i32 : BitVec 32 := 1024#32
  let v152 : BitVec 32 := Scalar.muli arg10 c1024_i32
  let v153 : BitVec 32 := Scalar.addi c256_i32 v152
  let v154 : BitVec 32 := v153
  let c16_i32_72 : BitVec 32 := 16#32
  let v160 : BitVec 32 := Scalar.addi v154 c16_i32_72
  let v161 : Index := Scalar.indexCast v160
  let c0_73 : Index := 0#32
  ![v161.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2304x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x12x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x2304x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference3Ideal.lean ====
abbrev S8x2048x1024 : Shape := ⟨3, ![8, 2048, 1024]⟩
abbrev S8x256x1024 : Shape := ⟨3, ![8, 256, 1024]⟩
abbrev S8x6144 : Shape := ⟨2, ![8, 6144]⟩
abbrev S6144 : Shape := ⟨1, ![6144]⟩
abbrev S1024 : Shape := ⟨1, ![1024]⟩
abbrev S1024x11680 : Shape := ⟨2, ![1024, 11680]⟩
abbrev S3488 : Shape := ⟨1, ![3488]⟩
abbrev S8x1x6144 : Shape := ⟨3, ![8, 1, 6144]⟩
abbrev S8x1x1024 : Shape := ⟨3, ![8, 1, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x256 : Shape := ⟨2, ![8, 256]⟩
abbrev S8x256x1 : Shape := ⟨3, ![8, 256, 1]⟩
abbrev S8x256x11680 : Shape := ⟨3, ![8, 256, 11680]⟩
abbrev S8x256x2048 : Shape := ⟨3, ![8, 256, 2048]⟩
abbrev S8x256x3072 : Shape := ⟨3, ![8, 256, 3072]⟩
abbrev S8x256x3488 : Shape := ⟨3, ![8, 256, 3488]⟩
abbrev S8x255x3488 : Shape := ⟨3, ![8, 255, 3488]⟩
abbrev S1x1x3488 : Shape := ⟨3, ![1, 1, 3488]⟩
abbrev S8x256x11776 : Shape := ⟨3, ![8, 256, 11776]⟩
abbrev S8x2048x11680 : Shape := ⟨3, ![8, 2048, 11680]⟩
abbrev S8x2048x2048 : Shape := ⟨3, ![8, 2048, 2048]⟩
abbrev S8x2048x3072 : Shape := ⟨3, ![8, 2048, 3072]⟩
abbrev S8x2048x3488 : Shape := ⟨3, ![8, 2048, 3488]⟩
abbrev S8x2047x3488 : Shape := ⟨3, ![8, 2047, 3488]⟩
abbrev S8x2048x11776 : Shape := ⟨3, ![8, 2048, 11776]⟩
abbrev S8x2304x11776 : Shape := ⟨3, ![8, 2304, 11776]⟩

abbrev nBuf : Space → Nat
  | .hbm => 122
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x256x1024, .f32⟩
  | .hbm, ⟨2, _⟩ => ⟨S8x6144, .f32⟩
  | .hbm, ⟨3, _⟩ => ⟨S6144, .f32⟩
  | .hbm, ⟨4, _⟩ => ⟨S1024, .f32⟩
  | .hbm, ⟨5, _⟩ => ⟨S1024x11680, .f32⟩
  | .hbm, ⟨6, _⟩ => ⟨S3488, .f32⟩
  | .hbm, ⟨7, _⟩ => ⟨S8x1x6144, .f32⟩
  | .hbm, ⟨8, _⟩ => ⟨S8x1x1024, .f32⟩
  | .hbm, ⟨9, _⟩ => ⟨S8x1x1024, .f32⟩
  | .hbm, ⟨10, _⟩ => ⟨S8x1x1024, .f32⟩
  | .hbm, ⟨11, _⟩ => ⟨S8x1x1024, .f32⟩
  | .hbm, ⟨12, _⟩ => ⟨S8x1x1024, .f32⟩
  | .hbm, ⟨13, _⟩ => ⟨S8x1x1024, .f32⟩
  | .hbm, ⟨14, _⟩ => ⟨S1024, .f32⟩
  | .hbm, ⟨15, _⟩ => ⟨S1024, .f32⟩
  | .hbm, ⟨16, _⟩ => ⟨S1024, .f32⟩
  | .hbm, ⟨17, _⟩ => ⟨S1024, .f32⟩
  | .hbm, ⟨18, _⟩ => ⟨S1024, .f32⟩
  | .hbm, ⟨19, _⟩ => ⟨S1024, .f32⟩
  | .hbm, ⟨20, _⟩ => ⟨S8x2048x1024, .f32⟩
  | .hbm, ⟨21, _⟩ => ⟨S_, .f32⟩
  | .hbm, ⟨22, _⟩ => ⟨S8x2048, .f32⟩
  | .hbm, ⟨23, _⟩ => ⟨S8x2048x1, .f32⟩
  | .hbm, ⟨24, _⟩ => ⟨S_, .f32⟩
  | .hbm, ⟨25, _⟩ => ⟨S8x2048x1, .f32⟩
  | .hbm, ⟨26, _⟩ => ⟨S8x2048x1, .f32⟩
  | .hbm, ⟨27, _⟩ => ⟨S_, .f32⟩
  | .hbm, ⟨28, _⟩ => ⟨S8x2048x1, .f32⟩
  | .hbm, ⟨29, _⟩ => ⟨S8x2048x1, .f32⟩
  | .hbm, ⟨30, _⟩ => ⟨S8x2048x1, .f32⟩
  | .hbm, ⟨31, _⟩ => ⟨S8x2048x1024, .f32⟩
  | .hbm, ⟨32, _⟩ => ⟨S8x2048x1024, .f32⟩
  | .hbm, ⟨33, _⟩ => ⟨S1x1x1024, .f32⟩
  | .hbm, ⟨34, _⟩ => ⟨S8x2048x1024, .f32⟩
  | .hbm, ⟨35, _⟩ => ⟨S8x2048x1024, .f32⟩
  | .hbm, ⟨36, _⟩ => ⟨S_, .f32⟩
  | .hbm, ⟨37, _⟩ => ⟨S8x1x1024, .f32⟩
  | .hbm, ⟨38, _⟩ => ⟨S8x1x1024, .f32⟩
  | .hbm, ⟨39, _⟩ => ⟨S8x2048x1024, .f32⟩
  | .hbm, ⟨40, _⟩ => ⟨S8x2048x1024, .f32⟩
  | .hbm, ⟨41, _⟩ => ⟨S8x2048x1024, .f32⟩
  | .hbm, ⟨42, _⟩ => ⟨S8x2048x1024, .f32⟩
  | .hbm, ⟨43, _⟩ => ⟨S8x256x1024, .f32⟩
  | .hbm, ⟨44, _⟩ => ⟨S_, .f32⟩
  | .hbm, ⟨45, _⟩ => ⟨S8x256, .f32⟩
  | .hbm, ⟨46, _⟩ => ⟨S8x256x1, .f32⟩
  | .hbm, ⟨47, _⟩ => ⟨S_, .f32⟩
  | .hbm, ⟨48, _⟩ => ⟨S8x256x1, .f32⟩
  | .hbm, ⟨49, _⟩ => ⟨S8x256x1, .f32⟩
  | .hbm, ⟨50, _⟩ => ⟨S_, .f32⟩
  | .hbm, ⟨51, _⟩ => ⟨S8x256x1, .f32⟩
  | .hbm, ⟨52, _⟩ => ⟨S8x256x1, .f32⟩
  | .hbm, ⟨53, _⟩ => ⟨S8x256x1, .f32⟩
  | .hbm, ⟨54, _⟩ => ⟨S8x256x1024, .f32⟩
  | .hbm, ⟨55, _⟩ => ⟨S8x256x1024, .f32⟩
  | .hbm, ⟨56, _⟩ => ⟨S1x1x1024, .f32⟩
  | .hbm, ⟨57, _⟩ => ⟨S8x256x1024, .f32⟩
  | .hbm, ⟨58, _⟩ => ⟨S8x256x1024, .f32⟩
  | .hbm, ⟨59, _⟩ => ⟨S_, .f32⟩
  | .hbm, ⟨60, _⟩ => ⟨S1024, .f32⟩
  | .hbm, ⟨61, _⟩ => ⟨S1024, .f32⟩
  | .hbm, ⟨62, _⟩ => ⟨S1x1x1024, .f32⟩
  | .hbm, ⟨63, _⟩ => ⟨S8x256x1024, .f32⟩
  | .hbm, ⟨64, _⟩ => ⟨S8x256x1024, .f32⟩
  | .hbm, ⟨65, _⟩ => ⟨S1x1x1024, .f32⟩
  | .hbm, ⟨66, _⟩ => ⟨S8x256x1024, .f32⟩
  | .hbm, ⟨67, _⟩ => ⟨S8x256x1024, .f32⟩
  | .hbm, ⟨68, _⟩ => ⟨S8x256x11680, .f32⟩
  | .hbm, ⟨69, _⟩ => ⟨S8x256x2048, .f32⟩
  | .hbm, ⟨70, _⟩ => ⟨S8x256x3072, .f32⟩
  | .hbm, ⟨71, _⟩ => ⟨S8x256x3488, .f32⟩
  | .hbm, ⟨72, _⟩ => ⟨S8x256x3072, .f32⟩
  | .hbm, ⟨73, _⟩ => ⟨S8x255x3488, .f32⟩
  | .hbm, ⟨74, _⟩ => ⟨S_, .i32⟩
  | .hbm, ⟨75, _⟩ => ⟨S_, .f32⟩
  | .hbm, ⟨76, _⟩ => ⟨S8x256x3488, .f32⟩
  | .hbm, ⟨77, _⟩ => ⟨S8x255x3488, .f32⟩
  | .hbm, ⟨78, _⟩ => ⟨S_, .i32⟩
  | .hbm, ⟨79, _⟩ => ⟨S_, .f32⟩
  | .hbm, ⟨80, _⟩ => ⟨S8x256x3488, .f32⟩
  | .hbm, ⟨81, _⟩ => ⟨S8x256x3488, .f32⟩
  | .hbm, ⟨82, _⟩ => ⟨S_, .f32⟩
  | .hbm, ⟨83, _⟩ => ⟨S8x256x3488, .f32⟩
  | .hbm, ⟨84, _⟩ => ⟨S8x256x3488, .f32⟩
  | .hbm, ⟨85, _⟩ => ⟨S8x256x3488, .f32⟩
  | .hbm, ⟨86, _⟩ => ⟨S1x1x3488, .f32⟩
  | .hbm, ⟨87, _⟩ => ⟨S8x256x3488, .f32⟩
  | .hbm, ⟨88, _⟩ => ⟨S8x256x3488, .f32⟩
  | .hbm, ⟨89, _⟩ => ⟨S8x256x3488, .f32⟩
  | .hbm, ⟨90, _⟩ => ⟨S8x256x11680, .f32⟩
  | .hbm, ⟨91, _⟩ => ⟨S_, .i32⟩
  | .hbm, ⟨92, _⟩ => ⟨S_, .f32⟩
  | .hbm, ⟨93, _⟩ => ⟨S8x256x11776, .f32⟩
  | .hbm, ⟨94, _⟩ => ⟨S8x2048x11680, .f32⟩
  | .hbm, ⟨95, _⟩ => ⟨S8x2048x2048, .f32⟩
  | .hbm, ⟨96, _⟩ => ⟨S8x2048x3072, .f32⟩
  | .hbm, ⟨97, _⟩ => ⟨S8x2048x3488, .f32⟩
  | .hbm, ⟨98, _⟩ => ⟨S8x2048x3072, .f32⟩
  | .hbm, ⟨99, _⟩ => ⟨S8x2047x3488, .f32⟩
  | .hbm, ⟨100, _⟩ => ⟨S_, .i32⟩
  | .hbm, ⟨101, _⟩ => ⟨S_, .f32⟩
  | .hbm, ⟨102, _⟩ => ⟨S8x2048x3488, .f32⟩
  | .hbm, ⟨103, _⟩ => ⟨S8x2047x3488, .f32⟩
  | .hbm, ⟨104, _⟩ => ⟨S_, .i32⟩
  | .hbm, ⟨105, _⟩ => ⟨S_, .f32⟩
  | .hbm, ⟨106, _⟩ => ⟨S8x2048x3488, .f32⟩
  | .hbm, ⟨107, _⟩ => ⟨S8x2048x3488, .f32⟩
  | .hbm, ⟨108, _⟩ => ⟨S_, .f32⟩
  | .hbm, ⟨109, _⟩ => ⟨S8x2048x3488, .f32⟩
  | .hbm, ⟨110, _⟩ => ⟨S8x2048x3488, .f32⟩
  | .hbm, ⟨111, _⟩ => ⟨S8x2048x3488, .f32⟩
  | .hbm, ⟨112, _⟩ => ⟨S1x1x3488, .f32⟩
  | .hbm, ⟨113, _⟩ => ⟨S8x2048x3488, .f32⟩
  | .hbm, ⟨114, _⟩ => ⟨S8x2048x3488, .f32⟩
  | .hbm, ⟨115, _⟩ => ⟨S8x2048x3488, .f32⟩
  | .hbm, ⟨116, _⟩ => ⟨S8x2048x11680, .f32⟩
  | .hbm, ⟨117, _⟩ => ⟨S_, .i32⟩
  | .hbm, ⟨118, _⟩ => ⟨S_, .f32⟩
  | .hbm, ⟨119, _⟩ => ⟨S8x2048x11776, .f32⟩
  | .hbm, ⟨120, _⟩ => ⟨S8x2304x11776, .f32⟩
  | .hbm, ⟨121, _⟩ => ⟨S8x2304x11776, .bf16⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst : Ref sig .tc := ⟨.hbm, 21, rfl⟩
abbrev main_v14 : Ref sig .tc := ⟨.hbm, 22, rfl⟩
abbrev main_v15 : Ref sig .tc := ⟨.hbm, 23, rfl⟩
abbrev main_cst_0 : Ref sig .tc := ⟨.hbm, 24, rfl⟩
abbrev main_v16 : Ref sig .tc := ⟨.hbm, 25, rfl⟩
abbrev main_v17 : Ref sig .tc := ⟨.hbm, 26, rfl⟩
abbrev main_cst_1 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_2 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_3 : Ref sig .tc := ⟨.hbm, 44, rfl⟩
abbrev main_v33 : Ref sig .tc := ⟨.hbm, 45, rfl⟩
abbrev main_v34 : Ref sig .tc := ⟨.hbm, 46, rfl⟩
abbrev main_cst_4 : Ref sig .tc := ⟨.hbm, 47, rfl⟩
abbrev main_v35 : Ref sig .tc := ⟨.hbm, 48, rfl⟩
abbrev main_v36 : Ref sig .tc := ⟨.hbm, 49, rfl⟩
abbrev main_cst_5 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_cst_6 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_c : Ref sig .tc := ⟨.hbm, 74, rfl⟩
abbrev main_call0_v0 : Ref sig .tc := ⟨.hbm, 75, rfl⟩
abbrev main_v59 : Ref sig .tc := ⟨.hbm, 76, rfl⟩
abbrev main_v60 : Ref sig .tc := ⟨.hbm, 77, rfl⟩
abbrev main_c_7 : Ref sig .tc := ⟨.hbm, 78, rfl⟩
abbrev main_call1_v0 : Ref sig .tc := ⟨.hbm, 79, rfl⟩
abbrev main_v61 : Ref sig .tc := ⟨.hbm, 80, rfl⟩
abbrev main_v62 : Ref sig .tc := ⟨.hbm, 81, rfl⟩
abbrev main_cst_8 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_c_9 : Ref sig .tc := ⟨.hbm, 91, rfl⟩
abbrev main_call2_v0 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_c_10 : Ref sig .tc := ⟨.hbm, 100, rfl⟩
abbrev main_call3_v0 : Ref sig .tc := ⟨.hbm, 101, rfl⟩
abbrev main_v78 : Ref sig .tc := ⟨.hbm, 102, rfl⟩
abbrev main_v79 : Ref sig .tc := ⟨.hbm, 103, rfl⟩
abbrev main_c_11 : Ref sig .tc := ⟨.hbm, 104, rfl⟩
abbrev main_call4_v0 : Ref sig .tc := ⟨.hbm, 105, rfl⟩
abbrev main_v80 : Ref sig .tc := ⟨.hbm, 106, rfl⟩
abbrev main_v81 : Ref sig .tc := ⟨.hbm, 107, rfl⟩
abbrev main_cst_12 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_c_13 : Ref sig .tc := ⟨.hbm, 117, rfl⟩
abbrev main_call5_v0 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩

abbrev nD : Nat := 1
abbrev τ : Topo := Topo.v7x

variable {F : FTy → Type} [FloatOps F]
-- ==== Kernel4.lean ====
abbrev S8x2048x1024 : Shape := ⟨3, ![8, 2048, 1024]⟩
abbrev S8x256x1024 : Shape := ⟨3, ![8, 256, 1024]⟩
abbrev S8x6144 : Shape := ⟨2, ![8, 6144]⟩
abbrev S6144 : Shape := ⟨1, ![6144]⟩
abbrev S8x2304x1024 : Shape := ⟨3, ![8, 2304, 1024]⟩
abbrev S8x2304x2x1024 : Shape := ⟨4, ![8, 2304, 2, 1024]⟩
abbrev S8x2304x11776 : Shape := ⟨3, ![8, 2304, 11776]⟩
abbrev S160x1024 : Shape := ⟨2, ![160, 1024]⟩
abbrev S1024 : Shape := ⟨1, ![1024]⟩
abbrev S16x64 : Shape := ⟨2, ![16, 64]⟩
abbrev S1024x1024 : Shape := ⟨2, ![1024, 1024]⟩
abbrev S2x8x2304x1024 : Shape := ⟨4, ![2, 8, 2304, 1024]⟩
abbrev S256 : Shape := ⟨1, ![256]⟩
abbrev S_ : Shape := ⟨0, ![]⟩
abbrev S256x1 : Shape := ⟨2, ![256, 1]⟩
abbrev S1x256 : Shape := ⟨2, ![1, 256]⟩
abbrev S256x256 : Shape := ⟨2, ![256, 256]⟩
abbrev S96x1024 : Shape := ⟨2, ![96, 1024]⟩
abbrev S256x1024 : Shape := ⟨2, ![256, 1024]⟩
abbrev S1x6x1x1024 : Shape := ⟨4, ![1, 6, 1, 1024]⟩
abbrev S8x6x1x1024 : Shape := ⟨4, ![8, 6, 1, 1024]⟩
abbrev S8x6x2x1024 : Shape := ⟨4, ![8, 6, 2, 1024]⟩
abbrev S8x12x1024 : Shape := ⟨3, ![8, 12, 1024]⟩
abbrev S1x1024 : Shape := ⟨2, ![1, 1024]⟩
abbrev S1x256x1024 : Shape := ⟨3, ![1, 256, 1024]⟩
abbrev S1x12x1024 : Shape := ⟨3, ![1, 12, 1024]⟩
abbrev S2x1x256x1024 : Shape := ⟨4, ![2, 1, 256, 1024]⟩
abbrev S1x256x512 : Shape := ⟨3, ![1, 256, 512]⟩
abbrev S1x1x256x1024 : Shape := ⟨4, ![1, 1, 256, 1024]⟩
abbrev S1x256x256 : Shape := ⟨3, ![1, 256, 256]⟩
abbrev S1x1x1024 : Shape := ⟨3, ![1, 1, 1024]⟩

abbrev nBuf : Space → Nat
  | .hbm => 70
  | .vmem => 42
  | .smem => 0
  | _ => 0

abbrev bufTy : (tb : Table) → Fin (tcTables nBuf tb) → BufTy
  | .hbm, ⟨0, _⟩ => ⟨S8x2048x1024, .f32⟩
  | .hbm, ⟨1, _⟩ => ⟨S8x256x1024, .f32⟩
  | .hbm, ⟨2, _⟩ => ⟨S8x6144, .f32⟩
  | .hbm, ⟨3, _⟩ => ⟨S6144, .f32⟩
  | .hbm, ⟨4, _⟩ => ⟨S8x2304x1024, .f32⟩
  | .hbm, ⟨5, _⟩ => ⟨S8x2304x1024, .f32⟩
  | .hbm, ⟨6, _⟩ => ⟨S8x2304x2x1024, .f32⟩
  | .hbm, ⟨7, _⟩ => ⟨S8x2304x11776, .f32⟩
  | .hbm, ⟨8, _⟩ => ⟨S8x2304x1024, .f32⟩
  | .hbm, ⟨9, _⟩ => ⟨S8x2048x1024, .f32⟩
  | .hbm, ⟨10, _⟩ => ⟨S8x256x1024, .f32⟩
  | .hbm, ⟨11, _⟩ => ⟨S160x1024, .f32⟩
  | .hbm, ⟨12, _⟩ => ⟨S1024, .f32⟩
  | .hbm, ⟨13, _⟩ => ⟨S16x64, .f32⟩
  | .hbm, ⟨14, _⟩ => ⟨S1024, .f32⟩
  | .hbm, ⟨15, _⟩ => ⟨S1024, .f32⟩
  | .hbm, ⟨16, _⟩ => ⟨S1024x1024, .f32⟩
  | .hbm, ⟨17, _⟩ => ⟨S1024x1024, .f32⟩
  | .hbm, ⟨18, _⟩ => ⟨S1024x1024, .f32⟩
  | .hbm, ⟨19, _⟩ => ⟨S1024x1024, .f32⟩
  | .hbm, ⟨20, _⟩ => ⟨S8x2304x1024, .f32⟩
  | .hbm, ⟨21, _⟩ => ⟨S2x8x2304x1024, .f32⟩
  | .hbm, ⟨22, _⟩ => ⟨S2x8x2304x1024, .bf16⟩
  | .hbm, ⟨23, _⟩ => ⟨S256, .i32⟩
  | .hbm, ⟨24, _⟩ => ⟨S_, .i32⟩
  | .hbm, ⟨25, _⟩ => ⟨S_, .i32⟩
  | .hbm, ⟨26, _⟩ => ⟨S256, .i32⟩
  | .hbm, ⟨27, _⟩ => ⟨S256, .i32⟩
  | .hbm, ⟨28, _⟩ => ⟨S256, .i32⟩
  | .hbm, ⟨29, _⟩ => ⟨S_, .i32⟩
  | .hbm, ⟨30, _⟩ => ⟨S256, .i32⟩
  | .hbm, ⟨31, _⟩ => ⟨S256, .i1⟩
  | .hbm, ⟨32, _⟩ => ⟨S256, .i32⟩
  | .hbm, ⟨33, _⟩ => ⟨S256, .i32⟩
  | .hbm, ⟨34, _⟩ => ⟨S_, .i32⟩
  | .hbm, ⟨35, _⟩ => ⟨S256, .i32⟩
  | .hbm, ⟨36, _⟩ => ⟨S256, .i1⟩
  | .hbm, ⟨37, _⟩ => ⟨S256, .i1⟩
  | .hbm, ⟨38, _⟩ => ⟨S_, .i32⟩
  | .hbm, ⟨39, _⟩ => ⟨S256, .i32⟩
  | .hbm, ⟨40, _⟩ => ⟨S256, .i32⟩
  | .hbm, ⟨41, _⟩ => ⟨S256, .i32⟩
  | .hbm, ⟨42, _⟩ => ⟨S256x1, .i32⟩
  | .hbm, ⟨43, _⟩ => ⟨S1x256, .i32⟩
  | .hbm, ⟨44, _⟩ => ⟨S256x256, .i32⟩
  | .hbm, ⟨45, _⟩ => ⟨S256x256, .i32⟩
  | .hbm, ⟨46, _⟩ => ⟨S256x256, .i1⟩
  | .hbm, ⟨47, _⟩ => ⟨S256x256, .bf16⟩
  | .hbm, ⟨48, _⟩ => ⟨S_, .f32⟩
  | .hbm, ⟨49, _⟩ => ⟨S96x1024, .f32⟩
  | .hbm, ⟨50, _⟩ => ⟨S256x1024, .f32⟩
  | .hbm, ⟨51, _⟩ => ⟨S256x1024, .bf16⟩
  | .hbm, ⟨52, _⟩ => ⟨S1x6x1x1024, .f32⟩
  | .hbm, ⟨53, _⟩ => ⟨S8x6x1x1024, .f32⟩
  | .hbm, ⟨54, _⟩ => ⟨S8x6x1x1024, .f32⟩
  | .hbm, ⟨55, _⟩ => ⟨S8x6x2x1024, .f32⟩
  | .hbm, ⟨56, _⟩ => ⟨S8x12x1024, .f32⟩
  | .hbm, ⟨57, _⟩ => ⟨S8x2304x11776, .bf16⟩
  | .hbm, ⟨58, _⟩ => ⟨S8x2304x1024, .bf16⟩
  | .hbm, ⟨59, _⟩ => ⟨S8x256x1024, .bf16⟩
  | .hbm, ⟨60, _⟩ => ⟨S8x2048x1024, .bf16⟩
  | .hbm, ⟨61, _⟩ => ⟨S1x1024, .f32⟩
  | .hbm, ⟨62, _⟩ => ⟨S1x1024, .f32⟩
  | .hbm, ⟨63, _⟩ => ⟨S1x1024, .f32⟩
  | .hbm, ⟨64, _⟩ => ⟨S1x1024, .f32⟩
  | .hbm, ⟨65, _⟩ => ⟨S1024x1024, .bf16⟩
  | .hbm, ⟨66, _⟩ => ⟨S1024x1024, .bf16⟩
  | .hbm, ⟨67, _⟩ => ⟨S1024x1024, .bf16⟩
  | .hbm, ⟨68, _⟩ => ⟨S1024x1024, .bf16⟩
  | .hbm, ⟨69, _⟩ => ⟨S8x2304x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x12x1024, .f32⟩
  | .local _ .vmem, ⟨3, _⟩ => ⟨S1x12x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | .local _ .vmem, ⟨8, _⟩ => ⟨S2x1x256x1024, .bf16⟩
  | .local _ .vmem, ⟨9, _⟩ => ⟨S2x1x256x1024, .bf16⟩
  | .local _ .vmem, ⟨10, _⟩ => ⟨S1x256x1024, .bf16⟩
  | .local _ .vmem, ⟨11, _⟩ => ⟨S1x256x1024, .bf16⟩
  | .local _ .vmem, ⟨12, _⟩ => ⟨S1x256x1024, .bf16⟩
  | .local _ .vmem, ⟨13, _⟩ => ⟨S1x256x1024, .bf16⟩
  | .local _ .vmem, ⟨14, _⟩ => ⟨S1x256x1024, .bf16⟩
  | .local _ .vmem, ⟨15, _⟩ => ⟨S1x256x1024, .bf16⟩
  | .local _ .vmem, ⟨16, _⟩ => ⟨S1x256x512, .bf16⟩
  | .local _ .vmem, ⟨17, _⟩ => ⟨S1x256x512, .bf16⟩
  | .local _ .vmem, ⟨18, _⟩ => ⟨S1x256x1024, .bf16⟩
  | .local _ .vmem, ⟨19, _⟩ => ⟨S1x256x1024, .bf16⟩
  | .local _ .vmem, ⟨20, _⟩ => ⟨S1x256x1024, .bf16⟩
  | .local _ .vmem, ⟨21, _⟩ => ⟨S1x256x1024, .bf16⟩
  | .local _ .vmem, ⟨22, _⟩ => ⟨S1x256x1024, .bf16⟩
  | .local _ .vmem, ⟨23, _⟩ => ⟨S1x256x1024, .bf16⟩
  | .local _ .vmem, ⟨24, _⟩ => ⟨S1x256x1024, .bf16⟩
  | .local _ .vmem, ⟨25, _⟩ => ⟨S1x256x1024, .bf16⟩
  | .local _ .vmem, ⟨26, _⟩ => ⟨S1x256x1024, .bf16⟩
  | .local _ .vmem, ⟨27, _⟩ => ⟨S1x256x1024, .bf16⟩
  | .local _ .vmem, ⟨28, _⟩ => ⟨S1x256x1024, .bf16⟩
  | .local _ .vmem, ⟨29, _⟩ => ⟨S1x256x1024, .bf16⟩
  | .local _ .vmem, ⟨30, _⟩ => ⟨S1x1024, .f32⟩
  | .local _ .vmem, ⟨31, _⟩ => ⟨S1x1024, .f32⟩
  | .local _ .vmem, ⟨32, _⟩ => ⟨S1x1024, .f32⟩
  | .local _ .vmem, ⟨33, _⟩ => ⟨S1x1024, .f32⟩
  | .local _ .vmem, ⟨34, _⟩ => ⟨S256x1024, .bf16⟩
  | .local _ .vmem, ⟨35, _⟩ => ⟨S256x256, .bf16⟩
  | .local _ .vmem, ⟨36, _⟩ => ⟨S1024x1024, .bf16⟩
  | .local _ .vmem, ⟨37, _⟩ => ⟨S1024x1024, .bf16⟩
  | .local _ .vmem, ⟨38, _⟩ => ⟨S1024x1024, .bf16⟩
  | .local _ .vmem, ⟨39, _⟩ => ⟨S1024x1024, .bf16⟩
  | .local _ .vmem, ⟨40, _⟩ => ⟨S1x256x1024, .f32⟩
  | .local _ .vmem, ⟨41, _⟩ => ⟨S1x256x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_c : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_call0_v5 : Ref sig .tc := ⟨.hbm, 30, rfl⟩
abbrev main_call0_v6 : Ref sig .tc := ⟨.hbm, 31, rfl⟩
abbrev main_call0_v7 : Ref sig .tc := ⟨.hbm, 32, rfl⟩
abbrev main_call0_v8 : Ref sig .tc := ⟨.hbm, 33, rfl⟩
abbrev main_call0_c : Ref sig .tc := ⟨.hbm, 34, rfl⟩
abbrev main_call0_v9 : Ref sig .tc := ⟨.hbm, 35, rfl⟩
abbrev main_call0_v10 : Ref sig .tc := ⟨.hbm, 36, rfl⟩
abbrev main_call0_v11 : Ref sig .tc := ⟨.hbm, 37, rfl⟩
abbrev main_call0_c_0 : Ref sig .tc := ⟨.hbm, 38, rfl⟩
abbrev main_call0_v12 : Ref sig .tc := ⟨.hbm, 39, rfl⟩
abbrev main_call0_v13 : Ref sig .tc := ⟨.hbm, 40, rfl⟩
abbrev main_v4 : Ref sig .tc := ⟨.hbm, 41, rfl⟩
abbrev main_v5 : Ref sig .tc := ⟨.hbm, 42, rfl⟩
abbrev main_v6 : Ref sig .tc := ⟨.hbm, 43, rfl⟩
abbrev main_v7 : Ref sig .tc := ⟨.hbm, 44, rfl⟩
abbrev main_v8 : Ref sig .tc := ⟨.hbm, 45, rfl⟩
abbrev main_v9 : Ref sig .tc := ⟨.hbm, 46, rfl⟩
abbrev main_v10 : Ref sig .tc := ⟨.hbm, 47, rfl⟩
abbrev main_cst : Ref sig .tc := ⟨.hbm, 48, rfl⟩
abbrev main_v11 : Ref sig .tc := ⟨.hbm, 49, rfl⟩
abbrev main_v12 : Ref sig .tc := ⟨.hbm, 50, rfl⟩
abbrev main_v13 : Ref sig .tc := ⟨.hbm, 51, rfl⟩
abbrev main_v14 : Ref sig .tc := ⟨.hbm, 52, rfl⟩
abbrev main_v15 : Ref sig .tc := ⟨.hbm, 53, rfl⟩
abbrev main_v16 : Ref sig .tc := ⟨.hbm, 54, rfl⟩
abbrev main_v17 : Ref sig .tc := ⟨.hbm, 55, rfl⟩
abbrev main_v18 : Ref sig .tc := ⟨.hbm, 56, rfl⟩
abbrev main_v19 : Ref sig .tc := ⟨.hbm, 57, rfl⟩
abbrev main_v20 : Ref sig .tc := ⟨.hbm, 58, rfl⟩
abbrev main_v21 : Ref sig .tc := ⟨.hbm, 59, rfl⟩
abbrev main_v22 : Ref sig .tc := ⟨.hbm, 60, rfl⟩
abbrev main_v23 : Ref sig .tc := ⟨.hbm, 61, rfl⟩
abbrev main_v24 : Ref sig .tc := ⟨.hbm, 62, rfl⟩
abbrev main_v25 : Ref sig .tc := ⟨.hbm, 63, rfl⟩
abbrev main_v26 : Ref sig .tc := ⟨.hbm, 64, rfl⟩
abbrev main_v27 : Ref sig .tc := ⟨.hbm, 65, rfl⟩
abbrev main_v28 : Ref sig .tc := ⟨.hbm, 66, rfl⟩
abbrev main_v29 : Ref sig .tc := ⟨.hbm, 67, rfl⟩
abbrev main_v30 : Ref sig .tc := ⟨.hbm, 68, rfl⟩
abbrev main_v31 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg16_0 : Ref sig .tc := ⟨.vmem, 31, rfl⟩
abbrev cc0_stg17_0 : Ref sig .tc := ⟨.vmem, 32, rfl⟩
abbrev cc0_stg18_0 : Ref sig .tc := ⟨.vmem, 33, rfl⟩
abbrev cc0_stg19_0 : Ref sig .tc := ⟨.vmem, 34, rfl⟩
abbrev cc0_stg20_0 : Ref sig .tc := ⟨.vmem, 35, rfl⟩
abbrev cc0_stg21_0 : Ref sig .tc := ⟨.vmem, 36, rfl⟩
abbrev cc0_stg22_0 : Ref sig .tc := ⟨.vmem, 37, rfl⟩
abbrev cc0_stg23_0 : Ref sig .tc := ⟨.vmem, 38, rfl⟩
abbrev cc0_stg24_0 : Ref sig .tc := ⟨.vmem, 39, rfl⟩
abbrev cc0_stg25_0 : Ref sig .tc := ⟨.vmem, 40, rfl⟩
abbrev cc0_stg25_1 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem16_0 : DmaSem sig := 31
abbrev cc0_sem17_0 : DmaSem sig := 32
abbrev cc0_sem18_0 : DmaSem sig := 33
abbrev cc0_sem19_0 : DmaSem sig := 34
abbrev cc0_sem20_0 : DmaSem sig := 35
abbrev cc0_sem21_0 : DmaSem sig := 36
abbrev cc0_sem22_0 : DmaSem sig := 37
abbrev cc0_sem23_0 : DmaSem sig := 38
abbrev cc0_sem24_0 : DmaSem sig := 39
abbrev cc0_sem25_0 : DmaSem sig := 40
abbrev cc0_sem25_1 : DmaSem sig := 41

abbrev nD : Nat := 1
abbrev τ : Topo := Topo.v7x

variable {F : FTy → Type} [FloatOps F]

abbrev grid0 : Pipeline.Grid := ⟨2, ![8, 9], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_5 (i : grid0.Coords) : Fin 3 → Nat :=
  let arg0 : BitVec 32 := BitVec.ofNat 32 (i 0).val
  let arg1 : BitVec 32 := BitVec.ofNat 32 (i 1).val
  let c8_i32 : BitVec 32 := 8#32
  let c0_i32 : BitVec 32 := 0#32
  ![arg0.toNat, arg1.toNat, c8_i32.toNat]

def cc0_transform_6 (i : grid0.Coords) : Fin 3 → Nat :=
  let arg0 : BitVec 32 := BitVec.ofNat 32 (i 0).val
  let arg1 : BitVec 32 := BitVec.ofNat 32 (i 1).val
  let c9_i32 : BitVec 32 := 9#32
  let c0_i32 : BitVec 32 := 0#32
  ![arg0.toNat, arg1.toNat, c9_i32.toNat]

def cc0_transform_7 (i : grid0.Coords) : Fin 3 → Nat :=
  let arg0 : BitVec 32 := BitVec.ofNat 32 (i 0).val
  let arg1 : BitVec 32 := BitVec.ofNat 32 (i 1).val
  let c10_i32 : BitVec 32 := 10#32
  let c0_i32 : BitVec 32 := 0#32
  ![arg0.toNat, arg1.toNat, c10_i32.toNat]

def cc0_transform_8 (i : grid0.Coords) : Fin 3 → Nat :=
  let arg0 : BitVec 32 := BitVec.ofNat 32 (i 0).val
  let arg1 : BitVec 32 := BitVec.ofNat 32 (i 1).val
  let c22_i32 : BitVec 32 := 22#32
  let c0_i32 : BitVec 32 := 0#32
  ![arg0.toNat, arg1.toNat, c22_i32.toNat]

def cc0_transform_9 (i : grid0.Coords) : Fin 3 → Nat :=
  let arg0 : BitVec 32 := BitVec.ofNat 32 (i 0).val
  let arg1 : BitVec 32 := BitVec.ofNat 32 (i 1).val
  let c5_i32 : BitVec 32 := 5#32
  let c0_i32 : BitVec 32 := 0#32
  ![arg0.toNat, arg1.toNat, c5_i32.toNat]

def cc0_transform_10 (i : grid0.Coords) : Fin 3 → Nat :=
  let arg0 : BitVec 32 := BitVec.ofNat 32 (i 0).val
  let arg1 : BitVec 32 := BitVec.ofNat 32 (i 1).val
  let c6_i32 : BitVec 32 := 6#32
  let c0_i32 : BitVec 32 := 0#32
  ![arg0.toNat, arg1.toNat, c6_i32.toNat]

def cc0_transform_11 (i : grid0.Coords) : Fin 3 → Nat :=
  let arg0 : BitVec 32 := BitVec.ofNat 32 (i 0).val
  let arg1 : BitVec 32 := BitVec.ofNat 32 (i 1).val
  let c7_i32 : BitVec 32 := 7#32
  let c0_i32 : BitVec 32 := 0#32
  ![arg0.toNat, arg1.toNat, c7_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.minsi arg1 c0_i32
  let c0_i32_0 : BitVec 32 := 0#32
  let c0_i32_1 : BitVec 32 := 0#32
  ![arg0.toNat, v0.toNat, c0_i32_0.toNat]

def cc0_transform_14 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_25 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x12x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2x1x256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x256x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false]

abbrev stage0_19 : Fin 1 → Memref sig .tc .vmem S256x1024 .bf16 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false, false]

abbrev stage0_20 : Fin 1 → Memref sig .tc .vmem S256x256 .bf16 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false, false]

abbrev stage0_21 : Fin 1 → Memref sig .tc .vmem S1024x1024 .bf16 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false, false]

abbrev stage0_22 : Fin 1 → Memref sig .tc .vmem S1024x1024 .bf16 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false, false]

abbrev stage0_23 : Fin 1 → Memref sig .tc .vmem S1024x1024 .bf16 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false, false]

abbrev stage0_24 : Fin 1 → Memref sig .tc .vmem S1024x1024 .bf16 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false, false]

abbrev stage0_25 : Fin 2 → Memref sig .tc .vmem S1x256x1024 .f32 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true, true]
-- ==== Reference4Ideal.lean ====
abbrev S8x2048x1024 : Shape := ⟨3, ![8, 2048, 1024]⟩
abbrev S8x256x1024 : Shape := ⟨3, ![8, 256, 1024]⟩
abbrev S8x6144 : Shape := ⟨2, ![8, 6144]⟩
abbrev S6144 : Shape := ⟨1, ![6144]⟩
abbrev S8x2304x1024 : Shape := ⟨3, ![8, 2304, 1024]⟩
abbrev S8x2304x2x1024 : Shape := ⟨4, ![8, 2304, 2, 1024]⟩
abbrev S8x2304x11776 : Shape := ⟨3, ![8, 2304, 11776]⟩
abbrev S160x1024 : Shape := ⟨2, ![160, 1024]⟩
abbrev S1024 : Shape := ⟨1, ![1024]⟩
abbrev S16x64 : Shape := ⟨2, ![16, 64]⟩
abbrev S1024x1024 : Shape := ⟨2, ![1024, 1024]⟩
abbrev S8x2304x3072 : Shape := ⟨3, ![8, 2304, 3072]⟩
abbrev S8x2304x160 : Shape := ⟨3, ![8, 2304, 160]⟩
abbrev S8x2304x16x64 : Shape := ⟨4, ![8, 2304, 16, 64]⟩
abbrev S8x2304x1x1024 : Shape := ⟨4, ![8, 2304, 1, 1024]⟩
abbrev S_ : Shape := ⟨0, ![]⟩
abbrev S1x1x1x1024 : Shape := ⟨4, ![1, 1, 1, 1024]⟩
abbrev S8x2304x16 : Shape := ⟨3, ![8, 2304, 16]⟩
abbrev S8x2304x16x1 : Shape := ⟨4, ![8, 2304, 16, 1]⟩
abbrev S1x1x1024 : Shape := ⟨3, ![1, 1, 1024]⟩
abbrev S1x1x16x64 : Shape := ⟨4, ![1, 1, 16, 64]⟩
abbrev S8x2304x3x1024 : Shape := ⟨4, ![8, 2304, 3, 1024]⟩
abbrev S8x1x6144 : Shape := ⟨3, ![8, 1, 6144]⟩
abbrev S8x1x1024 : Shape := ⟨3, ![8, 1, 1024]⟩

abbrev nBuf : Space → Nat
  | .hbm => 147
  | .vmem => 0
  | .smem => 0
  | _ => 0

abbrev hbmTy0_0 (i : Nat) : BufTy := match i % 128 with
  | 0 => ⟨S8x2048x1024, .f32⟩
  | 1 => ⟨S8x256x1024, .f32⟩
  | 2 => ⟨S8x6144, .f32⟩
  | 3 => ⟨S6144, .f32⟩
  | 4 => ⟨S8x2304x1024, .f32⟩
  | 5 => ⟨S8x2304x1024, .f32⟩
  | 6 => ⟨S8x2304x2x1024, .f32⟩
  | 7 => ⟨S8x2304x11776, .f32⟩
  | 8 => ⟨S8x2304x1024, .f32⟩
  | 9 => ⟨S8x2048x1024, .f32⟩
  | 10 => ⟨S8x256x1024, .f32⟩
  | 11 => ⟨S160x1024, .f32⟩
  | 12 => ⟨S1024, .f32⟩
  | 13 => ⟨S16x64, .f32⟩
  | 14 => ⟨S1024, .f32⟩
  | 15 => ⟨S1024, .f32⟩
  | 16 => ⟨S1024x1024, .f32⟩
  | 17 => ⟨S1024x1024, .f32⟩
  | 18 => ⟨S1024x1024, .f32⟩
  | 19 => ⟨S1024x1024, .f32⟩
  | 20 => ⟨S8x2304x3072, .f32⟩
  | 21 => ⟨S8x2304x3072, .f32⟩
  | 22 => ⟨S8x2304x1024, .f32⟩
  | 23 => ⟨S8x2304x1024, .f32⟩
  | 24 => ⟨S8x2304x1024, .f32⟩
  | 25 => ⟨S8x2304x160, .f32⟩
  | 26 => ⟨S8x2304x16x64, .f32⟩
  | 27 => ⟨S8x2304x16x64, .f32⟩
  | 28 => ⟨S8x2304x1x1024, .f32⟩
  | 29 => ⟨S_, .f32⟩
  | 30 => ⟨S8x2304x2x1024, .f32⟩
  | 31 => ⟨S8x2304x2x1024, .f32⟩
  | 32 => ⟨S1x1x1x1024, .f32⟩
  | 33 => ⟨S8x2304x2x1024, .f32⟩
  | 34 => ⟨S8x2304x2x1024, .f32⟩
  | 35 => ⟨S_, .f32⟩
  | 36 => ⟨S8x2304x2x1024, .f32⟩
  | 37 => ⟨S8x2304x2x1024, .f32⟩
  | 38 => ⟨S8x2304x2x1024, .f32⟩
  | 39 => ⟨S8x2304x2x1024, .f32⟩
  | 40 => ⟨S8x2304x1024, .f32⟩
  | 41 => ⟨S8x2304x16x64, .f32⟩
  | 42 => ⟨S_, .f32⟩
  | 43 => ⟨S8x2304x16, .f32⟩
  | 44 => ⟨S8x2304x16x1, .f32⟩
  | 45 => ⟨S_, .f32⟩
  | 46 => ⟨S8x2304x16x1, .f32⟩
  | 47 => ⟨S8x2304x16x1, .f32⟩
  | 48 => ⟨S8x2304x16x64, .f32⟩
  | 49 => ⟨S8x2304x16x64, .f32⟩
  | 50 => ⟨S8x2304x16x64, .f32⟩
  | 51 => ⟨S_, .f32⟩
  | 52 => ⟨S8x2304x16, .f32⟩
  | 53 => ⟨S8x2304x16x1, .f32⟩
  | 54 => ⟨S_, .f32⟩
  | 55 => ⟨S8x2304x16x1, .f32⟩
  | 56 => ⟨S8x2304x16x1, .f32⟩
  | 57 => ⟨S8x2304x16x64, .f32⟩
  | 58 => ⟨S8x2304x16x64, .f32⟩
  | 59 => ⟨S_, .f32⟩
  | 60 => ⟨S8x2304x16x1, .f32⟩
  | 61 => ⟨S8x2304x16x1, .f32⟩
  | 62 => ⟨S8x2304x16x1, .f32⟩
  | 63 => ⟨S8x2304x16x64, .f32⟩
  | 64 => ⟨S8x2304x16x64, .f32⟩
  | 65 => ⟨S8x2304x1024, .f32⟩
  | 66 => ⟨S1x1x1024, .f32⟩
  | 67 => ⟨S8x2304x1024, .f32⟩
  | 68 => ⟨S8x2304x1024, .f32⟩
  | 69 => ⟨S1x1x1024, .f32⟩
  | 70 => ⟨S8x2304x1024, .f32⟩
  | 71 => ⟨S8x2304x1024, .f32⟩
  | 72 => ⟨S8x2304x1x1024, .f32⟩
  | 73 => ⟨S8x2304x1024, .f32⟩
  | 74 => ⟨S8x2304x1x1024, .f32⟩
  | 75 => ⟨S8x2304x1024, .f32⟩
  | 76 => ⟨S8x2304x1024, .f32⟩
  | 77 => ⟨S8x2304x16x64, .f32⟩
  | 78 => ⟨S8x2304x16x64, .f32⟩
  | 79 => ⟨S1x1x16x64, .f32⟩
  | 80 => ⟨S8x2304x16x64, .f32⟩
  | 81 => ⟨S8x2304x16x64, .f32⟩
  | 82 => ⟨S_, .f32⟩
  | 83 => ⟨S8x2304x16, .f32⟩
  | 84 => ⟨S8x2304x16x1, .f32⟩
  | 85 => ⟨S8x2304x16x64, .f32⟩
  | 86 => ⟨S8x2304x16x64, .f32⟩
  | 87 => ⟨S8x2304x160, .f32⟩
  | 88 => ⟨S8x2304x160, .f32⟩
  | 89 => ⟨S_, .f32⟩
  | 90 => ⟨S8x2304x160, .f32⟩
  | 91 => ⟨S8x2304x160, .f32⟩
  | 92 => ⟨S_, .f32⟩
  | 93 => ⟨S8x2304x160, .f32⟩
  | 94 => ⟨S8x2304x160, .f32⟩
  | 95 => ⟨S8x2304x1024, .f32⟩
  | 96 => ⟨S8x2304x1024, .f32⟩
  | 97 => ⟨S8x2304x1024, .f32⟩
  | 98 => ⟨S8x2304x1024, .f32⟩
  | 99 => ⟨S8x2304x1024, .f32⟩
  | 100 => ⟨S8x2304x3072, .f32⟩
  | 101 => ⟨S8x2304x3072, .f32⟩
  | 102 => ⟨S_, .f32⟩
  | 103 => ⟨S8x2304x3072, .f32⟩
  | 104 => ⟨S8x2304x3072, .f32⟩
  | 105 => ⟨S_, .f32⟩
  | 106 => ⟨S8x2304x3072, .f32⟩
  | 107 => ⟨S8x2304x3072, .f32⟩
  | 108 => ⟨S8x2304x3x1024, .f32⟩
  | 109 => ⟨S8x2304x1x1024, .f32⟩
  | 110 => ⟨S8x2304x1024, .f32⟩
  | 111 => ⟨S8x2304x1024, .f32⟩
  | 112 => ⟨S8x2304x1024, .f32⟩
  | 113 => ⟨S8x2304x1x1024, .f32⟩
  | 114 => ⟨S8x2304x1024, .f32⟩
  | 115 => ⟨S8x2304x1024, .f32⟩
  | 116 => ⟨S8x2304x1024, .f32⟩
  | 117 => ⟨S8x2304x1024, .f32⟩
  | 118 => ⟨S8x2304x1x1024, .f32⟩
  | 119 => ⟨S8x2304x1024, .f32⟩
  | 120 => ⟨S8x2304x1024, .f32⟩
  | 121 => ⟨S8x2304x1024, .f32⟩
  | 122 => ⟨S8x2304x1024, .f32⟩
  | 123 => ⟨S8x2304x1024, .f32⟩
  | 124 => ⟨S8x1x6144, .f32⟩
  | 125 => ⟨S8x1x1024, .f32⟩
  | 126 => ⟨S8x1x1024, .f32⟩
  | 127 => ⟨S8x1x1024, .f32⟩
  | _ => ⟨S8x2048x1024, .f32⟩

abbrev hbmTy0_1 (i : Nat) : BufTy := match i % 128 with
  | 0 => ⟨S8x1x1024, .f32⟩
  | 1 => ⟨S8x1x1024, .f32⟩
  | 2 => ⟨S8x1x1024, .f32⟩
  | 3 => ⟨S1024, .f32⟩
  | 4 => ⟨S1024, .f32⟩
  | 5 => ⟨S1024, .f32⟩
  | 6 => ⟨S1024, .f32⟩
  | 7 => ⟨S1024, .f32⟩
  | 8 => ⟨S1024, .f32⟩
  | 9 => ⟨S8x256x1024, .f32⟩
  | 10 => ⟨S1x1x1024, .f32⟩
  | 11 => ⟨S8x256x1024, .f32⟩
  | 12 => ⟨S8x256x1024, .f32⟩
  | 13 => ⟨S8x256x1024, .f32⟩
  | 14 => ⟨S8x2048x1024, .f32⟩
  | 15 => ⟨S8x2048x1024, .f32⟩
  | 16 => ⟨S8x2048x1024, .f32⟩
  | 17 => ⟨S8x2048x1024, .f32⟩
  | 18 => ⟨S8x2304x1024, .f32⟩
  | _ => ⟨S8x2048x1024, .f32⟩

abbrev hbmTy (i : Nat) : BufTy := match i / 128 with
  | 0 => hbmTy0_0 i
  | 1 => hbmTy0_1 i
  | _ => ⟨S8x2048x1024, .f32⟩

abbrev bufTy : (tb : Table) → Fin (tcTables nBuf tb) → BufTy
  | .hbm, ⟨i, _⟩ => hbmTy i
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_cst : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_cst_0 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_cst_1 : Ref sig .tc := ⟨.hbm, 42, rfl⟩
abbrev main_v20 : Ref sig .tc := ⟨.hbm, 43, rfl⟩
abbrev main_v21 : Ref sig .tc := ⟨.hbm, 44, rfl⟩
abbrev main_cst_2 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_cst_3 : Ref sig .tc := ⟨.hbm, 51, rfl⟩
abbrev main_v27 : Ref sig .tc := ⟨.hbm, 52, rfl⟩
abbrev main_v28 : Ref sig .tc := ⟨.hbm, 53, rfl⟩
abbrev main_cst_4 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_cst_5 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_cst_6 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_cst_7 : Ref sig .tc := ⟨.hbm, 89, rfl⟩
abbrev main_v61 : Ref sig .tc := ⟨.hbm, 90, rfl⟩
abbrev main_v62 : Ref sig .tc := ⟨.hbm, 91, rfl⟩
abbrev main_cst_8 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_cst_9 : Ref sig .tc := ⟨.hbm, 102, rfl⟩
abbrev main_v72 : Ref sig .tc := ⟨.hbm, 103, rfl⟩
abbrev main_v73 : Ref sig .tc := ⟨.hbm, 104, rfl⟩
abbrev main_cst_10 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩

abbrev nD : Nat := 1
abbrev τ : Topo := Topo.v7x

variable {F : FTy → Type} [FloatOps F]
-- ==== Proof.Base.lean ====
/-
  The attention's pipeline, apart from what its body computes: which of the body's four branches a grid point takes, the
  buffers the body is handed at a point, and the pipeline's invariant spelt over the two scratch buffers.
-/
module

public import proofs.«01_k».proof.Proof.Gen.KernelIdeal.Frame
public import proofs.«01_k».proof.Proof.Gen.KernelIdeal.Skeleton
public import proofs.«01_k».proof.Proof.Gen.KernelIdeal.Points
public import Idealize.ShloMosaic.Lib.Pipeline.FrameBody
public import Idealize.ShloMosaic.Lib.Tactic
public import Idealize.ShloMosaic.Lib.WordCmp
public import Idealize.ShloMosaic.Lib.Pointwise.Tactic

@[expose] public section

set_option maxRecDepth 16384

noncomputable section

namespace Cert.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The condition of the body's first branch (only scores), -/
abbrev first (i : grid0.Coords) : Prop :=
  (Scalar.cmpi .ne (Scalar.extui (Scalar.cmpi .eq (BitVec.ofNat 32 (i 0).val) 0#32)) 0#32) = 1#1
/-- of the second (scores into slot 0, softmax from slot 1), -/
abbrev even (i : grid0.Coords) : Prop := k0_cond2 i = 1#1
/-- of the third (scores into slot 1, softmax from slot 0), -/
abbrev odd (i : grid0.Coords) : Prop := k0_cond3 i = 1#1
/-- and of the last (only softmax). -/
abbrev last (i : grid0.Coords) : Prop := k0_cond4 i = 1#1

theorem first_iff : ∀ t : Fin cfg0.N, first (grid0.coords t) ↔ t.val = 0 :=
  (by decide +kernel : ∀ t : Fin grid0.N, first (grid0.coords t) ↔ t.val = 0)
theorem even_iff : ∀ t : Fin cfg0.N, even (grid0.coords t) ↔ 0 < t.val ∧ t.val < 256 ∧ t.val % 2 = 0 :=
  (by decide +kernel : ∀ t : Fin grid0.N, even (grid0.coords t) ↔ 0 < t.val ∧ t.val < 256 ∧ t.val % 2 = 0)
theorem odd_iff : ∀ t : Fin cfg0.N, odd (grid0.coords t) ↔ 0 < t.val ∧ t.val < 256 ∧ t.val % 2 = 1 :=
  (by decide +kernel : ∀ t : Fin grid0.N, odd (grid0.coords t) ↔ 0 < t.val ∧ t.val < 256 ∧ t.val % 2 = 1)
theorem last_iff : ∀ t : Fin cfg0.N, last (grid0.coords t) ↔ t.val = 256 :=
  (by decide +kernel : ∀ t : Fin grid0.N, last (grid0.coords t) ↔ t.val = 256)

end Cert.Attn

end
-- ==== Proof.Spec.lean ====
/-
  What one grid point of the attention computes, as functions of the blocks it holds: the scores of a tile of 512 queries
  (two softmax components each, so 1024 columns) against the 2304 keys, nine blocks of 256 keys at a time; the column
  maxima; and, from a tile's scores and maxima, the tile's output rows.
-/
module

public import proofs.«01_k».proof.Proof.Base
public import Idealize.ShloMosaic.Lib.Writes

@[expose] public section

set_option maxRecDepth 16384

noncomputable section

namespace Cert.Attn

open Idealize.ShloMosaic Idealize.ShloMosaic.TcCoe
open Cert.KernelIdeal Cert.KernelIdeal.Gen

variable {F : FTy → Type} [FloatOps F]

/-! ## Reading a scratch back block by block -/

/-- The block last stored is read back as it was stored; -/
theorem ld_writes_hit {Val : EltTy → Type} {sig : RefSig} {κ : Kind} {sp : Space} {s : Shape} {e : EltTy} (v : View sig κ sp s e)
    (f : v.ty.Contents Val) (r : Rect s) (w : r.shape.Idx → Val e) (L : List (View.Piece Val s e)) :
    View.ld (v.read Val (v.writes Val f (⟨r, w⟩ :: L))) r = w :=
  funext fun x => View.read_writes_cons_emb v f r w L x

/-- a block that the last store does not meet is read back from what was there before it. -/
theorem ld_writes_miss {Val : EltTy → Type} {sig : RefSig} {κ : Kind} {sp : Space} {s : Shape} {e : EltTy} (v : View sig κ sp s e)
    (f : v.ty.Contents Val) (p : Rect s) (w : p.shape.Idx → Val e) (L : List (View.Piece Val s e)) (r : Rect s) (a : Fin s.rank)
    (hp : p.stride a = 1) (hr : r.stride a = 1) (h : r.off a + r.size a ≤ p.off a ∨ p.off a + p.size a ≤ r.off a) :
    View.ld (v.read Val (v.writes Val f (⟨p, w⟩ :: L))) r = View.ld (v.read Val (v.writes Val f L)) r :=
  funext fun x => View.read_writes_cons_miss_of_axis v f ⟨p, w⟩ L (r.idx x) a (p.off a) (p.size a) rfl hp rfl (by
    have h1 : ((r.idx x) a).val = r.off a + r.stride a * (x a).val := rfl
    have h2 : (x a).val < r.size a := (x a).isLt
    rw [h1, hr]; omega)

/-! ## Blocks of what is staged -/

/-- Keys `256·j … 256·j + 255` of a key block. -/
def keyBlk (k : Vec F S1x2304x128 .bf16) (j : Fin 9) : Vec F S1x256x128 .bf16 :=
  View.ld k (Rect.unit (s := S1x2304x128) ![0, 256 * j.val, 0] S1x256x128.size (by
    revert j; decide))

/-- The same keys' columns of a (transposed) value block. -/
def valBlk (v : Vec F S1x1x128x2304 .bf16) (j : Fin 9) : Vec F S1x1x128x256 .bf16 :=
  View.ld v (Rect.unit (s := S1x1x128x2304) ![0, 0, 0, 256 * j.val] S1x1x128x256.size (by
    revert j; decide))

/-- Key block `j` of the scores kept in slot `p` of the score scratch, -/
def scoreSlot (p : Fin 2) (s : Vec F S2x2304x1024 .f32) (j : Fin 9) : Vec F S1x256x1024 .f32 :=
  View.ld s (Rect.unit (s := S2x2304x1024) ![p.val, 256 * j.val, 0] S1x256x1024.size (by
    revert j p; decide))

/-- and the maxima kept in slot `p` of the other. -/
def maxSlot (p : Fin 2) (s : Vec F S2x1x1024 .f32) : Vec F S1x1x1024 .f32 :=
  View.ld s (Rect.unit (s := S2x1x1024) ![p.val, 0, 0] S1x1x1024.size (by
    revert p; decide))

/-! ## The scores -/

/-- The tile's queries, one row per query and component: rows 0 … 511 keep the first 64 lanes, rows 512 … 1023 the
    last 64, the other lanes zero. -/
def stacked (q0 q1 : Vec F S1x256x128 .bf16) : FVec F S1024x128 .bf16 :=
  let q : FVec F S512x128 .bf16 := concatenate S512x128 0
    [⟨S256x128, shapeCast S256x128 (View.ld q0 (Rect.unit (s := S1x256x128) ![0, 0, 0] S1x256x128.size inb_S1x256x128_S1x256x128_0_0_0)) shapeCasts_S1x256x128_S256x128⟩,
     ⟨S256x128, shapeCast S256x128 (View.ld q1 (Rect.unit (s := S1x256x128) ![0, 0, 0] S1x256x128.size inb_S1x256x128_S1x256x128_0_0_0)) shapeCasts_S1x256x128_S256x128⟩]
    concatenates_S256x128_S256x128_S512x128_d0
  let lane : IVec S512x128 32 := iota .tc S512x128 32 [1] iota_S512x128_d1_w32
  let zero : FVec F S512x128 .bf16 := broadcast S512x128 (Scalar.ofBits .bf16 0x0000#16 : F .bf16)
  concatenate S1024x128 0
    [⟨S512x128, select (cmpi .slt lane (broadcast S512x128 64#32)) q zero⟩,
     ⟨S512x128, select (cmpi .sge lane (broadcast S512x128 64#32)) q zero⟩]
    concatenates_S512x128_S512x128_S1024x128_d0

/-- The scores of one block of 256 keys. -/
def score (qs : FVec F S1024x128 .bf16) (kb : Vec F S1x256x128 .bf16) : FVec F S256x1024 .f32 :=
  matmul dot_S256x128_S1024x128_S256x1024_1_1_0_0_n_n none
    (shapeCast S256x128 kb shapeCasts_S1x256x128_S256x128) qs (constant S256x1024 .f32 0x00000000#32)

/-- They are stored under a leading unit axis. -/
def stored (s : FVec F S256x1024 .f32) : FVec F S1x256x1024 .f32 :=
  shapeCast S1x256x1024 s shapeCasts_S256x1024_S1x256x1024

/-- Rows `8·r … 8·r + 7` of a block of scores. -/
def rows8 (s : FVec F S256x1024 .f32) (r : Fin 32) : FVec F S8x1024 .f32 :=
  extractStridedSlice S8x1024 ![8 * r.val, 0] s (by revert r; decide)

/-- The running maximum taken on through the rows of one more block. -/
def runMax (a : FVec F S8x1024 .f32) (s : FVec F S256x1024 .f32) (l : List (Fin 32)) : FVec F S8x1024 .f32 :=
  l.foldl (fun a r => maximumf a (rows8 s r)) a

/-- The row groups after the first, -/
def later : List (Fin 32) :=
  [1, 2, 3, 4, 5, 6, 7, 8, 9, 10, 11, 12, 13, 14, 15, 16, 17, 18, 19, 20, 21, 22, 23, 24, 25, 26, 27, 28, 29, 30, 31]
/-- and the blocks after the first. -/
def blocks : List (Fin 9) := [1, 2, 3, 4, 5, 6, 7, 8]

/-- The maximum of every column of a tile's scores, block by block. -/
def colMax (s : Fin 9 → FVec F S256x1024 .f32) : FVec F S1x1x1024 .f32 :=
  shapeCast S1x1x1024 (shapeCast S1x1024
    (multiReduction .maximumf [0] S1024
      (blocks.foldl (fun a j => runMax a (s j) (0 :: later)) (runMax (rows8 (s 0) 0) (s 0) later))
      0xFF800000#32 reduces_S8x1024_S1024 (.inl rfl) rfl) shapeCasts_S1024_S1x1024) shapeCasts_S1x1024_S1x1x1024

/-- What the scores of a tile leave in its slot of the score scratch, block by block, -/
def scores (q0 q1 : Vec F S1x256x128 .bf16) (k : Vec F S1x2304x128 .bf16) (j : Fin 9) : FVec F S1x256x1024 .f32 :=
  stored (score (stacked q0 q1) (keyBlk k j))
/-- and in its slot of the other. -/
def maxima (q0 q1 : Vec F S1x256x128 .bf16) (k : Vec F S1x2304x128 .bf16) : FVec F S1x1x1024 .f32 :=
  colMax fun j => score (stacked q0 q1) (keyBlk k j)

/-! ## The softmax and the output -/

/-- The exponentials of one block of scores below the columns' maxima, -/
def expo (m : FVec F S1x1x1024 .f32) (s : Vec F S1x256x1024 .f32) : FVec F S256x1024 .f32 :=
  exp2 (subf (shapeCast S256x1024 s shapeCasts_S1x256x1024_S256x1024)
    (broadcastTo S256x1024 (shapeCast S1x1024 m shapeCasts_S1x1x1024_S1x1024) broadcasts_S1x1024_S256x1024))
/-- their sums down the columns, -/
def expoSum (e : FVec F S256x1024 .f32) : FVec F S1x1024 .f32 :=
  shapeCast S1x1024 (multiReduction .add [0] S1024 e 0x00000000#32 reduces_S256x1024_S1024 (.inl rfl) rfl) shapeCasts_S1024_S1x1024
/-- and the block's values weighed by them. -/
def weighed (e : FVec F S256x1024 .f32) (v : Vec F S1x1x128x256 .bf16) : FVec F S128x1024 .f32 :=
  matmul dot_S128x256_S256x1024_S128x1024_1_0_0_1_n_n none (shapeCast S128x256 v shapeCasts_S1x1x128x256_S128x256)
    (truncf .bf16 e bitsLt_bf16_f32) (constant S128x1024 .f32 0x00000000#32)

/-- The sum over the nine blocks, from the left. -/
def sum9 {s : Shape} (f : Fin 9 → FVec F s .f32) : FVec F s .f32 := blocks.foldl (fun a j => addf a (f j)) (f 0)

/-- The weight of the second component: `exp(λ₁·λ₂) − exp(λ₃·λ₄) + 0.2`. -/
def lambda (x : Vec F S4x64 .f32) : FVec F S1x1 .f32 :=
  let w : Vec F S4x64 .f32 := View.ld x (Rect.unit (s := S4x64) ![0, 0] S4x64.size inb_S4x64_S4x64_0_0)
  addf (subf
      (exp (shapeCast S1x1 (multiReduction .add [1] S1
        (mulf (extractStridedSlice S1x64 ![0, 0] w slices_S4x64_o0_0_S1x64) (extractStridedSlice S1x64 ![1, 0] w slices_S4x64_o1_0_S1x64))
        0x00000000#32 reduces_S1x64_S1 (.inl rfl) rfl) shapeCasts_S1_S1x1))
      (exp (shapeCast S1x1 (multiReduction .add [1] S1
        (mulf (extractStridedSlice S1x64 ![2, 0] w slices_S4x64_o2_0_S1x64) (extractStridedSlice S1x64 ![3, 0] w slices_S4x64_o3_0_S1x64))
        0x00000000#32 reduces_S1x64_S1 (.inl rfl) rfl) shapeCasts_S1_S1x1)))
    (broadcast S1x1 (Scalar.ofBits .f32 0x3E4CCCCD#32 : F .f32))

/-- The difference of the two components' attention outputs, from the weighed values and the sums of the exponentials. -/
def differ (acc : FVec F S128x1024 .f32) (l : FVec F S1x1024 .f32) (lam : FVec F S1x1 .f32) : FVec F S128x512 .f32 :=
  let inv : FVec F S1x1024 .f32 := divf (broadcast S1x1024 (Scalar.ofBits .f32 0x3F800000#32 : F .f32)) l
  subf
    (mulf (extractStridedSlice S128x512 ![0, 0] acc slices_S128x1024_o0_0_S128x512)
      (broadcastTo S128x512 (extractStridedSlice S1x512 ![0, 0] inv slices_S1x1024_o0_0_S1x512) broadcasts_S1x512_S128x512))
    (mulf (extractStridedSlice S128x512 ![0, 512] acc slices_S128x1024_o0_512_S128x512)
      (broadcastTo S128x512 (mulf (broadcastTo S1x512 lam broadcasts_S1x1_S1x512)
        (extractStridedSlice S1x512 ![0, 512] inv slices_S1x1024_o0_512_S1x512)) broadcasts_S1x512_S128x512))

/-- The output rows: normalized over the 128 lanes, weighed, scaled and transposed back. -/
def normed (o : FVec F S128x512 .f32) (g : Vec F S1x128 .f32) : FVec F S1x512x128 .bf16 :=
  let ms : FVec F S1x512 .f32 := shapeCast S1x512
    (multiReduction .add [0] S512 (mulf o o) 0x00000000#32 reduces_S128x512_S512 (.inl rfl) rfl) shapeCasts_S512_S1x512
  let r : FVec F S1x512 .f32 := rsqrt (addf (divf ms (broadcast S1x512 (Scalar.ofBits .f32 0x43000000#32 : F .f32)))
    (broadcast S1x512 (Scalar.ofBits .f32 0x358637BD#32 : F .f32)))
  let n : FVec F S128x512 .f32 := mulf o (broadcastTo S128x512 r broadcasts_S1x512_S128x512)
  let y : FVec F S512x128 .f32 := mulf (transpose S512x128 [1, 0] n transposes_S128x512_p1_0_S512x128)
    (broadcastTo S512x128 (shapeCast S1x128 (View.ld g (Rect.unit (s := S1x128) ![0, 0] S1x128.size inb_S1x128_S1x128_0_0)) shapeCasts_S1x128_S1x128) broadcasts_S1x128_S512x128)
  shapeCast S1x512x128 (truncf .bf16 (mulf y (broadcast S512x128 (Scalar.ofBits .f32 0x3F4CCCCD#32 : F .f32))) bitsLt_bf16_f32)
    shapeCasts_S512x128_S1x512x128

/-- The output block of a tile, from its scores and maxima, the values, the weights of the components and of the lanes. -/
def rowsOut (s : Fin 9 → Vec F S1x256x1024 .f32) (m : Vec F S1x1x1024 .f32) (v : Vec F S1x1x128x2304 .bf16)
    (lam : Vec F S4x64 .f32) (g : Vec F S1x128 .f32) : FVec F S1x512x128 .bf16 :=
  normed (differ (sum9 fun j => weighed (expo m (s j)) (valBlk v j)) (sum9 fun j => expoSum (expo m (s j))) (lambda lam)) g

end Cert.Attn

end
-- ==== Proof.RunA.lean ====
/-
  The first grid point: tile 0 is scored, into slot 0 of the scratch, and the output block is left as it was.
-/
module

public import proofs.«01_k».proof.Proof.Base
public import proofs.«01_k».proof.Proof.Spec
public import Idealize.ShloMosaic.Lib.VecWindow

@[expose] public section

set_option maxRecDepth 16384

noncomputable section

namespace Cert.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 8000000 in
set_option sl_exec.resultNames true in
/-- The first grid point: tile 0 is scored, into slot 0 of the scratch, and the output block is left as it was. -/
theorem runA (c : Dev nD) (i : grid0.Coords) (arg1 : Memref sig .tc .vmem S1x256x128 .bf16) (harg1 : arg1.IsWhole) (arg2 : Memref sig .tc .vmem S1x256x128 .bf16) (harg2 : arg2.IsWhole) (arg3 : Memref sig .tc .vmem S1x2304x128 .bf16) (harg3 : arg3.IsWhole) (arg4 : Memref sig .tc .vmem S1x1x128x2304 .bf16) (harg4 : arg4.IsWhole) (arg5 : Memref sig .tc .vmem S4x64 .f32) (harg5 : arg5.IsWhole) (arg6 : Memref sig .tc .vmem S1x128 .f32) (harg6 : arg6.IsWhole) (arg7 : Memref sig .tc .vmem S1x512x128 .bf16) (harg7 : arg7.IsWhole) (arg8 : Memref sig .tc .vmem S2x2304x1024 .f32) (harg8 : arg8.IsWhole) (arg9 : Memref sig .tc .vmem S2x1x1024 .f32) (harg9 : arg9.IsWhole)
    (hc0 : first i) (hc1 : ¬even i) (hc2 : ¬odd i) (hc3 : ¬last i)
    (x0 : Vec F S1x256x128 .bf16) (x1 : Vec F S1x256x128 .bf16) (x2 : Vec F S1x2304x128 .bf16) (x3 : Vec F S1x1x128x2304 .bf16) (x4 : Vec F S4x64 .f32) (x5 : Vec F S1x128 .f32)
    (y6 : Vec F S1x512x128 .bf16) (s0 : Vec F S2x2304x1024 .f32) (s1 : Vec F S2x1x1024 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare y6 ∗ owns (c : Thread nD τ) arg8 fullShare s0 ∗ owns (c : Thread nD τ) arg9 fullShare s1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare y6 ∗ (∃ s, owns (c : Thread nD τ) arg8 fullShare s ∗ ⌜∀ j, scoreSlot 0 s j = scores x0 x1 x2 j⌝) ∗ (∃ m, owns (c : Thread nD τ) arg9 fullShare m ∗ ⌜maxSlot 0 m = maxima x0 x1 x2⌝)) -∗ K ⟨⟩))
          ⊢ wp frame (wpE (defs₀ (F := F)) Variants.none c none) E (cc0_attention_lat i arg1 harg1 arg2 harg2 arg3 harg3 arg4 harg4 arg5 harg5 arg6 harg6 arg7 harg7 arg8 harg8 arg9 harg9) K := by
  simp only [cc0_attention_lat_eq_skeleton]; unfold cc0_attention_lat_skel
  simp only [k0_part49_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5
  have hsc : scores (View.read (Elt F) arg1.view (harg1.unread x0)) (View.read (Elt F) arg2.view (harg2.unread x1)) (View.read (Elt F) arg3.view (harg3.unread x2)) = scores x0 x1 x2 := by
    rw [hf0, hf1, hf2]
  have hmx : maxima (View.read (Elt F) arg1.view (harg1.unread x0)) (View.read (Elt F) arg2.view (harg2.unread x1)) (View.read (Elt F) arg3.view (harg3.unread x2)) = maxima x0 x1 x2 := by
    rw [hf0, hf1, hf2]
  sl_exec (disch := first | sl_exact hc0 | sl_exact hc1 | sl_exact hc2 | sl_exact hc3)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; swap; · iexact H6
    ipureintro
    exact hf6
  isplitl [HS0]
  · iexists _; isplitl [HS0]
    · iexists _; isplitr; swap; · iexact HS0
      ipureintro; rfl
    ipureintro
    intro j
    refine Eq.trans ?_ (congrFun hsc j)
    unfold scoreSlot
    fin_cases j <;> dsimp only <;>
      (iterate 9 (first | refine (ld_writes_miss _ _ _ _ _ _ (1 : Fin 3) (by decide) (by decide) (by decide)).trans ?_ | skip)
       refine (ld_writes_hit _ _ _ _ _).trans ?_
       rfl)
  iexists _; isplitl [HS1]
  · iexists _; isplitr; swap; · iexact HS1
    ipureintro; rfl
  ipureintro
  refine Eq.trans ?_ hmx
  unfold maxSlot
  refine (ld_writes_hit _ _ _ _ _).trans ?_
  rfl

end Cert.Attn

end
-- ==== Proof.RunB.lean ====
/-
  An odd grid point: its tile is scored into slot 1 while the tile before it, whose scores are in slot 0, is finished.
-/
module

public import proofs.«01_k».proof.Proof.Base
public import proofs.«01_k».proof.Proof.Spec
public import Idealize.ShloMosaic.Lib.VecWindow

@[expose] public section

set_option maxRecDepth 16384

noncomputable section

namespace Cert.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 8000000 in
set_option sl_exec.resultNames true in
/-- An odd grid point: its tile is scored into slot 1 while the tile before it, whose scores are in slot 0, is finished. -/
theorem runB (c : Dev nD) (i : grid0.Coords) (arg1 : Memref sig .tc .vmem S1x256x128 .bf16) (harg1 : arg1.IsWhole) (arg2 : Memref sig .tc .vmem S1x256x128 .bf16) (harg2 : arg2.IsWhole) (arg3 : Memref sig .tc .vmem S1x2304x128 .bf16) (harg3 : arg3.IsWhole) (arg4 : Memref sig .tc .vmem S1x1x128x2304 .bf16) (harg4 : arg4.IsWhole) (arg5 : Memref sig .tc .vmem S4x64 .f32) (harg5 : arg5.IsWhole) (arg6 : Memref sig .tc .vmem S1x128 .f32) (harg6 : arg6.IsWhole) (arg7 : Memref sig .tc .vmem S1x512x128 .bf16) (harg7 : arg7.IsWhole) (arg8 : Memref sig .tc .vmem S2x2304x1024 .f32) (harg8 : arg8.IsWhole) (arg9 : Memref sig .tc .vmem S2x1x1024 .f32) (harg9 : arg9.IsWhole)
    (hc0 : ¬first i) (hc1 : ¬even i) (hc2 : odd i) (hc3 : ¬last i)
    (x0 : Vec F S1x256x128 .bf16) (x1 : Vec F S1x256x128 .bf16) (x2 : Vec F S1x2304x128 .bf16) (x3 : Vec F S1x1x128x2304 .bf16) (x4 : Vec F S4x64 .f32) (x5 : Vec F S1x128 .f32)
    (y6 : Vec F S1x512x128 .bf16) (s0 : Vec F S2x2304x1024 .f32) (s1 : Vec F S2x1x1024 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare y6 ∗ owns (c : Thread nD τ) arg8 fullShare s0 ∗ owns (c : Thread nD τ) arg9 fullShare s1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (rowsOut (scoreSlot 0 s0) (maxSlot 0 s1) x3 x4 x5) ∗ (∃ s, owns (c : Thread nD τ) arg8 fullShare s ∗ ⌜∀ j, scoreSlot 1 s j = scores x0 x1 x2 j⌝) ∗ (∃ m, owns (c : Thread nD τ) arg9 fullShare m ∗ ⌜maxSlot 1 m = maxima x0 x1 x2⌝)) -∗ K ⟨⟩))
          ⊢ wp frame (wpE (defs₀ (F := F)) Variants.none c none) E (cc0_attention_lat i arg1 harg1 arg2 harg2 arg3 harg3 arg4 harg4 arg5 harg5 arg6 harg6 arg7 harg7 arg8 harg8 arg9 harg9) K := by
  simp only [cc0_attention_lat_eq_skeleton]; unfold cc0_attention_lat_skel
  simp only [k0_part49_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5
  have hsc : scores (View.read (Elt F) arg1.view (harg1.unread x0)) (View.read (Elt F) arg2.view (harg2.unread x1)) (View.read (Elt F) arg3.view (harg3.unread x2)) = scores x0 x1 x2 := by
    rw [hf0, hf1, hf2]
  have hmx : maxima (View.read (Elt F) arg1.view (harg1.unread x0)) (View.read (Elt F) arg2.view (harg2.unread x1)) (View.read (Elt F) arg3.view (harg3.unread x2)) = maxima x0 x1 x2 := by
    rw [hf0, hf1, hf2]
  have hro : rowsOut (scoreSlot 0 (View.read (Elt F) arg8.view fs0)) (maxSlot 0 (View.read (Elt F) arg9.view fs1)) (View.read (Elt F) arg4.view (harg4.unread x3)) (View.read (Elt F) arg5.view (harg5.unread x4)) (View.read (Elt F) arg6.view (harg6.unread x5)) = rowsOut (scoreSlot 0 s0) (maxSlot 0 s1) x3 x4 x5 := by
    rw [hfs0, hfs1, hf3, hf4, hf5]
  sl_exec (disch := first | sl_exact hc0 | sl_exact hc1 | sl_exact hc2 | sl_exact hc3)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; swap; · iexact H6
    ipureintro
    refine (View.read_writes_full _ _ _ _ _).trans (Eq.trans ?_ hro)
    rfl
  isplitl [HS0]
  · iexists _; isplitl [HS0]
    · iexists _; isplitr; swap; · iexact HS0
      ipureintro; rfl
    ipureintro
    intro j
    refine Eq.trans ?_ (congrFun hsc j)
    unfold scoreSlot
    fin_cases j <;> dsimp only <;>
      (iterate 9 (first | refine (ld_writes_miss _ _ _ _ _ _ (1 : Fin 3) (by decide) (by decide) (by decide)).trans ?_ | skip)
       refine (ld_writes_hit _ _ _ _ _).trans ?_
       rfl)
  iexists _; isplitl [HS1]
  · iexists _; isplitr; swap; · iexact HS1
    ipureintro; rfl
  ipureintro
  refine Eq.trans ?_ hmx
  unfold maxSlot
  refine (ld_writes_hit _ _ _ _ _).trans ?_
  rfl

end Cert.Attn

end
-- ==== Proof.RunC.lean ====
/-
  An even grid point between the first and the last: its tile is scored into slot 0 while the tile before it, whose
  scores are in slot 1, is finished.
-/
module

public import proofs.«01_k».proof.Proof.Base
public import proofs.«01_k».proof.Proof.Spec
public import Idealize.ShloMosaic.Lib.VecWindow

@[expose] public section

set_option maxRecDepth 16384

noncomputable section

namespace Cert.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 8000000 in
set_option sl_exec.resultNames true in
/-- An even grid point between the first and the last: its tile is scored into slot 0 while the tile before it, whose
  scores are in slot 1, is finished. -/
theorem runC (c : Dev nD) (i : grid0.Coords) (arg1 : Memref sig .tc .vmem S1x256x128 .bf16) (harg1 : arg1.IsWhole) (arg2 : Memref sig .tc .vmem S1x256x128 .bf16) (harg2 : arg2.IsWhole) (arg3 : Memref sig .tc .vmem S1x2304x128 .bf16) (harg3 : arg3.IsWhole) (arg4 : Memref sig .tc .vmem S1x1x128x2304 .bf16) (harg4 : arg4.IsWhole) (arg5 : Memref sig .tc .vmem S4x64 .f32) (harg5 : arg5.IsWhole) (arg6 : Memref sig .tc .vmem S1x128 .f32) (harg6 : arg6.IsWhole) (arg7 : Memref sig .tc .vmem S1x512x128 .bf16) (harg7 : arg7.IsWhole) (arg8 : Memref sig .tc .vmem S2x2304x1024 .f32) (harg8 : arg8.IsWhole) (arg9 : Memref sig .tc .vmem S2x1x1024 .f32) (harg9 : arg9.IsWhole)
    (hc0 : ¬first i) (hc1 : even i) (hc2 : ¬odd i) (hc3 : ¬last i)
    (x0 : Vec F S1x256x128 .bf16) (x1 : Vec F S1x256x128 .bf16) (x2 : Vec F S1x2304x128 .bf16) (x3 : Vec F S1x1x128x2304 .bf16) (x4 : Vec F S4x64 .f32) (x5 : Vec F S1x128 .f32)
    (y6 : Vec F S1x512x128 .bf16) (s0 : Vec F S2x2304x1024 .f32) (s1 : Vec F S2x1x1024 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare y6 ∗ owns (c : Thread nD τ) arg8 fullShare s0 ∗ owns (c : Thread nD τ) arg9 fullShare s1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (rowsOut (scoreSlot 1 s0) (maxSlot 1 s1) x3 x4 x5) ∗ (∃ s, owns (c : Thread nD τ) arg8 fullShare s ∗ ⌜∀ j, scoreSlot 0 s j = scores x0 x1 x2 j⌝) ∗ (∃ m, owns (c : Thread nD τ) arg9 fullShare m ∗ ⌜maxSlot 0 m = maxima x0 x1 x2⌝)) -∗ K ⟨⟩))
          ⊢ wp frame (wpE (defs₀ (F := F)) Variants.none c none) E (cc0_attention_lat i arg1 harg1 arg2 harg2 arg3 harg3 arg4 harg4 arg5 harg5 arg6 harg6 arg7 harg7 arg8 harg8 arg9 harg9) K := by
  simp only [cc0_attention_lat_eq_skeleton]; unfold cc0_attention_lat_skel
  simp only [k0_part49_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5
  have hsc : scores (View.read (Elt F) arg1.view (harg1.unread x0)) (View.read (Elt F) arg2.view (harg2.unread x1)) (View.read (Elt F) arg3.view (harg3.unread x2)) = scores x0 x1 x2 := by
    rw [hf0, hf1, hf2]
  have hmx : maxima (View.read (Elt F) arg1.view (harg1.unread x0)) (View.read (Elt F) arg2.view (harg2.unread x1)) (View.read (Elt F) arg3.view (harg3.unread x2)) = maxima x0 x1 x2 := by
    rw [hf0, hf1, hf2]
  have hro : rowsOut (scoreSlot 1 (View.read (Elt F) arg8.view fs0)) (maxSlot 1 (View.read (Elt F) arg9.view fs1)) (View.read (Elt F) arg4.view (harg4.unread x3)) (View.read (Elt F) arg5.view (harg5.unread x4)) (View.read (Elt F) arg6.view (harg6.unread x5)) = rowsOut (scoreSlot 1 s0) (maxSlot 1 s1) x3 x4 x5 := by
    rw [hfs0, hfs1, hf3, hf4, hf5]
  sl_exec (disch := first | sl_exact hc0 | sl_exact hc1 | sl_exact hc2 | sl_exact hc3)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; swap; · iexact H6
    ipureintro
    refine (View.read_writes_full _ _ _ _ _).trans (Eq.trans ?_ hro)
    rfl
  isplitl [HS0]
  · iexists _; isplitl [HS0]
    · iexists _; isplitr; swap; · iexact HS0
      ipureintro; rfl
    ipureintro
    intro j
    refine Eq.trans ?_ (congrFun hsc j)
    unfold scoreSlot
    fin_cases j <;> dsimp only <;>
      (iterate 9 (first | refine (ld_writes_miss _ _ _ _ _ _ (1 : Fin 3) (by decide) (by decide) (by decide)).trans ?_ | skip)
       refine (ld_writes_hit _ _ _ _ _).trans ?_
       rfl)
  iexists _; isplitl [HS1]
  · iexists _; isplitr; swap; · iexact HS1
    ipureintro; rfl
  ipureintro
  refine Eq.trans ?_ hmx
  unfold maxSlot
  refine (ld_writes_hit _ _ _ _ _).trans ?_
  rfl

end Cert.Attn

end
-- ==== Proof.RunD.lean ====
/-
  The last grid point: nothing is left to score; the last tile, whose scores are in slot 1, is finished.
-/
module

public import proofs.«01_k».proof.Proof.Base
public import proofs.«01_k».proof.Proof.Spec
public import Idealize.ShloMosaic.Lib.VecWindow

@[expose] public section

set_option maxRecDepth 16384

noncomputable section

namespace Cert.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 8000000 in
set_option sl_exec.resultNames true in
/-- The last grid point: nothing is left to score; the last tile, whose scores are in slot 1, is finished. -/
theorem runD (c : Dev nD) (i : grid0.Coords) (arg1 : Memref sig .tc .vmem S1x256x128 .bf16) (harg1 : arg1.IsWhole) (arg2 : Memref sig .tc .vmem S1x256x128 .bf16) (harg2 : arg2.IsWhole) (arg3 : Memref sig .tc .vmem S1x2304x128 .bf16) (harg3 : arg3.IsWhole) (arg4 : Memref sig .tc .vmem S1x1x128x2304 .bf16) (harg4 : arg4.IsWhole) (arg5 : Memref sig .tc .vmem S4x64 .f32) (harg5 : arg5.IsWhole) (arg6 : Memref sig .tc .vmem S1x128 .f32) (harg6 : arg6.IsWhole) (arg7 : Memref sig .tc .vmem S1x512x128 .bf16) (harg7 : arg7.IsWhole) (arg8 : Memref sig .tc .vmem S2x2304x1024 .f32) (harg8 : arg8.IsWhole) (arg9 : Memref sig .tc .vmem S2x1x1024 .f32) (harg9 : arg9.IsWhole)
    (hc0 : ¬first i) (hc1 : ¬even i) (hc2 : ¬odd i) (hc3 : last i)
    (x0 : Vec F S1x256x128 .bf16) (x1 : Vec F S1x256x128 .bf16) (x2 : Vec F S1x2304x128 .bf16) (x3 : Vec F S1x1x128x2304 .bf16) (x4 : Vec F S4x64 .f32) (x5 : Vec F S1x128 .f32)
    (y6 : Vec F S1x512x128 .bf16) (s0 : Vec F S2x2304x1024 .f32) (s1 : Vec F S2x1x1024 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare y6 ∗ owns (c : Thread nD τ) arg8 fullShare s0 ∗ owns (c : Thread nD τ) arg9 fullShare s1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (rowsOut (scoreSlot 1 s0) (maxSlot 1 s1) x3 x4 x5) ∗ owns (c : Thread nD τ) arg8 fullShare s0 ∗ owns (c : Thread nD τ) arg9 fullShare s1) -∗ K ⟨⟩))
          ⊢ wp frame (wpE (defs₀ (F := F)) Variants.none c none) E (cc0_attention_lat i arg1 harg1 arg2 harg2 arg3 harg3 arg4 harg4 arg5 harg5 arg6 harg6 arg7 harg7 arg8 harg8 arg9 harg9) K := by
  simp only [cc0_attention_lat_eq_skeleton]; unfold cc0_attention_lat_skel
  simp only [k0_part49_eq_skeleton, k0_part45_eq_skeleton, k0_part46_eq_skeleton, k0_part47_eq_skeleton, k0_part48_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5
  have hro : rowsOut (scoreSlot 1 (View.read (Elt F) arg8.view fs0)) (maxSlot 1 (View.read (Elt F) arg9.view fs1)) (View.read (Elt F) arg4.view (harg4.unread x3)) (View.read (Elt F) arg5.view (harg5.unread x4)) (View.read (Elt F) arg6.view (harg6.unread x5)) = rowsOut (scoreSlot 1 s0) (maxSlot 1 s1) x3 x4 x5 := by
    rw [hfs0, hfs1, hf3, hf4, hf5]
  sl_exec (disch := first | sl_exact hc0 | sl_exact hc1 | sl_exact hc2 | sl_exact hc3)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; swap; · iexact H6
    ipureintro
    refine (View.read_writes_full _ _ _ _ _).trans (Eq.trans ?_ hro)
    rfl
  isplitl [HS0]
  · iexists _; isplitr; · ipureintro; exact hfs0
    iexact HS0
  iexists _; isplitr; · ipureintro; exact hfs1
  iexact HS1

end Cert.Attn

end
-- ==== Proof.Body.lean ====
/-
  What the pipeline carries from one grid point to the next, what every point leaves, and the run of the whole program.
  After point `t < 256` the slot of parity `t` holds the scores of tile `t` and their column maxima; point `t + 1` turns
  them into tile `t`'s output block.
-/
module

public import proofs.«01_k».proof.Proof.RunA
public import proofs.«01_k».proof.Proof.RunB
public import proofs.«01_k».proof.Proof.RunC
public import proofs.«01_k».proof.Proof.RunD
public import Idealize.ShloMosaic.Lib.Claim

@[expose] public section

set_option maxRecDepth 16384

noncomputable section

namespace Cert.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What is carried -/

/-- The score scratch and the scratch of the maxima. -/
abbrev scoreMem : Memref sig .tc .vmem S2x2304x1024 .f32 := Memref.whole cc0_scratch0
abbrev maxMem : Memref sig .tc .vmem S2x1x1024 .f32 := Memref.whole cc0_scratch1

/-- The slot that tile `t` is scored into. -/
def slotOf (t : Fin cfg0.N) : Fin 2 := if t.val % 2 = 0 then 0 else 1

/-- The point before `t` (the first point itself for the first). -/
def prev (t : Fin cfg0.N) : Fin cfg0.N := ⟨t.val - 1, Nat.lt_of_le_of_lt (Nat.sub_le _ _) t.isLt⟩

/-- The scores of tile `t` and their column maxima. -/
def tileScores (c : Dev nD) (t : Fin cfg0.N) : Fin 9 → FVec F S1x256x1024 .f32 := scores (iblk m c 0 t) (iblk m c 1 t) (iblk m c 2 t)
def tileMaxima (c : Dev nD) (t : Fin cfg0.N) : FVec F S1x1x1024 .f32 := maxima (iblk m c 0 t) (iblk m c 1 t) (iblk m c 2 t)

/-- The output block that point `t` leaves: that of the tile scored at the point before. -/
def tileOut (c : Dev nD) (t : Fin cfg0.N) : FVec F S1x512x128 .bf16 :=
  rowsOut (tileScores m c (prev t)) (tileMaxima m c (prev t)) (iblk m c 3 t) (iblk m c 4 t) (iblk m c 5 t)

/-- After point `t` its slot holds tile `t`'s scores and maxima. -/
def kept (c : Dev nD) (t : Fin cfg0.N) : sProp 𝕄 :=
  iprop((∃ s, owns (c : Thread nD τ) scoreMem fullShare s ∗ ⌜∀ j, scoreSlot (slotOf t) s j = tileScores m c t j⌝)
    ∗ (∃ x, owns (c : Thread nD τ) maxMem fullShare x ∗ ⌜maxSlot (slotOf t) x = tileMaxima m c t⌝))

/-- Before the first point and after the last the scratch holds anything; between them what the point before kept. -/
def carried (c : Dev nD) (n : Fin (cfg0.N + 1)) : sProp 𝕄 :=
  if h : 0 < n.val ∧ n.val ≤ 256 then iprop(kept m c ⟨n.val - 1, by have := n.isLt; omega⟩ ∗ (∃ r, prngReg c r))
  else Pipeline.ΦA spec0 c

/-- What the launch hands over, the two scratch buffers named. -/
theorem launched (c : Dev nD) : (Pipeline.ΦA spec0 c : sProp 𝕄) =
    iprop(iprop((∃ d, owns (c : Thread nD τ) scoreMem fullShare d) ∗ (∃ d, owns (c : Thread nD τ) maxMem fullShare d)) ∗ (∃ r, prngReg c r)) := by
  unfold Pipeline.ΦA
  rw [scopedRest0_eq]
  simp only [scoreMem, maxMem, owns_whole]
  try rfl

/-- The proof data: the arrays as the region finds them, the inputs' blocks left in place, the output block of the tile
    before, the scratch as carried. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => tileOut m c t
  Φ n := carried m c n
  q w := Pipeline.shareOf spec0 w
  owed _ := 0

theorem A_eq (c : Dev nD) (w : Fin cfg0.W) : (dats m 0 c).A w = V m c (Pipeline.arrRef spec0 w) := by dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = tileOut m c t := by dsimp only [dats]

theorem found0 (c : Dev nD) (t : Fin cfg0.N) (d) : (dats m 0 c).before 0 t d = iblk m c 0 t :=
  before0_0_of m (dats m 0 c) (A_eq m c 0) (after0 m c) t d
theorem found1 (c : Dev nD) (t : Fin cfg0.N) (d) : (dats m 0 c).before 1 t d = iblk m c 1 t :=
  before0_1_of m (dats m 0 c) (A_eq m c 1) (after1 m c) t d
theorem found2 (c : Dev nD) (t : Fin cfg0.N) (d) : (dats m 0 c).before 2 t d = iblk m c 2 t :=
  before0_2_of m (dats m 0 c) (A_eq m c 2) (after2 m c) t d
theorem found3 (c : Dev nD) (t : Fin cfg0.N) (d) : (dats m 0 c).before 3 t d = iblk m c 3 t :=
  before0_3_of m (dats m 0 c) (A_eq m c 3) (after3 m c) t d
theorem found4 (c : Dev nD) (t : Fin cfg0.N) (d) : (dats m 0 c).before 4 t d = iblk m c 4 t :=
  before0_4_of m (dats m 0 c) (A_eq m c 4) (after4 m c) t d
theorem found5 (c : Dev nD) (t : Fin cfg0.N) (d) : (dats m 0 c).before 5 t d = iblk m c 5 t :=
  before0_5_of m (dats m 0 c) (A_eq m c 5) (after5 m c) t d

/-! ## One point -/

/-- The inputs' staging buffers at point `t`, each at its block. -/
def inputs (c : Dev nD) (t : Fin cfg0.N) : sProp 𝕄 :=
  iprop(owns (c : Thread nD τ) (st0_0 t) fullShare (iblk m c 0 t) ∗ owns (c : Thread nD τ) (st0_1 t) fullShare (iblk m c 1 t)
    ∗ owns (c : Thread nD τ) (st0_2 t) fullShare (iblk m c 2 t) ∗ owns (c : Thread nD τ) (st0_3 t) fullShare (iblk m c 3 t)
    ∗ owns (c : Thread nD τ) (st0_4 t) fullShare (iblk m c 4 t) ∗ owns (c : Thread nD τ) (st0_5 t) fullShare (iblk m c 5 t))

/-- The first point: it keeps tile 0's scores and leaves the output block as it was. -/
theorem body_first (c : Dev nD) (t : Fin cfg0.N) (h : t.val = 0) (y : Vec F S1x512x128 .bf16) (K : PUnit → sProp 𝕄) :
    iprop(inputs m c t ∗ owns (c : Thread nD τ) (st0_6 t) fullShare y
        ∗ (∃ d, owns (c : Thread nD τ) scoreMem fullShare d) ∗ (∃ d, owns (c : Thread nD τ) maxMem fullShare d)
        ∗ (iprop(inputs m c t ∗ owns (c : Thread nD τ) (st0_6 t) fullShare y ∗ kept m c t) -∗ K ⟨⟩))
      ⊢ wp frame (wpE (defs₀ (F := F)) Variants.none c none) Set.univ (bodyAt0 t) K := by
  unfold inputs bodyAt0
  iintro ⟨⟨H0, H1, H2, H3, H4, H5⟩, H6, ⟨%s, HS⟩, ⟨%x, HM⟩, Hk⟩
  iapply (runA c (grid0.coords t) _ _ _ _ _ _ _ _ _ _ _ _ _ _ _ _ _ _ ((first_iff t).mpr h)
    (fun k => by have := (even_iff t).mp k; omega) (fun k => by have := (odd_iff t).mp k; omega) (fun k => by have := (last_iff t).mp k; omega)
    (iblk m c 0 t) (iblk m c 1 t) (iblk m c 2 t) (iblk m c 3 t) (iblk m c 4 t) (iblk m c 5 t) y s x Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS]; · iexact HS
  isplitl [HM]; · iexact HM
  iintro ⟨H0, H1, H2, H3, H4, H5, H6, HS, HM⟩
  iapply Hk
  isplitl [H0 H1 H2 H3 H4 H5]
  · isplitl [H0]; · iexact H0
    isplitl [H1]; · iexact H1
    isplitl [H2]; · iexact H2
    isplitl [H3]; · iexact H3
    isplitl [H4]; · iexact H4
    iexact H5
  isplitl [H6]; · iexact H6
  unfold kept
  rw [show slotOf t = 0 by unfold slotOf; rw [if_pos (by omega)]]
  isplitl [HS]; · iexact HS
  iexact HM

/-- What the middle points do, for either parity: from the slot of the point before to the block of its tile, and on to the
    point's own slot. -/
theorem body_mid (c : Dev nD) (t : Fin cfg0.N) (h : 0 < t.val ∧ t.val < 256) (y : Vec F S1x512x128 .bf16) (K : PUnit → sProp 𝕄) :
    iprop(inputs m c t ∗ owns (c : Thread nD τ) (st0_6 t) fullShare y ∗ kept m c (prev t)
        ∗ (iprop(inputs m c t ∗ owns (c : Thread nD τ) (st0_6 t) fullShare (tileOut m c t) ∗ kept m c t) -∗ K ⟨⟩))
      ⊢ wp frame (wpE (defs₀ (F := F)) Variants.none c none) Set.univ (bodyAt0 t) K := by
  unfold inputs bodyAt0 kept
  iintro ⟨⟨H0, H1, H2, H3, H4, H5⟩, H6, ⟨⟨%s, HS, %hs⟩, ⟨%x, HM, %hx⟩⟩, Hk⟩
  by_cases h2 : t.val % 2 = 0
  · rw [show slotOf (prev t) = 1 by unfold slotOf prev; rw [if_neg (by show ¬ (t.val - 1) % 2 = 0; omega)]] at hs hx
    rw [show slotOf t = 0 by unfold slotOf; rw [if_pos h2]]
    iapply (runC c (grid0.coords t) _ _ _ _ _ _ _ _ _ _ _ _ _ _ _ _ _ _ (fun k => by have := (first_iff t).mp k; omega)
      ((even_iff t).mpr ⟨h.1, h.2, h2⟩) (fun k => by have := (odd_iff t).mp k; omega) (fun k => by have := (last_iff t).mp k; omega)
      (iblk m c 0 t) (iblk m c 1 t) (iblk m c 2 t) (iblk m c 3 t) (iblk m c 4 t) (iblk m c 5 t) y s x Set.univ _)
    rw [show scoreSlot 1 s = tileScores m c (prev t) from funext hs, hx]
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS]; · iexact HS
    isplitl [HM]; · iexact HM
    iintro ⟨H0, H1, H2, H3, H4, H5, H6, HS, HM⟩
    iapply Hk
    isplitl [H0 H1 H2 H3 H4 H5]
    · isplitl [H0]; · iexact H0
      isplitl [H1]; · iexact H1
      isplitl [H2]; · iexact H2
      isplitl [H3]; · iexact H3
      isplitl [H4]; · iexact H4
      iexact H5
    isplitl [H6]; · iexact H6
    isplitl [HS]; · iexact HS
    iexact HM
  · rw [show slotOf (prev t) = 0 by unfold slotOf prev; rw [if_pos (by show (t.val - 1) % 2 = 0; omega)]] at hs hx
    rw [show slotOf t = 1 by unfold slotOf; rw [if_neg h2]]
    iapply (runB c (grid0.coords t) _ _ _ _ _ _ _ _ _ _ _ _ _ _ _ _ _ _ (fun k => by have := (first_iff t).mp k; omega)
      (fun k => by have := (even_iff t).mp k; omega) ((odd_iff t).mpr ⟨h.1, h.2, by omega⟩) (fun k => by have := (last_iff t).mp k; omega)
      (iblk m c 0 t) (iblk m c 1 t) (iblk m c 2 t) (iblk m c 3 t) (iblk m c 4 t) (iblk m c 5 t) y s x Set.univ _)
    rw [show scoreSlot 0 s = tileScores m c (prev t) from funext hs, hx]
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS]; · iexact HS
    isplitl [HM]; · iexact HM
    iintro ⟨H0, H1, H2, H3, H4, H5, H6, HS, HM⟩
    iapply Hk
    isplitl [H0 H1 H2 H3 H4 H5]
    · isplitl [H0]; · iexact H0
      isplitl [H1]; · iexact H1
      isplitl [H2]; · iexact H2
      isplitl [H3]; · iexact H3
      isplitl [H4]; · iexact H4
      iexact H5
    isplitl [H6]; · iexact H6
    isplitl [HS]; · iexact HS
    iexact HM

/-- The last point: the last tile's block; the scratch stays as it is. -/
theorem body_last (c : Dev nD) (t : Fin cfg0.N) (h : t.val = 256) (y : Vec F S1x512x128 .bf16) (K : PUnit → sProp 𝕄) :
    iprop(inputs m c t ∗ owns (c : Thread nD τ) (st0_6 t) fullShare y ∗ kept m c (prev t)
        ∗ (iprop(inputs m c t ∗ owns (c : Thread nD τ) (st0_6 t) fullShare (tileOut m c t)
            ∗ (∃ d, owns (c : Thread nD τ) scoreMem fullShare d) ∗ (∃ d, owns (c : Thread nD τ) maxMem fullShare d)) -∗ K ⟨⟩))
      ⊢ wp frame (wpE (defs₀ (F := F)) Variants.none c none) Set.univ (bodyAt0 t) K := by
  unfold inputs bodyAt0 kept
  iintro ⟨⟨H0, H1, H2, H3, H4, H5⟩, H6, ⟨⟨%s, HS, %hs⟩, ⟨%x, HM, %hx⟩⟩, Hk⟩
  rw [show slotOf (prev t) = 1 by unfold slotOf prev; rw [if_neg (by show ¬ (t.val - 1) % 2 = 0; omega)]] at hs hx
  iapply (runD c (grid0.coords t) _ _ _ _ _ _ _ _ _ _ _ _ _ _ _ _ _ _ (fun k => by have := (first_iff t).mp k; omega)
    (fun k => by have := (even_iff t).mp k; omega) (fun k => by have := (odd_iff t).mp k; omega) ((last_iff t).mpr h)
    (iblk m c 0 t) (iblk m c 1 t) (iblk m c 2 t) (iblk m c 3 t) (iblk m c 4 t) (iblk m c 5 t) y s x Set.univ _)
  rw [show scoreSlot 1 s = tileScores m c (prev t) from funext hs, hx]
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS]; · iexact HS
  isplitl [HM]; · iexact HM
  iintro ⟨H0, H1, H2, H3, H4, H5, H6, HS, HM⟩
  iapply Hk
  isplitl [H0 H1 H2 H3 H4 H5]
  · isplitl [H0]; · iexact H0
    isplitl [H1]; · iexact H1
    isplitl [H2]; · iexact H2
    isplitl [H3]; · iexact H3
    isplitl [H4]; · iexact H4
    iexact H5
  isplitl [H6]; · iexact H6
  isplitl [HS]; · iexists _; iexact HS
  iexists _; iexact HM

/-! ## The body obligation -/

/-- No input is ever idle; the output is at the first point only, which does not write it back. -/
theorem live : ∀ (w : Fin 6) (t : Fin cfg0.N), cfg0.idle ⟨w.val, by have := w.isLt; show w.val < 7; omega⟩ (grid0.coords t) = false := by
  intro w t; fin_cases w <;> rfl
theorem idle_iff : ∀ t : Fin cfg0.N, cfg0.idle 6 (grid0.coords t) = true ↔ t.val = 0 :=
  (by decide +kernel : ∀ t : Fin grid0.N, cfg0.idle 6 (grid0.coords t) = true ↔ t.val = 0)
theorem flush_iff : ∀ t : Fin cfg0.N, (cfg0.win 6).flush t = true ↔ 0 < t.val :=
  (by decide +kernel : ∀ t : Fin grid0.N, (cfg0.win 6).flush t = true ↔ 0 < t.val)

theorem leaves_live (c : Dev nD) (w : Fin cfg0.W) (t : Fin cfg0.N) (h : cfg0.idle w (grid0.coords t) = false) :
    (dats m 0 c).leavesExact w t = owns (c : Thread nD τ) ((cfg0.win w).stage (cfg0.slots t w)) fullShare ((dats m 0 c).after w t) := by
  unfold Dat.leavesExact; rw [h]

theorem carried_first (c : Dev nD) (t : Fin cfg0.N) (h : t.val = 0) : carried m c t.castSucc = Pipeline.ΦA spec0 c := by
  unfold carried; rw [dif_neg (by show ¬ (0 < t.val ∧ _); omega)]
theorem carried_before (c : Dev nD) (t : Fin cfg0.N) (h : 0 < t.val) :
    carried m c t.castSucc = iprop(kept m c (prev t) ∗ (∃ r, prngReg c r)) := by
  have hN : t.val < 257 := lt_of_lt_of_eq t.isLt (show cfg0.N = 257 from N_0)
  unfold carried; rw [dif_pos (by show 0 < t.val ∧ t.val ≤ 256; omega)]; rfl
theorem carried_after (c : Dev nD) (t : Fin cfg0.N) (h : t.val < 256) :
    carried m c t.succ = iprop(kept m c t ∗ (∃ r, prngReg c r)) := by
  unfold carried; rw [dif_pos (by show 0 < t.val + 1 ∧ t.val + 1 ≤ 256; omega)]; rfl
theorem carried_last (c : Dev nD) (t : Fin cfg0.N) (h : t.val = 256) : carried m c t.succ = Pipeline.ΦA spec0 c := by
  unfold carried; rw [dif_neg (by show ¬ (0 < t.val + 1 ∧ t.val + 1 ≤ 256); omega)]

theorem carried_end (c : Dev nD) : carried m c (Fin.last cfg0.N) = Pipeline.ΦA spec0 c := by
  unfold carried
  rw [dif_neg (by show ¬ (0 < cfg0.N ∧ cfg0.N ≤ 256); rw [show cfg0.N = 257 from N_0]; omega)]

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it leaves. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t
    ∗ (dats m 0 c).leavesExact 6 t)

theorem sound_body (c : Dev nD) (t : Fin cfg0.N) :
    bodyPre m c t ⊢ wp frame (wpE (defs₀ (F := F)) Variants.none c none) Set.univ (bodyAt0 t) (fun _ => bodyPost m c t) := by
  have hN : t.val < 257 := lt_of_lt_of_eq t.isLt (show cfg0.N = 257 from N_0)
  unfold bodyPre bodyPost
  simp only [found0, found1, found2, found3, found4, found5]
  rw [show (dats m 0 c).Φ t.succ = carried m c t.succ from rfl, show (dats m 0 c).Φ t.castSucc = carried m c t.castSucc from rfl,
    show (dats m 0 c).owesAt () t.succ = (dats m 0 c).owesAt () t.castSucc from rfl,
    leaves_live m c 0 t (live 0 t), leaves_live m c 1 t (live 1 t), leaves_live m c 2 t (live 2 t), leaves_live m c 3 t (live 3 t),
    leaves_live m c 4 t (live 4 t), leaves_live m c 5 t (live 5 t), after0, after1, after2, after3, after4, after5]
  by_cases h0 : t.val = 0
  · rw [carried_first m c t h0, launched, carried_after m c t (by omega),
      (dats m 0 c).leavesExact_idle 6 t ((idle_iff t).mpr h0) (Bool.eq_false_iff.mpr fun k => by have := (flush_iff t).mp k; omega)]
    iintro ⟨⟨⟨HS, HM⟩, Hg⟩, Ho, ⟨%d0, H0⟩, ⟨%d1, H1⟩, ⟨%d2, H2⟩, ⟨%d3, H3⟩, ⟨%d4, H4⟩, ⟨%d5, H5⟩, ⟨%d6, H6⟩⟩
    iapply (body_first m c t h0 ((dats m 0 c).before 6 t d6))
    isplitl [H0 H1 H2 H3 H4 H5]
    · unfold inputs
      isplitl [H0]; · iexact H0
      isplitl [H1]; · iexact H1
      isplitl [H2]; · iexact H2
      isplitl [H3]; · iexact H3
      isplitl [H4]; · iexact H4
      iexact H5
    isplitl [H6]; · iexact H6
    isplitl [HS]; · iexact HS
    isplitl [HM]; · iexact HM
    unfold inputs
    iintro ⟨⟨H0, H1, H2, H3, H4, H5⟩, H6, HK⟩
    isplitl [HK Hg]
    · isplitl [HK]; · iexact HK
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexists _; iexact H6
  · rw [carried_before m c t (by omega), leaves_live m c 6 t (Bool.eq_false_iff.mpr fun k => h0 ((idle_iff t).mp k)), after6]
    iintro ⟨⟨HK, Hg⟩, Ho, ⟨%d0, H0⟩, ⟨%d1, H1⟩, ⟨%d2, H2⟩, ⟨%d3, H3⟩, ⟨%d4, H4⟩, ⟨%d5, H5⟩, ⟨%d6, H6⟩⟩
    by_cases h1 : t.val = 256
    · rw [carried_last m c t h1, launched]
      iapply (body_last m c t h1 ((dats m 0 c).before 6 t d6))
      isplitl [H0 H1 H2 H3 H4 H5]
      · unfold inputs
        isplitl [H0]; · iexact H0
        isplitl [H1]; · iexact H1
        isplitl [H2]; · iexact H2
        isplitl [H3]; · iexact H3
        isplitl [H4]; · iexact H4
        iexact H5
      isplitl [H6]; · iexact H6
      isplitl [HK]; · iexact HK
      unfold inputs
      iintro ⟨⟨H0, H1, H2, H3, H4, H5⟩, H6, HK⟩
      isplitl [HK Hg]
      · isplitl [HK]; · iexact HK
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · rw [carried_after m c t (by omega)]
      iapply (body_mid m c t ⟨by omega, by omega⟩ ((dats m 0 c).before 6 t d6))
      isplitl [H0 H1 H2 H3 H4 H5]
      · unfold inputs
        isplitl [H0]; · iexact H0
        isplitl [H1]; · iexact H1
        isplitl [H2]; · iexact H2
        isplitl [H3]; · iexact H3
        isplitl [H4]; · iexact H4
        iexact H5
      isplitl [H6]; · iexact H6
      isplitl [HK]; · iexact HK
      unfold inputs
      iintro ⟨⟨H0, H1, H2, H3, H4, H5⟩, H6, HK⟩
      isplitl [HK Hg]
      · isplitl [HK]; · iexact HK
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6

/-- The body table's row at point `t`'s slots is the body on the point's staging buffers. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

-- the run's implicit arguments are found by unifying its conclusion with this one, which takes unfolding plain
-- definitions in a metavariable's type
set_option backward.isDefEq.respectTransparency.types false in
/-- Every run of the program ends, with every array staged as the pipeline leaves it, every other one as it was when
    the pipeline began, and no semaphore raised. -/
theorem run_quiescent : θ_run defs (onTc (τ := τ) (main (F := F))) (s₀ m ρ)
    (fun r => Pipeline.FramePost cfgs (dats m) 0 (V m) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl) (howed := fun _ _ => rfl) (V := V m)
    (hmain := hmain m Variants.none) (hA := A_eq m)
    (hin := fun c => by rw [show (dats m 0 c).Φ 0 = Pipeline.ΦA spec0 c from rfl])
    (hout := fun c => by rw [show (dats m 0 c).Φ (Fin.last cfg0.N) = Pipeline.ΦA spec0 c from carried_end m c])
    (hQ' := fun _ h => h)

/-- The arguments end as they were, and no semaphore raised. -/
theorem frame_of_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (frame_of m ρ (dats m) (A_eq m) ((θ_run defs _ _).mono (fun _ h => h.1) (run_quiescent m ρ)))
    ((θ_run defs _ _).mono (fun _ h => h.2) (run_quiescent m ρ))

end Cert.Attn

end
-- ==== Proof.Softmax.lean ====
/-
  The weighted mean under softmax weights, over real numbers, and the ways in which the two programs come to it: from powers
  of two under any shift, and from weights divided by their sum under any shift.
-/
module

public import Idealize.ShloMosaic.PureOps.Ideal.Laws
public import Idealize.ShloMosaic.Lib.IdealHost

@[expose] public section

noncomputable section

namespace Cert.Attn

open Idealize.ShloMosaic

/-! ## Real numbers among the extended reals -/

/-- An extended real that is a real number. -/
def IsReal (x : EReal) : Prop := ∃ r : ℝ, x = (r : EReal)

theorem IsReal.maxOf {x y : EReal} (hx : IsReal x) (hy : IsReal y) : IsReal (max x y) := by
  rcases max_choice x y with h | h <;> rw [h] <;> assumption
theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.sub {x y : EReal} (hx : IsReal x) (hy : IsReal y) : IsReal (x - y) := by
  obtain ⟨a, rfl⟩ := hx; obtain ⟨b, rfl⟩ := hy; exact ⟨a - b, (EReal.coe_sub a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.exp {x : EReal} (hx : IsReal x) : IsReal (Ideal.exp x) := by
  obtain ⟨a, rfl⟩ := hx; exact ⟨Real.exp a, Ideal.exp_coe a⟩

/-- A sum of real numbers is the real sum. -/
theorem coe_sum {ι : Type} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

theorem IsReal.sum {ι : Type} (s : Finset ι) {f : ι → EReal} (h : ∀ i, IsReal (f i)) : IsReal (∑ i ∈ s, f i) := by
  choose g hg using h
  exact ⟨∑ i ∈ s, g i, by rw [coe_sum]; exact Finset.sum_congr rfl fun i _ => hg i⟩

/-- The largest of finitely many real numbers, at least one, is real. -/
theorem IsReal.fold_max {ι : Type} {s : Finset ι} (hs : s.Nonempty) {f : ι → EReal} (h : ∀ i, IsReal (f i)) :
    IsReal (s.fold max ⊥ f) := by
  classical
  induction hs using Finset.Nonempty.cons_induction with
  | singleton a => rw [Finset.fold_singleton, max_bot_right]; exact h a
  | cons a s ha hs ih => rw [Finset.fold_cons]; exact (h a).maxOf ih

theorem ofBits_neg_inf : Ideal.ofBits .f32 0xFF800000#32 = ⊥ := by simp [Ideal.ofBits, Ideal.ieee]

/-- The quotient of two real numbers, the divisor not zero. -/
theorem div_real {x y : ℝ} (h : y ≠ 0) : Ideal.div (x : EReal) (y : EReal) = ((x / y : ℝ) : EReal) := by
  rw [Ideal.div_coe h, ← EReal.coe_mul]; congr 1; field_simp

/-! ## The mean -/

variable {ι κ : Type} [Fintype ι] [Fintype κ]

/-- The mean of the values `v` weighed by the softmax of the scores `s`. -/
def mean (s v : ι → ℝ) : ℝ := (∑ k, v k * Real.exp (s k)) / ∑ k, Real.exp (s k)

theorem mean_equiv (e : κ ≃ ι) (s v : ι → ℝ) : mean (s ∘ e) (v ∘ e) = mean s v := by
  unfold mean
  rw [← e.sum_comp (fun k => v k * Real.exp (s k)), ← e.sum_comp (fun k => Real.exp (s k))]; rfl

/-- From powers of two, whatever number is taken off the scores. -/
theorem mean_pow (s v : ι → ℝ) (m : ℝ) :
    (∑ k, v k * (2 : ℝ) ^ (s k - m)) / (∑ k, (2 : ℝ) ^ (s k - m)) = mean (fun k => Real.log 2 * s k) v := by
  have h (k : ι) : (2 : ℝ) ^ (s k - m) = Real.exp (Real.log 2 * s k) * Real.exp (-(Real.log 2 * m)) := by
    rw [Real.rpow_def_of_pos (by norm_num), ← Real.exp_add]; congr 1; ring
  unfold mean
  simp only [h, ← mul_assoc, ← Finset.sum_mul]
  exact mul_div_mul_right _ _ (Real.exp_pos _).ne'

/-- From the weights, whatever number is taken off the scores. -/
theorem mean_weights (s v : ι → ℝ) (m : ℝ) :
    ∑ k, v k * (Real.exp (s k - m) / ∑ k, Real.exp (s k - m)) = mean s v := by
  have h (k : ι) : Real.exp (s k - m) = Real.exp (s k) * Real.exp (-m) := by rw [← Real.exp_add]; congr 1
  unfold mean
  simp only [h, ← Finset.sum_mul, mul_div_mul_right _ _ (Real.exp_pos (-m)).ne', Finset.sum_div, mul_div_assoc]

/-! ## The output row -/

/-- A row of 128 numbers divided by its root mean square, weighed lane by lane and scaled. -/
def rmsRow (o g : Fin 128 → EReal) (e : Fin 128) : EReal :=
  o e * Ideal.rsqrt (Ideal.div (∑ x, o x * o x) (Ideal.ofBits .f32 0x43000000#32) + Ideal.ofBits .f32 0x358637BD#32)
    * g e * Ideal.ofBits .f32 0x3F4CCCCD#32

/-- The weight of the second component. -/
def lamWeight (x : Fin 4 → Fin 64 → EReal) : EReal :=
  Ideal.exp (∑ d, x 0 d * x 1 d) - Ideal.exp (∑ d, x 2 d * x 3 d) + Ideal.ofBits .f32 0x3E4CCCCD#32

theorem lamWeight_real {x : Fin 4 → Fin 64 → EReal} (h : ∀ i d, IsReal (x i d)) : IsReal (lamWeight x) :=
  ((IsReal.sum _ fun d => (h 0 d).mul (h 1 d)).exp.sub (IsReal.sum _ fun d => (h 2 d).mul (h 3 d)).exp).add
    ⟨_, by simp [Ideal.ofBits, Ideal.ieee]; rfl⟩

/-! ## The attention -/

theorem ofBits_eighth : Ideal.ofBits .f32 0x3E000000#32 = ((1 / 8 : ℝ) : EReal) := by
  simp [Ideal.ofBits, Ideal.ieee]; rw [← EReal.coe_mul]; norm_num
theorem ofBits_two : Ideal.ofBits .f32 0x40000000#32 = ((2 : ℝ) : EReal) := by
  simp [Ideal.ofBits, Ideal.ieee]; rw [← EReal.coe_mul]; norm_num

/-- The queries, keys and values of the attention as real numbers: of the latent tokens, and of the context's. -/
structure Inputs where
  q : Fin 8 → Fin 2048 → Fin 8 → Fin 2 → Fin 64 → ℝ
  kLat : Fin 8 → Fin 2048 → Fin 8 → Fin 2 → Fin 64 → ℝ
  vLat : Fin 8 → Fin 2048 → Fin 8 → Fin 128 → ℝ
  kCtx : Fin 8 → Fin 256 → Fin 8 → Fin 2 → Fin 64 → ℝ
  vCtx : Fin 8 → Fin 256 → Fin 8 → Fin 128 → ℝ

variable (A : Inputs) (b h : Fin 8)

/-- The keys and values in one row, the context's first. -/
def keyOf (i : Fin 2304) (p : Fin 2) (d : Fin 64) : ℝ :=
  if hi : i.val < 256 then A.kCtx b ⟨i.val, hi⟩ h p d else A.kLat b ⟨i.val - 256, by omega⟩ h p d
def valOf (i : Fin 2304) (e : Fin 128) : ℝ :=
  if hi : i.val < 256 then A.vCtx b ⟨i.val, hi⟩ h e else A.vLat b ⟨i.val - 256, by omega⟩ h e

/-- The scaled score of key `i` against query `x`, in component `p`. -/
def scoreOf (p : Fin 2) (x : Fin 2048) (i : Fin 2304) : ℝ := (∑ d, A.q b x h p d * keyOf A b h i p d) * (1 / 8)

/-- The difference of the two components' means. -/
def diffOf (L : ℝ) (x : Fin 2048) (e : Fin 128) : ℝ :=
  mean (scoreOf A b h 0 x) (fun i => valOf A b h i e) - L * mean (scoreOf A b h 1 x) (fun i => valOf A b h i e)

/-- The attention's output. -/
def attnOf (L : ℝ) (g : Fin 128 → EReal) (x : Fin 2048) (e : Fin 128) : EReal :=
  rmsRow (fun e => (diffOf A b h L x e : EReal)) g e

end Cert.Attn

end
-- ==== Proof.Cols.lean ====
/-
  The output block of a tile read at an index over the extended reals: with real queries, keys and values, row `x` is the
  normalized difference of two softmax means of the value columns.
-/
module

public import proofs.«01_k».proof.Proof.Spec
public import proofs.«01_k».proof.Proof.Softmax
public import Idealize.ShloMosaic.Lib.Pointwise

@[expose] public section

set_option maxRecDepth 16384

noncomputable section

namespace Cert.Attn

open Idealize.ShloMosaic Idealize.ShloMosaic.TcCoe
open Cert.KernelIdeal Cert.KernelIdeal.Gen

/-! ## Each operation at an index -/

theorem stacked_select (q0 q1 : Vec Ideal S1x256x128 .bf16) (r : Fin 1024) (d : Fin 128) :
    stacked (F := Ideal) q0 q1 (ix2 r d) = if h : r.val < 512 then
        Scalar.select (IntOp.cmpi .slt (BitVec.ofNat 32 d.val) 64#32)
          (if h' : r.val < 256 then q0 (ix3 0 ⟨r.val, h'⟩ d) else q1 (ix3 0 ⟨r.val - 256, by omega⟩ d)) 0
      else
        Scalar.select (IntOp.cmpi .sge (BitVec.ofNat 32 d.val) 64#32)
          (if h' : r.val - 512 < 256 then q0 (ix3 0 ⟨r.val - 512, h'⟩ d) else q1 (ix3 0 ⟨r.val - 512 - 256, by omega⟩ d)) 0 := by
  unfold stacked
  pointwise

theorem stacked_apply (q0 q1 : Vec Ideal S1x256x128 .bf16) (Q : Fin 512 → Fin 128 → EReal)
    (h0 : ∀ x d, q0 (ix3 0 x d) = Q ⟨x.val, by omega⟩ d) (h1 : ∀ x d, q1 (ix3 0 x d) = Q ⟨256 + x.val, by omega⟩ d)
    (r : Fin 1024) (d : Fin 128) :
    stacked (F := Ideal) q0 q1 (ix2 r d) = if d.val / 64 = r.val / 512 then Q ⟨r.val % 512, by omega⟩ d else 0 := by
  have hd : d.val < 128 := d.isLt
  have hr : r.val < 1024 := r.isLt
  have e1 : IntOp.cmpi .slt (BitVec.ofNat 32 d.val) 64#32 = if d.val < 64 then 1#1 else 0#1 := by
    clear hd; revert d; decide
  have e2 : IntOp.cmpi .sge (BitVec.ofNat 32 d.val) 64#32 = if d.val < 64 then 0#1 else 1#1 := by
    clear hd; revert d; decide
  have g (n : ℕ) (hn : n < 512) : (if h' : n < 256 then q0 (ix3 0 ⟨n, h'⟩ d) else q1 (ix3 0 ⟨n - 256, by omega⟩ d)) = Q ⟨n, hn⟩ d := by
    split
    · exact h0 _ _
    · rw [h1]; congr 1; exact Fin.ext (by show 256 + (n - 256) = n; omega)
  rw [stacked_select, e1, e2]
  by_cases h : r.val < 512 <;> by_cases h' : d.val < 64
  · rw [dif_pos h, if_pos h', if_pos (by omega), g _ h]
    show Q _ d = _
    congr 1; exact Fin.ext (by show r.val = r.val % 512; omega)
  · rw [dif_pos h, if_neg h', if_neg (by omega)]; rfl
  · rw [dif_neg h, if_pos h', if_neg (by omega)]; rfl
  · rw [dif_neg h, if_neg h', if_pos (by omega), g _ (by omega)]
    show Q _ d = _
    congr 1; exact Fin.ext (by show r.val - 512 = r.val % 512; omega)

theorem score_apply (qs : FVec Ideal S1024x128 .bf16) (kb : Vec Ideal S1x256x128 .bf16) (i : Fin 256) (r : Fin 1024) :
    score qs kb (ix2 i r) = ∑ d : Fin 128, kb (ix3 0 i d) * qs (ix2 r d) := by
  unfold score
  pointwise

theorem stored_apply (s : FVec Ideal S256x1024 .f32) (i : Fin 256) (r : Fin 1024) : stored s (ix3 0 i r) = s (ix2 i r) := by
  unfold stored
  pointwise

theorem keyBlk_apply (k : Vec Ideal S1x2304x128 .bf16) (j : Fin 9) (i : Fin 256) (d : Fin 128) :
    keyBlk k j (ix3 0 i d) = k (ix3 0 ⟨256 * j.val + i.val, by omega⟩ d) := by
  unfold keyBlk
  pointwise

theorem valBlk_apply (v : Vec Ideal S1x1x128x2304 .bf16) (j : Fin 9) (i : Fin 256) (d : Fin 128) :
    valBlk v j (ix4 0 0 d i) = v (ix4 0 0 d ⟨256 * j.val + i.val, by omega⟩) := by
  unfold valBlk
  pointwise

theorem expo_apply (m : FVec Ideal S1x1x1024 .f32) (s : Vec Ideal S1x256x1024 .f32) (i : Fin 256) (r : Fin 1024) :
    expo m s (ix2 i r) = Ideal.exp2 (s (ix3 0 i r) - m (ix3 0 0 r)) := by
  unfold expo
  pointwise
  rfl

theorem expoSum_apply (e : FVec Ideal S256x1024 .f32) (r : Fin 1024) :
    expoSum e (ix2 0 r) = ∑ i : Fin 256, e (ix2 i r) := by
  unfold expoSum
  pointwise

theorem weighed_apply (e : FVec Ideal S256x1024 .f32) (v : Vec Ideal S1x1x128x256 .bf16) (d : Fin 128) (r : Fin 1024) :
    weighed e v (ix2 d r) = ∑ i : Fin 256, v (ix4 0 0 d i) * e (ix2 i r) := by
  unfold weighed
  pointwise

theorem sum9_apply {s : Shape} (f : Fin 9 → FVec Ideal s .f32) (x : s.Idx) : sum9 f x = ∑ j, f j x := by
  simp only [sum9, blocks, List.foldl, Fin.sum_univ_succ, Fin.sum_univ_zero, add_zero]
  simp only [addf, Ideal.addf_def, ← add_assoc]
  rfl

theorem lambda_apply (x : Vec Ideal S4x64 .f32) : lambda x (ix2 0 0) = lamWeight fun i d => x (ix2 i d) := by
  unfold lambda lamWeight
  pointwise

theorem differ_apply (acc : FVec Ideal S128x1024 .f32) (l : FVec Ideal S1x1024 .f32) (lam : FVec Ideal S1x1 .f32) (e : Fin 128) (x : Fin 512) :
    differ acc l lam (ix2 e x) = acc (ix2 e ⟨x.val, by omega⟩) * Ideal.div 1 (l (ix2 0 ⟨x.val, by omega⟩))
      - acc (ix2 e ⟨512 + x.val, by omega⟩) * (lam (ix2 0 0) * Ideal.div 1 (l (ix2 0 ⟨512 + x.val, by omega⟩))) := by
  unfold differ
  pointwise

theorem normed_apply (o : FVec Ideal S128x512 .f32) (g : Vec Ideal S1x128 .f32) (e : Fin 128) (x : Fin 512) :
    normed o g (ix3 0 x e) = rmsRow (fun e => o (ix2 e x)) (fun e => g (ix2 0 e)) e := by
  unfold normed rmsRow
  pointwise

/-! ## The column maxima are real -/

theorem runMax_real {a : FVec Ideal S8x1024 .f32} {s : FVec Ideal S256x1024 .f32} (r : Fin 1024)
    (hs : ∀ i, IsReal (s (ix2 i r))) (l : List (Fin 32)) (ha : ∀ i, IsReal (a (ix2 i r))) (i : Fin 8) :
    IsReal (runMax a s l (ix2 i r)) := by
  unfold runMax
  induction l generalizing a with
  | nil => exact ha i
  | cons b l ih =>
    refine ih fun i => (ha i).maxOf ?_
    have : rows8 s b (ix2 i r) = s (ix2 ⟨8 * b.val + i.val, by omega⟩ r) := by
      unfold rows8
      pointwise
    rw [this]; exact hs _

theorem colMax_real {s : Fin 9 → FVec Ideal S256x1024 .f32} (r : Fin 1024) (hs : ∀ j i, IsReal (s j (ix2 i r))) :
    IsReal (colMax s (ix3 0 0 r)) := by
  have h (l : List (Fin 9)) : ∀ a : FVec Ideal S8x1024 .f32, (∀ i, IsReal (a (ix2 i r))) → ∀ i : Fin 8,
      IsReal (l.foldl (fun a j => runMax a (s j) (0 :: later)) a (ix2 i r)) := by
    induction l with
    | nil => exact fun a ha => ha
    | cons j l ih => exact fun a ha => ih _ (runMax_real r (hs j) _ ha)
  have h0 : ∀ i : Fin 8, IsReal (rows8 (s 0) 0 (ix2 i r)) := fun i => by
    have : rows8 (s 0) 0 (ix2 i r) = s 0 (ix2 ⟨i.val, by omega⟩ r) := by
      unfold rows8
      pointwise
    rw [this]; exact hs _ _
  have h1 := h blocks _ (runMax_real r (hs 0) later h0)
  unfold colMax
  generalize blocks.foldl (fun a j => runMax a (s j) (0 :: later)) (runMax (rows8 (s 0) 0) (s 0) later) = a at h1
  pointwise
  rw [ofBits_neg_inf]
  exact IsReal.fold_max ⟨0, Finset.mem_univ _⟩ h1

end Cert.Attn

end
-- ==== Proof.Tile.lean ====
/-
  The output block of a tile whose queries, keys and values are real numbers: every row is the normalized difference of two
  softmax means of the values.
-/
module

public import proofs.«01_k».proof.Proof.Cols

@[expose] public section

set_option maxRecDepth 16384

noncomputable section

namespace Cert.Attn

open Idealize.ShloMosaic Idealize.ShloMosaic.TcCoe
open Cert.KernelIdeal Cert.KernelIdeal.Gen

/-- A sum block by block. -/
theorem sum_blocks {M : Type} [AddCommMonoid M] (m n N : ℕ) (hN : m * n = N) (f : Fin N → M) :
    ∑ k, f k = ∑ j : Fin m, ∑ i : Fin n, f ⟨n * j.val + i.val, by
      have := j.isLt; have := i.isLt; have : n * (j.val + 1) ≤ n * m := Nat.mul_le_mul_left _ j.isLt
      rw [Nat.mul_comm n m] at this; rw [Nat.mul_add] at this; omega⟩ := by
  subst hN
  rw [← finProdFinEquiv.sum_comp, Fintype.sum_prod_type]
  refine Finset.sum_congr rfl fun j _ => Finset.sum_congr rfl fun i _ => congrArg f (Fin.ext ?_)
  show i.val + n * j.val = n * j.val + i.val
  omega

/-- Of 128 lanes, those of one component remain. -/
theorem sum_component (c : Fin 2) (f g : Fin 128 → ℝ) :
    ∑ d : Fin 128, f d * (if d.val / 64 = c.val then g d else 0)
      = ∑ d : Fin 64, f ⟨64 * c.val + d.val, by omega⟩ * g ⟨64 * c.val + d.val, by omega⟩ := by
  rw [sum_blocks 2 64 128 rfl, Finset.sum_eq_single c]
  · refine Finset.sum_congr rfl fun d _ => ?_
    rw [if_pos (by show (64 * c.val + d.val) / 64 = c.val; omega)]
  · intro b _ hb
    refine Finset.sum_eq_zero fun d _ => ?_
    rw [if_neg (by
      have : b.val ≠ c.val := fun h => hb (Fin.ext h)
      show ¬ (64 * b.val + d.val) / 64 = c.val; omega), mul_zero]
  · exact fun h => absurd (Finset.mem_univ _) h

/-- The score of key `i` against query `x` in component `c`. -/
def dotScore (Q : Fin 512 → Fin 128 → ℝ) (K : Fin 2304 → Fin 128 → ℝ) (c : Fin 2) (x : Fin 512) (i : Fin 2304) : ℝ :=
  ∑ d : Fin 64, K i ⟨64 * c.val + d.val, by omega⟩ * Q x ⟨64 * c.val + d.val, by omega⟩

variable (q0 q1 : Vec Ideal S1x256x128 .bf16) (k : Vec Ideal S1x2304x128 .bf16) (v : Vec Ideal S1x1x128x2304 .bf16)
  (lam : Vec Ideal S4x64 .f32) (g : Vec Ideal S1x128 .f32)
  (Q : Fin 512 → Fin 128 → ℝ) (K V : Fin 2304 → Fin 128 → ℝ) (L : ℝ)
  (hq0 : ∀ (x : Fin 256) d, q0 (ix3 0 x d) = (Q ⟨x.val, by omega⟩ d : EReal))
  (hq1 : ∀ (x : Fin 256) d, q1 (ix3 0 x d) = (Q ⟨256 + x.val, by omega⟩ d : EReal))
  (hk : ∀ i d, k (ix3 0 i d) = (K i d : EReal)) (hv : ∀ d i, v (ix4 0 0 d i) = (V i d : EReal))
  (hL : (lamWeight fun i d => lam (ix2 i d)) = (L : EReal))

include hq0 hq1 hk in
theorem score_real (j : Fin 9) (i : Fin 256) (c : Fin 2) (x : Fin 512) :
    score (stacked q0 q1) (keyBlk k j) (ix2 i ⟨512 * c.val + x.val, by omega⟩)
      = (dotScore Q K c x ⟨256 * j.val + i.val, by omega⟩ : EReal) := by
  rw [score_apply]
  have hs := stacked_apply q0 q1 (fun x d => (Q x d : EReal)) hq0 hq1 ⟨512 * c.val + x.val, by omega⟩
  have e1 : (512 * c.val + x.val) / 512 = c.val := by omega
  have e2 : (⟨(512 * c.val + x.val) % 512, by omega⟩ : Fin 512) = x := Fin.ext (by show (512 * c.val + x.val) % 512 = x.val; omega)
  dsimp only at hs
  rw [e1, e2] at hs
  unfold dotScore
  rw [← sum_component c (K ⟨256 * j.val + i.val, by omega⟩) (Q x), coe_sum]
  refine Finset.sum_congr rfl fun d _ => ?_
  rw [hs, keyBlk_apply, hk, EReal.coe_mul]
  split <;> simp

include hq0 hq1 hk in
theorem maxima_real (c : Fin 2) (x : Fin 512) :
    IsReal (maxima q0 q1 k (ix3 0 0 ⟨512 * c.val + x.val, by omega⟩)) :=
  colMax_real _ fun j i => ⟨_, score_real q0 q1 k Q K hq0 hq1 hk j i c x⟩

include hq0 hq1 hk in
/-- The powers of two of a block's scores, -/
theorem exps_real (m : FVec Ideal S1x1x1024 .f32) (M : ℝ) (c : Fin 2) (x : Fin 512)
    (hm : m (ix3 0 0 ⟨512 * c.val + x.val, by omega⟩) = (M : EReal)) (j : Fin 9) (i : Fin 256) :
    expo m (scores q0 q1 k j) (ix2 i ⟨512 * c.val + x.val, by omega⟩)
      = (((2 : ℝ) ^ (dotScore Q K c x ⟨256 * j.val + i.val, by omega⟩ - M) : ℝ) : EReal) := by
  rw [expo_apply, hm]
  unfold scores
  rw [stored_apply, score_real q0 q1 k Q K hq0 hq1 hk j i c x, ← EReal.coe_sub, Ideal.exp2_coe]
  rfl

include hq0 hq1 hk hv in
/-- their sum over all keys, and the sum of the values weighed by them. -/
theorem sums_real (c : Fin 2) (x : Fin 512) (M : ℝ)
    (hm : maxima q0 q1 k (ix3 0 0 ⟨512 * c.val + x.val, by omega⟩) = (M : EReal)) (e : Fin 128) :
    (sum9 fun j => expoSum (expo (maxima q0 q1 k) (scores q0 q1 k j))) (ix2 0 ⟨512 * c.val + x.val, by omega⟩)
        = ((∑ i, (2 : ℝ) ^ (dotScore Q K c x i - M) : ℝ) : EReal)
      ∧ (sum9 fun j => weighed (expo (maxima q0 q1 k) (scores q0 q1 k j)) (valBlk v j)) (ix2 e ⟨512 * c.val + x.val, by omega⟩)
        = ((∑ i, V i e * (2 : ℝ) ^ (dotScore Q K c x i - M) : ℝ) : EReal) := by
  constructor
  · rw [sum9_apply, sum_blocks 9 256 2304 rfl, coe_sum]
    refine Finset.sum_congr rfl fun j _ => ?_
    rw [expoSum_apply, coe_sum]
    exact Finset.sum_congr rfl fun i _ => exps_real q0 q1 k Q K hq0 hq1 hk _ M c x hm j i
  · rw [sum9_apply, sum_blocks 9 256 2304 rfl, coe_sum]
    refine Finset.sum_congr rfl fun j _ => ?_
    rw [weighed_apply, coe_sum]
    refine Finset.sum_congr rfl fun i _ => ?_
    rw [exps_real q0 q1 k Q K hq0 hq1 hk _ M c x hm j i, valBlk_apply, hv, ← EReal.coe_mul]

/-- The softmax mean of component `c` at row `x`, lane `e`. -/
def tileMean (c : Fin 2) (x : Fin 512) (e : Fin 128) : ℝ := mean (fun i => Real.log 2 * dotScore Q K c x i) (fun i => V i e)

include hq0 hq1 hk hv hL in
theorem rowsOut_real (x : Fin 512) (e : Fin 128) :
    rowsOut (scores q0 q1 k) (maxima q0 q1 k) v lam g (ix3 0 x e)
      = rmsRow (fun e => ((tileMean Q K V 0 x e - L * tileMean Q K V 1 x e : ℝ) : EReal)) (fun e => g (ix2 0 e)) e := by
  unfold rowsOut
  rw [normed_apply]
  congr 1
  funext e
  obtain ⟨M0, h0⟩ := maxima_real q0 q1 k Q K hq0 hq1 hk 0 x
  obtain ⟨M1, h1⟩ := maxima_real q0 q1 k Q K hq0 hq1 hk 1 x
  obtain ⟨l0, a0⟩ := sums_real q0 q1 k v Q K V hq0 hq1 hk hv 0 x M0 h0 e
  obtain ⟨l1, a1⟩ := sums_real q0 q1 k v Q K V hq0 hq1 hk hv 1 x M1 h1 e
  have e0 (h : 512 * ((0 : Fin 2) : ℕ) + x.val < 1024) : (⟨512 * ((0 : Fin 2) : ℕ) + x.val, h⟩ : Fin 1024) = ⟨x.val, by omega⟩ :=
    Fin.ext (by show 512 * 0 + x.val = x.val; omega)
  have e1 (h : 512 * ((1 : Fin 2) : ℕ) + x.val < 1024) : (⟨512 * ((1 : Fin 2) : ℕ) + x.val, h⟩ : Fin 1024) = ⟨512 + x.val, by omega⟩ :=
    Fin.ext (by show 512 * 1 + x.val = 512 + x.val; omega)
  rw [e0] at l0 a0
  rw [e1] at l1 a1
  have pos (c : Fin 2) (M : ℝ) : (∑ i, (2 : ℝ) ^ (dotScore Q K c x i - M)) ≠ 0 :=
    (Finset.sum_pos (fun i _ => Real.rpow_pos_of_pos (by norm_num) _) ⟨0, Finset.mem_univ _⟩).ne'
  rw [differ_apply, l0, l1, a0, a1, lambda_apply, hL]
  rw [Ideal.div_coe (pos 0 M0), Ideal.div_coe (pos 1 M1), one_mul, one_mul]
  simp only [← EReal.coe_mul, ← EReal.coe_sub]
  unfold tileMean
  rw [← mean_pow _ _ M0, ← mean_pow _ _ M1]
  congr 1
  ring

end Cert.Attn

end
-- ==== Proof.Entry.lean ====
/-
  The blocks that the windows of a grid point hold, read off the arguments: the queries (scaled), keys, values and lane
  weights of the point's batch, head and 512 queries.
-/
module

public import proofs.«01_k».proof.Proof.Body
public import proofs.«01_k».proof.Proof.Tile
public import Idealize.ShloMosaic.Lib.Pipeline.ValueKit

@[expose] public section

set_option maxRecDepth 16384

noncomputable section

namespace Cert.Attn

open Idealize.ShloMosaic Idealize.ShloMosaic.TcCoe Idealize.ShloMosaic.Tactic
open Cert.KernelIdeal Cert.KernelIdeal.Gen

variable (m : (ℓ : Loc nD τ sig) → Buf (Elt Ideal) ℓ) (c : Dev nD)

/-- The arguments as arrays of extended reals. -/
abbrev arg0 : S8x2048x8x2x64.Idx → EReal := m ((c.tc : Thread nD τ).loc main_arg0)
abbrev arg1 : S8x2048x8x2x64.Idx → EReal := m ((c.tc : Thread nD τ).loc main_arg1)
abbrev arg2 : S8x2048x8x128.Idx → EReal := m ((c.tc : Thread nD τ).loc main_arg2)
abbrev arg4 : S8x256x8x2x64.Idx → EReal := m ((c.tc : Thread nD τ).loc main_arg4)
abbrev arg5 : S8x256x8x128.Idx → EReal := m ((c.tc : Thread nD τ).loc main_arg5)
abbrev arg6 : S4x64.Idx → EReal := m ((c.tc : Thread nD τ).loc main_arg6)
abbrev arg7 : S128.Idx → EReal := m ((c.tc : Thread nD τ).loc main_arg7)

/-! ## The operands of the call -/

theorem entry_q_at (b : Fin 8) (r : Fin 2048) (l : Fin 1024) :
    (V m c main_v9 (ix3 b ⟨256 + r.val, by omega⟩ l) : EReal)
      = Ideal.div (arg0 m c (ix5 b r ⟨l.val / 128, by omega⟩ ⟨l.val / 64 % 2, by omega⟩ ⟨l.val % 64, by omega⟩)
          * Ideal.ofBits .f32 0x3E000000#32) (Ideal.log (Ideal.ofBits .f32 0x40000000#32)) := by
  entry_read
  pointwise

theorem entry_k_at (b : Fin 8) (r : Fin 2304) (l : Fin 1024) :
    (V m c main_v11 (ix3 b r l) : EReal) = if hr : r.val < 256
      then arg4 m c (ix5 b ⟨r.val, hr⟩ ⟨l.val / 128, by omega⟩ ⟨l.val / 64 % 2, by omega⟩ ⟨l.val % 64, by omega⟩)
      else arg1 m c (ix5 b ⟨r.val - 256, by omega⟩ ⟨l.val / 128, by omega⟩ ⟨l.val / 64 % 2, by omega⟩ ⟨l.val % 64, by omega⟩) := by
  entry_read
  pointwise

/-- Lane `64·p + d` of head `h`. -/
theorem lane_split (h : Fin 8) (p : Fin 2) (d : Fin 64) :
    (⟨(128 * h.val + (64 * p.val + d.val)) / 128, by omega⟩ : Fin 8) = h
      ∧ (⟨(128 * h.val + (64 * p.val + d.val)) / 64 % 2, by omega⟩ : Fin 2) = p
      ∧ (⟨(128 * h.val + (64 * p.val + d.val)) % 64, by omega⟩ : Fin 64) = d :=
  ⟨Fin.ext (by dsimp only; omega), Fin.ext (by dsimp only; omega), Fin.ext (by dsimp only; omega)⟩

theorem entry_q (b : Fin 8) (r : Fin 2048) (h : Fin 8) (p : Fin 2) (d : Fin 64) :
    (V m c main_v9 (ix3 b ⟨256 + r.val, by omega⟩ ⟨128 * h.val + (64 * p.val + d.val), by omega⟩) : EReal)
      = Ideal.div (arg0 m c (ix5 b r h p d) * Ideal.ofBits .f32 0x3E000000#32) (Ideal.log (Ideal.ofBits .f32 0x40000000#32)) := by
  obtain ⟨e2, e3, e4⟩ := lane_split h p d
  rw [entry_q_at]
  dsimp only
  rw [e2, e3, e4]

theorem entry_k (b : Fin 8) (r : Fin 2304) (h : Fin 8) (p : Fin 2) (d : Fin 64) :
    (V m c main_v11 (ix3 b r ⟨128 * h.val + (64 * p.val + d.val), by omega⟩) : EReal)
      = if hr : r.val < 256 then arg4 m c (ix5 b ⟨r.val, hr⟩ h p d) else arg1 m c (ix5 b ⟨r.val - 256, by omega⟩ h p d) := by
  obtain ⟨e2, e3, e4⟩ := lane_split h p d
  rw [entry_k_at]
  dsimp only
  rw [e2, e3, e4]

theorem entry_v (b : Fin 8) (r : Fin 2304) (h : Fin 8) (l : Fin 128) :
    (V m c main_v13 (ix4 b h l r) : EReal)
      = if hr : r.val < 256 then arg5 m c (ix4 b ⟨r.val, hr⟩ h l) else arg2 m c (ix4 b ⟨r.val - 256, by omega⟩ h l) := by
  entry_read
  pointwise

theorem entry_g (l : Fin 128) : (V m c main_v14 (ix2 0 l) : EReal) = arg7 m c (ix1 l) := by
  entry_read
  pointwise

/-! ## The windows' index maps -/

theorem index0 : ∀ t : Fin cfg0.N, t.val < 256 → win0_0.index t = ![t.val / 32, 1 + 2 * (t.val % 4), t.val / 4 % 8] :=
  (by decide +kernel : ∀ t : Fin grid0.N, t.val < 256 → win0_0.index t = ![t.val / 32, 1 + 2 * (t.val % 4), t.val / 4 % 8])
theorem index1 : ∀ t : Fin cfg0.N, t.val < 256 → win0_1.index t = ![t.val / 32, 2 + 2 * (t.val % 4), t.val / 4 % 8] :=
  (by decide +kernel : ∀ t : Fin grid0.N, t.val < 256 → win0_1.index t = ![t.val / 32, 2 + 2 * (t.val % 4), t.val / 4 % 8])
theorem index2 : ∀ t : Fin cfg0.N, t.val < 256 → win0_2.index t = ![t.val / 32, 0, t.val / 4 % 8] :=
  (by decide +kernel : ∀ t : Fin grid0.N, t.val < 256 → win0_2.index t = ![t.val / 32, 0, t.val / 4 % 8])
theorem index3 : ∀ t : Fin cfg0.N, 0 < t.val → win0_3.index t = ![(t.val - 1) / 32, (t.val - 1) / 4 % 8, 0, 0] :=
  (by decide +kernel : ∀ t : Fin grid0.N, 0 < t.val → win0_3.index t = ![(t.val - 1) / 32, (t.val - 1) / 4 % 8, 0, 0])
theorem index4 : ∀ t : Fin cfg0.N, win0_4.index t = ![0, 0] := (by decide +kernel : ∀ t : Fin grid0.N, win0_4.index t = ![0, 0])
theorem index5 : ∀ t : Fin cfg0.N, win0_5.index t = ![0, 0] := (by decide +kernel : ∀ t : Fin grid0.N, win0_5.index t = ![0, 0])
theorem index6 : ∀ t : Fin cfg0.N, 0 < t.val → win0_6.index t = ![(t.val - 1) / 32, (t.val - 1) % 4, (t.val - 1) / 4 % 8] :=
  (by decide +kernel : ∀ t : Fin grid0.N, 0 < t.val → win0_6.index t = ![(t.val - 1) / 32, (t.val - 1) % 4, (t.val - 1) / 4 % 8])

/-! ## The blocks -/

theorem block0 (t : Fin cfg0.N) (ht : t.val < 256) (x : Fin 256) (l : Fin 128) :
    iblk m c 0 t (ix3 0 x l) = V m c main_v9 (ix3 ⟨t.val / 32, by omega⟩ ⟨256 + (512 * (t.val % 4) + x.val), by omega⟩
      ⟨128 * (t.val / 4 % 8) + l.val, by omega⟩) := by
  blk_ext [iblk, index0 t ht]

theorem block1 (t : Fin cfg0.N) (ht : t.val < 256) (x : Fin 256) (l : Fin 128) :
    iblk m c 1 t (ix3 0 x l) = V m c main_v9 (ix3 ⟨t.val / 32, by omega⟩ ⟨256 + (512 * (t.val % 4) + (256 + x.val)), by omega⟩
      ⟨128 * (t.val / 4 % 8) + l.val, by omega⟩) := by
  blk_ext [iblk, index1 t ht]

theorem read2 (X : S8x2304x1024.Idx → EReal) (t : Fin cfg0.N) (ht : t.val < 256) (i : Fin 2304) (l : Fin 128) :
    (win0_2.blk t).view.read (Elt Ideal) X (ix3 0 i l) = X (ix3 ⟨t.val / 32, by omega⟩ i ⟨128 * (t.val / 4 % 8) + l.val, by omega⟩) := by
  blk_ext [index2 t ht]

theorem block2 (t : Fin cfg0.N) (ht : t.val < 256) (i : Fin 2304) (l : Fin 128) :
    iblk m c 2 t (ix3 0 i l) = V m c main_v11 (ix3 ⟨t.val / 32, by omega⟩ i ⟨128 * (t.val / 4 % 8) + l.val, by omega⟩) :=
  read2 (V m c (Pipeline.arrRef spec0 2)) t ht i l

theorem block3 (t : Fin cfg0.N) (ht : 0 < t.val) (i : Fin 2304) (l : Fin 128) :
    iblk m c 3 t (ix4 0 0 l i) = V m c main_v13 (ix4 ⟨(t.val - 1) / 32, by have : t.val < 257 := t.isLt; omega⟩
      ⟨(t.val - 1) / 4 % 8, by omega⟩ l i) := by
  blk_ext [iblk, index3 t ht]

theorem block4 (t : Fin cfg0.N) (i : Fin 4) (l : Fin 64) : (iblk m c 4 t (ix2 i l) : EReal) = arg6 m c (ix2 i l) := by
  blk_ext [iblk, index4 t, V_main_arg6]

theorem block5 (t : Fin cfg0.N) (l : Fin 128) : iblk m c 5 t (ix2 0 l) = V m c main_v14 (ix2 0 l) := by
  blk_ext [iblk, index5 t]

end Cert.Attn

end
-- ==== Proof.Final.lean ====
/-
  What the call leaves in its result array, for real queries, keys and values: the attention's output of every batch, query
  and head.
-/
module

public import proofs.«01_k».proof.Proof.Entry

@[expose] public section

set_option maxRecDepth 16384

noncomputable section

namespace Cert.Attn

open Idealize.ShloMosaic Idealize.ShloMosaic.TcCoe Idealize.ShloMosaic.Tactic
open Cert.KernelIdeal Cert.KernelIdeal.Gen

variable (m : (ℓ : Loc nD τ sig) → Buf (Elt Ideal) ℓ) (c : Dev nD)

/-- The arguments are the real numbers `A`, and the weight of the second component is `L`. -/
structure Holds (A : Inputs) (L : ℝ) : Prop where
  q : ∀ b x h p d, arg0 m c (ix5 b x h p d) = (A.q b x h p d : EReal)
  kLat : ∀ b x h p d, arg1 m c (ix5 b x h p d) = (A.kLat b x h p d : EReal)
  vLat : ∀ b x h e, arg2 m c (ix4 b x h e) = (A.vLat b x h e : EReal)
  kCtx : ∀ b x h p d, arg4 m c (ix5 b x h p d) = (A.kCtx b x h p d : EReal)
  vCtx : ∀ b x h e, arg5 m c (ix4 b x h e) = (A.vCtx b x h e : EReal)
  lam : (lamWeight fun i d => arg6 m c (ix2 i d)) = (L : EReal)

variable {m c} {A : Inputs} {L : ℝ} (H : Holds m c A L)

include H in
theorem query_real (b : Fin 8) (x : Fin 2048) (h : Fin 8) (p : Fin 2) (d : Fin 64) :
    (V m c main_v9 (ix3 b ⟨256 + x.val, by omega⟩ ⟨128 * h.val + (64 * p.val + d.val), by omega⟩) : EReal)
      = ((A.q b x h p d * (1 / 8) / Real.log 2 : ℝ) : EReal) := by
  have h2 : Real.log 2 ≠ 0 := (Real.log_pos (by norm_num)).ne'
  rw [entry_q, H.q, ofBits_eighth, ofBits_two, Ideal.log_coe, if_neg (by norm_num), ← EReal.coe_mul, div_real h2]

include H in
theorem key_real (b : Fin 8) (i : Fin 2304) (h : Fin 8) (p : Fin 2) (d : Fin 64) :
    (V m c main_v11 (ix3 b i ⟨128 * h.val + (64 * p.val + d.val), by omega⟩) : EReal) = (keyOf A b h i p d : EReal) := by
  rw [entry_k]
  unfold keyOf
  split
  · exact H.kCtx _ _ _ _ _
  · exact H.kLat _ _ _ _ _

include H in
theorem val_real (b : Fin 8) (i : Fin 2304) (h : Fin 8) (e : Fin 128) :
    (V m c main_v13 (ix4 b h e i) : EReal) = (valOf A b h i e : EReal) := by
  rw [entry_v]
  unfold valOf
  split
  · exact H.vCtx _ _ _ _
  · exact H.vLat _ _ _ _

/-- A lane of a head by component. -/
theorem lane_eq (l : Fin 128) : (⟨64 * (l.val / 64) + l.val % 64, by omega⟩ : Fin 128) = l := Fin.ext (by dsimp only; omega)

include H in
/-- The block that point `t` leaves is the attention's output at its tile. -/
theorem tileOut_real (t : Fin cfg0.N) (ht : 0 < t.val) (x : Fin 512) (e : Fin 128) :
    (tileOut m c t (ix3 0 x e) : EReal)
      = attnOf A ⟨(t.val - 1) / 32, by have : t.val < 257 := t.isLt; omega⟩ ⟨(t.val - 1) / 4 % 8, by omega⟩ L
          (fun e => arg7 m c (ix1 e)) ⟨512 * ((t.val - 1) % 4) + x.val, by omega⟩ e := by
  have hN : t.val < 257 := t.isLt
  have hp : (prev t).val < 256 := by show t.val - 1 < 256; omega
  generalize hb : (⟨(t.val - 1) / 32, by omega⟩ : Fin 8) = b
  generalize hh : (⟨(t.val - 1) / 4 % 8, by omega⟩ : Fin 8) = h
  have hbv : (t.val - 1) / 32 = b.val := congrArg Fin.val hb
  have hhv : (t.val - 1) / 4 % 8 = h.val := congrArg Fin.val hh
  let Q : Fin 512 → Fin 128 → ℝ := fun x l =>
    A.q b ⟨512 * ((t.val - 1) % 4) + x.val, by omega⟩ h ⟨l.val / 64, by omega⟩ ⟨l.val % 64, by omega⟩ * (1 / 8) / Real.log 2
  let K : Fin 2304 → Fin 128 → ℝ := fun i l => keyOf A b h i ⟨l.val / 64, by omega⟩ ⟨l.val % 64, by omega⟩
  have hlane (l : Fin 128) (hl) : (⟨128 * ((prev t).val / 4 % 8) + l.val, hl⟩ : Fin 1024)
      = ⟨128 * h.val + (64 * (l.val / 64) + l.val % 64), by omega⟩ := Fin.ext (by
    show 128 * ((t.val - 1) / 4 % 8) + l.val = _; dsimp only; omega)
  have hbatch (hl) : (⟨(prev t).val / 32, hl⟩ : Fin 8) = b := hb
  have hq0 : ∀ (x : Fin 256) l, (iblk m c 0 (prev t) (ix3 0 x l) : EReal) = (Q ⟨x.val, by omega⟩ l : EReal) := fun x l => by
    rw [block0 m c (prev t) hp, hlane, hbatch]
    exact query_real H b ⟨512 * ((t.val - 1) % 4) + x.val, by omega⟩ h ⟨l.val / 64, by omega⟩ ⟨l.val % 64, by omega⟩
  have hq1 : ∀ (x : Fin 256) l, (iblk m c 1 (prev t) (ix3 0 x l) : EReal) = (Q ⟨256 + x.val, by omega⟩ l : EReal) := fun x l => by
    rw [block1 m c (prev t) hp, hlane, hbatch]
    exact query_real H b ⟨512 * ((t.val - 1) % 4) + (256 + x.val), by omega⟩ h ⟨l.val / 64, by omega⟩ ⟨l.val % 64, by omega⟩
  have hk : ∀ i l, (iblk m c 2 (prev t) (ix3 0 i l) : EReal) = (K i l : EReal) := fun i l => by
    rw [block2 m c (prev t) hp, hlane, hbatch]
    exact key_real H b i h ⟨l.val / 64, by omega⟩ ⟨l.val % 64, by omega⟩
  have hv : ∀ l i, (iblk m c 3 t (ix4 0 0 l i) : EReal) = (valOf A b h i l : EReal) := fun l i => by
    rw [block3 m c t ht, hb, hh]
    exact val_real H b i h l
  have hL : (lamWeight fun i d => (iblk m c 4 t (ix2 i d) : EReal)) = (L : EReal) := by
    simp only [block4]; exact H.lam
  have hg : (fun e => (iblk m c 5 t (ix2 0 e) : EReal)) = fun e => arg7 m c (ix1 e) := funext fun e => by
    rw [block5, entry_g]
  have hr := rowsOut_real (iblk m c 0 (prev t)) (iblk m c 1 (prev t)) (iblk m c 2 (prev t)) (iblk m c 3 t) (iblk m c 4 t)
    (iblk m c 5 t) Q K (valOf A b h) L hq0 hq1 hk hv hL x e
  have hs (p : Fin 2) : (fun i => Real.log 2 * dotScore Q K p x i) = scoreOf A b h p ⟨512 * ((t.val - 1) % 4) + x.val, by omega⟩ := by
    have h2 : Real.log 2 ≠ 0 := (Real.log_pos (by norm_num)).ne'
    funext i
    unfold dotScore scoreOf
    rw [Finset.mul_sum, Finset.sum_mul]
    refine Finset.sum_congr rfl fun d _ => ?_
    have e1 : (⟨(64 * p.val + d.val) / 64, by omega⟩ : Fin 2) = p := Fin.ext (by dsimp only; omega)
    have e2 : (⟨(64 * p.val + d.val) % 64, by omega⟩ : Fin 64) = d := Fin.ext (by dsimp only; omega)
    dsimp only [Q, K]
    rw [e1, e2]
    field_simp
  unfold tileOut tileScores tileMaxima
  refine hr.trans ?_
  unfold attnOf diffOf tileMean
  rw [hs 0, hs 1, hg]

/-- The result array: lane `128·h + e` of query `x` is lane `e` of head `h`. -/
def attnArray (A : Inputs) (L : ℝ) (g : Fin 128 → EReal) : S8x2048x1024.Idx → EReal := fun i =>
  attnOf A (i 0) ⟨(i 2).val / 128, by have : (i 2).val < 1024 := (i 2).isLt; omega⟩ L g (i 1) ⟨(i 2).val % 128, by omega⟩

include H in
theorem final_array : (dats m 0 c).arrAt 6 cfg0.N = attnArray A L fun e => arg7 m c (ix1 e) := by
  refine (dats m 0 c).arrAt_eq_of_covers 6 _ (by decide +kernel) fun t hf y => ?_
  have ht : 0 < t.val := (flush_iff t).1 hf
  have hN : t.val < 257 := t.isLt
  blk_simp
  rw [after6]
  have hy0 : (y 0).val < 1 := (y 0).isLt
  have hy1 : (y 1).val < 512 := (y 1).isLt
  have hy2 : (y 2).val < 128 := (y 2).isLt
  have hy : y = ix3 (⟨0, by omega⟩ : Fin 1) (⟨(y 1).val, hy1⟩ : Fin 512) (⟨(y 2).val, hy2⟩ : Fin 128) := by
    funext k; fin_cases k
    · exact Fin.ext (by show (y 0).val = 0; omega)
    · rfl
    · rfl
  have e0 : ((win0_6.blk t).view.emb y 0).val = (t.val - 1) / 32 := by
    blk_simp [index6 t ht]
  have e1 : ((win0_6.blk t).view.emb y 1).val = 512 * ((t.val - 1) % 4) + (y 1).val := by
    blk_simp [index6 t ht]; omega
  have e2 : ((win0_6.blk t).view.emb y 2).val = 128 * ((t.val - 1) / 4 % 8) + (y 2).val := by
    blk_simp [index6 t ht]; omega
  refine (congrArg _ hy).trans ((tileOut_real H t ht _ _).trans ?_)
  unfold attnArray
  congr 1
  · exact Fin.ext e0.symm
  · exact Fin.ext (by show (t.val - 1) / 4 % 8 = _ / 128; rw [e2]; omega)
  · exact Fin.ext e1.symm
  · exact Fin.ext (by show (y 2).val = _ % 128; rw [e2]; omega)

end Cert.Attn

end
-- ==== Proof.Same.lean ====
module

public import proofs.«01_k».proof.Defs
public import proofs.«01_k».proof.Proof.Gen.Kernel
public import proofs.«01_k».proof.Proof.Gen.KernelIdeal

/-! # The kernel on bit patterns and the kernel on real numbers are one program

The two are the same text; here their body tables are said to be equal, at the bit patterns, so that
what is proved of the one, over any number format, is a statement on the other. -/

@[expose] public section

set_option maxRecDepth 100000

namespace Cert.Attn

open Idealize.ShloMosaic

/-- The body of one grid step. -/
theorem body_same : @Kernel.cc0_attention_lat Bits _ Kernel.Gen.facts
    = @KernelIdeal.cc0_attention_lat Bits _ KernelIdeal.Gen.facts := by
  unfold Kernel.cc0_attention_lat KernelIdeal.cc0_attention_lat
  with_unfolding_all rfl

/-- The table of the bodies. -/
theorem table_same : @Kernel.defs₀ Bits _ Kernel.Gen.facts = @KernelIdeal.defs₀ Bits _ KernelIdeal.Gen.facts := by
  unfold Kernel.defs₀ KernelIdeal.defs₀
  rw [body_same]
  refine congrArg Defs.onTc (funext fun l => funext fun a => ?_)
  match l, a with
  | 0, (t, s) => with_unfolding_all rfl

/-- The table with the pipeline's own entries. -/
theorem defs_same : @Kernel.defs Bits _ Kernel.Gen.facts = @KernelIdeal.defs Bits _ KernelIdeal.Gen.facts :=
  congrArg (Pipeline.defs (KernelIdeal.pcfgs (F := Bits))) table_same

end Cert.Attn
-- ==== Proof.Reads.lean ====
/-
  The reference's operations read at an index: the joined keys and values, the scores, the softmax's weights, their
  difference, and the rows of the output.
-/
module

public import Idealize.ShloMosaic.Lib.Pointwise
public import Idealize.ShloMosaic.Lib.IdealHost
public import proofs.«01_k».proof.Proof.Gen.ReferenceIdeal.Read
public import proofs.«01_k».proof.Proof.Softmax

@[expose] public section

set_option maxRecDepth 16384

noncomputable section

namespace Cert.Attn

open Idealize.ShloMosaic Idealize.ShloMosaic.Tactic
open Cert.ReferenceIdeal Cert.ReferenceIdeal.Gen Cert.ReferenceIdeal.Read

variable (x0 x1 : (⟨S8x2048x8x2x64, .f32⟩ : BufTy).Contents (Elt Ideal)) (x2 : (⟨S8x2048x8x128, .f32⟩ : BufTy).Contents (Elt Ideal))
  (x4 : (⟨S8x256x8x2x64, .f32⟩ : BufTy).Contents (Elt Ideal)) (x5 : (⟨S8x256x8x128, .f32⟩ : BufTy).Contents (Elt Ideal))
  (x6 : (⟨S4x64, .f32⟩ : BufTy).Contents (Elt Ideal)) (x7 : (⟨S128, .f32⟩ : BufTy).Contents (Elt Ideal))

theorem ref_key (b : Fin 8) (k : Fin 2304) (h : Fin 8) (p : Fin 2) (d : Fin 64) :
    val_main_v16 (F := Ideal) x1 x4 (ix5 b k h p d)
      = if hk : k.val < 2048 then x1 (ix5 b ⟨k.val, hk⟩ h p d) else x4 (ix5 b ⟨k.val - 2048, by omega⟩ h p d) := by
  unfold val_main_v16
  pointwise

theorem ref_val (b : Fin 8) (k : Fin 2304) (h : Fin 8) (e : Fin 128) :
    val_main_v17 (F := Ideal) x2 x5 (ix4 b k h e)
      = if hk : k.val < 2048 then x2 (ix4 b ⟨k.val, hk⟩ h e) else x5 (ix4 b ⟨k.val - 2048, by omega⟩ h e) := by
  unfold val_main_v17
  pointwise

theorem ref_score (b h : Fin 8) (p : Fin 2) (q : Fin 2048) (k : Fin 2304) :
    val_main_v20 (F := Ideal) x0 x1 x4 (ix5 b h p q k)
      = (∑ d : Fin 64, x0 (ix5 b q h p d) * val_main_v16 (F := Ideal) x1 x4 (ix5 b k h p d)) * Ideal.ofBits .f32 0x3E000000#32 := by
  rw [val_main_v20_apply, val_main_v18_apply, val_main_v19_apply, val_main_cst_2_apply]
  refine congrArg (· * _) (Finset.sum_congr rfl fun d _ => congrArg₂ (x0 · * val_main_v16 (F := Ideal) x1 x4 ·) ?_ ?_) <;>
    exact funext fun a => match a with | ⟨0, _⟩ => rfl | ⟨1, _⟩ => rfl | ⟨2, _⟩ => rfl | ⟨3, _⟩ => rfl | ⟨4, _⟩ => rfl

/-- The largest score of a query is real where the scores are. -/
theorem ref_max_real (hy : ∀ i, IsReal (val_main_v20 (F := Ideal) x0 x1 x4 i)) (i : S8x8x2x2048.Idx) :
    IsReal (val_main_v23 (F := Ideal) x0 x1 x4 i) := by
  rw [val_main_v23_apply, val_main_v22_apply, val_main_cst_4_apply]
  unfold val_main_v21
  rw [Host.reduce_eq_fold_single FloatOps.maximumf _ _ _ (by decide), val_main_cst_3_apply]
  have h : IsReal (Finset.univ.fold max (⊥ : EReal) fun k : Fin 2304 => val_main_v20 (F := Ideal) x0 x1 x4
      ((by decide : S8x8x2x2048x2304.Reduces [4] S8x8x2x2048).lift i k)) :=
    IsReal.fold_max Finset.univ_nonempty fun k => hy _
  have e := ofBits_neg_inf
  show IsReal (max (Ideal.ofBits .f32 0xFF800000#32) (Finset.univ.fold max (Ideal.ofBits .f32 0xFF800000#32) _))
  rw [e, max_bot_left]
  exact h

theorem ref_exp (b h : Fin 8) (p : Fin 2) (q : Fin 2048) (k : Fin 2304) :
    val_main_v27 (F := Ideal) x0 x1 x4 (ix5 b h p q k)
      = Ideal.exp (val_main_v20 (F := Ideal) x0 x1 x4 (ix5 b h p q k) - val_main_v23 (F := Ideal) x0 x1 x4 (ix4 b h p q)) := by
  rw [val_main_v27_apply, val_main_v26_apply, val_main_v25_apply, val_main_v24_apply, Ideal.hostUnary_exp_def]
  refine congrArg (fun i => Ideal.exp (_ - val_main_v23 (F := Ideal) x0 x1 x4 i)) ?_
  exact funext fun a => match a with | ⟨0, _⟩ => rfl | ⟨1, _⟩ => rfl | ⟨2, _⟩ => rfl | ⟨3, _⟩ => rfl

theorem ref_weight (b h : Fin 8) (p : Fin 2) (q : Fin 2048) (k : Fin 2304) :
    val_main_v31 (F := Ideal) x0 x1 x4 (ix5 b h p q k)
      = Ideal.div (val_main_v27 (F := Ideal) x0 x1 x4 (ix5 b h p q k))
          (∑ k : Fin 2304, val_main_v27 (F := Ideal) x0 x1 x4 (ix5 b h p q k)) := by
  rw [val_main_v31_apply, val_main_v30_apply, val_main_v29_apply, val_main_v28_apply, val_main_cst_5_apply]
  have e : (FloatOps.ofBits .f32 0x00000000#32 : Ideal .f32) = (0 : EReal) := by simp [Ideal.ofBits_def, Ideal.ofBits, Ideal.ieee]
  rw [e, zero_add]
  refine congrArg (Ideal.div _) (Finset.sum_congr rfl fun k _ => congrArg (val_main_v27 (F := Ideal) x0 x1 x4) ?_)
  exact funext fun a => match a with | ⟨0, _⟩ => rfl | ⟨1, _⟩ => rfl | ⟨2, _⟩ => rfl | ⟨3, _⟩ => rfl | ⟨4, _⟩ => rfl

theorem reshape_first (b h : Fin 8) (q : Fin 2048) (k : Fin 2304) : idx_main_v33 (ix4 b h q k) = ix5 b h (0 : Fin 1) q k := by
  have := b.isLt; have := h.isLt; have := q.isLt; have := k.isLt
  refine funext fun a => Fin.ext ?_
  match a with
  | ⟨0, _⟩ => show (((b.val * 8 + h.val) * 2048 + q.val) * 2304 + k.val) / 37748736 = b.val; omega
  | ⟨1, _⟩ => show (((b.val * 8 + h.val) * 2048 + q.val) * 2304 + k.val) / 4718592 % 8 = h.val; omega
  | ⟨2, _⟩ => rfl
  | ⟨3, _⟩ => show (((b.val * 8 + h.val) * 2048 + q.val) * 2304 + k.val) / 2304 % 2048 = q.val; omega
  | ⟨4, _⟩ => show (((b.val * 8 + h.val) * 2048 + q.val) * 2304 + k.val) % 2304 = k.val; omega

theorem reshape_second (b h : Fin 8) (q : Fin 2048) (k : Fin 2304) : idx_main_v35 (ix4 b h q k) = ix5 b h (0 : Fin 1) q k :=
  reshape_first b h q k

theorem ref_diff (b h : Fin 8) (q : Fin 2048) (k : Fin 2304) :
    val_main_v38 (F := Ideal) x0 x1 x4 x6 (ix4 b h q k)
      = val_main_v31 (F := Ideal) x0 x1 x4 (ix5 b h 0 q k)
        - val_main_v15 (F := Ideal) x6 ix0 * val_main_v31 (F := Ideal) x0 x1 x4 (ix5 b h 1 q k) := by
  have e0 : idx_main_v32 (ix5 b h (0 : Fin 1) q k) = ix5 b h (0 : Fin 2) q k :=
    funext fun a => match a with | ⟨0, _⟩ => rfl | ⟨1, _⟩ => rfl | ⟨2, _⟩ => rfl | ⟨3, _⟩ => rfl | ⟨4, _⟩ => rfl
  have e1 : idx_main_v34 (ix5 b h (0 : Fin 1) q k) = ix5 b h (1 : Fin 2) q k :=
    funext fun a => match a with | ⟨0, _⟩ => rfl | ⟨1, _⟩ => rfl | ⟨2, _⟩ => rfl | ⟨3, _⟩ => rfl | ⟨4, _⟩ => rfl
  have e2 : idx_main_v36 (ix4 b h q k) = ix0 := funext fun a => a.elim0
  rw [val_main_v38_apply, val_main_v37_apply, val_main_v36_apply, val_main_v35_apply, val_main_v34_apply, val_main_v33_apply,
    val_main_v32_apply, reshape_first, reshape_second, e0, e1, e2]
  rfl

theorem ref_sum (b : Fin 8) (q : Fin 2048) (h : Fin 8) (e : Fin 128) :
    val_main_v40 (F := Ideal) x0 x1 x2 x4 x5 x6 (ix4 b q h e)
      = ∑ k : Fin 2304, val_main_v17 (F := Ideal) x2 x5 (ix4 b k h e) * val_main_v38 (F := Ideal) x0 x1 x4 x6 (ix4 b h q k) := by
  rw [val_main_v40_apply, val_main_v39_apply]
  refine Finset.sum_congr rfl fun k _ =>
    congrArg₂ (val_main_v17 (F := Ideal) x2 x5 · * val_main_v38 (F := Ideal) x0 x1 x4 x6 ·) ?_ ?_ <;>
    exact funext fun a => match a with | ⟨0, _⟩ => rfl | ⟨1, _⟩ => rfl | ⟨2, _⟩ => rfl | ⟨3, _⟩ => rfl

theorem ref_lambda : val_main_v15 (F := Ideal) x6 ix0 = lamWeight fun i d => x6 (ix2 i d) := by
  unfold val_main_v15 val_main_v14 val_main_v13 val_main_v12 val_main_v11 val_main_v10 val_main_v9 val_main_v8 val_main_v7 val_main_v6
    val_main_v5 val_main_v4 val_main_v3 val_main_v2 val_main_v1 val_main_v0 val_main_cst val_main_cst_0 val_main_cst_1
  unfold lamWeight
  pointwise

theorem ref_row (b : Fin 8) (q : Fin 2048) (l : Fin 1024) :
    val_main_v57 (F := Ideal) x0 x1 x2 x4 x5 x6 x7 (ix3 b q l)
      = rmsRow (fun e => val_main_v40 (F := Ideal) x0 x1 x2 x4 x5 x6 (ix4 b q ⟨l.val / 128, by omega⟩ e)) (fun e => x7 (ix1 e))
          ⟨l.val % 128, by omega⟩ := by
  unfold val_main_v57 val_main_v56 val_main_v55 val_main_v54 val_main_v53 val_main_v52 val_main_v51 val_main_v50 val_main_v49 val_main_v48
    val_main_v47 val_main_v46 val_main_v45 val_main_v44 val_main_v43 val_main_v42 val_main_v41
    val_main_cst_6 val_main_cst_7 val_main_cst_8 val_main_cst_9
  generalize val_main_v40 (F := Ideal) x0 x1 x2 x4 x5 x6 = y
  unfold rmsRow
  pointwise

end Cert.Attn

end
-- ==== Proof.Reference.lean ====
/-
  What the reference computes, for real queries, keys and values: the attention's output of every batch, query and head.
-/
module

public import proofs.«01_k».proof.Proof.Reads

@[expose] public section

set_option maxRecDepth 16384

noncomputable section

namespace Cert.Attn

open Idealize.ShloMosaic Idealize.ShloMosaic.Tactic
open Cert.ReferenceIdeal Cert.ReferenceIdeal.Gen Cert.ReferenceIdeal.Read

variable (x0 x1 : (⟨S8x2048x8x2x64, .f32⟩ : BufTy).Contents (Elt Ideal)) (x2 : (⟨S8x2048x8x128, .f32⟩ : BufTy).Contents (Elt Ideal))
  (x4 : (⟨S8x256x8x2x64, .f32⟩ : BufTy).Contents (Elt Ideal)) (x5 : (⟨S8x256x8x128, .f32⟩ : BufTy).Contents (Elt Ideal))
  (x6 : (⟨S4x64, .f32⟩ : BufTy).Contents (Elt Ideal)) (x7 : (⟨S128, .f32⟩ : BufTy).Contents (Elt Ideal))

/-- The reference's arguments are the real numbers `A`, and the weight of the second component is `L`. -/
structure RefHolds (A : Inputs) (L : ℝ) : Prop where
  q : ∀ b x h p d, x0 (ix5 b x h p d) = (A.q b x h p d : EReal)
  kLat : ∀ b x h p d, x1 (ix5 b x h p d) = (A.kLat b x h p d : EReal)
  vLat : ∀ b x h e, x2 (ix4 b x h e) = (A.vLat b x h e : EReal)
  kCtx : ∀ b x h p d, x4 (ix5 b x h p d) = (A.kCtx b x h p d : EReal)
  vCtx : ∀ b x h e, x5 (ix4 b x h e) = (A.vCtx b x h e : EReal)
  lam : (lamWeight fun i d => x6 (ix2 i d)) = (L : EReal)

/-- The place, context first, of the key that the reference, latents first, has at `k`. -/
def place (k : Fin 2304) : Fin 2304 := if hk : k.val < 2048 then ⟨k.val + 256, by omega⟩ else ⟨k.val - 2048, by omega⟩

theorem place_bijective : Function.Bijective place := by
  rw [← Finite.injective_iff_bijective]
  intro i j hij
  have h : (place i).val = (place j).val := congrArg Fin.val hij
  unfold place at h
  refine Fin.ext ?_
  split at h <;> split at h <;> dsimp only at h <;> omega

/-- The order of the keys as an equivalence. -/
def placeEquiv : Fin 2304 ≃ Fin 2304 := Equiv.ofBijective place place_bijective

variable {x0 x1 x2 x4 x5 x6} {A : Inputs} {L : ℝ} (H : RefHolds x0 x1 x2 x4 x5 x6 A L)

include H in
theorem ref_key_real (b : Fin 8) (k : Fin 2304) (h : Fin 8) (p : Fin 2) (d : Fin 64) :
    val_main_v16 (F := Ideal) x1 x4 (ix5 b k h p d) = (keyOf A b h (place k) p d : EReal) := by
  rw [ref_key]
  unfold keyOf place
  by_cases hk : k.val < 2048
  · rw [dif_pos hk, dif_pos hk, dif_neg (by dsimp only; omega), H.kLat]
    exact congrArg (fun x => (A.kLat b x h p d : EReal)) (Fin.ext (by dsimp only; omega))
  · rw [dif_neg hk, dif_neg hk, dif_pos (by dsimp only; omega), H.kCtx]

include H in
theorem ref_val_real (b : Fin 8) (k : Fin 2304) (h : Fin 8) (e : Fin 128) :
    val_main_v17 (F := Ideal) x2 x5 (ix4 b k h e) = (valOf A b h (place k) e : EReal) := by
  rw [ref_val]
  unfold valOf place
  by_cases hk : k.val < 2048
  · rw [dif_pos hk, dif_pos hk, dif_neg (by dsimp only; omega), H.vLat]
    exact congrArg (fun x => (A.vLat b x h e : EReal)) (Fin.ext (by dsimp only; omega))
  · rw [dif_neg hk, dif_neg hk, dif_pos (by dsimp only; omega), H.vCtx]

include H in
theorem ref_score_real (b h : Fin 8) (p : Fin 2) (q : Fin 2048) (k : Fin 2304) :
    val_main_v20 (F := Ideal) x0 x1 x4 (ix5 b h p q k) = (scoreOf A b h p q (place k) : EReal) := by
  rw [ref_score, ofBits_eighth]
  unfold scoreOf
  rw [EReal.coe_mul, coe_sum]
  refine congrArg (· * _) (Finset.sum_congr rfl fun d _ => ?_)
  rw [H.q, ref_key_real H, EReal.coe_mul]

include H in
theorem ref_scores_real (i : S8x8x2x2048x2304.Idx) : IsReal (val_main_v20 (F := Ideal) x0 x1 x4 i) := by
  have e : i = ix5 (⟨(i 0).val, (i 0).isLt⟩ : Fin 8) (⟨(i 1).val, (i 1).isLt⟩ : Fin 8) (⟨(i 2).val, (i 2).isLt⟩ : Fin 2)
      (⟨(i 3).val, (i 3).isLt⟩ : Fin 2048) (⟨(i 4).val, (i 4).isLt⟩ : Fin 2304) :=
    funext fun a => match a with | ⟨0, _⟩ => rfl | ⟨1, _⟩ => rfl | ⟨2, _⟩ => rfl | ⟨3, _⟩ => rfl | ⟨4, _⟩ => rfl
  rw [e, ref_score_real H]
  exact ⟨_, rfl⟩

include H in
/-- The softmax's weights, from the scores less some number. -/
theorem ref_weight_real (b h : Fin 8) (p : Fin 2) (q : Fin 2048) : ∃ M : ℝ, ∀ k : Fin 2304,
    val_main_v31 (F := Ideal) x0 x1 x4 (ix5 b h p q k)
      = ((Real.exp (scoreOf A b h p q (place k) - M) / ∑ k, Real.exp (scoreOf A b h p q (place k) - M) : ℝ) : EReal) := by
  obtain ⟨M, hM⟩ := ref_max_real x0 x1 x4 (ref_scores_real H) (ix4 b h p q)
  refine ⟨M, fun k => ?_⟩
  have he (k : Fin 2304) : val_main_v27 (F := Ideal) x0 x1 x4 (ix5 b h p q k)
      = ((Real.exp (scoreOf A b h p q (place k) - M) : ℝ) : EReal) := by
    rw [ref_exp, hM, ref_score_real H, ← EReal.coe_sub, Ideal.exp_coe]
  rw [ref_weight, he, Finset.sum_congr rfl fun k _ => he k, ← coe_sum]
  exact div_real (Finset.sum_pos (fun k _ => Real.exp_pos _) Finset.univ_nonempty).ne'

include H in
theorem ref_sum_real (b : Fin 8) (q : Fin 2048) (h : Fin 8) (e : Fin 128) :
    val_main_v40 (F := Ideal) x0 x1 x2 x4 x5 x6 (ix4 b q h e) = (diffOf A b h L q e : EReal) := by
  obtain ⟨M0, h0⟩ := ref_weight_real H b h 0 q
  obtain ⟨M1, h1⟩ := ref_weight_real H b h 1 q
  rw [ref_sum, Finset.sum_congr rfl fun k _ => show _ = ((valOf A b h (place k) e
      * (Real.exp (scoreOf A b h 0 q (place k) - M0) / ∑ k, Real.exp (scoreOf A b h 0 q (place k) - M0))
      - L * (valOf A b h (place k) e
      * (Real.exp (scoreOf A b h 1 q (place k) - M1) / ∑ k, Real.exp (scoreOf A b h 1 q (place k) - M1))) : ℝ) : EReal) from by
    rw [ref_val_real H, ref_diff, h0, h1, ref_lambda, H.lam, ← EReal.coe_mul, ← EReal.coe_sub, ← EReal.coe_mul]
    congr 1; ring, ← coe_sum, Finset.sum_sub_distrib, ← Finset.mul_sum]
  have w (p : Fin 2) (M : ℝ) : ∑ k, valOf A b h (place k) e
      * (Real.exp (scoreOf A b h p q (place k) - M) / ∑ k, Real.exp (scoreOf A b h p q (place k) - M))
      = mean (scoreOf A b h p q) fun i => valOf A b h i e :=
    (mean_weights (fun k => scoreOf A b h p q (place k)) (fun k => valOf A b h (place k) e) M).trans
      (mean_equiv placeEquiv (scoreOf A b h p q) fun i => valOf A b h i e)
  rw [w, w]
  rfl

include H in
theorem ref_array (b : Fin 8) (q : Fin 2048) (l : Fin 1024) :
    val_main_v57 (F := Ideal) x0 x1 x2 x4 x5 x6 x7 (ix3 b q l)
      = attnOf A b ⟨l.val / 128, by omega⟩ L (fun e => x7 (ix1 e)) q ⟨l.val % 128, by omega⟩ := by
  rw [ref_row]
  unfold attnOf
  simp only [ref_sum_real H]

end Cert.Attn

end
-- ==== Proof.Pre.lean ====
/-
  The precondition read: every query, key, value and lambda argument is a real number.
-/
module

public import proofs.«01_k».proof.Defs
public import proofs.«01_k».proof.Proof.Gen.Pre_finite
public import proofs.«01_k».proof.Proof.Softmax
public import Idealize.ShloMosaic.Lib.ReduceAll

@[expose] public section

set_option maxRecDepth 16384

noncomputable section

namespace Cert.Attn

open Idealize.ShloMosaic Cert.Pre_finite Cert.Pre_finite.Facts

instance : Subsingleton S_.Idx := ⟨fun i j => funext fun a => a.elim0⟩

theorem ofBits_inf : Ideal.ofBits .f32 0x7F800000#32 = ⊤ := by simp [Ideal.ofBits, Ideal.ieee]

/-- A number of absolute value below infinity is real. -/
theorem isReal_of_abs_lt {y : Ideal .f32} (h : FloatOps.cmpf .olt (FloatOps.hostAbsf y) (FloatOps.ofBits .f32 0x7F800000#32) = 1#1) :
    IsReal (y : EReal) := by
  obtain ⟨x, rfl⟩ : ∃ x : EReal, x = y := ⟨y, rfl⟩
  have h' : BitVec.ofBool (decide (max x (-x) < Ideal.ofBits .f32 0x7F800000#32)) = 1#1 := h
  rw [ofBits_inf] at h'
  have hlt : max x (-x) < ⊤ := by
    by_contra hn
    rw [decide_eq_false hn] at h'
    exact absurd h' (by decide)
  induction x with
  | bot => simp at hlt
  | top => simp at hlt
  | coe r => exact ⟨r, rfl⟩

/-- The reduction of "every element is below infinity" being one, every element is real. -/
theorem isReal_all {s : Shape} {axes : List (Fin s.rank)} (x : FVec Ideal s .f32) (hb : S_.BroadcastsInDim s (![] : Fin 0 → Fin s.rank))
    (hr : s.ReducesTo axes S_) (hu : 0 < S_.numel) (j : S_.Idx)
    (h : Host.reduce IntOp.andi (cmpf .olt (Host.absf x) (broadcastInDim s ![] hb (constant S_ .f32 0x7F800000#32))) (constantI S_ 1 1#1) hr hu j
      = 1#1) (i : s.Idx) : IsReal (x i) :=
  isReal_of_abs_lt (Host.reduce_andi_all _ _ _ _ j h i)

theorem reals_of_pre (a0 a1 : FVec Ideal S8x2048x8x2x64 .f32) (a2 : FVec Ideal S8x2048x8x128 .f32) (a3 a4 : FVec Ideal S8x256x8x2x64 .f32)
    (a5 : FVec Ideal S8x256x8x128 .f32) (a6 : FVec Ideal S4x64 .f32) (a7 : FVec Ideal S128 .f32)
    (h : Cert.Pre_finite.fn (F := Ideal) a0 a1 a2 a3 a4 a5 a6 a7 = fun _ => 1#1) :
    (∀ i, IsReal (a0 i)) ∧ (∀ i, IsReal (a1 i)) ∧ (∀ i, IsReal (a2 i)) ∧ (∀ i, IsReal (a4 i)) ∧ (∀ i, IsReal (a5 i))
      ∧ ∀ i, IsReal (a6 i) := by
  have e : ∀ j, Cert.Pre_finite.fn (F := Ideal) a0 a1 a2 a3 a4 a5 a6 a7 j = 1#1 := fun j => congrFun h j
  unfold fn fn_part1 at e
  have j : S_.Idx := fun a => a.elim0
  obtain ⟨e, h6⟩ := IntOp.andi_eq_one.1 (e j)
  obtain ⟨e, h5⟩ := IntOp.andi_eq_one.1 e
  obtain ⟨e, h4⟩ := IntOp.andi_eq_one.1 e
  obtain ⟨e, h2⟩ := IntOp.andi_eq_one.1 e
  obtain ⟨h0, h1⟩ := IntOp.andi_eq_one.1 e
  exact ⟨isReal_all _ _ _ _ j h0, isReal_all _ _ _ _ j h1, isReal_all _ _ _ _ j h2, isReal_all _ _ _ _ j h4, isReal_all _ _ _ _ j h5,
    isReal_all _ _ _ _ j h6⟩

end Cert.Attn

end
-- ==== Proof.Claims.lean ====
/-
  The claims, one by one.
-/
module

public import proofs.«01_k».proof.Defs
public import proofs.«01_k».proof.Proof.Gen.Kernel
public import proofs.«01_k».proof.Proof.Final
public import proofs.«01_k».proof.Proof.Same
public import proofs.«01_k».proof.Proof.Reference
public import proofs.«01_k».proof.Proof.Pre

@[expose] public section

set_option maxRecDepth 16384

noncomputable section

namespace Cert.Attn

open Idealize.ShloMosaic Idealize.ShloMosaic.TcCoe Idealize.SL.Sem Idealize.ShloMosaic.Tactic

theorem frame_kernel : Cert.quiescent_Kernel := by
  intro m ρ _
  rw [defs_same]
  exact frame_of_run (F := Bits) m ρ

theorem frame_ideal : Cert.quiescent_KernelIdeal := fun m ρ _ => frame_of_run (F := Ideal) m ρ

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

open Cert.KernelIdeal Cert.KernelIdeal.Gen

/-- The real numbers that the arguments are. -/
theorem holds_of_pre (m : (ℓ : Loc nD τ sig) → Buf (Elt Ideal) ℓ) (h : Cert.Pre_KernelIdeal_finite m) (c : Dev nD) :
    ∃ A L, Holds m c A L := by
  obtain ⟨h0, h1, h2, h4, h5, h6⟩ := reals_of_pre _ _ _ _ _ _ _ _ (h c)
  choose q hq using h0
  choose kl hkl using h1
  choose vl hvl using h2
  choose kc hkc using h4
  choose vc hvc using h5
  obtain ⟨L, hL⟩ := lamWeight_real (x := fun i d => arg6 m c (ix2 i d)) fun i d => h6 _
  exact ⟨⟨fun b x h p d => q (ix5 b x h p d), fun b x h p d => kl (ix5 b x h p d), fun b x h e => vl (ix4 b x h e),
    fun b x h p d => kc (ix5 b x h p d), fun b x h e => vc (ix4 b x h e)⟩, L,
    ⟨fun _ _ _ _ _ => hq _, fun _ _ _ _ _ => hkl _, fun _ _ _ _ => hvl _, fun _ _ _ _ _ => hkc _, fun _ _ _ _ => hvc _, hL⟩⟩

/-- The reference's result is the kernel's. -/
theorem results_equal (m : (ℓ : Loc nD τ sig) → Buf (Elt Ideal) ℓ) (h : Cert.Pre_KernelIdeal_finite m) (c : Dev nD) :
    Cert.ReferenceIdeal.Read.val_main_v57 (F := Ideal) (arg0 m c) (arg1 m c) (arg2 m c) (arg4 m c) (arg5 m c) (arg6 m c) (arg7 m c)
      = (dats m 0 c).arrAt 6 cfg0.N := by
  obtain ⟨A, L, H⟩ := holds_of_pre m h c
  rw [final_array H]
  funext i
  have R : RefHolds (arg0 m c) (arg1 m c) (arg2 m c) (arg4 m c) (arg5 m c) (arg6 m c) A L := ⟨H.q, H.kLat, H.vLat, H.kCtx, H.vCtx, H.lam⟩
  have e : i = ix3 (⟨(i 0).val, (i 0).isLt⟩ : Fin 8) (⟨(i 1).val, (i 1).isLt⟩ : Fin 2048) (⟨(i 2).val, (i 2).isLt⟩ : Fin 1024) :=
    funext fun a => match a with | ⟨0, _⟩ => rfl | ⟨1, _⟩ => rfl | ⟨2, _⟩ => rfl
  exact (congrArg _ e).trans (ref_array (arg7 m c) R _ _ _)

theorem equal : Cert.algebraic_KernelIdeal_ReferenceIdeal_pre_finite := fun m g m' g' hpre hargs =>
  ⟨fun c => (dats m 0 c).arrAt 6 cfg0.N,
    (θ_run Cert.KernelIdeal.defs _ _).mono (fun r h c => ⟨h.1.1.out_eq c 6, h.2.1 c⟩)
      (θ_run_and (run_quiescent (F := Ideal) m g) (frame_of_run (F := Ideal) m g)),
    (θ_run Cert.ReferenceIdeal.defs _ _).mono (fun r h c => ⟨(h c).1.trans (by
        obtain ⟨e0, e1, e2, e3, e4, e5, e6, e7⟩ := hargs c
        rw [Cert.ReferenceIdeal.Read.val_main_v57_eq, e0, e1, e2, e4, e5, e6, e7]
        exact results_equal m hpre c), (h c).2⟩)
      (Cert.ReferenceIdeal.Value.run (F := Ideal) m' g')⟩

end Cert.Attn

end
-- ==== Proof.FfnSpec.lean ====
/-
  What one grid point of the feed-forward call computes, as functions of the blocks it holds: 768 rows of the joined stream
  are normalized and modulated, taken through the gated hidden layer in eleven chunks of 256 hidden lanes, and added back.
-/
module

public import proofs.«01_k».proof.Proof.Gen.Kernel2Ideal.Value
public import Idealize.ShloMosaic.Lib.Writes

@[expose] public section

set_option maxRecDepth 65536

noncomputable section

namespace Cert.Ffn

open Idealize.ShloMosaic Idealize.ShloMosaic.TcCoe
open Cert.Kernel2Ideal Cert.Kernel2Ideal.Gen

variable {F : FTy → Type} [FloatOps F]

/-! ## Blocks of what is staged -/

/-- Chunk `k` of the columns of the first weight: its gate half, -/
def gateBlk (w : Vec F S1024x5632 .bf16) (k : Fin 11) : Vec F S1024x256 .bf16 :=
  View.ld w (Rect.unit (s := S1024x5632) ![0, 256 * k.val] S1024x256.size (by
    revert k; decide))

/-- and its value half. -/
def upBlk (w : Vec F S1024x5632 .bf16) (k : Fin 11) : Vec F S1024x256 .bf16 :=
  View.ld w (Rect.unit (s := S1024x5632) ![0, 2816 + 256 * k.val] S1024x256.size (by
    revert k; decide))

/-- The same hidden lanes' rows of the second weight. -/
def downBlk (w : Vec F S2816x1024 .bf16) (k : Fin 11) : Vec F S256x1024 .bf16 :=
  View.ld w (Rect.unit (s := S2816x1024) ![256 * k.val, 0] S256x1024.size (by
    revert k; decide))

/-- Row `j` of the modulation block. -/
def modRow (x : Vec F S1x12x1024 .f32) (j : Fin 12) : Vec F S1x1x1024 .f32 :=
  View.ld x (Rect.unit (s := S1x12x1024) ![0, j.val, 0] S1x1x1024.size (by
    revert j; decide))

/-! ## The rows -/

/-- Which rows, of the 768 from row `b` on, belong to the latents. -/
def latentRows (b : BitVec 32) : IVec S768x1 1 :=
  cmpi .sge (addi (broadcast S768x1 b) (iota .tc S768x1 32 [0] iota_S768x1_d0_w32)) (broadcast S768x1 256#32)

/-- The row `v`, on every row. -/
def spread (v : Vec F S1x1x1024 .f32) : FVec F S768x1024 .f32 :=
  broadcastTo S768x1024 (shapeCast S1x1024 (shapeCast S1x1024 v shapeCasts_S1x1x1024_S1x1024) shapeCasts_S1x1024_S1x1024)
    broadcasts_S1x1024_S768x1024

/-- The latents' row on the latents' rows, the context's row on the others. -/
def pick (b : BitVec 32) (lat ctx : Vec F S1x1x1024 .f32) : FVec F S768x1024 .f32 :=
  select (broadcastTo S768x1024 (shapeCast S768x1 (latentRows b) shapeCasts_S768x1_S768x1) broadcasts_S768x1_S768x1024)
    (spread lat) (spread ctx)

/-- The 768 rows. -/
def rows (x : Vec F S1x768x1024 .f32) : FVec F S768x1024 .f32 :=
  shapeCast S768x1024 (View.ld x (Rect.unit (s := S1x768x1024) ![0, 0, 0] S1x768x1024.size inb_S1x768x1024_S1x768x1024_0_0_0))
    shapeCasts_S1x768x1024_S768x1024

/-- One over the root of each row's mean square. -/
def invRms (v : FVec F S768x1024 .f32) : FVec F S768x1 .f32 :=
  rsqrt (addf (divf (shapeCast S768x1 (multiReduction .add [1] S768 (mulf v v) 0x00000000#32 reduces_S768x1024_S768 (.inl rfl) rfl)
    shapeCasts_S768_S768x1) (broadcast S768x1 (Scalar.ofBits .f32 0x44800000#32))) (broadcast S768x1 (Scalar.ofBits .f32 0x358637BD#32)))

/-- The rows normalized, weighed lane by lane, scaled and shifted. -/
def modulated (v : FVec F S768x1024 .f32) (g : Vec F S1x1024 .f32) (scale shift : FVec F S768x1024 .f32) : FVec F S768x1024 .bf16 :=
  truncf .bf16 (addf (mulf (mulf (mulf v (broadcastTo S768x1024 (invRms v) broadcasts_S768x1_S768x1024))
      (broadcastTo S768x1024 (shapeCast S1x1024
        (View.ld g (Rect.unit (s := S1x1024) ![0, 0] S1x1024.size inb_S1x1024_S1x1024_0_0)) shapeCasts_S1x1024_S1x1024)
        broadcasts_S1x1024_S768x1024))
      (addf (broadcast S768x1024 (Scalar.ofBits .f32 0x3F800000#32)) scale)) shift) bitsLt_bf16_f32

/-! ## The hidden layer -/

/-- The rows times a chunk of the first weight. -/
def project (h : FVec F S768x1024 .bf16) (w : Vec F S1024x256 .bf16) : FVec F S768x256 .f32 :=
  matmul dot_S768x1024_S1024x256_S768x256_1_0_0_1_n_n none h (shapeCast S1024x256 w shapeCasts_S1024x256_S1024x256)
    (constant S768x256 .f32 0x00000000#32)

/-- A chunk of the hidden layer: the gate times its logistic, times the value. -/
def gated (a u : FVec F S768x256 .f32) : FVec F S768x256 .bf16 :=
  truncf .bf16 (mulf (mulf a (logistic a)) u) bitsLt_bf16_f32

/-- What a chunk adds to the result. -/
def part (a : FVec F S768x256 .bf16) (w : Vec F S256x1024 .bf16) : FVec F S768x1024 .f32 :=
  matmul dot_S768x256_S256x1024_S768x1024_1_0_0_1_n_n none a (shapeCast S256x1024 w shapeCasts_S256x1024_S256x1024)
    (constant S768x1024 .f32 0x00000000#32)

/-- The chunk's part from the modulated rows. -/
def chunk (h : FVec F S768x1024 .bf16) (wi : Vec F S1024x5632 .bf16) (wo : Vec F S2816x1024 .bf16) (k : Fin 11) : FVec F S768x1024 .f32 :=
  part (gated (project h (gateBlk wi k)) (project h (upBlk wi k))) (downBlk wo k)

/-- The chunks after the first. -/
def laterChunks : List (Fin 11) := [1, 2, 3, 4, 5, 6, 7, 8, 9, 10]

/-- The sum over the chunks, in order. -/
def sum11 {s : Shape} (f : Fin 11 → FVec F s .f32) : FVec F s .f32 := laterChunks.foldl (fun a k => addf a (f k)) (f 0)

/-- The result's block: the rows plus the gated output of the hidden layer. -/
def rowsOut (b : BitVec 32) (x : Vec F S1x768x1024 .f32) (md : Vec F S1x12x1024 .f32) (g : Vec F S1x1024 .f32)
    (wi : Vec F S1024x5632 .bf16) (wo : Vec F S2816x1024 .bf16) : FVec F S1x768x1024 .f32 :=
  shapeCast S1x768x1024 (addf (rows x) (mulf (pick b (modRow md 11) (modRow md 10))
    (sum11 (chunk (modulated (rows x) g (pick b (modRow md 9) (modRow md 8)) (pick b (modRow md 7) (modRow md 6))) wi wo))))
    shapeCasts_S768x1024_S1x768x1024

/-- What the body leaves in its output block. -/
theorem out_eq (i : grid0.Coords) (x : Vec F S1x768x1024 .f32) (md : Vec F S1x12x1024 .f32) (g : Vec F S1x1024 .f32)
    (wi : Vec F S1024x5632 .bf16) (wo : Vec F S2816x1024 .bf16) :
    out0_5 i x md g wi wo = View.canon [⟨r0_0, rowsOut (Scalar.muli (BitVec.ofNat 32 (i 1).val) 768#32) x md g wi wo⟩] := by
  unfold out0_5
  have h : k0_pay31 i x md g wi wo = modulated (rows x) g (pick (Scalar.muli (BitVec.ofNat 32 (i 1).val) 768#32) (modRow md 9) (modRow md 8))
      (pick (Scalar.muli (BitVec.ofNat 32 (i 1).val) 768#32) (modRow md 7) (modRow md 6)) := rfl
  rw [h]
  unfold rowsOut sum11 laterChunks
  simp only [List.foldl]
  rfl

end Cert.Ffn

end
-- ==== Proof.FfnRow.lean ====
/-
  The feed-forward layer of one row: what its 1024 lanes become, from the row, the norm's lane weights, the modulation's
  scale, shift and gate, and the two weight matrices.
-/
module

public import Idealize.ShloMosaic.Lib.Pointwise

@[expose] public section

noncomputable section

namespace Cert.Ffn

open Idealize.ShloMosaic

/-- The row normalized, weighed lane by lane, scaled and shifted. -/
def hidRow (x g sc sh : Fin 1024 → EReal) (d : Fin 1024) : EReal :=
  x d * Ideal.rsqrt (Ideal.div (∑ e, x e * x e) (Ideal.ofBits .f32 0x44800000#32) + Ideal.ofBits .f32 0x358637BD#32) * g d
    * (Ideal.ofBits .f32 0x3F800000#32 + sc d) + sh d

/-- A hidden lane before the gate: the row times a column of the first weight. -/
def projRow (h : Fin 1024 → EReal) (wi : Fin 1024 → Fin 5632 → EReal) (j : Fin 5632) : EReal := ∑ d, h d * wi d j

/-- The gated hidden lane `k`. -/
def actRow (h : Fin 1024 → EReal) (wi : Fin 1024 → Fin 5632 → EReal) (k : Fin 2816) : EReal :=
  projRow h wi ⟨k.val, by omega⟩ * Ideal.logistic (projRow h wi ⟨k.val, by omega⟩) * projRow h wi ⟨2816 + k.val, by omega⟩

/-- The layer's row. -/
def ffnRow (x g sc sh gt : Fin 1024 → EReal) (wi : Fin 1024 → Fin 5632 → EReal) (wo : Fin 2816 → Fin 1024 → EReal) (c : Fin 1024) : EReal :=
  x c + gt c * ∑ k, actRow (hidRow x g sc sh) wi k * wo k c

/-- The result: row `r` of the joined stream, the 256 context rows first, with the context's modulation (one for all batches)
    or the latents' (the batch's own), whose parts 3, 4 and 5 are the shift, the scale and the gate. -/
def outRow (x : Fin 8 → Fin 2048 → Fin 1024 → EReal) (xc : Fin 8 → Fin 256 → Fin 1024 → EReal) (ml : Fin 8 → Fin 6144 → EReal)
    (mc : Fin 6144 → EReal) (g : Fin 1024 → EReal) (wi : Fin 1024 → Fin 5632 → EReal) (wo : Fin 2816 → Fin 1024 → EReal)
    (b : Fin 8) (r : Fin 2304) (c : Fin 1024) : EReal :=
  if h : r.val < 256 then
    ffnRow (xc b ⟨r.val, h⟩) g (fun c => mc ⟨1024 * 4 + c.val, by omega⟩) (fun c => mc ⟨1024 * 3 + c.val, by omega⟩)
      (fun c => mc ⟨1024 * 5 + c.val, by omega⟩) wi wo c
  else
    ffnRow (x b ⟨r.val - 256, by omega⟩) g (fun c => ml b ⟨1024 * 4 + c.val, by omega⟩) (fun c => ml b ⟨1024 * 3 + c.val, by omega⟩)
      (fun c => ml b ⟨1024 * 5 + c.val, by omega⟩) wi wo c

end Cert.Ffn

end
-- ==== Proof.FfnCols.lean ====
/-
  The block that a grid point of the feed-forward call leaves, read at an index over the extended reals: every row is the
  layer's row of what the point holds.
-/
module

public import proofs.«01_k».proof.Proof.FfnSpec
public import proofs.«01_k».proof.Proof.FfnRow
public import proofs.«01_k».proof.Proof.Tile

@[expose] public section

set_option maxRecDepth 16384

noncomputable section

namespace Cert.Ffn

open Idealize.ShloMosaic Idealize.ShloMosaic.TcCoe
open Cert.Kernel2Ideal Cert.Kernel2Ideal.Gen

theorem gateBlk_apply (w : Vec Ideal S1024x5632 .bf16) (k : Fin 11) (d : Fin 1024) (j : Fin 256) :
    gateBlk w k (ix2 d j) = w (ix2 d ⟨256 * k.val + j.val, by omega⟩) := by
  unfold gateBlk
  pointwise

theorem upBlk_apply (w : Vec Ideal S1024x5632 .bf16) (k : Fin 11) (d : Fin 1024) (j : Fin 256) :
    upBlk w k (ix2 d j) = w (ix2 d ⟨2816 + 256 * k.val + j.val, by omega⟩) := by
  unfold upBlk
  pointwise

theorem downBlk_apply (w : Vec Ideal S2816x1024 .bf16) (k : Fin 11) (j : Fin 256) (c : Fin 1024) :
    downBlk w k (ix2 j c) = w (ix2 ⟨256 * k.val + j.val, by omega⟩ c) := by
  unfold downBlk
  pointwise

theorem modRow_apply (x : Vec Ideal S1x12x1024 .f32) (j : Fin 12) (c : Fin 1024) : modRow x j (ix3 0 0 c) = x (ix3 0 j c) := by
  unfold modRow
  pointwise

theorem pick_apply (b : BitVec 32) (lat ctx : Vec Ideal S1x1x1024 .f32) (i : Fin 768) (c : Fin 1024) :
    pick b lat ctx (ix2 i c) = Scalar.select (IntOp.cmpi .sge (b + BitVec.ofNat 32 i.val) 256#32) (lat (ix3 0 0 c)) (ctx (ix3 0 0 c)) := by
  unfold pick latentRows spread
  pointwise
  rfl

theorem rows_apply (x : Vec Ideal S1x768x1024 .f32) (i : Fin 768) (c : Fin 1024) : rows x (ix2 i c) = x (ix3 0 i c) := by
  unfold rows
  pointwise

theorem invRms_apply (v : FVec Ideal S768x1024 .f32) (i : Fin 768) :
    invRms v (ix2 i 0) = Ideal.rsqrt (Ideal.div (∑ e : Fin 1024, v (ix2 i e) * v (ix2 i e)) (Ideal.ofBits .f32 0x44800000#32)
      + Ideal.ofBits .f32 0x358637BD#32) := by
  unfold invRms
  pointwise

theorem modulated_apply (v : FVec Ideal S768x1024 .f32) (g : Vec Ideal S1x1024 .f32) (scale shift : FVec Ideal S768x1024 .f32)
    (i : Fin 768) (c : Fin 1024) :
    modulated v g scale shift (ix2 i c) = hidRow (fun c => v (ix2 i c)) (fun c => g (ix2 0 c)) (fun c => scale (ix2 i c))
      (fun c => shift (ix2 i c)) c := by
  unfold hidRow
  rw [← invRms_apply]
  unfold modulated
  generalize invRms v = r
  pointwise

theorem project_apply (h : FVec Ideal S768x1024 .bf16) (w : Vec Ideal S1024x256 .bf16) (i : Fin 768) (j : Fin 256) :
    project h w (ix2 i j) = ∑ d : Fin 1024, h (ix2 i d) * w (ix2 d j) := by
  unfold project
  pointwise

theorem gated_apply (a u : FVec Ideal S768x256 .f32) (i : Fin 768) (j : Fin 256) :
    gated a u (ix2 i j) = a (ix2 i j) * Ideal.logistic (a (ix2 i j)) * u (ix2 i j) := by
  unfold gated
  pointwise

theorem part_apply (a : FVec Ideal S768x256 .bf16) (w : Vec Ideal S256x1024 .bf16) (i : Fin 768) (c : Fin 1024) :
    part a w (ix2 i c) = ∑ j : Fin 256, a (ix2 i j) * w (ix2 j c) := by
  unfold part
  pointwise

theorem sum11_apply {s : Shape} (f : Fin 11 → FVec Ideal s .f32) (x : s.Idx) : sum11 f x = ∑ j, f j x := by
  simp only [sum11, laterChunks, List.foldl, Fin.sum_univ_succ, Fin.sum_univ_zero, add_zero]
  simp only [addf, Ideal.addf_def, ← add_assoc]
  rfl

/-- The chunks together: the gated hidden lanes times the second weight. -/
theorem chunks_apply (h : FVec Ideal S768x1024 .bf16) (wi : Vec Ideal S1024x5632 .bf16) (wo : Vec Ideal S2816x1024 .bf16)
    (i : Fin 768) (c : Fin 1024) :
    sum11 (chunk h wi wo) (ix2 i c)
      = ∑ k : Fin 2816, actRow (fun d => h (ix2 i d)) (fun d j => wi (ix2 d j)) k * wo (ix2 k c) := by
  rw [sum11_apply, Cert.Attn.sum_blocks 11 256 2816 rfl]
  refine Finset.sum_congr rfl fun k _ => ?_
  unfold chunk
  rw [part_apply]
  refine Finset.sum_congr rfl fun j _ => ?_
  rw [gated_apply, project_apply, project_apply, downBlk_apply]
  simp only [gateBlk_apply, upBlk_apply]
  unfold actRow projRow
  simp only [Nat.add_assoc]

/-- The block at an index. -/
theorem rowsOut_apply (b : BitVec 32) (x : Vec Ideal S1x768x1024 .f32) (md : Vec Ideal S1x12x1024 .f32) (g : Vec Ideal S1x1024 .f32)
    (wi : Vec Ideal S1024x5632 .bf16) (wo : Vec Ideal S2816x1024 .bf16) (i : Fin 768) (c : Fin 1024)
    (p : Fin 2) (hp : IntOp.cmpi .sge (b + BitVec.ofNat 32 i.val) 256#32 = if p.val = 1 then 1#1 else 0#1) :
    rowsOut b x md g wi wo (ix3 0 i c) = ffnRow (fun c => x (ix3 0 i c)) (fun c => g (ix2 0 c))
      (fun c => md (ix3 0 ⟨8 + p.val, by omega⟩ c)) (fun c => md (ix3 0 ⟨6 + p.val, by omega⟩ c))
      (fun c => md (ix3 0 ⟨10 + p.val, by omega⟩ c)) (fun d j => wi (ix2 d j)) (fun k c => wo (ix2 k c)) c := by
  have hpick (l r : Fin 12) (c : Fin 1024) : pick b (modRow md l) (modRow md r) (ix2 i c) = md (ix3 0 (if p.val = 1 then l else r) c) := by
    rw [pick_apply, hp, modRow_apply, modRow_apply]
    by_cases h : p.val = 1
    · rw [if_pos h, if_pos h]; rfl
    · rw [if_neg h, if_neg h]; rfl
  have e (n : ℕ) (hn : n + 1 < 12) : (if p.val = 1 then (⟨n + 1, hn⟩ : Fin 12) else ⟨n, by omega⟩) = ⟨n + p.val, by omega⟩ := by
    refine Fin.ext ?_
    split <;> dsimp only <;> omega
  have hcast (v : FVec Ideal S768x1024 .f32) : shapeCast S1x768x1024 v shapeCasts_S768x1024_S1x768x1024 (ix3 0 i c) = v (ix2 i c) := by
    pointwise
  unfold rowsOut
  rw [hcast]
  show rows x (ix2 i c) + pick b (modRow md 11) (modRow md 10) (ix2 i c) * sum11 _ (ix2 i c) = _
  rw [chunks_apply, rows_apply, hpick]
  unfold ffnRow
  have hmod (d : Fin 1024) := modulated_apply (rows x) g (pick b (modRow md 9) (modRow md 8)) (pick b (modRow md 7) (modRow md 6)) i d
  simp only [hmod, hpick, rows_apply]
  have e10 := e 10 (by omega)
  have e8 := e 8 (by omega)
  have e6 := e 6 (by omega)
  rw [← e10, ← e8, ← e6]
  rfl

end Cert.Ffn

end
-- ==== Proof.FfnEntry.lean ====
/-
  The blocks that the windows of a grid point of the feed-forward call hold, read off the arguments: 768 rows of the joined
  stream, the modulation rows, the lane weights and the two weight matrices.
-/
module

public import proofs.«01_k».proof.Proof.FfnCols
public import Idealize.ShloMosaic.Lib.Pipeline.ValueKit

@[expose] public section

set_option maxRecDepth 16384

noncomputable section

namespace Cert.Ffn

open Idealize.ShloMosaic Idealize.ShloMosaic.TcCoe Idealize.ShloMosaic.Tactic
open Cert.Kernel2Ideal Cert.Kernel2Ideal.Gen

variable (m : (ℓ : Loc nD τ sig) → Buf (Elt Ideal) ℓ) (c : Dev nD)

/-- The arguments as arrays of extended reals. -/
abbrev arg0 : S8x2048x1024.Idx → EReal := m ((c.tc : Thread nD τ).loc main_arg0)
abbrev arg1 : S8x256x1024.Idx → EReal := m ((c.tc : Thread nD τ).loc main_arg1)
abbrev arg2 : S8x6144.Idx → EReal := m ((c.tc : Thread nD τ).loc main_arg2)
abbrev arg3 : S6144.Idx → EReal := m ((c.tc : Thread nD τ).loc main_arg3)
abbrev arg4 : S1024.Idx → EReal := m ((c.tc : Thread nD τ).loc main_arg4)
abbrev arg5 : S1024x5632.Idx → EReal := m ((c.tc : Thread nD τ).loc main_arg5)
abbrev arg6 : S2816x1024.Idx → EReal := m ((c.tc : Thread nD τ).loc main_arg6)

/-! ## The operands of the call -/

theorem entry_x (b : Fin 8) (r : Fin 2304) (l : Fin 1024) :
    (V m c (Pipeline.arrRef spec0 0) (ix3 b r l) : EReal) = if hr : r.val < 256
      then arg1 m c (ix3 b ⟨r.val, hr⟩ l) else arg0 m c (ix3 b ⟨r.val - 256, by omega⟩ l) := by
  entry_read
  pointwise

theorem entry_mod_at (b : Fin 8) (j : Fin 12) (l : Fin 1024) :
    (V m c (Pipeline.arrRef spec0 1) (ix3 b j l) : EReal) = if _h : j.val % 2 < 1
      then arg3 m c (ix1 ⟨j.val / 2 * 1024 + l.val, by omega⟩) else arg2 m c (ix2 b ⟨j.val / 2 * 1024 + l.val, by omega⟩) := by
  entry_read
  pointwise

/-- Row `2·n + p` of the modulation: part `n` of the context's vector for `p = 0`, of the latents' for `p = 1`. -/
theorem entry_mod (b : Fin 8) (n : ℕ) (hn : n < 6) (p : Fin 2) (l : Fin 1024) :
    (V m c (Pipeline.arrRef spec0 1) (ix3 b ⟨2 * n + p.val, by omega⟩ l) : EReal) = if p.val = 1
      then arg2 m c (ix2 b ⟨1024 * n + l.val, by omega⟩) else arg3 m c (ix1 ⟨1024 * n + l.val, by omega⟩) := by
  rw [entry_mod_at]
  have hp := p.isLt
  by_cases h : p.val = 1
  · rw [if_pos h, dif_neg (by dsimp only; omega)]
    exact congrArg (fun j => arg2 m c (ix2 b j)) (Fin.ext (by dsimp only; omega))
  · rw [if_neg h, dif_pos (by dsimp only; omega)]
    exact congrArg (fun j => arg3 m c (ix1 j)) (Fin.ext (by dsimp only; omega))

theorem entry_g (l : Fin 1024) : (V m c (Pipeline.arrRef spec0 2) (ix2 0 l) : EReal) = arg4 m c (ix1 l) := by
  entry_read
  pointwise

theorem entry_wi (i : Fin 1024) (j : Fin 5632) : (V m c (Pipeline.arrRef spec0 3) (ix2 i j) : EReal) = arg5 m c (ix2 i j) := by
  entry_read
  pointwise

theorem entry_wo (i : Fin 2816) (j : Fin 1024) : (V m c (Pipeline.arrRef spec0 4) (ix2 i j) : EReal) = arg6 m c (ix2 i j) := by
  entry_read
  pointwise

/-! ## The windows' index maps -/

theorem index0 : ∀ t : Fin cfg0.N, win0_0.index t = ![t.val / 3, t.val % 3, 0] :=
  (by decide +kernel : ∀ t : Fin grid0.N, win0_0.index t = ![t.val / 3, t.val % 3, 0])
theorem index1 : ∀ t : Fin cfg0.N, win0_1.index t = ![t.val / 3, 0, 0] :=
  (by decide +kernel : ∀ t : Fin grid0.N, win0_1.index t = ![t.val / 3, 0, 0])
theorem index2 : ∀ t : Fin cfg0.N, win0_2.index t = ![0, 0] := (by decide +kernel : ∀ t : Fin grid0.N, win0_2.index t = ![0, 0])
theorem index3 : ∀ t : Fin cfg0.N, win0_3.index t = ![0, 0] := (by decide +kernel : ∀ t : Fin grid0.N, win0_3.index t = ![0, 0])
theorem index4 : ∀ t : Fin cfg0.N, win0_4.index t = ![0, 0] := (by decide +kernel : ∀ t : Fin grid0.N, win0_4.index t = ![0, 0])
theorem index5 : ∀ t : Fin cfg0.N, win0_5.index t = ![t.val / 3, t.val % 3, 0] :=
  (by decide +kernel : ∀ t : Fin grid0.N, win0_5.index t = ![t.val / 3, t.val % 3, 0])
theorem coord1 : ∀ t : Fin cfg0.N, (grid0.coords t 1).val = t.val % 3 :=
  (by decide +kernel : ∀ t : Fin grid0.N, (grid0.coords t 1).val = t.val % 3)

/-! ## The blocks -/

theorem read0 (X : S8x2304x1024.Idx → EReal) (t : Fin cfg0.N) (i : Fin 768) (l : Fin 1024) :
    (win0_0.blk t).view.read (Elt Ideal) X (ix3 0 i l)
      = X (ix3 ⟨t.val / 3, by have : t.val < 24 := t.isLt; omega⟩ ⟨768 * (t.val % 3) + i.val, by omega⟩ l) := by
  have : t.val < 24 := t.isLt
  blk_ext [index0 t]

theorem read1 (X : S8x12x1024.Idx → EReal) (t : Fin cfg0.N) (i : Fin 12) (l : Fin 1024) :
    (win0_1.blk t).view.read (Elt Ideal) X (ix3 0 i l)
      = X (ix3 ⟨t.val / 3, by have : t.val < 24 := t.isLt; omega⟩ i l) := by
  have : t.val < 24 := t.isLt
  blk_ext [index1 t]

theorem read2 (X : S1x1024.Idx → EReal) (t : Fin cfg0.N) (l : Fin 1024) :
    (win0_2.blk t).view.read (Elt Ideal) X (ix2 0 l) = X (ix2 0 l) := by
  blk_ext [index2 t]

theorem read3 (X : S1024x5632.Idx → EReal) (t : Fin cfg0.N) (i : Fin 1024) (l : Fin 5632) :
    (win0_3.blk t).view.read (Elt Ideal) X (ix2 i l) = X (ix2 i l) := by
  blk_ext [index3 t]

theorem read4 (X : S2816x1024.Idx → EReal) (t : Fin cfg0.N) (i : Fin 2816) (l : Fin 1024) :
    (win0_4.blk t).view.read (Elt Ideal) X (ix2 i l) = X (ix2 i l) := by
  blk_ext [index4 t]

end Cert.Ffn

end
-- ==== Proof.FfnFinal.lean ====
/-
  What the feed-forward call leaves in its result array: the layer's row of every batch and row of the joined stream.
-/
module

public import proofs.«01_k».proof.Proof.FfnEntry

@[expose] public section

set_option maxRecDepth 16384

noncomputable section

namespace Cert.Ffn

open Idealize.ShloMosaic Idealize.ShloMosaic.TcCoe Idealize.ShloMosaic.Tactic
open Cert.Kernel2Ideal Cert.Kernel2Ideal.Gen

variable (m : (ℓ : Loc nD τ sig) → Buf (Elt Ideal) ℓ) (c : Dev nD)

/-- The result from the arguments. -/
def result (b : Fin 8) (r : Fin 2304) (l : Fin 1024) : EReal :=
  outRow (fun b r l => arg0 m c (ix3 b r l)) (fun b r l => arg1 m c (ix3 b r l)) (fun b j => arg2 m c (ix2 b j))
    (fun j => arg3 m c (ix1 j)) (fun l => arg4 m c (ix1 l)) (fun i j => arg5 m c (ix2 i j)) (fun i j => arg6 m c (ix2 i j)) b r l

/-- The same as an array. -/
def resultArray : S8x2304x1024.Idx → EReal := fun i =>
  result m c ⟨(i 0).val, (i 0).isLt⟩ ⟨(i 1).val, (i 1).isLt⟩ ⟨(i 2).val, (i 2).isLt⟩

/-- Whether row `i` of the rows of point `n` is a latent's: whether it lies past the 256 context rows. -/
theorem latent_iff (n : ℕ) (hn : n < 3) (i : Fin 768) :
    IntOp.cmpi .sge (Scalar.muli (BitVec.ofNat 32 n) 768#32 + BitVec.ofNat 32 i.val) 256#32
      = if 768 * n + i.val < 256 then 0#1 else 1#1 := by
  have h : ∀ (n : Fin 3) (i : Fin 768), IntOp.cmpi .sge (Scalar.muli (BitVec.ofNat 32 n.val) 768#32 + BitVec.ofNat 32 i.val) 256#32
      = if 768 * n.val + i.val < 256 then 0#1 else 1#1 := by decide +kernel
  exact h ⟨n, hn⟩ i

/-- The block that point `t` leaves. -/
theorem block_out (t : Fin cfg0.N) (i : Fin 768) (l : Fin 1024) :
    ((dats m 0 c).after 5 t (ix3 0 i l) : EReal)
      = result m c ⟨t.val / 3, by have : t.val < 24 := t.isLt; omega⟩ ⟨768 * (t.val % 3) + i.val, by omega⟩ l := by
  have hN : t.val < 24 := t.isLt
  rw [after0_5, out_eq, View.canon_unit_zero (by decide), coord1]
  generalize hb : (⟨t.val / 3, by omega⟩ : Fin 8) = b
  have hx (l : Fin 1024) : (iblk m c 0 t (ix3 0 i l) : EReal) = V m c (Pipeline.arrRef spec0 0) (ix3 b ⟨768 * (t.val % 3) + i.val, by omega⟩ l) := by
    rw [← hb]; exact read0 (V m c (Pipeline.arrRef spec0 0)) t i l
  have hm (j : Fin 12) (l : Fin 1024) : (iblk m c 1 t (ix3 0 j l) : EReal) = V m c (Pipeline.arrRef spec0 1) (ix3 b j l) := by
    rw [← hb]; exact read1 (V m c (Pipeline.arrRef spec0 1)) t j l
  have hg (l : Fin 1024) : (iblk m c 2 t (ix2 0 l) : EReal) = arg4 m c (ix1 l) :=
    (read2 (V m c (Pipeline.arrRef spec0 2)) t l).trans (entry_g m c l)
  have hi (i : Fin 1024) (j : Fin 5632) : (iblk m c 3 t (ix2 i j) : EReal) = arg5 m c (ix2 i j) :=
    (read3 (V m c (Pipeline.arrRef spec0 3)) t i j).trans (entry_wi m c i j)
  have ho (i : Fin 2816) (j : Fin 1024) : (iblk m c 4 t (ix2 i j) : EReal) = arg6 m c (ix2 i j) :=
    (read4 (V m c (Pipeline.arrRef spec0 4)) t i j).trans (entry_wo m c i j)
  have hl := latent_iff (t.val % 3) (by omega) i
  generalize hr : (⟨768 * (t.val % 3) + i.val, by omega⟩ : Fin 2304) = r at hx ⊢
  have hrv : 768 * (t.val % 3) + i.val = r.val := congrArg Fin.val hr
  rw [hrv] at hl
  have key (p : Fin 2) (hp : (if r.val < 256 then 0#1 else 1#1) = if p.val = 1 then 1#1 else 0#1) :=
    rowsOut_apply _ (iblk m c 0 t) (iblk m c 1 t) (iblk m c 2 t) (iblk m c 3 t) (iblk m c 4 t) i l p (hl.trans hp)
  simp only [hm, hg, hi, ho] at key
  have e6 (p : Fin 2) (l : Fin 1024) := entry_mod m c b 3 (by omega) p l
  have e8 (p : Fin 2) (l : Fin 1024) := entry_mod m c b 4 (by omega) p l
  have e10 (p : Fin 2) (l : Fin 1024) := entry_mod m c b 5 (by omega) p l
  simp only [Nat.reduceMul] at e6 e8 e10
  simp only [e6, e8, e10] at key
  unfold result outRow
  by_cases h : r.val < 256
  · have hx' (l : Fin 1024) : (iblk m c 0 t (ix3 0 i l) : EReal) = arg1 m c (ix3 b ⟨r.val, h⟩ l) := by
      rw [hx, entry_x, dif_pos h]
    have h0 := key 0 (by rw [if_pos h]; rfl)
    simp only [hx', Fin.val_zero, zero_ne_one, if_false] at h0
    rw [dif_pos h]
    exact h0
  · have hx' (l : Fin 1024) : (iblk m c 0 t (ix3 0 i l) : EReal) = arg0 m c (ix3 b ⟨r.val - 256, by omega⟩ l) := by
      rw [hx, entry_x, dif_neg h]
    have h1 := key 1 (by rw [if_neg h]; rfl)
    simp only [hx', Fin.val_one, if_true] at h1
    rw [dif_neg h]
    exact h1

theorem final_array : (dats m 0 c).arrAt 5 cfg0.N = resultArray m c := by
  refine (dats m 0 c).arrAt_eq_of_covers 5 _ (by decide +kernel) fun t hf y => ?_
  have hN : t.val < 24 := t.isLt
  blk_simp
  have hy0 : (y 0).val < 1 := (y 0).isLt
  have hy1 : (y 1).val < 768 := (y 1).isLt
  have hy2 : (y 2).val < 1024 := (y 2).isLt
  have hy : y = ix3 (⟨0, by omega⟩ : Fin 1) (⟨(y 1).val, hy1⟩ : Fin 768) (⟨(y 2).val, hy2⟩ : Fin 1024) := by
    funext k; fin_cases k
    · exact Fin.ext (by show (y 0).val = 0; omega)
    · rfl
    · rfl
  have e0 : ((win0_5.blk t).view.emb y 0).val = t.val / 3 := by
    blk_simp [index5 t]
  have e1 : ((win0_5.blk t).view.emb y 1).val = 768 * (t.val % 3) + (y 1).val := by
    blk_simp [index5 t]; omega
  have e2 : ((win0_5.blk t).view.emb y 2).val = (y 2).val := by
    blk_simp [index5 t]
  refine (congrArg _ hy).trans ((block_out m c t _ _).trans ?_)
  unfold resultArray
  congr 1
  · exact Fin.ext e0.symm
  · exact Fin.ext e1.symm
  · exact Fin.ext e2.symm

end Cert.Ffn

end
-- ==== Proof.FfnReads.lean ====
/-
  The reference's feed-forward layer, stage by stage: the modulated rows, the gated hidden lanes and the result of the latents
  and of the context, read at an index.
-/
module

public import proofs.«01_k».proof.Proof.FfnRow
public import proofs.«01_k».proof.Proof.Base
public import proofs.«01_k».proof.Proof.Gen.Reference2Ideal.Read

@[expose] public section

set_option maxRecDepth 16384

noncomputable section

namespace Cert.Ffn

open Idealize.ShloMosaic Idealize.ShloMosaic.Tactic
open Cert.Reference2Ideal Cert.Reference2Ideal.Gen Cert.Reference2Ideal.Read

variable (x0 : (⟨S8x2048x1024, .f32⟩ : BufTy).Contents (Elt Ideal)) (x1 : (⟨S8x256x1024, .f32⟩ : BufTy).Contents (Elt Ideal))
  (x2 : (⟨S8x6144, .f32⟩ : BufTy).Contents (Elt Ideal)) (x3 : (⟨S6144, .f32⟩ : BufTy).Contents (Elt Ideal))
  (x4 : (⟨S1024, .f32⟩ : BufTy).Contents (Elt Ideal)) (x5 : (⟨S1024x5632, .f32⟩ : BufTy).Contents (Elt Ideal))
  (x6 : (⟨S2816x1024, .f32⟩ : BufTy).Contents (Elt Ideal))

theorem ofBits_one : Ideal.ofBits .f32 0x3F800000#32 = 1 := by
  simp [Ideal.ofBits, Ideal.ieee]; rw [← EReal.coe_mul]; norm_num

/-- The latents' modulated rows, -/
theorem lat_hid (b : Fin 8) (r : Fin 2048) (d : Fin 1024) :
    val_main_v31 (F := Ideal) x0 x2 x4 (ix3 b r d) = hidRow (fun d => x0 (ix3 b r d)) (fun d => x4 (ix1 d))
      (fun d => x2 (ix2 b ⟨1024 * 4 + d.val, by omega⟩)) (fun d => x2 (ix2 b ⟨1024 * 3 + d.val, by omega⟩)) d := by
  unfold hidRow
  unfold val_main_v31 val_main_v30 val_main_v29 val_main_v28 val_main_v27 val_main_v26 val_main_v25 val_main_v24 val_main_v23 val_main_v22
    val_main_v21 val_main_v20 val_main_v19 val_main_v18 val_main_v17 val_main_v16 val_main_v15 val_main_v14 val_main_v13
    val_main_cst val_main_cst_0 val_main_cst_1 val_main_cst_2
    val_main_v4 val_main_v5 val_main_v0
  pointwise

/-- The latents' gated hidden lanes, -/
theorem lat_act (b : Fin 8) (r : Fin 2048) (k : Fin 2816) :
    val_main_v36 (F := Ideal) x0 x2 x4 x5 (ix3 b r k)
      = actRow (fun d => val_main_v31 (F := Ideal) x0 x2 x4 (ix3 b r d)) (fun d j => x5 (ix2 d j)) k := by
  unfold actRow projRow Ideal.logistic
  rw [← ofBits_one]
  unfold val_main_v36 val_main_v35 val_main_v34 val_main_v33 val_main_v32 val_main_call0_v5 val_main_call0_v4 val_main_call0_v3
    val_main_call0_v2 val_main_call0_v1 val_main_call0_v0 val_main_call0_cst val_main_call0_cst_0
    val_main_v33 val_main_v32
  generalize val_main_v31 (F := Ideal) x0 x2 x4 = h
  pointwise

/-- and their result. -/
theorem lat_out (b : Fin 8) (r : Fin 2048) (c : Fin 1024) :
    val_main_v40 (F := Ideal) x0 x2 x4 x5 x6 (ix3 b r c) = ffnRow (fun d => x0 (ix3 b r d)) (fun d => x4 (ix1 d))
      (fun d => x2 (ix2 b ⟨1024 * 4 + d.val, by omega⟩)) (fun d => x2 (ix2 b ⟨1024 * 3 + d.val, by omega⟩))
      (fun d => x2 (ix2 b ⟨1024 * 5 + d.val, by omega⟩)) (fun d j => x5 (ix2 d j)) (fun k c => x6 (ix2 k c)) c := by
  have e (k : Fin 2816) := lat_act x0 x2 x4 x5 b r k
  rw [funext (lat_hid x0 x2 x4 b r)] at e
  unfold ffnRow
  rw [← Finset.sum_congr rfl fun k _ => congrArg (· * x6 (ix2 k c)) (e k)]
  unfold val_main_v40 val_main_v39 val_main_v38 val_main_v37 val_main_v6 val_main_v0
  generalize val_main_v36 (F := Ideal) x0 x2 x4 x5 = h
  pointwise

/-- The context's modulated rows, -/
theorem ctx_hid (b : Fin 8) (r : Fin 256) (d : Fin 1024) :
    val_main_v61 (F := Ideal) x1 x3 x4 (ix3 b r d) = hidRow (fun d => x1 (ix3 b r d)) (fun d => x4 (ix1 d))
      (fun d => x3 (ix1 ⟨1024 * 4 + d.val, by omega⟩)) (fun d => x3 (ix1 ⟨1024 * 3 + d.val, by omega⟩)) d := by
  unfold hidRow
  unfold val_main_v61 val_main_v60 val_main_v59 val_main_v58 val_main_v57 val_main_v56 val_main_v55 val_main_v54 val_main_v53
    val_main_v52 val_main_v51 val_main_v50 val_main_v49 val_main_v48 val_main_v47 val_main_v46 val_main_v45 val_main_v44 val_main_v43
    val_main_v42 val_main_v41 val_main_cst_3 val_main_cst_4 val_main_cst_5 val_main_cst_6 val_main_v11 val_main_v10
  pointwise

/-- its gated hidden lanes, -/
theorem ctx_act (b : Fin 8) (r : Fin 256) (k : Fin 2816) :
    val_main_v66 (F := Ideal) x1 x3 x4 x5 (ix3 b r k)
      = actRow (fun d => val_main_v61 (F := Ideal) x1 x3 x4 (ix3 b r d)) (fun d j => x5 (ix2 d j)) k := by
  unfold actRow projRow Ideal.logistic
  rw [← ofBits_one]
  unfold val_main_v66 val_main_v65 val_main_v64 val_main_call1_v5 val_main_call1_v4 val_main_call1_v3
    val_main_call1_v2 val_main_call1_v1 val_main_call1_v0 val_main_call1_cst val_main_call1_cst_0
    val_main_v63 val_main_v62
  generalize val_main_v61 (F := Ideal) x1 x3 x4 = h
  pointwise

/-- and its result. -/
theorem ctx_out (b : Fin 8) (r : Fin 256) (c : Fin 1024) :
    val_main_v71 (F := Ideal) x1 x3 x4 x5 x6 (ix3 b r c) = ffnRow (fun d => x1 (ix3 b r d)) (fun d => x4 (ix1 d))
      (fun d => x3 (ix1 ⟨1024 * 4 + d.val, by omega⟩)) (fun d => x3 (ix1 ⟨1024 * 3 + d.val, by omega⟩))
      (fun d => x3 (ix1 ⟨1024 * 5 + d.val, by omega⟩)) (fun d j => x5 (ix2 d j)) (fun k c => x6 (ix2 k c)) c := by
  have e (k : Fin 2816) := ctx_act x1 x3 x4 x5 b r k
  rw [funext (ctx_hid x1 x3 x4 b r)] at e
  unfold ffnRow
  rw [← Finset.sum_congr rfl fun k _ => congrArg (· * x6 (ix2 k c)) (e k)]
  unfold val_main_v71 val_main_v70 val_main_v69 val_main_v68 val_main_v67 val_main_v12
  generalize val_main_v66 (F := Ideal) x1 x3 x4 x5 = h
  pointwise

/-- The reference's result: the context's rows, then the latents'. -/
theorem ref_out (b : Fin 8) (r : Fin 2304) (c : Fin 1024) :
    val_main_v72 (F := Ideal) x0 x1 x2 x3 x4 x5 x6 (ix3 b r c)
      = outRow (fun b r l => x0 (ix3 b r l)) (fun b r l => x1 (ix3 b r l)) (fun b j => x2 (ix2 b j)) (fun j => x3 (ix1 j))
          (fun l => x4 (ix1 l)) (fun i j => x5 (ix2 i j)) (fun i j => x6 (ix2 i j)) b r c := by
  have h : val_main_v72 (F := Ideal) x0 x1 x2 x3 x4 x5 x6 (ix3 b r c) = if hr : r.val < 256
      then val_main_v71 (F := Ideal) x1 x3 x4 x5 x6 (ix3 b ⟨r.val, hr⟩ c)
      else val_main_v40 (F := Ideal) x0 x2 x4 x5 x6 (ix3 b ⟨r.val - 256, by omega⟩ c) := by
    unfold val_main_v72
    generalize val_main_v71 (F := Ideal) x1 x3 x4 x5 x6 = u
    generalize val_main_v40 (F := Ideal) x0 x2 x4 x5 x6 = v
    pointwise
  rw [h]
  unfold outRow
  split
  · exact ctx_out x1 x3 x4 x5 x6 b _ c
  · exact lat_out x0 x2 x4 x5 x6 b _ c

end Cert.Ffn

end
-- ==== Proof.FfnClaims.lean ====
/-
  The claims of the feed-forward call, one by one.
-/
module

public import proofs.«01_k».proof.Defs
public import proofs.«01_k».proof.Proof.Gen.Kernel2.Frame
public import proofs.«01_k».proof.Proof.FfnFinal
public import proofs.«01_k».proof.Proof.FfnReads

@[expose] public section

set_option maxRecDepth 16384

noncomputable section

namespace Cert.Ffn

open Idealize.ShloMosaic Idealize.ShloMosaic.TcCoe Idealize.SL.Sem Idealize.ShloMosaic.Tactic

theorem frame_kernel : Cert.quiescent_Kernel2 := fun m ρ _ => Cert.Kernel2.Gen.frame m ρ

theorem frame_ideal : Cert.quiescent_Kernel2Ideal := fun m ρ _ => Cert.Kernel2Ideal.Gen.frame m ρ

theorem frame_reference : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

open Cert.Kernel2Ideal Cert.Kernel2Ideal.Gen

/-- The reference's result is the kernel's. -/
theorem results_equal (m : (ℓ : Loc nD τ sig) → Buf (Elt Ideal) ℓ) (c : Dev nD) :
    Cert.Reference2Ideal.Read.val_main_v72 (F := Ideal) (arg0 m c) (arg1 m c) (arg2 m c) (arg3 m c) (arg4 m c) (arg5 m c) (arg6 m c)
      = (dats m 0 c).arrAt 5 cfg0.N := by
  rw [final_array]
  funext i
  have e : i = ix3 (⟨(i 0).val, (i 0).isLt⟩ : Fin 8) (⟨(i 1).val, (i 1).isLt⟩ : Fin 2304) (⟨(i 2).val, (i 2).isLt⟩ : Fin 1024) :=
    funext fun a => match a with | ⟨0, _⟩ => rfl | ⟨1, _⟩ => rfl | ⟨2, _⟩ => rfl
  exact (congrArg _ e).trans (ref_out _ _ _ _ _ _ _ _ _ _)

theorem equal : Cert.algebraic_Kernel2Ideal_Reference2Ideal := fun m g m' g' _ hargs =>
  ⟨fun c => (dats m 0 c).arrAt 5 cfg0.N, Cert.Kernel2Ideal.Value.run_blocks m g,
    (θ_run Cert.Reference2Ideal.defs _ _).mono (fun r h c => ⟨(h c).1.trans (by
        obtain ⟨e0, e1, e2, e3, e4, e5, e6⟩ := hargs c
        rw [Cert.Reference2Ideal.Read.val_main_v72_eq, e0, e1, e2, e3, e4, e5, e6]
        exact results_equal m c), (h c).2⟩)
      (Cert.Reference2Ideal.Value.run (F := Ideal) m' g')⟩

end Cert.Ffn

end
-- ==== Proof.ProjBase.lean ====
/-
  The input projection's pipeline, apart from what its body computes: which of the body's three branches a grid point
  takes, and the buffers the body is handed at a point.
-/
module

public import proofs.«01_k».proof.Proof.Gen.Kernel3Ideal.Frame
public import proofs.«01_k».proof.Proof.Gen.Kernel3Ideal.Skeleton
public import proofs.«01_k».proof.Proof.Gen.Kernel3Ideal.Points
public import proofs.«01_k».proof.Proof.Gen.Kernel3Ideal.Loops
public import Idealize.ShloMosaic.Lib.Pipeline.FrameBody
public import Idealize.ShloMosaic.Lib.Tactic
public import Idealize.ShloMosaic.Lib.WordCmp
public import Idealize.ShloMosaic.Lib.Pointwise.Tactic

@[expose] public section

set_option maxRecDepth 16384

noncomputable section

namespace Cert.Proj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel3Ideal Cert.Kernel3Ideal.Gen

variable {F : FTy → Type} [FloatOps F]

local notation "𝕄" => MT nD τ sig Unit (Elt F) ℕ (UR sig nD τ) ℕ

/-- The condition of the body's first branch (the hidden states of a new batch entry), -/
abbrev first (i : grid0.Coords) : Prop := k0_cond1 i = 1#1
/-- of the second (a block of columns that are only projected), -/
abbrev plain (i : grid0.Coords) : Prop := k0_cond2 i = 1#1
/-- and of the third (a block of columns that are shifted and mixed as well). -/
abbrev mixed (i : grid0.Coords) : Prop := k0_cond3 i = 1#1

theorem first_iff : ∀ t : Fin cfg0.N, first (grid0.coords t) ↔ t.val % 23 = 0 :=
  (by decide +kernel : ∀ t : Fin grid0.N, first (grid0.coords t) ↔ t.val % 23 = 0)
theorem plain_iff : ∀ t : Fin cfg0.N, plain (grid0.coords t) ↔ t.val % 23 < 16 :=
  (by decide +kernel : ∀ t : Fin grid0.N, plain (grid0.coords t) ↔ t.val % 23 < 16)
theorem mixed_iff : ∀ t : Fin cfg0.N, mixed (grid0.coords t) ↔ 16 ≤ t.val % 23 :=
  (by decide +kernel : ∀ t : Fin grid0.N, mixed (grid0.coords t) ↔ 16 ≤ t.val % 23)

end Cert.Proj

end
-- ==== Proof.ProjSpec.lean ====
/-
  What one grid point of the input projection computes, as functions of the blocks it holds: the hidden states of a batch
  entry (normed and modulated, 256 rows at a time), a block of their columns projected, and, for the columns that are
  shifted, the projection with rows of zeros around the context's and the latents' rows and the mix of neighbouring rows.
-/
module

public import proofs.«01_k».proof.Proof.ProjBase
public import Idealize.ShloMosaic.Lib.Writes

@[expose] public section

set_option maxRecDepth 16384

noncomputable section

namespace Cert.Proj

open Idealize.ShloMosaic Idealize.ShloMosaic.TcCoe
open Cert.Kernel3Ideal Cert.Kernel3Ideal.Gen

variable {F : FTy → Type} [FloatOps F]

theorem trips1 : k0_t1_loop.trips = 9 := by decide +kernel
theorem trips2 : k0_t2_loop.trips = 2 := by decide +kernel
theorem trips3 : k0_t3_loop.trips = 2 := by decide +kernel

/-! ## Blocks of what is staged -/

/-- Rows `256·k … 256·k + 255` of the tokens. -/
def tokBlk (x : Vec F S1x2304x1024 .f32) (k : Fin k0_t1_loop.trips) : Vec F S1x256x1024 .f32 :=
  View.ld x (Rect.unit (s := S1x2304x1024) (k0_off1 k) S1x256x1024.size (by
    revert k; decide +kernel))

/-- One of the twelve modulation rows. -/
def modRow (m : Vec F S1x12x1024 .f32) (p : Fin 12) : Vec F S1x1x1024 .f32 :=
  View.ld m (Rect.unit (s := S1x12x1024) ![0, p.val, 0] S1x1x1024.size (by
    revert p; decide))

/-- The context's rows of the hidden states, -/
def ctxHid (h : Vec F S2304x1024 .bf16) : Vec F S256x1024 .bf16 :=
  View.ld h (Rect.unit (s := S2304x1024) ![0, 0] S256x1024.size inb_S2304x1024_S256x1024_0_0)

/-- and half `k` of the latents'. -/
def latHid (h : Vec F S2304x1024 .bf16) (k : Fin k0_t2_loop.trips) : Vec F S1024x1024 .bf16 :=
  View.ld h (Rect.unit (s := S2304x1024) (k0_off3 k) S1024x1024.size (by
    revert k; decide +kernel))

/-- A block of 512 columns of the weights, as loaded. -/
def weights (w : Vec F S1024x512 .bf16) : Vec F S1024x512 .bf16 :=
  View.ld w (Rect.unit (s := S1024x512) ![0, 0] S1024x512.size inb_S1024x512_S1024x512_0_0)

/-- The mixing weights of a block of columns, as loaded. -/
def mix (u : Vec F S1x512 .f32) : Vec F S1x512 .f32 :=
  View.ld u (Rect.unit (s := S1x512) ![0, 0] S1x512.size inb_S1x512_S1x512_0_0)

/-! ## The hidden states -/

/-- Block `k` of the hidden states. -/
def hidBlk (x : Vec F S1x2304x1024 .f32) (m : Vec F S1x12x1024 .f32) (g : Vec F S1x1024 .f32) (k : Fin k0_t1_loop.trips) :
    FVec F S256x1024 .bf16 :=
  k0_pay1 (k0_pay5 (tokBlk x k))
    (k0_pay6 (View.ld g (Rect.unit (s := S1x1024) ![0, 0] S1x1024.size inb_S1x1024_S1x1024_0_0)))
    (k0_pay8 0#32 1#32 k (modRow m 1) (modRow m 0)) (k0_pay9 0#32 1#32 k (modRow m 3) (modRow m 2)) (k0_pay10 (tokBlk x k))

/-- All hidden states of a batch entry. -/
def hid (x : Vec F S1x2304x1024 .f32) (m : Vec F S1x12x1024 .f32) (g : Vec F S1x1024 .f32) : Vec F S2304x1024 .bf16 :=
  fun y => hidBlk x m g ⟨(y 0).val / 256, by rw [trips1]; have := (y 0).isLt; have h : S2304x1024.size 0 = 2304 := rfl; omega⟩
    (ix2 ⟨(y 0).val % 256, Nat.mod_lt _ (by decide)⟩ (y 1))

/-! ## The projection alone -/

/-- A block of columns of the projection. -/
def proj (h : Vec F S2304x1024 .bf16) (w : Vec F S1024x512 .bf16) : Vec F S1x2304x512 .bf16 :=
  fun y => if _h : (y 1).val < 256 then k0_pay2 (ctxHid h) (weights w) (ix3 0 ⟨(y 1).val, _h⟩ (y 2))
    else k0_pay3 (latHid h ⟨((y 1).val - 256) / 1024, by
        rw [trips2]; have := (y 1).isLt; have h : S1x2304x512.size 1 = 2304 := rfl; omega⟩) (weights w)
      (ix3 0 ⟨((y 1).val - 256) % 1024, Nat.mod_lt _ (by decide)⟩ (y 2))

/-! ## The projection with zeros around its two parts, and the mix of neighbouring rows -/

/-- The projection's rows, the context's from row 8 and the latents' from row 272, and zeros elsewhere. -/
def padded (h : Vec F S2304x1024 .bf16) (w : Vec F S1024x512 .bf16) : Vec F S2328x512 .f32 :=
  fun y => if (y 0).val < 8 then Scalar.ofBits .f32 0x00000000#32
    else if _h : (y 0).val < 264 then k0_pay15 (ctxHid h) (weights w) (ix2 ⟨(y 0).val - 8, by omega⟩ (y 1))
    else if (y 0).val < 272 then Scalar.ofBits .f32 0x00000000#32
    else if _h : (y 0).val < 2320 then k0_pay16 (latHid h ⟨((y 0).val - 272) / 1024, by rw [trips2]; omega⟩) (weights w)
      (ix2 ⟨((y 0).val - 272) % 1024, Nat.mod_lt _ (by decide)⟩ (y 1))
    else Scalar.ofBits .f32 0x00000000#32

/-- Rows `o … o + 255` of the padded projection. -/
def padBlk (p : Vec F S2328x512 .f32) (o : ℕ) (ho : o + 256 ≤ 2328) : Vec F S256x512 .f32 :=
  View.ld p (Rect.unit (s := S2328x512) ![o, 0] S256x512.size (by
    intro a; match a with
    | 0 => exact ho
    | 1 => exact le_refl 512))

/-- Where block `j` of the result's rows begins in the padded projection. -/
def src (j : ℕ) : ℕ := 256 * j + if j = 0 then 8 else 16

/-- A block of columns of the mix of neighbouring rows. -/
def shifted (p : Vec F S2328x512 .f32) (u : Vec F S1x512 .f32) : Vec F S1x2304x512 .bf16 :=
  fun y =>
    have h0 : (y 1).val < 2304 := (y 1).isLt
    have h1 : src ((y 1).val / 256) + 257 ≤ 2328 ∧ 1 ≤ src ((y 1).val / 256) := by
      unfold src; split <;> omega
    k0_pay4 (k0_pay17 (mix u)) (k0_pay18 (mix u)) (padBlk p (src ((y 1).val / 256) - 1) (by omega))
      (padBlk p (src ((y 1).val / 256) + 1) (by omega)) (padBlk p (src ((y 1).val / 256)) (by omega))
      (ix3 0 ⟨(y 1).val % 256, Nat.mod_lt _ (by decide)⟩ (y 2))

end Cert.Proj

end
-- ==== Proof.ProjPieces.lean ====
/-
  The blocks a grid point of the input projection stores are the blocks of the functions of Proof/ProjSpec.lean, each at
  its place.
-/
module

public import proofs.«01_k».proof.Proof.ProjSpec

@[expose] public section

set_option maxRecDepth 16384

noncomputable section

namespace Cert.Proj

open Idealize.ShloMosaic Idealize.ShloMosaic.TcCoe
open Cert.Kernel3Ideal Cert.Kernel3Ideal.Gen

variable {F : FTy → Type} [FloatOps F]

theorem idx2_eq {a b : ℕ} (x : (⟨2, ![a, b]⟩ : Shape).Idx) (i : Fin a) (j : Fin b) (h0 : i.val = (x 0).val) (h1 : j.val = (x 1).val) :
    ix2 i j = x :=
  funext fun d => match d with
    | 0 => Fin.ext h0
    | 1 => Fin.ext h1

theorem idx3_eq {a b : ℕ} (x : (⟨3, ![1, a, b]⟩ : Shape).Idx) (i : Fin a) (j : Fin b) (h0 : i.val = (x 1).val) (h1 : j.val = (x 2).val) :
    ix3 0 i j = x :=
  funext fun d => match d with
    | 0 => Subsingleton.elim (α := Fin 1) _ _
    | 1 => Fin.ext h0
    | 2 => Fin.ext h1

/-- A row of block `k` of the hidden states is that row of all of them. -/
theorem hid_at (x : Vec F S1x2304x1024 .f32) (m : Vec F S1x12x1024 .f32) (g : Vec F S1x1024 .f32) (k : Fin k0_t1_loop.trips)
    (z : S256x1024.Idx) (y : S2304x1024.Idx) (h0 : (y 0).val = 256 * k.val + (z 0).val) (h1 : (y 1).val = (z 1).val) :
    hidBlk x m g k z = hid x m g y := by
  have hz : (z 0).val < 256 := (z 0).isLt
  refine (congr (congrArg (hidBlk x m g) (Fin.ext ?_)) (idx2_eq z _ _ ?_ h1)).symm
  · show (y 0).val / 256 = k.val; omega
  · show (y 0).val % 256 = (z 0).val; omega

/-- The context's block of the projection, -/
theorem proj_ctx (h : Vec F S2304x1024 .bf16) (w : Vec F S1024x512 .bf16) (z : S1x256x512.Idx) (y : S1x2304x512.Idx)
    (h0 : (y 1).val = (z 1).val) (h1 : (y 2).val = (z 2).val) : k0_pay2 (ctxHid h) (weights w) z = proj h w y := by
  have hz : (z 1).val < 256 := (z 1).isLt
  have hy : (y 1).val < 256 := by omega
  unfold proj; rw [dif_pos hy]
  exact congrArg _ (idx3_eq z _ _ h0 h1).symm

/-- and half `k` of the latents'. -/
theorem proj_lat (h : Vec F S2304x1024 .bf16) (w : Vec F S1024x512 .bf16) (k : Fin k0_t2_loop.trips) (z : S1x1024x512.Idx)
    (y : S1x2304x512.Idx) (h0 : (y 1).val = 1024 * k.val + 256 + (z 1).val) (h1 : (y 2).val = (z 2).val) :
    k0_pay3 (latHid h k) (weights w) z = proj h w y := by
  have hz : (z 1).val < 1024 := (z 1).isLt
  have hy : ¬(y 1).val < 256 := by omega
  unfold proj; rw [dif_neg hy]
  refine (congr (congrArg (fun k => k0_pay3 (latHid h k) (weights w)) (Fin.ext ?_)) (idx3_eq z _ _ ?_ h1)).symm
  · show ((y 1).val - 256) / 1024 = k.val; omega
  · show ((y 1).val - 256) % 1024 = (z 1).val; omega

/-- The rows of zeros of the padded projection, -/
theorem padded_zero (h : Vec F S2304x1024 .bf16) (w : Vec F S1024x512 .bf16) (y : S2328x512.Idx)
    (hy : (y 0).val < 8 ∨ 264 ≤ (y 0).val ∧ (y 0).val < 272 ∨ 2320 ≤ (y 0).val) :
    (Scalar.ofBits .f32 0x00000000#32 : F .f32) = padded h w y := by
  unfold padded
  split
  · rfl
  split
  · omega
  split
  · rfl
  split
  · omega
  · rfl

/-- its context rows, -/
theorem padded_ctx (h : Vec F S2304x1024 .bf16) (w : Vec F S1024x512 .bf16) (z : S256x512.Idx) (y : S2328x512.Idx)
    (h0 : (y 0).val = 8 + (z 0).val) (h1 : (y 1).val = (z 1).val) : k0_pay15 (ctxHid h) (weights w) z = padded h w y := by
  have hz : (z 0).val < 256 := (z 0).isLt
  unfold padded; rw [if_neg (by omega), dif_pos (by omega)]
  refine congrArg _ (idx2_eq z _ _ ?_ h1).symm
  show (y 0).val - 8 = (z 0).val; omega

/-- and its latents' rows. -/
theorem padded_lat (h : Vec F S2304x1024 .bf16) (w : Vec F S1024x512 .bf16) (k : Fin k0_t2_loop.trips) (z : S1024x512.Idx)
    (y : S2328x512.Idx) (h0 : (y 0).val = 1024 * k.val + 272 + (z 0).val) (h1 : (y 1).val = (z 1).val) :
    k0_pay16 (latHid h k) (weights w) z = padded h w y := by
  have hz : (z 0).val < 1024 := (z 0).isLt
  have hk : k.val < 2 := lt_of_lt_of_eq k.isLt trips2
  unfold padded; rw [if_neg (by omega), dif_neg (by omega), if_neg (by omega), dif_pos (by omega)]
  refine (congr (congrArg (fun k => k0_pay16 (latHid h k) (weights w)) (Fin.ext ?_)) (idx2_eq z _ _ ?_ h1)).symm
  · show ((y 0).val - 272) / 1024 = k.val; omega
  · show ((y 0).val - 272) % 1024 = (z 0).val; omega

/-- Block `j` of the mix of neighbouring rows. -/
theorem shifted_at (p : Vec F S2328x512 .f32) (u : Vec F S1x512 .f32) (j o : ℕ) (hj : o = src j) (ho : o + 257 ≤ 2328)
    (z : S1x256x512.Idx) (y : S1x2304x512.Idx) (h0 : (y 1).val = 256 * j + (z 1).val) (h1 : (y 2).val = (z 2).val) :
    k0_pay4 (k0_pay17 (mix u)) (k0_pay18 (mix u)) (padBlk p (o - 1) (by omega)) (padBlk p (o + 1) (by omega))
      (padBlk p o (by omega)) z = shifted p u y := by
  have hz : (z 1).val < 256 := (z 1).isLt
  have e : (y 1).val / 256 = j := by omega
  subst hj
  subst e
  unfold shifted
  refine congrArg _ (idx3_eq z _ _ ?_ h1).symm
  show (y 1).val % 256 = (z 1).val; omega

end Cert.Proj

end
-- ==== Proof.ProjRow.lean ====
/-
  The input projection as plain formulas: the hidden row of each row of the joined stream, the weights' columns in the
  result's order, the projection, and the mix of a row with its neighbours within the context or within the latents.
-/
module

public import proofs.«01_k».proof.Proof.FfnRow

@[expose] public section

noncomputable section

namespace Cert.Proj

open Idealize.ShloMosaic Cert.Ffn

/-- The hidden states: row `r` of the joined stream, the 256 context rows first, normed, with the context's modulation (one for
    all batches) or the latents' (the batch's own), whose parts 0 and 1 are the shift and the scale. -/
def hidden (x : Fin 8 → Fin 2048 → Fin 1024 → EReal) (xc : Fin 8 → Fin 256 → Fin 1024 → EReal) (ml : Fin 8 → Fin 6144 → EReal)
    (mc : Fin 6144 → EReal) (g : Fin 1024 → EReal) (b : Fin 8) (r : Fin 2304) (d : Fin 1024) : EReal :=
  if h : r.val < 256 then
    hidRow (xc b ⟨r.val, h⟩) g (fun c => mc ⟨1024 * 1 + c.val, by omega⟩) (fun c => mc ⟨1024 * 0 + c.val, by omega⟩) d
  else
    hidRow (x b ⟨r.val - 256, by omega⟩) g (fun c => ml b ⟨1024 * 1 + c.val, by omega⟩) (fun c => ml b ⟨1024 * 0 + c.val, by omega⟩) d

/-- The weights' columns in the result's order: the gates of the shifted part, which come last in the weights, before it;
    zeros after. -/
def column (w : Fin 1024 → Fin 11680 → EReal) (d : Fin 1024) (c : Fin 11776) : EReal :=
  if _h : c.val < 5120 then w d ⟨c.val, by omega⟩
  else if _h : c.val < 8192 then w d ⟨c.val + 3488, by omega⟩
  else if _h : c.val < 11680 then w d ⟨c.val - 3072, by omega⟩
  else 0

/-- The mixing weight of a column of the result. -/
def muCol (mu : Fin 3488 → EReal) (c : Fin 11776) : EReal :=
  if _h : 8192 ≤ c.val ∧ c.val < 11680 then mu ⟨c.val - 8192, by omega⟩ else 0

/-- A row times a column. -/
def dotRow (h : Fin 2304 → Fin 1024 → EReal) (w : Fin 1024 → EReal) (r : Fin 2304) : EReal := ∑ d, h r d * w d

/-- The row before, zero where the context's or the latents' rows begin, -/
def before (p : Fin 2304 → EReal) (r : Fin 2304) : EReal :=
  if _h : r.val = 0 ∨ r.val = 256 then 0 else p ⟨r.val - 1, by omega⟩

/-- and the row after, zero where they end. -/
def next (p : Fin 2304 → EReal) (r : Fin 2304) : EReal :=
  if _h : r.val = 255 ∨ r.val = 2303 then 0 else p ⟨r.val + 1, by omega⟩

/-- A row mixed with its neighbours, as the reference says it, -/
def mixed1 (p : Fin 2304 → EReal) (u : EReal) (r : Fin 2304) : EReal :=
  p r + u * (Ideal.ofBits .f32 0x3F000000#32 * (before p r + next p r) - p r)

/-- and as the kernel does. -/
def mixed2 (p : Fin 2304 → EReal) (u : EReal) (r : Fin 2304) : EReal :=
  p r * (Ideal.ofBits .f32 0x3F800000#32 - u) + (before p r + next p r) * (Ideal.ofBits .f32 0x3F000000#32 * u)

/-- The result: column `c` of row `r`. -/
def resultRow (h : Fin 2304 → Fin 1024 → EReal) (w : Fin 1024 → Fin 11680 → EReal) (mu : Fin 3488 → EReal) (r : Fin 2304)
    (c : Fin 11776) : EReal :=
  if c.val < 8192 then dotRow h (fun d => column w d c) r
  else if c.val < 11680 then mixed1 (dotRow h fun d => column w d c) (muCol mu c) r
  else 0

end Cert.Proj

end
-- ==== Proof.ProjCols.lean ====
/-
  What a grid point of the input projection computes, read at an index over the extended reals.
-/
module

public import proofs.«01_k».proof.Proof.ProjPieces
public import proofs.«01_k».proof.Proof.ProjRow

@[expose] public section

set_option maxRecDepth 16384

noncomputable section

namespace Cert.Proj

open Idealize.ShloMosaic Idealize.ShloMosaic.TcCoe Cert.Ffn
open Cert.Kernel3Ideal Cert.Kernel3Ideal.Gen

/-! ## The blocks -/

theorem tokBlk_apply (x : Vec Ideal S1x2304x1024 .f32) (k : Fin k0_t1_loop.trips) (i : Fin 256) (c : Fin 1024) :
    tokBlk x k (ix3 0 i c) = x (ix3 0 ⟨256 * k.val + i.val, by have := lt_of_lt_of_eq k.isLt trips1; omega⟩ c) := by
  have e0 : k0_off1 k 1 = 256 * k.val := congrFun (k0_off1_eq k) 1
  have e1 : k0_off1 k 2 = 0 := congrFun (k0_off1_eq k) 2
  unfold tokBlk
  pointwise
  refine congrArg x (congrArg₂ (ix3 (0 : Fin 1)) (Fin.ext ?_) (Fin.ext ?_)) <;> dsimp only <;> omega

theorem modRow_at (x : Vec Ideal S1x12x1024 .f32) (j : Fin 12) (c : Fin 1024) : modRow x j (ix3 0 0 c) = x (ix3 0 j c) := by
  unfold modRow
  pointwise

theorem ctxHid_apply (h : Vec Ideal S2304x1024 .bf16) (i : Fin 256) (d : Fin 1024) : ctxHid h (ix2 i d) = h (ix2 ⟨i.val, by omega⟩ d) := by
  unfold ctxHid
  pointwise

theorem latHid_apply (h : Vec Ideal S2304x1024 .bf16) (k : Fin k0_t2_loop.trips) (i : Fin 1024) (d : Fin 1024) :
    latHid h k (ix2 i d) = h (ix2 ⟨256 + 1024 * k.val + i.val, by have := lt_of_lt_of_eq k.isLt trips2; omega⟩ d) := by
  have e0 : k0_off3 k 0 = 1024 * k.val + 256 := congrFun (k0_off3_eq k) 0
  have e1 : k0_off3 k 1 = 0 := congrFun (k0_off3_eq k) 1
  unfold latHid
  pointwise
  refine congrArg h (congrArg₂ ix2 (Fin.ext ?_) (Fin.ext ?_)) <;> dsimp only <;> omega

theorem weights_apply (w : Vec Ideal S1024x512 .bf16) (d : Fin 1024) (c : Fin 512) : weights w (ix2 d c) = w (ix2 d c) := by
  unfold weights
  pointwise

theorem mix_apply (u : Vec Ideal S1x512 .f32) (c : Fin 512) : mix u (ix2 0 c) = u (ix2 0 c) := by
  unfold mix
  pointwise

theorem padBlk_apply (p : Vec Ideal S2328x512 .f32) (o : ℕ) (ho : o + 256 ≤ 2328) (i : Fin 256) (c : Fin 512) :
    padBlk p o ho (ix2 i c) = p (ix2 ⟨o + i.val, by omega⟩ c) := by
  unfold padBlk
  pointwise

/-! ## The payloads -/

theorem pay8_apply (a b : BitVec 32) (k : Fin k0_t1_loop.trips) (u v : Vec Ideal S1x1x1024 .f32) (i : Fin 256) (c : Fin 1024) :
    k0_pay8 a b k u v (ix2 i c) = Scalar.select (k0_pay7 a b k (ix2 i 0)) (u (ix3 0 0 c)) (v (ix3 0 0 c)) := by
  unfold k0_pay8
  generalize k0_pay7 a b k = q
  pointwise

theorem pay9_apply (a b : BitVec 32) (k : Fin k0_t1_loop.trips) (u v : Vec Ideal S1x1x1024 .f32) (i : Fin 256) (c : Fin 1024) :
    k0_pay9 a b k u v (ix2 i c) = Scalar.select (k0_pay7 a b k (ix2 i 0)) (u (ix3 0 0 c)) (v (ix3 0 0 c)) := by
  unfold k0_pay9
  generalize k0_pay7 a b k = q
  pointwise

theorem pay7_word (k : Fin k0_t1_loop.trips) (i : Fin 256) :
    k0_pay7 0#32 1#32 k (ix2 i 0) = IntOp.cmpi .sge (Scalar.muli (Scf.iv 0#32 1#32 k) 256#32 + BitVec.ofNat 32 i.val) 256#32 := by
  unfold k0_pay7
  pointwise
  rfl

theorem pay10_apply (x : Vec Ideal S1x256x1024 .f32) (i : Fin 256) :
    k0_pay10 x (ix2 i 0) = Ideal.div (∑ e : Fin 1024, x (ix3 0 i e) * x (ix3 0 i e)) (Ideal.ofBits .f32 0x44800000#32) := by
  unfold k0_pay10 k0_pay5
  pointwise

theorem pay1_apply (x : Vec Ideal S1x256x1024 .f32) (g : Vec Ideal S1x1024 .f32) (sh sc : FVec Ideal S256x1024 .f32) (i : Fin 256)
    (c : Fin 1024) :
    k0_pay1 (k0_pay5 x) (k0_pay6 g) sh sc (k0_pay10 x) (ix2 i c)
      = hidRow (fun c => x (ix3 0 i c)) (fun c => g (ix2 0 c)) (fun c => sc (ix2 i c)) (fun c => sh (ix2 i c)) c := by
  unfold hidRow
  rw [← pay10_apply]
  unfold k0_pay1 k0_pay5 k0_pay6
  generalize k0_pay10 x = r
  pointwise

theorem pay2_apply (h : Vec Ideal S256x1024 .bf16) (w : Vec Ideal S1024x512 .bf16) (i : Fin 256) (c : Fin 512) :
    k0_pay2 h w (ix3 0 i c) = ∑ d : Fin 1024, h (ix2 i d) * w (ix2 d c) := by
  unfold k0_pay2
  pointwise

theorem pay3_apply (h : Vec Ideal S1024x1024 .bf16) (w : Vec Ideal S1024x512 .bf16) (i : Fin 1024) (c : Fin 512) :
    k0_pay3 h w (ix3 0 i c) = ∑ d : Fin 1024, h (ix2 i d) * w (ix2 d c) := by
  unfold k0_pay3
  pointwise

theorem pay15_apply (h : Vec Ideal S256x1024 .bf16) (w : Vec Ideal S1024x512 .bf16) (i : Fin 256) (c : Fin 512) :
    k0_pay15 h w (ix2 i c) = ∑ d : Fin 1024, h (ix2 i d) * w (ix2 d c) := by
  unfold k0_pay15
  pointwise

theorem pay16_apply (h : Vec Ideal S1024x1024 .bf16) (w : Vec Ideal S1024x512 .bf16) (i : Fin 1024) (c : Fin 512) :
    k0_pay16 h w (ix2 i c) = ∑ d : Fin 1024, h (ix2 i d) * w (ix2 d c) := by
  unfold k0_pay16
  pointwise

theorem pay4_apply (u : Vec Ideal S1x512 .f32) (a b p : Vec Ideal S256x512 .f32) (i : Fin 256) (c : Fin 512) :
    k0_pay4 (k0_pay17 u) (k0_pay18 u) a b p (ix3 0 i c)
      = p (ix2 i c) * (Ideal.ofBits .f32 0x3F800000#32 - u (ix2 0 c))
        + (a (ix2 i c) + b (ix2 i c)) * (Ideal.ofBits .f32 0x3F000000#32 * u (ix2 0 c)) := by
  unfold k0_pay4 k0_pay17 k0_pay18
  pointwise

/-! ## What a point computes -/

/-- Whether row `i` of block `k` of the tokens is a latent's: whether the block is not the first. -/
theorem latent_block (k : Fin k0_t1_loop.trips) (i : Fin 256) :
    k0_pay7 0#32 1#32 k (ix2 i 0) = if k.val = 0 then 0#1 else 1#1 := by
  have h : ∀ (k : Fin 9) (i : Fin 256), IntOp.cmpi .sge (Scalar.muli (Scf.iv 0#32 1#32 k) 256#32 + BitVec.ofNat 32 i.val) 256#32
      = if k.val = 0 then 0#1 else 1#1 := by decide +kernel
  rw [pay7_word]
  exact h (k.cast trips1) i

/-- The hidden row of a row: with the modulation's rows 1 and 3 for the latents, 0 and 2 for the context. -/
theorem hid_apply (x : Vec Ideal S1x2304x1024 .f32) (m : Vec Ideal S1x12x1024 .f32) (g : Vec Ideal S1x1024 .f32) (r : Fin 2304)
    (c : Fin 1024) :
    hid x m g (ix2 r c) = hidRow (fun c => x (ix3 0 r c)) (fun c => g (ix2 0 c))
      (fun c => m (ix3 0 (if r.val < 256 then 2 else 3) c)) (fun c => m (ix3 0 (if r.val < 256 then 0 else 1) c)) c := by
  unfold hid hidBlk
  refine (pay1_apply _ _ _ _ _ _).trans ?_
  have hk : (⟨r.val / 256, by rw [trips1]; omega⟩ : Fin k0_t1_loop.trips).val = 0 ↔ r.val < 256 := by dsimp only; omega
  have hx (c : Fin 1024) : tokBlk x ⟨r.val / 256, by rw [trips1]; omega⟩ (ix3 0 ⟨r.val % 256, Nat.mod_lt _ (by decide)⟩ c) = x (ix3 0 r c) :=
    (tokBlk_apply _ _ _ _).trans (congrArg (fun a => x (ix3 0 a c)) (Fin.ext (by dsimp only; omega)))
  have hg (c : Fin 1024) : View.ld g (Rect.unit (s := S1x1024) ![0, 0] S1x1024.size inb_S1x1024_S1x1024_0_0) (ix2 0 c) = g (ix2 0 c) := by
    pointwise
  have hsel (p q : Fin 12) (c : Fin 1024) (f : Fin 2304) (hf : f = r) :
      Scalar.select (if r.val < 256 then 0#1 else 1#1 : BitVec 1) (m (ix3 0 p c)) (m (ix3 0 q c)) = m (ix3 0 (if r.val < 256 then q else p) c) := by
    by_cases h : r.val < 256
    · rw [if_pos h, if_pos h]; rfl
    · rw [if_neg h, if_neg h]; rfl
  have h8 (c : Fin 1024) : k0_pay8 0#32 1#32 ⟨r.val / 256, by rw [trips1]; omega⟩ (modRow m 1) (modRow m 0)
      (ix2 ⟨r.val % 256, Nat.mod_lt _ (by decide)⟩ c) = m (ix3 0 (if r.val < 256 then 0 else 1) c) := by
    rw [pay8_apply, latent_block, modRow_at, modRow_at]
    simp only [hk]
    exact hsel 1 0 c r rfl
  have h9 (c : Fin 1024) : k0_pay9 0#32 1#32 ⟨r.val / 256, by rw [trips1]; omega⟩ (modRow m 3) (modRow m 2)
      (ix2 ⟨r.val % 256, Nat.mod_lt _ (by decide)⟩ c) = m (ix3 0 (if r.val < 256 then 2 else 3) c) := by
    rw [pay9_apply, latent_block, modRow_at, modRow_at]
    simp only [hk]
    exact hsel 3 2 c r rfl
  rw [← funext hx, ← funext hg, ← funext h8, ← funext h9]
  rfl

/-- A block of the projection's columns. -/
theorem proj_apply (h : Vec Ideal S2304x1024 .bf16) (w : Vec Ideal S1024x512 .bf16) (r : Fin 2304) (c : Fin 512) :
    proj h w (ix3 0 r c) = dotRow (fun r d => h (ix2 r d)) (fun d => w (ix2 d c)) r := by
  unfold dotRow
  by_cases hr : r.val < 256
  · rw [← proj_ctx h w (ix3 0 ⟨r.val, hr⟩ c) (ix3 0 r c) rfl rfl, pay2_apply]
    refine Finset.sum_congr rfl fun d _ => ?_
    rw [ctxHid_apply, weights_apply]
  · rw [← proj_lat h w ⟨(r.val - 256) / 1024, by rw [trips2]; omega⟩ (ix3 0 ⟨(r.val - 256) % 1024, Nat.mod_lt _ (by decide)⟩ c)
      (ix3 0 r c) (by show r.val = _ * _ + 256 + _ % 1024; dsimp only; omega) rfl, pay3_apply]
    refine Finset.sum_congr rfl fun d _ => ?_
    rw [latHid_apply, weights_apply]
    exact congrArg (fun a => h (ix2 a d) * w (ix2 d c)) (Fin.ext (by dsimp only; omega))

/-- Where row `r` stands in the padded projection. -/
def place (r : ℕ) : ℕ := if r < 256 then r + 8 else r + 16

/-- The padded projection at a row's place, -/
theorem padded_row (h : Vec Ideal S2304x1024 .bf16) (w : Vec Ideal S1024x512 .bf16) (r : Fin 2304) (c : Fin 512) (q : Fin 2328)
    (hq : q.val = place r.val) : padded h w (ix2 q c) = dotRow (fun r d => h (ix2 r d)) (fun d => w (ix2 d c)) r := by
  unfold place at hq
  unfold dotRow
  by_cases hr : r.val < 256
  · rw [if_pos hr] at hq
    rw [← padded_ctx h w (ix2 ⟨r.val, hr⟩ c) (ix2 q c) (by show q.val = 8 + r.val; omega) rfl, pay15_apply]
    refine Finset.sum_congr rfl fun d _ => ?_
    rw [ctxHid_apply, weights_apply]
  · rw [if_neg hr] at hq
    rw [← padded_lat h w ⟨(r.val - 256) / 1024, by rw [trips2]; omega⟩ (ix2 ⟨(r.val - 256) % 1024, Nat.mod_lt _ (by decide)⟩ c)
      (ix2 q c) (by show q.val = _ * _ + 272 + _ % 1024; dsimp only; omega) rfl, pay16_apply]
    refine Finset.sum_congr rfl fun d _ => ?_
    rw [latHid_apply, weights_apply]
    exact congrArg (fun a => h (ix2 a d) * w (ix2 d c)) (Fin.ext (by dsimp only; omega))

/-- and at the rows of zeros. -/
theorem padded_none (h : Vec Ideal S2304x1024 .bf16) (w : Vec Ideal S1024x512 .bf16) (c : Fin 512) (q : Fin 2328)
    (hq : q.val < 8 ∨ 264 ≤ q.val ∧ q.val < 272 ∨ 2320 ≤ q.val) : padded h w (ix2 q c) = (0 : EReal) :=
  (padded_zero h w (ix2 q c) hq).symm.trans (Ideal.ofBits_zero .f32)

/-- A block of the columns that are mixed. -/
theorem shifted_apply (h : Vec Ideal S2304x1024 .bf16) (w : Vec Ideal S1024x512 .bf16) (u : Vec Ideal S1x512 .f32) (r : Fin 2304)
    (c : Fin 512) :
    shifted (padded h w) u (ix3 0 r c) = mixed2 (dotRow (fun r d => h (ix2 r d)) (fun d => w (ix2 d c))) (u (ix2 0 c)) r := by
  have hs : src (r.val / 256) + r.val % 256 = place r.val := by
    unfold src place; split <;> split <;> omega
  have h1 : src (r.val / 256) + 257 ≤ 2328 ∧ 1 ≤ src (r.val / 256) := by
    unfold src; split <;> omega
  rw [← shifted_at (padded h w) u (r.val / 256) (src (r.val / 256)) rfl h1.1 (ix3 0 ⟨r.val % 256, Nat.mod_lt _ (by decide)⟩ c) (ix3 0 r c)
    (by show r.val = 256 * (r.val / 256) + r.val % 256; omega) rfl, pay4_apply, mix_apply, padBlk_apply, padBlk_apply, padBlk_apply]
  unfold mixed2
  have hp (a : Fin 2304) (q : Fin 2328) := padded_row h w a c q
  rw [hp r _ hs]
  congr 3
  · unfold before
    split
    · next hr => exact padded_none h w c _ (by dsimp only; unfold place at hs; split at hs <;> omega)
    · next hr => exact hp _ _ (by dsimp only; unfold place at hs ⊢; split at hs <;> split <;> omega)
  · unfold next
    split
    · next hr => exact padded_none h w c _ (by dsimp only; unfold place at hs; split at hs <;> omega)
    · next hr => exact hp _ _ (by dsimp only; unfold place at hs ⊢; split at hs <;> split <;> omega)

end Cert.Proj

end
-- ==== Proof.ProjEntry.lean ====
/-
  The blocks that the windows of a grid point of the input projection hold, read off the arguments: a batch entry of the joined
  stream, its modulation rows, the norm's lane weights, and a block of 512 columns of the weights and of the mixing weights.
-/
module

public import proofs.«01_k».proof.Proof.ProjCols
public import Idealize.ShloMosaic.Lib.Pipeline.ValueKit

@[expose] public section

set_option maxRecDepth 16384

noncomputable section

namespace Cert.Proj

open Idealize.ShloMosaic Idealize.ShloMosaic.TcCoe Idealize.ShloMosaic.Tactic
open Cert.Kernel3Ideal Cert.Kernel3Ideal.Gen

variable (m : (ℓ : Loc nD τ sig) → Buf (Elt Ideal) ℓ) (c : Dev nD)

/-- The arguments as arrays of extended reals. -/
abbrev arg0 : S8x2048x1024.Idx → EReal := m ((c.tc : Thread nD τ).loc main_arg0)
abbrev arg1 : S8x256x1024.Idx → EReal := m ((c.tc : Thread nD τ).loc main_arg1)
abbrev arg2 : S8x6144.Idx → EReal := m ((c.tc : Thread nD τ).loc main_arg2)
abbrev arg3 : S6144.Idx → EReal := m ((c.tc : Thread nD τ).loc main_arg3)
abbrev arg4 : S1024.Idx → EReal := m ((c.tc : Thread nD τ).loc main_arg4)
abbrev arg5 : S1024x11680.Idx → EReal := m ((c.tc : Thread nD τ).loc main_arg5)
abbrev arg6 : S3488.Idx → EReal := m ((c.tc : Thread nD τ).loc main_arg6)

/-! ## The operands of the call -/

theorem entry_x (b : Fin 8) (r : Fin 2304) (l : Fin 1024) :
    (V m c (Pipeline.arrRef spec0 0) (ix3 b r l) : EReal) = if hr : r.val < 256
      then arg1 m c (ix3 b ⟨r.val, hr⟩ l) else arg0 m c (ix3 b ⟨r.val - 256, by omega⟩ l) := by
  entry_read
  pointwise

theorem entry_mod_at (b : Fin 8) (j : Fin 12) (l : Fin 1024) :
    (V m c (Pipeline.arrRef spec0 1) (ix3 b j l) : EReal) = if _h : j.val % 2 < 1
      then arg3 m c (ix1 ⟨j.val / 2 * 1024 + l.val, by omega⟩) else arg2 m c (ix2 b ⟨j.val / 2 * 1024 + l.val, by omega⟩) := by
  entry_read
  pointwise

/-- Row `2·n + p` of the modulation: part `n` of the context's vector for `p = 0`, of the latents' for `p = 1`. -/
theorem entry_mod (b : Fin 8) (n : ℕ) (hn : n < 6) (p : Fin 2) (j : Fin 12) (hj : j.val = 2 * n + p.val) (l : Fin 1024) :
    (V m c (Pipeline.arrRef spec0 1) (ix3 b j l) : EReal) = if p.val = 1
      then arg2 m c (ix2 b ⟨1024 * n + l.val, by omega⟩) else arg3 m c (ix1 ⟨1024 * n + l.val, by omega⟩) := by
  rw [entry_mod_at]
  have hp := p.isLt
  by_cases h : p.val = 1
  · rw [if_pos h, dif_neg (by omega)]
    exact congrArg (fun j => arg2 m c (ix2 b j)) (Fin.ext (by dsimp only; omega))
  · rw [if_neg h, dif_pos (by omega)]
    exact congrArg (fun j => arg3 m c (ix1 j)) (Fin.ext (by dsimp only; omega))

theorem entry_g (l : Fin 1024) : (V m c (Pipeline.arrRef spec0 2) (ix2 0 l) : EReal) = arg4 m c (ix1 l) := by
  entry_read
  pointwise

/-- What an operation of the host leaves alone holds what the operations before it left. -/
theorem entry_of_rest (n : ℕ) (b : Ref sig .tc)
    (h : ∀ op ∈ (hostOps0 : List (HloOp τ sig (Elt Ideal))).drop n, (Proc.devRef .tc b : DevRef τ sig) ∉ op.writes) :
    V m c b = StableHlo.after ((hostOps0 : List (HloOp τ sig (Elt Ideal))).take n) (fun b => m (c, b)) (Proc.devRef .tc b) := by
  show StableHlo.after hostOps0 _ _ = _
  conv_lhs => rw [← List.take_append_drop n (hostOps0 : List (HloOp τ sig (Elt Ideal))), StableHlo.after_append]
  exact StableHlo.after_of_forall_not_mem _ _ h

/-- The weights' columns, before the joining and after it, and the mixing weights are written once. -/
theorem written_once (n : ℕ) (b : Ref sig .tc)
    (h : n = 13 ∧ b ∈ [main_v2, main_v4, main_v6, main_v8, main_v10, main_v11] ∨ n = 14 ∧ b = main_v12
      ∨ n = 18 ∧ b ∈ [main_v13, main_arg6, main_v14] ∨ n = 20 ∧ b = main_v16) :
    V m c b = StableHlo.after ((hostOps0 : List (HloOp τ sig (Elt Ideal))).take n) (fun b => m (c, b)) (Proc.devRef .tc b) := by
  refine entry_of_rest m c n b (List.forall_iff_forall_mem.mp ?_)
  simp only [List.mem_cons, List.not_mem_nil, or_false] at h
  rcases h with ⟨rfl, h⟩ | ⟨rfl, h⟩ | ⟨rfl, h⟩ | ⟨rfl, h⟩ <;>
  simp only [hostOps0, List.drop, List.Forall, StableHlo.nullary_writes, StableHlo.unary_writes, StableHlo.binary_writes,
    StableHlo.reshape_writes, StableHlo.nary_writes, Finset.mem_singleton] <;>
  repeat' apply And.intro
  all_goals refine StableHlo.devRef_ne_of_ne ?_
  all_goals revert b
  all_goals decide

/-- The array of the weights: six pieces side by side. -/
theorem entry_v12 : V m c main_v12 = concatenate S1024x11776 1 [⟨S1024x2048, (V m c main_v2 : (⟨S1024x2048, .bf16⟩ : BufTy).Contents (Elt Ideal))⟩,
    ⟨S1024x3072, (V m c main_v4 : (⟨S1024x3072, .bf16⟩ : BufTy).Contents (Elt Ideal))⟩,
    ⟨S1024x3072, (V m c main_v6 : (⟨S1024x3072, .bf16⟩ : BufTy).Contents (Elt Ideal))⟩,
    ⟨S1024x3072, (V m c main_v8 : (⟨S1024x3072, .bf16⟩ : BufTy).Contents (Elt Ideal))⟩,
    ⟨S1024x416, (V m c main_v10 : (⟨S1024x416, .bf16⟩ : BufTy).Contents (Elt Ideal))⟩,
    ⟨S1024x96, (V m c main_v11 : (⟨S1024x96, .bf16⟩ : BufTy).Contents (Elt Ideal))⟩]
    concatenates_S1024x2048_S1024x3072_S1024x3072_S1024x3072_S1024x416_S1024x96_S1024x11776_d1 := by
  rw [written_once m c 14 main_v12 (by simp), written_once m c 13 main_v2 (by simp), written_once m c 13 main_v4 (by simp),
    written_once m c 13 main_v6 (by simp), written_once m c 13 main_v8 (by simp), written_once m c 13 main_v10 (by simp), written_once m c 13 main_v11 (by simp)]
  have e : StableHlo.after ((hostOps0 : List (HloOp τ sig (Elt Ideal))).take 14) (fun b => m (c, b))
      = (hostOps0 : List (HloOp τ sig (Elt Ideal)))[13].result
        (StableHlo.after ((hostOps0 : List (HloOp τ sig (Elt Ideal))).take 13) (fun b => m (c, b))) := rfl
  rw [e]
  generalize StableHlo.after ((hostOps0 : List (HloOp τ sig (Elt Ideal))).take 13) (fun b => m (c, b)) = W
  simp only [hostOps0, List.getElem_cons_succ, List.getElem_cons_zero]
  exact (StableHlo.nary_result _ _ _ _ _ W).trans rfl

/-- The array of the mixing weights: the weights between two pieces of zeros, as a row. -/
theorem entry_v16 : V m c main_v16 = shapeCast S1x11776 (α := EReal) (concatenate S11776 0 [⟨S8192, (V m c main_v13 : (⟨S8192, .f32⟩ : BufTy).Contents (Elt Ideal))⟩,
    ⟨S3488, (V m c main_arg6 : (⟨S3488, .f32⟩ : BufTy).Contents (Elt Ideal))⟩,
    ⟨S96, (V m c main_v14 : (⟨S96, .f32⟩ : BufTy).Contents (Elt Ideal))⟩] concatenates_S8192_S3488_S96_S11776_d0)
    shapeCasts_S11776_S1x11776 := by
  rw [written_once m c 20 main_v16 (by simp), written_once m c 18 main_v13 (by simp), written_once m c 18 main_arg6 (by simp), written_once m c 18 main_v14 (by simp)]
  have e : StableHlo.after ((hostOps0 : List (HloOp τ sig (Elt Ideal))).take 20) (fun b => m (c, b))
      = (hostOps0 : List (HloOp τ sig (Elt Ideal)))[19].result ((hostOps0 : List (HloOp τ sig (Elt Ideal)))[18].result
        (StableHlo.after ((hostOps0 : List (HloOp τ sig (Elt Ideal))).take 18) (fun b => m (c, b)))) := rfl
  rw [e]
  generalize StableHlo.after ((hostOps0 : List (HloOp τ sig (Elt Ideal))).take 18) (fun b => m (c, b)) = W
  simp only [hostOps0, List.getElem_cons_succ, List.getElem_cons_zero]
  rw [StableHlo.reshape_result]
  exact congrArg (fun x : S11776.Idx → EReal => shapeCast S1x11776 x shapeCasts_S11776_S1x11776)
    ((StableHlo.nary_result _ _ _ _ _ W).trans rfl)

/-! The pieces are slices of the weights, and zeros. -/

theorem piece_v2 (d : Fin 1024) (j : Fin 2048) : (V m c main_v2 (ix2 d j) : EReal) = arg5 m c (ix2 d ⟨j.val, by omega⟩) := by
  entry_read
  pointwise

theorem piece_v4 (d : Fin 1024) (j : Fin 3072) :
    (V m c main_v4 (ix2 d j) : EReal) = arg5 m c (ix2 d ⟨2048 + j.val, by omega⟩) := by
  entry_read
  pointwise

theorem piece_v6 (d : Fin 1024) (j : Fin 3072) :
    (V m c main_v6 (ix2 d j) : EReal) = arg5 m c (ix2 d ⟨8608 + j.val, by omega⟩) := by
  entry_read
  pointwise

theorem piece_v8 (d : Fin 1024) (j : Fin 3072) :
    (V m c main_v8 (ix2 d j) : EReal) = arg5 m c (ix2 d ⟨5120 + j.val, by omega⟩) := by
  entry_read
  pointwise

theorem piece_v10 (d : Fin 1024) (j : Fin 416) :
    (V m c main_v10 (ix2 d j) : EReal) = arg5 m c (ix2 d ⟨8192 + j.val, by omega⟩) := by
  entry_read
  pointwise

theorem piece_v11 (d : Fin 1024) (j : Fin 96) : (V m c main_v11 (ix2 d j) : EReal) = (0 : EReal) := by
  entry_read
  pointwise

theorem piece_v13 (j : Fin 8192) : (V m c main_v13 (ix1 j) : EReal) = (0 : EReal) := by
  entry_read
  pointwise

theorem piece_v14 (j : Fin 96) : (V m c main_v14 (ix1 j) : EReal) = (0 : EReal) := by
  entry_read
  pointwise

theorem piece_arg6 (j : Fin 3488) : (V m c main_arg6 (ix1 j) : EReal) = arg6 m c (ix1 j) := by
  entry_read
  rfl

/-- Slices of the weights side by side are the weights' columns in the result's order. -/
theorem columns_apply (w : Fin 1024 → Fin 11680 → EReal) (a : S1024x2048.Idx → EReal) (b b' b'' : S1024x3072.Idx → EReal)
    (e : S1024x416.Idx → EReal) (z : S1024x96.Idx → EReal)
    (ha : ∀ d (j : Fin 2048), a (ix2 d j) = w d ⟨j.val, by omega⟩) (hb : ∀ d (j : Fin 3072), b (ix2 d j) = w d ⟨2048 + j.val, by omega⟩)
    (hb' : ∀ d (j : Fin 3072), b' (ix2 d j) = w d ⟨8608 + j.val, by omega⟩)
    (hb'' : ∀ d (j : Fin 3072), b'' (ix2 d j) = w d ⟨5120 + j.val, by omega⟩)
    (he : ∀ d (j : Fin 416), e (ix2 d j) = w d ⟨8192 + j.val, by omega⟩) (hz : ∀ d (j : Fin 96), z (ix2 d j) = 0)
    (d : Fin 1024) (j : Fin 11776) :
    concatenate S1024x11776 1 [⟨S1024x2048, a⟩, ⟨S1024x3072, b⟩, ⟨S1024x3072, b'⟩, ⟨S1024x3072, b''⟩, ⟨S1024x416, e⟩, ⟨S1024x96, z⟩]
      concatenates_S1024x2048_S1024x3072_S1024x3072_S1024x3072_S1024x416_S1024x96_S1024x11776_d1 (ix2 d j) = column w d j := by
  unfold column
  pointwise
  simp only [ha, hb, hb', hb'', he, hz]
  repeat' split
  all_goals first | omega | exact congrArg (w d) (Fin.ext (by dsimp only <;> omega)) | rfl

/-- The mixing weights between zeros are the mixing weights of the result's columns. -/
theorem mixing_apply (u : Fin 3488 → EReal) (z : S8192.Idx → EReal) (b : S3488.Idx → EReal) (z' : S96.Idx → EReal)
    (hz : ∀ j : Fin 8192, z (ix1 j) = 0) (hb : ∀ j : Fin 3488, b (ix1 j) = u j) (hz' : ∀ j : Fin 96, z' (ix1 j) = 0) (j : Fin 11776) :
    shapeCast S1x11776 (concatenate S11776 0 [⟨S8192, z⟩, ⟨S3488, b⟩, ⟨S96, z'⟩] concatenates_S8192_S3488_S96_S11776_d0)
      shapeCasts_S11776_S1x11776 (ix2 0 j) = muCol u j := by
  unfold muCol
  pointwise
  simp only [hz, hb, hz']
  repeat' split
  all_goals first | omega | exact congrArg u (Fin.ext (by dsimp only <;> omega)) | rfl

/-- The weights' columns in the result's order, -/
theorem entry_w (d : Fin 1024) (j : Fin 11776) :
    (V m c (Pipeline.arrRef spec0 3) (ix2 d j) : EReal) = column (fun d j => arg5 m c (ix2 d j)) d j :=
  (congrFun (entry_v12 m c) (ix2 d j)).trans (columns_apply _ _ _ _ _ _ _ (piece_v2 m c) (piece_v4 m c) (piece_v6 m c)
    (piece_v8 m c) (piece_v10 m c) (piece_v11 m c) d j)

/-- and the mixing weights. -/
theorem entry_mu (j : Fin 11776) :
    (V m c (Pipeline.arrRef spec0 4) (ix2 0 j) : EReal) = muCol (fun j => arg6 m c (ix1 j)) j :=
  (congrFun (entry_v16 m c) (ix2 0 j)).trans (mixing_apply _ _ _ _ (piece_v13 m c) (piece_arg6 m c) (piece_v14 m c) j)

/-! ## The windows' index maps -/

theorem index0 : ∀ t : Fin cfg0.N, win0_0.index t = ![t.val / 23, 0, 0] :=
  (by decide +kernel : ∀ t : Fin grid0.N, win0_0.index t = ![t.val / 23, 0, 0])
theorem index1 : ∀ t : Fin cfg0.N, win0_1.index t = ![t.val / 23, 0, 0] :=
  (by decide +kernel : ∀ t : Fin grid0.N, win0_1.index t = ![t.val / 23, 0, 0])
theorem index2 : ∀ t : Fin cfg0.N, win0_2.index t = ![0, 0] := (by decide +kernel : ∀ t : Fin grid0.N, win0_2.index t = ![0, 0])
theorem index3 : ∀ t : Fin cfg0.N, win0_3.index t = ![0, t.val % 23] :=
  (by decide +kernel : ∀ t : Fin grid0.N, win0_3.index t = ![0, t.val % 23])
theorem index4 : ∀ t : Fin cfg0.N, win0_4.index t = ![0, t.val % 23] :=
  (by decide +kernel : ∀ t : Fin grid0.N, win0_4.index t = ![0, t.val % 23])
theorem index5 : ∀ t : Fin cfg0.N, win0_5.index t = ![t.val / 23, 0, t.val % 23] :=
  (by decide +kernel : ∀ t : Fin grid0.N, win0_5.index t = ![t.val / 23, 0, t.val % 23])

/-! ## The blocks -/

theorem read0 (X : S8x2304x1024.Idx → EReal) (t : Fin cfg0.N) (i : Fin 2304) (l : Fin 1024) :
    (win0_0.blk t).view.read (Elt Ideal) X (ix3 0 i l)
      = X (ix3 ⟨t.val / 23, by have : t.val < 184 := t.isLt; omega⟩ i l) := by
  have : t.val < 184 := t.isLt
  blk_ext [index0 t]

theorem read1 (X : S8x12x1024.Idx → EReal) (t : Fin cfg0.N) (i : Fin 12) (l : Fin 1024) :
    (win0_1.blk t).view.read (Elt Ideal) X (ix3 0 i l)
      = X (ix3 ⟨t.val / 23, by have : t.val < 184 := t.isLt; omega⟩ i l) := by
  have : t.val < 184 := t.isLt
  blk_ext [index1 t]

theorem read2 (X : S1x1024.Idx → EReal) (t : Fin cfg0.N) (l : Fin 1024) :
    (win0_2.blk t).view.read (Elt Ideal) X (ix2 0 l) = X (ix2 0 l) := by
  blk_ext [index2 t]

theorem read3 (X : S1024x11776.Idx → EReal) (t : Fin cfg0.N) (i : Fin 1024) (l : Fin 512) :
    (win0_3.blk t).view.read (Elt Ideal) X (ix2 i l) = X (ix2 i ⟨512 * (t.val % 23) + l.val, by omega⟩) := by
  blk_ext [index3 t]

theorem read4 (X : S1x11776.Idx → EReal) (t : Fin cfg0.N) (l : Fin 512) :
    (win0_4.blk t).view.read (Elt Ideal) X (ix2 0 l) = X (ix2 0 ⟨512 * (t.val % 23) + l.val, by omega⟩) := by
  blk_ext [index4 t]

end Cert.Proj

end
-- ==== Proof.ProjLoops.lean ====
/-
  What the three counted loops of the input projection's body leave: each trip stores one block, of the hidden states, of
  the projection, or of the padded projection, and the trips together store all of the rows they range over.
-/
module

public import proofs.«01_k».proof.Proof.ProjPieces

@[expose] public section

set_option maxRecDepth 16384

noncomputable section

namespace Cert.Proj

open Idealize.ShloMosaic Idealize.ShloMosaic.TcCoe
open Cert.Kernel3Ideal Cert.Kernel3Ideal.Gen

variable {F : FTy → Type} [FloatOps F]

/-- Every piece of a list holds part of one function. -/
def Agree {s : Shape} {e : EltTy} (G : s.Idx → Elt F e) (L : List (View.Piece (Elt F) s e)) : Prop :=
  ∀ p ∈ L, ∀ x : p.1.shape.Idx, p.2 x = G (p.1.emb x)

/-- Some piece of a list holds a place. -/
def Holds {s : Shape} {e : EltTy} (L : List (View.Piece (Elt F) s e)) (y : s.Idx) : Prop := ∃ p ∈ L, y ∈ p.1.set

theorem agree_nil {s : Shape} {e : EltTy} (G : s.Idx → Elt F e) : Agree G [] := fun _ h => absurd h List.not_mem_nil

theorem agree_cons {s : Shape} {e : EltTy} {G : s.Idx → Elt F e} {p : View.Piece (Elt F) s e} {L : List (View.Piece (Elt F) s e)}
    (hp : ∀ x : p.1.shape.Idx, p.2 x = G (p.1.emb x)) (h : Agree G L) : Agree G (p :: L) := fun q hq => by
  rcases List.mem_cons.mp hq with rfl | hq
  · exact hp
  · exact h q hq

theorem agree_append {s : Shape} {e : EltTy} {G : s.Idx → Elt F e} {L L' : List (View.Piece (Elt F) s e)}
    (h : Agree G L) (h' : Agree G L') : Agree G (L ++ L') := fun q hq => by
  rcases List.mem_append.mp hq with hq | hq
  · exact h q hq
  · exact h' q hq

theorem holds_head {s : Shape} {e : EltTy} {p : View.Piece (Elt F) s e} {L : List (View.Piece (Elt F) s e)} {y : s.Idx}
    (h : y ∈ p.1.set) : Holds (p :: L) y := ⟨p, List.mem_cons_self, h⟩

theorem holds_tail {s : Shape} {e : EltTy} {p : View.Piece (Elt F) s e} {L : List (View.Piece (Elt F) s e)} {y : s.Idx}
    (h : Holds L y) : Holds (p :: L) y := let ⟨q, hq, hy⟩ := h; ⟨q, List.mem_cons_of_mem _ hq, hy⟩

theorem holds_left {s : Shape} {e : EltTy} {L L' : List (View.Piece (Elt F) s e)} {y : s.Idx}
    (h : Holds L y) : Holds (L ++ L') y := let ⟨q, hq, hy⟩ := h; ⟨q, List.mem_append.mpr (.inl hq), hy⟩

theorem holds_right {s : Shape} {e : EltTy} {L L' : List (View.Piece (Elt F) s e)} {y : s.Idx}
    (h : Holds L' y) : Holds (L ++ L') y := let ⟨q, hq, hy⟩ := h; ⟨q, List.mem_append.mpr (.inr hq), hy⟩

/-- A place is in a block of rows when its row is; -/
theorem mem_rows2 {n d o r : ℕ} {off : Fin 2 → ℕ} (ho : off = ![o, 0])
    (inb : ∀ a, off a + (![r, d] : Fin 2 → ℕ) a ≤ (⟨2, ![n, d]⟩ : Shape).size a) (y : (⟨2, ![n, d]⟩ : Shape).Idx)
    (h : o ≤ (y 0).val) (h' : (y 0).val < o + r) : y ∈ (Rect.unit (s := ⟨2, ![n, d]⟩) off ![r, d] inb).set := by
  subst ho
  refine Rect.mem_set_unit.mpr fun a => ?_
  match a with
  | 0 => exact ⟨h, h'⟩
  | 1 => exact ⟨Nat.zero_le _, (Nat.zero_add d).symm ▸ (y 1).isLt⟩

/-- the same under a leading axis of one. -/
theorem mem_rows3 {n d o r : ℕ} {off : Fin 3 → ℕ} (ho : off = ![0, o, 0])
    (inb : ∀ a, off a + (![1, r, d] : Fin 3 → ℕ) a ≤ (⟨3, ![1, n, d]⟩ : Shape).size a) (y : (⟨3, ![1, n, d]⟩ : Shape).Idx)
    (h : o ≤ (y 1).val) (h' : (y 1).val < o + r) : y ∈ (Rect.unit (s := ⟨3, ![1, n, d]⟩) off ![1, r, d] inb).set := by
  subst ho
  refine Rect.mem_set_unit.mpr fun a => ?_
  match a with
  | 0 => exact ⟨Nat.zero_le _, (Nat.zero_add 1).symm ▸ (y 0).isLt⟩
  | 1 => exact ⟨h, h'⟩
  | 2 => exact ⟨Nat.zero_le _, (Nat.zero_add d).symm ▸ (y 2).isLt⟩

section
variable (𝒱 : Variants) (c : Dev nD) (bd : Option 𝒱.V) (i : grid0.Coords) (arg2 : Memref sig .tc .vmem S1x2304x1024 .f32) (harg2 : arg2.IsWhole) (arg3 : Memref sig .tc .vmem S1x12x1024 .f32) (harg3 : arg3.IsWhole) (arg4 : Memref sig .tc .vmem S1x1024 .f32) (harg4 : arg4.IsWhole) (arg5 : Memref sig .tc .vmem S1024x512 .bf16) (harg5 : arg5.IsWhole) (arg6 : Memref sig .tc .vmem S1x512 .f32) (harg6 : arg6.IsWhole) (arg7 : Memref sig .tc .vmem S1x2304x512 .bf16) (harg7 : arg7.IsWhole) (arg8 : Memref sig .tc .vmem S2304x1024 .bf16) (harg8 : arg8.IsWhole) (arg9 : Memref sig .tc .vmem S2328x512 .f32) (harg9 : arg9.IsWhole)

/-- The pieces of the loop over the hidden states' blocks. -/
theorem pieces1 (h1 : k0_cond1 i = 1#1) (X2 : BufTy.Contents (Elt F) arg2.view.ty) (X3 : BufTy.Contents (Elt F) arg3.view.ty)
    (X4 : BufTy.Contents (Elt F) arg4.view.ty) (n : ℕ) (hn : n ≤ k0_t1_loop.trips) :
    Agree (hid (arg2.view.read (Elt F) X2) (arg3.view.read (Elt F) X3) (arg4.view.read (Elt F) X4))
        (pb_k0_t1 (F := F) 𝒱 c bd i arg2 harg2 arg3 harg3 arg4 harg4 arg5 harg5 arg6 harg6 arg7 harg7 arg8 harg8 arg9 harg9 h1 X2 X3 X4 n)
      ∧ ∀ y : S2304x1024.Idx, (y 0).val < 256 * n →
        Holds (pb_k0_t1 (F := F) 𝒱 c bd i arg2 harg2 arg3 harg3 arg4 harg4 arg5 harg5 arg6 harg6 arg7 harg7 arg8 harg8 arg9 harg9 h1 X2 X3 X4 n) y := by
  induction n with
  | zero => exact ⟨agree_nil _, fun y hy => absurd hy (by omega)⟩
  | succ n ih =>
    obtain ⟨iha, ihc⟩ := ih (by omega)
    have hlt : n < k0_t1_loop.trips := by omega
    have e : ∃ inb : (∀ a, k0_off2 ⟨n, hlt⟩ a + S256x1024.size a ≤ S2304x1024.size a), tripL_k0_t1 (F := F) 𝒱 c bd i arg2 harg2 arg3 harg3 arg4 harg4 arg5 harg5 arg6 harg6 arg7 harg7 arg8 harg8 arg9 harg9 h1 X2 X3 X4 ⟨n, hlt⟩
        = [⟨Rect.unit (s := S2304x1024) (k0_off2 ⟨n, hlt⟩) S256x1024.size inb,
            hidBlk (arg2.view.read (Elt F) X2) (arg3.view.read (Elt F) X3) (arg4.view.read (Elt F) X4) ⟨n, hlt⟩⟩] := by
      unfold tripL_k0_t1 trip_k0_t1
      exact ⟨k0_off2_inb i _ h1, rfl⟩
    obtain ⟨inb, e⟩ := e
    have es := pb_k0_t1_succ (F := F) 𝒱 c bd i arg2 harg2 arg3 harg3 arg4 harg4 arg5 harg5 arg6 harg6 arg7 harg7 arg8 harg8 arg9 harg9 h1 X2 X3 X4 ⟨n, hlt⟩
    rw [e, List.singleton_append] at es
    dsimp only at es
    rw [es]
    refine ⟨agree_cons (fun x => hid_at _ _ _ _ x _ ?_ ?_) iha, fun y hy => ?_⟩
    · have e0 : k0_off2 ⟨n, hlt⟩ 0 = 256 * n := congrFun (k0_off2_eq _) 0
      show k0_off2 ⟨n, hlt⟩ 0 + 1 * (x 0).val = 256 * n + (x 0).val
      omega
    · have e0 : k0_off2 ⟨n, hlt⟩ 1 = 0 := congrFun (k0_off2_eq _) 1
      show k0_off2 ⟨n, hlt⟩ 1 + 1 * (x 1).val = (x 1).val
      omega
    · by_cases hy' : (y 0).val < 256 * n
      · exact holds_tail (ihc y hy')
      · exact holds_head (mem_rows2 (n := 2304) (d := 1024) (o := 256 * n) (r := 256) (k0_off2_eq _) inb y (by omega) (by omega))

/-- The loop leaves the hidden states in the first scratch. -/
theorem after1 (h1 : k0_cond1 i = 1#1) (X2 : BufTy.Contents (Elt F) arg2.view.ty) (X3 : BufTy.Contents (Elt F) arg3.view.ty)
    (X4 : BufTy.Contents (Elt F) arg4.view.ty) (f : BufTy.Contents (Elt F) arg8.view.ty) :
    arg8.view.read (Elt F) (arg8.view.writes (Elt F) f (pb_k0_t1 (F := F) 𝒱 c bd i arg2 harg2 arg3 harg3 arg4 harg4 arg5 harg5 arg6 harg6 arg7 harg7 arg8 harg8 arg9 harg9 h1 X2 X3 X4 k0_t1_loop.trips))
      = hid (arg2.view.read (Elt F) X2) (arg3.view.read (Elt F) X3) (arg4.view.read (Elt F) X4) := by
  obtain ⟨ha, hc⟩ := pieces1 𝒱 c bd i arg2 harg2 arg3 harg3 arg4 harg4 arg5 harg5 arg6 harg6 arg7 harg7 arg8 harg8 arg9 harg9 h1 X2 X3 X4 k0_t1_loop.trips le_rfl
  funext y
  exact View.read_writes_apply_of_pieces _ _ _ _ ha y (hc y (by rw [trips1]; exact (y 0).isLt))

/-- The pieces of the loop over the latents' halves of the projection. -/
theorem pieces2 (h2 : k0_cond2 i = 1#1) (X5 : BufTy.Contents (Elt F) arg5.view.ty) (X8 : BufTy.Contents (Elt F) arg8.view.ty)
    (n : ℕ) (hn : n ≤ k0_t2_loop.trips) :
    Agree (proj (arg8.view.read (Elt F) X8) (arg5.view.read (Elt F) X5))
        (pb_k0_t2 (F := F) 𝒱 c bd i arg2 harg2 arg3 harg3 arg4 harg4 arg5 harg5 arg6 harg6 arg7 harg7 arg8 harg8 arg9 harg9 h2 X5 X8 n)
      ∧ ∀ y : S1x2304x512.Idx, 256 ≤ (y 1).val → (y 1).val < 1024 * n + 256 →
        Holds (pb_k0_t2 (F := F) 𝒱 c bd i arg2 harg2 arg3 harg3 arg4 harg4 arg5 harg5 arg6 harg6 arg7 harg7 arg8 harg8 arg9 harg9 h2 X5 X8 n) y := by
  induction n with
  | zero => exact ⟨agree_nil _, fun y hy hy' => absurd hy' (by omega)⟩
  | succ n ih =>
    obtain ⟨iha, ihc⟩ := ih (by omega)
    have hlt : n < k0_t2_loop.trips := by omega
    have e : ∃ inb : (∀ a, k0_off4 ⟨n, hlt⟩ a + S1x1024x512.size a ≤ S1x2304x512.size a), tripL_k0_t2 (F := F) 𝒱 c bd i arg2 harg2 arg3 harg3 arg4 harg4 arg5 harg5 arg6 harg6 arg7 harg7 arg8 harg8 arg9 harg9 h2 X5 X8 ⟨n, hlt⟩
        = [⟨Rect.unit (s := S1x2304x512) (k0_off4 ⟨n, hlt⟩) S1x1024x512.size inb,
            k0_pay3 (latHid (arg8.view.read (Elt F) X8) ⟨n, hlt⟩) (weights (arg5.view.read (Elt F) X5))⟩] := by
      unfold tripL_k0_t2 trip_k0_t2
      exact ⟨k0_off4_inb i _ h2, rfl⟩
    obtain ⟨inb, e⟩ := e
    have es := pb_k0_t2_succ (F := F) 𝒱 c bd i arg2 harg2 arg3 harg3 arg4 harg4 arg5 harg5 arg6 harg6 arg7 harg7 arg8 harg8 arg9 harg9 h2 X5 X8 ⟨n, hlt⟩
    rw [e, List.singleton_append] at es
    dsimp only at es
    rw [es]
    refine ⟨agree_cons (fun x => proj_lat _ _ _ x _ ?_ ?_) iha, fun y hy hy2 => ?_⟩
    · have e0 : k0_off4 ⟨n, hlt⟩ 1 = 1024 * n + 256 := congrFun (k0_off4_eq _) 1
      show k0_off4 ⟨n, hlt⟩ 1 + 1 * (x 1).val = 1024 * n + 256 + (x 1).val
      omega
    · have e0 : k0_off4 ⟨n, hlt⟩ 2 = 0 := congrFun (k0_off4_eq _) 2
      show k0_off4 ⟨n, hlt⟩ 2 + 1 * (x 2).val = (x 2).val
      omega
    · by_cases hy' : (y 1).val < 1024 * n + 256
      · exact holds_tail (ihc y hy hy')
      · exact holds_head (mem_rows3 (n := 2304) (d := 512) (o := 1024 * n + 256) (r := 1024) (k0_off4_eq _) inb y (by omega) (by omega))

/-- With the context's block stored before it, the loop leaves the projection in the output block. -/
theorem after2 (h2 : k0_cond2 i = 1#1) (X5 : BufTy.Contents (Elt F) arg5.view.ty) (X8 : BufTy.Contents (Elt F) arg8.view.ty)
    (f : BufTy.Contents (Elt F) arg7.view.ty) (inb) :
    arg7.view.read (Elt F) (arg7.view.writes (Elt F) f (pb_k0_t2 (F := F) 𝒱 c bd i arg2 harg2 arg3 harg3 arg4 harg4 arg5 harg5 arg6 harg6 arg7 harg7 arg8 harg8 arg9 harg9 h2 X5 X8 k0_t2_loop.trips
        ++ [⟨Rect.unit (s := S1x2304x512) ![0, 0, 0] S1x256x512.size inb, k0_pay2 (ctxHid (arg8.view.read (Elt F) X8)) (weights (arg5.view.read (Elt F) X5))⟩]))
      = proj (arg8.view.read (Elt F) X8) (arg5.view.read (Elt F) X5) := by
  obtain ⟨ha, hc⟩ := pieces2 𝒱 c bd i arg2 harg2 arg3 harg3 arg4 harg4 arg5 harg5 arg6 harg6 arg7 harg7 arg8 harg8 arg9 harg9 h2 X5 X8 k0_t2_loop.trips le_rfl
  funext y
  refine View.read_writes_apply_of_pieces _ _ _ _ (agree_append ha (agree_cons (fun x => proj_ctx _ _ x _ ?_ ?_) (agree_nil _))) y ?_
  · show 0 + 1 * (x 1).val = (x 1).val; omega
  · show 0 + 1 * (x 2).val = (x 2).val; omega
  · by_cases hy : (y 1).val < 256
    · exact holds_right (holds_head (mem_rows3 (n := 2304) (d := 512) (o := 0) (r := 256) rfl inb y (by omega) (by omega)))
    · exact holds_left (hc y (by omega) (by rw [trips2]; exact (y 1).isLt))

/-- The pieces of the loop over the latents' halves of the padded projection. -/
theorem pieces3 (h3 : k0_cond3 i = 1#1) (X5 : BufTy.Contents (Elt F) arg5.view.ty) (X8 : BufTy.Contents (Elt F) arg8.view.ty)
    (n : ℕ) (hn : n ≤ k0_t3_loop.trips) :
    Agree (padded (arg8.view.read (Elt F) X8) (arg5.view.read (Elt F) X5))
        (pb_k0_t3 (F := F) 𝒱 c bd i arg2 harg2 arg3 harg3 arg4 harg4 arg5 harg5 arg6 harg6 arg7 harg7 arg8 harg8 arg9 harg9 h3 X5 X8 n)
      ∧ ∀ y : S2328x512.Idx, 272 ≤ (y 0).val → (y 0).val < 1024 * n + 272 →
        Holds (pb_k0_t3 (F := F) 𝒱 c bd i arg2 harg2 arg3 harg3 arg4 harg4 arg5 harg5 arg6 harg6 arg7 harg7 arg8 harg8 arg9 harg9 h3 X5 X8 n) y := by
  induction n with
  | zero => exact ⟨agree_nil _, fun y hy hy' => absurd hy' (by omega)⟩
  | succ n ih =>
    obtain ⟨iha, ihc⟩ := ih (by omega)
    have hn2 : n < k0_t2_loop.trips := by rw [trips2]; rw [trips3] at hn; omega
    have hlt : n < k0_t3_loop.trips := by omega
    have e : ∃ inb : (∀ a, k0_off6 ⟨n, hlt⟩ a + S1024x512.size a ≤ S2328x512.size a), tripL_k0_t3 (F := F) 𝒱 c bd i arg2 harg2 arg3 harg3 arg4 harg4 arg5 harg5 arg6 harg6 arg7 harg7 arg8 harg8 arg9 harg9 h3 X5 X8 ⟨n, hlt⟩
        = [⟨Rect.unit (s := S2328x512) (k0_off6 ⟨n, hlt⟩) S1024x512.size inb,
            k0_pay16 (latHid (arg8.view.read (Elt F) X8) ⟨n, hn2⟩) (weights (arg5.view.read (Elt F) X5))⟩] := by
      unfold tripL_k0_t3 trip_k0_t3
      exact ⟨k0_off6_inb i _ h3, rfl⟩
    obtain ⟨inb, e⟩ := e
    have es := pb_k0_t3_succ (F := F) 𝒱 c bd i arg2 harg2 arg3 harg3 arg4 harg4 arg5 harg5 arg6 harg6 arg7 harg7 arg8 harg8 arg9 harg9 h3 X5 X8 ⟨n, hlt⟩
    rw [e, List.singleton_append] at es
    dsimp only at es
    rw [es]
    refine ⟨agree_cons (fun x => padded_lat _ _ _ x _ ?_ ?_) iha, fun y hy hy2 => ?_⟩
    · have e0 : k0_off6 ⟨n, hlt⟩ 0 = 1024 * n + 272 := congrFun (k0_off6_eq _) 0
      show k0_off6 ⟨n, hlt⟩ 0 + 1 * (x 0).val = 1024 * n + 272 + (x 0).val
      omega
    · have e0 : k0_off6 ⟨n, hlt⟩ 1 = 0 := congrFun (k0_off6_eq _) 1
      show k0_off6 ⟨n, hlt⟩ 1 + 1 * (x 1).val = (x 1).val
      omega
    · by_cases hy' : (y 0).val < 1024 * n + 272
      · exact holds_tail (ihc y hy hy')
      · exact holds_head (mem_rows2 (n := 2328) (d := 512) (o := 1024 * n + 272) (r := 1024) (k0_off6_eq _) inb y (by omega) (by omega))

/-- With the rows of zeros and the context's block stored before it, the loop leaves the padded projection in the second scratch. -/
theorem after3 (h3 : k0_cond3 i = 1#1) (X5 : BufTy.Contents (Elt F) arg5.view.ty) (X8 : BufTy.Contents (Elt F) arg8.view.ty)
    (f : BufTy.Contents (Elt F) arg9.view.ty) (inb inb1 inb2 inb3) :
    arg9.view.read (Elt F) (arg9.view.writes (Elt F) f (pb_k0_t3 (F := F) 𝒱 c bd i arg2 harg2 arg3 harg3 arg4 harg4 arg5 harg5 arg6 harg6 arg7 harg7 arg8 harg8 arg9 harg9 h3 X5 X8 k0_t3_loop.trips
        ++ [⟨Rect.unit (s := S2328x512) ![8, 0] S256x512.size inb, k0_pay15 (ctxHid (arg8.view.read (Elt F) X8)) (weights (arg5.view.read (Elt F) X5))⟩,
          ⟨Rect.unit (s := S2328x512) ![2320, 0] S8x512.size inb1, k0_pay14 (F := F)⟩,
          ⟨Rect.unit (s := S2328x512) ![264, 0] S8x512.size inb2, k0_pay13 (F := F)⟩,
          ⟨Rect.unit (s := S2328x512) ![0, 0] S8x512.size inb3, k0_pay12 (F := F)⟩]))
      = padded (arg8.view.read (Elt F) X8) (arg5.view.read (Elt F) X5) := by
  obtain ⟨ha, hc⟩ := pieces3 𝒱 c bd i arg2 harg2 arg3 harg3 arg4 harg4 arg5 harg5 arg6 harg6 arg7 harg7 arg8 harg8 arg9 harg9 h3 X5 X8 k0_t3_loop.trips le_rfl
  have lt8 (x : S8x512.Idx) : (x 0).val < 8 := (x 0).isLt
  funext y
  have hy : (y 0).val < 2328 := (y 0).isLt
  refine View.read_writes_apply_of_pieces _ _ _ _ (agree_append ha (agree_cons (fun x => padded_ctx _ _ x _ ?_ ?_)
    (agree_cons (fun x => padded_zero _ _ _ ?_) (agree_cons (fun x => padded_zero _ _ _ ?_) (agree_cons (fun x => padded_zero _ _ _ ?_)
      (agree_nil _)))))) y ?_
  · show 8 + 1 * (x 0).val = 8 + (x 0).val; omega
  · show 0 + 1 * (x 1).val = (x 1).val; omega
  · have h := lt8 x
    show 2320 + 1 * (x 0).val < 8 ∨ 264 ≤ 2320 + 1 * (x 0).val ∧ 2320 + 1 * (x 0).val < 272 ∨ 2320 ≤ 2320 + 1 * (x 0).val; omega
  · have h := lt8 x
    show 264 + 1 * (x 0).val < 8 ∨ 264 ≤ 264 + 1 * (x 0).val ∧ 264 + 1 * (x 0).val < 272 ∨ 2320 ≤ 264 + 1 * (x 0).val; omega
  · have h := lt8 x
    show 0 + 1 * (x 0).val < 8 ∨ 264 ≤ 0 + 1 * (x 0).val ∧ 0 + 1 * (x 0).val < 272 ∨ 2320 ≤ 0 + 1 * (x 0).val; omega
  · by_cases h1 : (y 0).val < 8
    · exact holds_right (holds_tail (holds_tail (holds_tail (holds_head
        (mem_rows2 (n := 2328) (d := 512) (o := 0) (r := 8) rfl inb3 y (by omega) (by omega))))))
    by_cases h2 : (y 0).val < 264
    · exact holds_right (holds_head (mem_rows2 (n := 2328) (d := 512) (o := 8) (r := 256) rfl inb y (by omega) (by omega)))
    by_cases h3 : (y 0).val < 272
    · exact holds_right (holds_tail (holds_tail (holds_head
        (mem_rows2 (n := 2328) (d := 512) (o := 264) (r := 8) rfl inb2 y (by omega) (by omega)))))
    by_cases h4 : (y 0).val < 2320
    · exact holds_left (hc y (by omega) (by rw [trips3]; omega))
    · exact holds_right (holds_tail (holds_head
        (mem_rows2 (n := 2328) (d := 512) (o := 2320) (r := 8) rfl inb1 y (by omega) (by omega))))

end

/-- The block of the mix that begins at row `o` of the padded projection. -/
def mixBlk (p : Vec F S2328x512 .f32) (u : Vec F S1x512 .f32) (o : ℕ) (ho : o + 257 ≤ 2328) : FVec F S1x256x512 .bf16 :=
  k0_pay4 (k0_pay17 (mix u)) (k0_pay18 (mix u)) (padBlk p (o - 1) (by omega)) (padBlk p (o + 1) (by omega)) (padBlk p o (by omega))

theorem mixBlk_at (p : Vec F S2328x512 .f32) (u : Vec F S1x512 .f32) (j o : ℕ) (hj : o = src j) (ho : o + 257 ≤ 2328)
    (z : S1x256x512.Idx) (y : S1x2304x512.Idx) (h0 : (y 1).val = 256 * j + (z 1).val) (h1 : (y 2).val = (z 2).val) :
    mixBlk p u o ho z = shifted p u y := shifted_at p u j o hj ho z y h0 h1

/-- The nine blocks of the mix fill the output block. -/
theorem mixed_out (arg7 : Memref sig .tc .vmem S1x2304x512 .bf16) (f : BufTy.Contents (Elt F) arg7.view.ty)
    (p : Vec F S2328x512 .f32) (u : Vec F S1x512 .f32) (inb0 inb1 inb2 inb3 inb4 inb5 inb6 inb7 inb8) :
    arg7.view.read (Elt F) (arg7.view.writes (Elt F) f
        [⟨Rect.unit (s := S1x2304x512) ![0, 2048, 0] S1x256x512.size inb8, mixBlk p u 2064 (by decide)⟩,
          ⟨Rect.unit (s := S1x2304x512) ![0, 1792, 0] S1x256x512.size inb7, mixBlk p u 1808 (by decide)⟩,
          ⟨Rect.unit (s := S1x2304x512) ![0, 1536, 0] S1x256x512.size inb6, mixBlk p u 1552 (by decide)⟩,
          ⟨Rect.unit (s := S1x2304x512) ![0, 1280, 0] S1x256x512.size inb5, mixBlk p u 1296 (by decide)⟩,
          ⟨Rect.unit (s := S1x2304x512) ![0, 1024, 0] S1x256x512.size inb4, mixBlk p u 1040 (by decide)⟩,
          ⟨Rect.unit (s := S1x2304x512) ![0, 768, 0] S1x256x512.size inb3, mixBlk p u 784 (by decide)⟩,
          ⟨Rect.unit (s := S1x2304x512) ![0, 512, 0] S1x256x512.size inb2, mixBlk p u 528 (by decide)⟩,
          ⟨Rect.unit (s := S1x2304x512) ![0, 256, 0] S1x256x512.size inb1, mixBlk p u 272 (by decide)⟩,
          ⟨Rect.unit (s := S1x2304x512) ![0, 0, 0] S1x256x512.size inb0, mixBlk p u 8 (by decide)⟩]) = shifted p u := by
  funext y
  have hy : (y 1).val < 2304 := (y 1).isLt
  refine View.read_writes_apply_of_pieces _ _ _ _ (
      agree_cons (fun x => mixBlk_at p u 8 2064 rfl (by decide) x _ (by show 2048 + 1 * (x 1).val = _; omega) (by show 0 + 1 * (x 2).val = _; omega)) <|
      agree_cons (fun x => mixBlk_at p u 7 1808 rfl (by decide) x _ (by show 1792 + 1 * (x 1).val = _; omega) (by show 0 + 1 * (x 2).val = _; omega)) <|
      agree_cons (fun x => mixBlk_at p u 6 1552 rfl (by decide) x _ (by show 1536 + 1 * (x 1).val = _; omega) (by show 0 + 1 * (x 2).val = _; omega)) <|
      agree_cons (fun x => mixBlk_at p u 5 1296 rfl (by decide) x _ (by show 1280 + 1 * (x 1).val = _; omega) (by show 0 + 1 * (x 2).val = _; omega)) <|
      agree_cons (fun x => mixBlk_at p u 4 1040 rfl (by decide) x _ (by show 1024 + 1 * (x 1).val = _; omega) (by show 0 + 1 * (x 2).val = _; omega)) <|
      agree_cons (fun x => mixBlk_at p u 3 784 rfl (by decide) x _ (by show 768 + 1 * (x 1).val = _; omega) (by show 0 + 1 * (x 2).val = _; omega)) <|
      agree_cons (fun x => mixBlk_at p u 2 528 rfl (by decide) x _ (by show 512 + 1 * (x 1).val = _; omega) (by show 0 + 1 * (x 2).val = _; omega)) <|
      agree_cons (fun x => mixBlk_at p u 1 272 rfl (by decide) x _ (by show 256 + 1 * (x 1).val = _; omega) (by show 0 + 1 * (x 2).val = _; omega)) <|
      agree_cons (fun x => mixBlk_at p u 0 8 rfl (by decide) x _ (by show 0 + 1 * (x 1).val = _; omega) (by show 0 + 1 * (x 2).val = _; omega)) <|
      agree_nil _) y ?_
  · by_cases h0 : (y 1).val < 256
    · exact holds_tail (holds_tail (holds_tail (holds_tail (holds_tail (holds_tail (holds_tail (holds_tail (holds_head (mem_rows3 (n := 2304) (d := 512) (o := 0) (r := 256) rfl inb0 y (by omega) (by omega))))))))))
    by_cases h1 : (y 1).val < 512
    · exact holds_tail (holds_tail (holds_tail (holds_tail (holds_tail (holds_tail (holds_tail (holds_head (mem_rows3 (n := 2304) (d := 512) (o := 256) (r := 256) rfl inb1 y (by omega) (by omega)))))))))
    by_cases h2 : (y 1).val < 768
    · exact holds_tail (holds_tail (holds_tail (holds_tail (holds_tail (holds_tail (holds_head (mem_rows3 (n := 2304) (d := 512) (o := 512) (r := 256) rfl inb2 y (by omega) (by omega))))))))
    by_cases h3 : (y 1).val < 1024
    · exact holds_tail (holds_tail (holds_tail (holds_tail (holds_tail (holds_head (mem_rows3 (n := 2304) (d := 512) (o := 768) (r := 256) rfl inb3 y (by omega) (by omega)))))))
    by_cases h4 : (y 1).val < 1280
    · exact holds_tail (holds_tail (holds_tail (holds_tail (holds_head (mem_rows3 (n := 2304) (d := 512) (o := 1024) (r := 256) rfl inb4 y (by omega) (by omega))))))
    by_cases h5 : (y 1).val < 1536
    · exact holds_tail (holds_tail (holds_tail (holds_head (mem_rows3 (n := 2304) (d := 512) (o := 1280) (r := 256) rfl inb5 y (by omega) (by omega)))))
    by_cases h6 : (y 1).val < 1792
    · exact holds_tail (holds_tail (holds_head (mem_rows3 (n := 2304) (d := 512) (o := 1536) (r := 256) rfl inb6 y (by omega) (by omega))))
    by_cases h7 : (y 1).val < 2048
    · exact holds_tail (holds_head (mem_rows3 (n := 2304) (d := 512) (o := 1792) (r := 256) rfl inb7 y (by omega) (by omega)))
    exact holds_head (mem_rows3 (n := 2304) (d := 512) (o := 2048) (r := 256) rfl inb8 y (by omega) (by omega))

end Cert.Proj

end
-- ==== Proof.ProjRunA.lean ====
/-
  The input projection's body at the first point of a batch entry.
-/
module

public import proofs.«01_k».proof.Proof.ProjLoops

@[expose] public section

set_option maxRecDepth 16384

noncomputable section

namespace Cert.Proj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel3Ideal Cert.Kernel3Ideal.Gen

variable {F : FTy → Type} [FloatOps F]

local notation "𝕄" => MT nD τ sig Unit (Elt F) ℕ (UR sig nD τ) ℕ

set_option maxHeartbeats 8000000 in
set_option sl_exec.resultNames true in
/-- The first block of columns of a batch entry: its hidden states are computed and kept, and projected. -/
theorem runA (c : Dev nD) (i : grid0.Coords) (arg2 : Memref sig .tc .vmem S1x2304x1024 .f32) (harg2 : arg2.IsWhole) (arg3 : Memref sig .tc .vmem S1x12x1024 .f32) (harg3 : arg3.IsWhole) (arg4 : Memref sig .tc .vmem S1x1024 .f32) (harg4 : arg4.IsWhole) (arg5 : Memref sig .tc .vmem S1024x512 .bf16) (harg5 : arg5.IsWhole) (arg6 : Memref sig .tc .vmem S1x512 .f32) (harg6 : arg6.IsWhole) (arg7 : Memref sig .tc .vmem S1x2304x512 .bf16) (harg7 : arg7.IsWhole) (arg8 : Memref sig .tc .vmem S2304x1024 .bf16) (harg8 : arg8.IsWhole) (arg9 : Memref sig .tc .vmem S2328x512 .f32) (harg9 : arg9.IsWhole)
    (hc1 : first i) (hc2 : plain i) (hc3 : ¬mixed i)
    (x0 : Vec F S1x2304x1024 .f32) (x1 : Vec F S1x12x1024 .f32) (x2 : Vec F S1x1024 .f32) (x3 : Vec F S1024x512 .bf16) (x4 : Vec F S1x512 .f32)
    (y5 : Vec F S1x2304x512 .bf16) (s0 : Vec F S2304x1024 .bf16) (s1 : Vec F S2328x512 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare y5 ∗ owns (c : Thread nD τ) arg8 fullShare s0 ∗ owns (c : Thread nD τ) arg9 fullShare s1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (proj (hid x0 x1 x2) x3) ∗ owns (c : Thread nD τ) arg8 fullShare (hid x0 x1 x2) ∗ owns (c : Thread nD τ) arg9 fullShare s1) -∗ K ⟨⟩))
          ⊢ wp frame (wpE (defs₀ (F := F)) Variants.none c none) E (cc0_proj_in i arg2 harg2 arg3 harg3 arg4 harg4 arg5 harg5 arg6 harg6 arg7 harg7 arg8 harg8 arg9 harg9) K := by
  simp only [cc0_proj_in_eq_skeleton]; unfold cc0_proj_in_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, Hk⟩
  sl_exec (disch := first | sl_exact hc1 | sl_exact hc2 | sl_exact hc3)
  sl_step
  iapply Hk
  isplitl [H0]
  · iexists _; isplitr; swap; · iexact H0
    ipureintro; exact hf0
  isplitl [H1]
  · iexists _; isplitr; swap; · iexact H1
    ipureintro; exact hf1
  isplitl [H2]
  · iexists _; isplitr; swap; · iexact H2
    ipureintro; exact hf2
  isplitl [H3]
  · iexists _; isplitr; swap; · iexact H3
    ipureintro; exact hf3
  isplitl [H4]
  · iexists _; isplitr; swap; · iexact H4
    ipureintro; exact hf4
  isplitl [H5]
  · iexists _; isplitr; swap; · iexact H5
    ipureintro
    subst hf0 hf1 hf2 hf3
    have e := after1 Variants.none c none i arg2 harg2 arg3 harg3 arg4 harg4 arg5 harg5 arg6 harg6 arg7 harg7 arg8 harg8 arg9 harg9 hc1 f0 f1 f2 fs0
    exact (after2 Variants.none c none i arg2 harg2 arg3 harg3 arg4 harg4 arg5 harg5 arg6 harg6 arg7 harg7 arg8 harg8 arg9 harg9 hc2 f3 _ f5 _).trans (congrArg (fun h => proj h _) e)
  isplitl [HS0]
  · iexists _; isplitr; swap; · iexact HS0
    ipureintro
    subst hf0 hf1 hf2
    exact after1 Variants.none c none i arg2 harg2 arg3 harg3 arg4 harg4 arg5 harg5 arg6 harg6 arg7 harg7 arg8 harg8 arg9 harg9 hc1 f0 f1 f2 fs0
  iexists _; isplitr; swap; · iexact HS1
  ipureintro; exact hfs1

end Cert.Proj

end
-- ==== Proof.ProjRunB.lean ====
/-
  The input projection's body at a point that is not the first of its batch entry and whose columns are only projected.
-/
module

public import proofs.«01_k».proof.Proof.ProjLoops

@[expose] public section

set_option maxRecDepth 16384

noncomputable section

namespace Cert.Proj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel3Ideal Cert.Kernel3Ideal.Gen

variable {F : FTy → Type} [FloatOps F]

local notation "𝕄" => MT nD τ sig Unit (Elt F) ℕ (UR sig nD τ) ℕ

set_option maxHeartbeats 8000000 in
set_option sl_exec.resultNames true in
/-- A block of columns that are only projected: the kept hidden states times the weights. -/
theorem runB (c : Dev nD) (i : grid0.Coords) (arg2 : Memref sig .tc .vmem S1x2304x1024 .f32) (harg2 : arg2.IsWhole) (arg3 : Memref sig .tc .vmem S1x12x1024 .f32) (harg3 : arg3.IsWhole) (arg4 : Memref sig .tc .vmem S1x1024 .f32) (harg4 : arg4.IsWhole) (arg5 : Memref sig .tc .vmem S1024x512 .bf16) (harg5 : arg5.IsWhole) (arg6 : Memref sig .tc .vmem S1x512 .f32) (harg6 : arg6.IsWhole) (arg7 : Memref sig .tc .vmem S1x2304x512 .bf16) (harg7 : arg7.IsWhole) (arg8 : Memref sig .tc .vmem S2304x1024 .bf16) (harg8 : arg8.IsWhole) (arg9 : Memref sig .tc .vmem S2328x512 .f32) (harg9 : arg9.IsWhole)
    (hc1 : ¬first i) (hc2 : plain i) (hc3 : ¬mixed i)
    (x0 : Vec F S1x2304x1024 .f32) (x1 : Vec F S1x12x1024 .f32) (x2 : Vec F S1x1024 .f32) (x3 : Vec F S1024x512 .bf16) (x4 : Vec F S1x512 .f32)
    (y5 : Vec F S1x2304x512 .bf16) (s0 : Vec F S2304x1024 .bf16) (s1 : Vec F S2328x512 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare y5 ∗ owns (c : Thread nD τ) arg8 fullShare s0 ∗ owns (c : Thread nD τ) arg9 fullShare s1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (proj s0 x3) ∗ owns (c : Thread nD τ) arg8 fullShare s0 ∗ owns (c : Thread nD τ) arg9 fullShare s1) -∗ K ⟨⟩))
          ⊢ wp frame (wpE (defs₀ (F := F)) Variants.none c none) E (cc0_proj_in i arg2 harg2 arg3 harg3 arg4 harg4 arg5 harg5 arg6 harg6 arg7 harg7 arg8 harg8 arg9 harg9) K := by
  simp only [cc0_proj_in_eq_skeleton]; unfold cc0_proj_in_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, Hk⟩
  sl_exec (disch := first | sl_exact hc1 | sl_exact hc2 | sl_exact hc3)
  sl_step
  iapply Hk
  isplitl [H0]
  · iexists _; isplitr; swap; · iexact H0
    ipureintro; exact hf0
  isplitl [H1]
  · iexists _; isplitr; swap; · iexact H1
    ipureintro; exact hf1
  isplitl [H2]
  · iexists _; isplitr; swap; · iexact H2
    ipureintro; exact hf2
  isplitl [H3]
  · iexists _; isplitr; swap; · iexact H3
    ipureintro; exact hf3
  isplitl [H4]
  · iexists _; isplitr; swap; · iexact H4
    ipureintro; exact hf4
  isplitl [H5]
  · iexists _; isplitr; swap; · iexact H5
    ipureintro
    subst hf3 hfs0
    exact after2 Variants.none c none i arg2 harg2 arg3 harg3 arg4 harg4 arg5 harg5 arg6 harg6 arg7 harg7 arg8 harg8 arg9 harg9 hc2 f3 fs0 f5 _
  isplitl [HS0]
  · iexists _; isplitr; swap; · iexact HS0
    ipureintro; exact hfs0
  iexists _; isplitr; swap; · iexact HS1
  ipureintro; exact hfs1

end Cert.Proj

end
-- ==== Proof.ProjRunC.lean ====
/-
  The input projection's body at a point whose columns are shifted and mixed.
-/
module

public import proofs.«01_k».proof.Proof.ProjLoops

@[expose] public section

set_option maxRecDepth 16384

noncomputable section

namespace Cert.Proj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel3Ideal Cert.Kernel3Ideal.Gen

variable {F : FTy → Type} [FloatOps F]

local notation "𝕄" => MT nD τ sig Unit (Elt F) ℕ (UR sig nD τ) ℕ

set_option maxHeartbeats 8000000 in
set_option sl_exec.resultNames true in
/-- A block of columns that are shifted and mixed as well. -/
theorem runC (c : Dev nD) (i : grid0.Coords) (arg2 : Memref sig .tc .vmem S1x2304x1024 .f32) (harg2 : arg2.IsWhole) (arg3 : Memref sig .tc .vmem S1x12x1024 .f32) (harg3 : arg3.IsWhole) (arg4 : Memref sig .tc .vmem S1x1024 .f32) (harg4 : arg4.IsWhole) (arg5 : Memref sig .tc .vmem S1024x512 .bf16) (harg5 : arg5.IsWhole) (arg6 : Memref sig .tc .vmem S1x512 .f32) (harg6 : arg6.IsWhole) (arg7 : Memref sig .tc .vmem S1x2304x512 .bf16) (harg7 : arg7.IsWhole) (arg8 : Memref sig .tc .vmem S2304x1024 .bf16) (harg8 : arg8.IsWhole) (arg9 : Memref sig .tc .vmem S2328x512 .f32) (harg9 : arg9.IsWhole)
    (hc1 : ¬first i) (hc2 : ¬plain i) (hc3 : mixed i)
    (x0 : Vec F S1x2304x1024 .f32) (x1 : Vec F S1x12x1024 .f32) (x2 : Vec F S1x1024 .f32) (x3 : Vec F S1024x512 .bf16) (x4 : Vec F S1x512 .f32)
    (y5 : Vec F S1x2304x512 .bf16) (s0 : Vec F S2304x1024 .bf16) (s1 : Vec F S2328x512 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare y5 ∗ owns (c : Thread nD τ) arg8 fullShare s0 ∗ owns (c : Thread nD τ) arg9 fullShare s1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (shifted (padded s0 x3) x4) ∗ owns (c : Thread nD τ) arg8 fullShare s0 ∗ (∃ s, owns (c : Thread nD τ) arg9 fullShare s)) -∗ K ⟨⟩))
          ⊢ wp frame (wpE (defs₀ (F := F)) Variants.none c none) E (cc0_proj_in i arg2 harg2 arg3 harg3 arg4 harg4 arg5 harg5 arg6 harg6 arg7 harg7 arg8 harg8 arg9 harg9) K := by
  simp only [cc0_proj_in_eq_skeleton]; unfold cc0_proj_in_skel
  simp only [k0_part2_eq_skeleton, k0_part3_eq_skeleton, k0_part4_eq_skeleton, k0_part5_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, Hk⟩
  sl_exec (disch := first | sl_exact hc1 | sl_exact hc2 | sl_exact hc3)
  sl_step
  iapply Hk
  isplitl [H0]
  · iexists _; isplitr; swap; · iexact H0
    ipureintro; exact hf0
  isplitl [H1]
  · iexists _; isplitr; swap; · iexact H1
    ipureintro; exact hf1
  isplitl [H2]
  · iexists _; isplitr; swap; · iexact H2
    ipureintro; exact hf2
  isplitl [H3]
  · iexists _; isplitr; swap; · iexact H3
    ipureintro; exact hf3
  isplitl [H4]
  · iexists _; isplitr; swap; · iexact H4
    ipureintro; exact hf4
  isplitl [H5]
  · iexists _; isplitr; swap; · iexact H5
    ipureintro
    subst hf3 hf4 hfs0
    have hp := after3 Variants.none c none i arg2 harg2 arg3 harg3 arg4 harg4 arg5 harg5 arg6 harg6 arg7 harg7 arg8 harg8 arg9 harg9 hc3 f3 fs0 fs1
      inb_S2328x512_S256x512_8_0 inb_S2328x512_S8x512_2320_0 inb_S2328x512_S8x512_264_0 inb_S2328x512_S8x512_0_0
    have e8 : runC.sl.v38 c i arg2 harg2 arg3 harg3 arg4 harg4 arg5 harg5 arg6 harg6 arg7 harg7 arg8 harg8 arg9 harg9 hc3 f3 fs0
        = padBlk (padded (arg8.view.read (Elt F) fs0) (arg5.view.read (Elt F) f3)) 8 (by decide) := by
      unfold runC.sl.v38 View.readCov
      exact congrArg (fun p => padBlk p 8 (by decide)) (after3 Variants.none c none i arg2 harg2 arg3 harg3 arg4 harg4 arg5 harg5 arg6 harg6 arg7 harg7 arg8 harg8 arg9 harg9 hc3 f3 fs0 _
        inb_S2328x512_S256x512_8_0 inb_S2328x512_S8x512_2320_0 inb_S2328x512_S8x512_264_0 inb_S2328x512_S8x512_0_0)
    rw [e8, ← hp]
    exact mixed_out arg7 f5 _ _ _ _ _ _ _ _ _ _ _
  isplitl [HS0]
  · iexists _; isplitr; swap; · iexact HS0
    ipureintro; exact hfs0
  iexists _; iexists _; isplitr; swap; · iexact HS1
  ipureintro; rfl

end Cert.Proj

end
-- ==== Proof.ProjBody.lean ====
/-
  What the pipeline carries from one grid point to the next, what every point leaves, and the run of the whole program.
  The 23 points of a batch entry are one after another; the first computes the entry's hidden states, which stay in the
  first scratch for the other 22. What is in the second scratch after a point is of no use to the next.
-/
module

public import proofs.«01_k».proof.Proof.ProjRunA
public import proofs.«01_k».proof.Proof.ProjRunB
public import proofs.«01_k».proof.Proof.ProjRunC
public import Idealize.ShloMosaic.Lib.Claim

@[expose] public section

set_option maxRecDepth 16384

noncomputable section

namespace Cert.Proj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel3Ideal Cert.Kernel3Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What is carried -/

/-- The scratch of the hidden states and that of the padded projection. -/
abbrev hidMem : Memref sig .tc .vmem S2304x1024 .bf16 := Memref.whole cc0_scratch0
abbrev padMem : Memref sig .tc .vmem S2328x512 .f32 := Memref.whole cc0_scratch1

theorem points : cfg0.N = 184 := N_0

/-- The first point of `t`'s batch entry, -/
def start (t : Fin cfg0.N) : Fin cfg0.N := ⟨t.val / 23 * 23, Nat.lt_of_le_of_lt (Nat.div_mul_le_self _ _) t.isLt⟩

/-- and the point before `t` (the first point itself for the first). -/
def prev (t : Fin cfg0.N) : Fin cfg0.N := ⟨t.val - 1, Nat.lt_of_le_of_lt (Nat.sub_le _ _) t.isLt⟩

theorem start_first (t : Fin cfg0.N) (h : t.val % 23 = 0) : start t = t := Fin.ext (by show t.val / 23 * 23 = t.val; omega)
theorem start_prev (t : Fin cfg0.N) (h : ¬t.val % 23 = 0) : start (prev t) = start t :=
  Fin.ext (by show (t.val - 1) / 23 * 23 = t.val / 23 * 23; omega)

/-- The hidden states of `t`'s batch entry. -/
def hidAt (c : Dev nD) (t : Fin cfg0.N) : Vec F S2304x1024 .bf16 :=
  hid (iblk m c 0 (start t)) (iblk m c 1 (start t)) (iblk m c 2 (start t))

/-- The output block that point `t` leaves. -/
def outAt (c : Dev nD) (t : Fin cfg0.N) : Vec F S1x2304x512 .bf16 :=
  if t.val % 23 < 16 then proj (hidAt m c t) (iblk m c 3 t) else shifted (padded (hidAt m c t) (iblk m c 3 t)) (iblk m c 4 t)

/-- After point `t` the first scratch holds the hidden states of its batch entry; -/
def kept (c : Dev nD) (t : Fin cfg0.N) : sProp 𝕄 :=
  iprop(owns (c : Thread nD τ) hidMem fullShare (hidAt m c t) ∗ (∃ x, owns (c : Thread nD τ) padMem fullShare x))

/-- the scratch at any contents. -/
def anyScratch (c : Dev nD) : sProp 𝕄 :=
  iprop((∃ d, owns (c : Thread nD τ) hidMem fullShare d) ∗ (∃ d, owns (c : Thread nD τ) padMem fullShare d))

theorem kept_any (c : Dev nD) (t : Fin cfg0.N) : kept m c t ⊢ anyScratch (F := F) c := by
  unfold kept anyScratch
  iintro ⟨H, HP⟩
  isplitl [H]; · iexists _; iexact H
  iexact HP

/-- What a point needs of the scratch: nothing at the first of a batch entry, else what the point before kept. -/
def needed (c : Dev nD) (t : Fin cfg0.N) : sProp 𝕄 := if t.val % 23 = 0 then anyScratch c else kept m c (prev t)

/-- Before the first point and after the last the scratch holds anything; between them what the point before kept. -/
def carried (c : Dev nD) (n : Fin (cfg0.N + 1)) : sProp 𝕄 :=
  if h : 0 < n.val ∧ n.val < 184 then iprop(kept m c ⟨n.val - 1, lt_of_lt_of_eq (by omega) points.symm⟩ ∗ (∃ r, prngReg c r))
  else Pipeline.ΦA spec0 c

/-- What the launch hands over, the two scratch buffers named. -/
theorem launched (c : Dev nD) : (Pipeline.ΦA spec0 c : sProp 𝕄) = iprop(anyScratch c ∗ (∃ r, prngReg c r)) := by
  unfold Pipeline.ΦA anyScratch
  rw [scopedRest0_eq]
  simp only [hidMem, padMem, owns_whole]
  try rfl

/-- The proof data: the arrays as the region finds them, the inputs' blocks left in place, the output block, the scratch
    as carried. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt m c t
  Φ n := carried m c n
  q _ := fullShare
  owed _ := 0

theorem A_eq (c : Dev nD) (w : Fin cfg0.W) : (dats m 0 c).A w = V m c (Pipeline.arrRef spec0 w) := by dsimp only [dats]

theorem left0 (c : Dev nD) (t : Fin cfg0.N) : (dats m 0 c).after 0 t = iblk m c 0 t := by dsimp only [dats]
theorem left1 (c : Dev nD) (t : Fin cfg0.N) : (dats m 0 c).after 1 t = iblk m c 1 t := by dsimp only [dats]
theorem left2 (c : Dev nD) (t : Fin cfg0.N) : (dats m 0 c).after 2 t = iblk m c 2 t := by dsimp only [dats]
theorem left3 (c : Dev nD) (t : Fin cfg0.N) : (dats m 0 c).after 3 t = iblk m c 3 t := by dsimp only [dats]
theorem left4 (c : Dev nD) (t : Fin cfg0.N) : (dats m 0 c).after 4 t = iblk m c 4 t := by dsimp only [dats]
theorem left5 (c : Dev nD) (t : Fin cfg0.N) : (dats m 0 c).after 5 t = outAt m c t := by dsimp only [dats]

theorem found0 (c : Dev nD) (t : Fin cfg0.N) (d) : (dats m 0 c).before 0 t d = iblk m c 0 t :=
  before0_0_of m (dats m 0 c) (A_eq m c 0) (left0 m c) t d
theorem found1 (c : Dev nD) (t : Fin cfg0.N) (d) : (dats m 0 c).before 1 t d = iblk m c 1 t :=
  before0_1_of m (dats m 0 c) (A_eq m c 1) (left1 m c) t d
theorem found2 (c : Dev nD) (t : Fin cfg0.N) (d) : (dats m 0 c).before 2 t d = iblk m c 2 t :=
  before0_2_of m (dats m 0 c) (A_eq m c 2) (left2 m c) t d
theorem found3 (c : Dev nD) (t : Fin cfg0.N) (d) : (dats m 0 c).before 3 t d = iblk m c 3 t :=
  before0_3_of m (dats m 0 c) (A_eq m c 3) (left3 m c) t d
theorem found4 (c : Dev nD) (t : Fin cfg0.N) (d) : (dats m 0 c).before 4 t d = iblk m c 4 t :=
  before0_4_of m (dats m 0 c) (A_eq m c 4) (left4 m c) t d

/-! ## One point -/

/-- The inputs' staging buffers at point `t`, each at its block. -/
def inputs (c : Dev nD) (t : Fin cfg0.N) : sProp 𝕄 :=
  iprop(owns (c : Thread nD τ) (st0_0 t) fullShare (iblk m c 0 t) ∗ owns (c : Thread nD τ) (st0_1 t) fullShare (iblk m c 1 t) ∗ owns (c : Thread nD τ) (st0_2 t) fullShare (iblk m c 2 t)
    ∗ owns (c : Thread nD τ) (st0_3 t) fullShare (iblk m c 3 t) ∗ owns (c : Thread nD τ) (st0_4 t) fullShare (iblk m c 4 t))

/-- What every point does: from what it needs of the scratch to its output block and to what it keeps. -/
theorem body_point (c : Dev nD) (t : Fin cfg0.N) (y : Vec F S1x2304x512 .bf16) (K : PUnit → sProp 𝕄) :
    iprop(inputs m c t ∗ owns (c : Thread nD τ) (st0_5 t) fullShare y ∗ needed m c t
        ∗ (iprop(inputs m c t ∗ owns (c : Thread nD τ) (st0_5 t) fullShare (outAt m c t) ∗ kept m c t) -∗ K ⟨⟩))
      ⊢ wp frame (wpE (defs₀ (F := F)) Variants.none c none) Set.univ (bodyAt0 t) K := by
  unfold inputs bodyAt0
  by_cases h : t.val % 23 = 0
  · rw [show needed m c t = anyScratch c from if_pos h, show outAt m c t = proj (hidAt m c t) (iblk m c 3 t) from if_pos (by omega)]
    unfold anyScratch kept hidAt
    rw [start_first t h]
    iintro ⟨⟨H0, H1, H2, H3, H4⟩, H5, ⟨⟨%s, HS⟩, ⟨%x, HP⟩⟩, Hk⟩
    iapply (runA c (grid0.coords t) _ _ _ _ _ _ _ _ _ _ _ _ _ _ _ _ ((first_iff t).mpr h) ((plain_iff t).mpr (by omega))
      (fun k => by have := (mixed_iff t).mp k; omega)
      (iblk m c 0 t) (iblk m c 1 t) (iblk m c 2 t) (iblk m c 3 t) (iblk m c 4 t) y s x Set.univ _)
    isplitl [H0]; · iexact H0
    isplitl [H1]; · iexact H1
    isplitl [H2]; · iexact H2
    isplitl [H3]; · iexact H3
    isplitl [H4]; · iexact H4
    isplitl [H5]; · iexact H5
    isplitl [HS]; · iexact HS
    isplitl [HP]; · iexact HP
    iintro ⟨H0, H1, H2, H3, H4, H5, HS, HP⟩
    iapply Hk
    isplitl [H0 H1 H2 H3 H4]
    · isplitl [H0]; · iexact H0
      isplitl [H1]; · iexact H1
      isplitl [H2]; · iexact H2
      isplitl [H3]; · iexact H3
      iexact H4
    isplitl [H5]; · iexact H5
    isplitl [HS]; · iexact HS
    iexists _; iexact HP
  · rw [show needed m c t = kept m c (prev t) from if_neg h]
    unfold kept
    rw [show hidAt m c (prev t) = hidAt m c t by unfold hidAt; rw [start_prev t h]]
    iintro ⟨⟨H0, H1, H2, H3, H4⟩, H5, ⟨HS, ⟨%x, HP⟩⟩, Hk⟩
    by_cases h' : t.val % 23 < 16
    · rw [show outAt m c t = proj (hidAt m c t) (iblk m c 3 t) from if_pos h']
      iapply (runB c (grid0.coords t) _ _ _ _ _ _ _ _ _ _ _ _ _ _ _ _ (fun k => h ((first_iff t).mp k)) ((plain_iff t).mpr h')
        (fun k => by have := (mixed_iff t).mp k; omega)
        (iblk m c 0 t) (iblk m c 1 t) (iblk m c 2 t) (iblk m c 3 t) (iblk m c 4 t) y (hidAt m c t) x Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      isplitl [HP]; · iexact HP
      iintro ⟨H0, H1, H2, H3, H4, H5, HS, HP⟩
      iapply Hk
      isplitl [H0 H1 H2 H3 H4]
      · isplitl [H0]; · iexact H0
        isplitl [H1]; · iexact H1
        isplitl [H2]; · iexact H2
        isplitl [H3]; · iexact H3
        iexact H4
      isplitl [H5]; · iexact H5
      isplitl [HS]; · iexact HS
      iexists _; iexact HP
    · rw [show outAt m c t = shifted (padded (hidAt m c t) (iblk m c 3 t)) (iblk m c 4 t) from if_neg h']
      iapply (runC c (grid0.coords t) _ _ _ _ _ _ _ _ _ _ _ _ _ _ _ _ (fun k => h ((first_iff t).mp k)) (fun k => h' ((plain_iff t).mp k))
        ((mixed_iff t).mpr (by omega))
        (iblk m c 0 t) (iblk m c 1 t) (iblk m c 2 t) (iblk m c 3 t) (iblk m c 4 t) y (hidAt m c t) x Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      isplitl [HP]; · iexact HP
      iintro ⟨H0, H1, H2, H3, H4, H5, HS, HP⟩
      iapply Hk
      isplitl [H0 H1 H2 H3 H4]
      · isplitl [H0]; · iexact H0
        isplitl [H1]; · iexact H1
        isplitl [H2]; · iexact H2
        isplitl [H3]; · iexact H3
        iexact H4
      isplitl [H5]; · iexact H5
      isplitl [HS]; · iexact HS
      iexact HP

/-! ## The body obligation -/

/-- No window is ever idle. -/
theorem live_out : ∀ t : Fin cfg0.N, cfg0.idle 5 (grid0.coords t) = false :=
  (by decide +kernel : ∀ t : Fin grid0.N, cfg0.idle 5 (grid0.coords t) = false)
theorem live (w : Fin cfg0.W) (t : Fin cfg0.N) : cfg0.idle w (grid0.coords t) = false := by
  revert w; intro (w : Fin 6); fin_cases w <;> first | rfl | exact live_out t

theorem leaves_live (c : Dev nD) (w : Fin cfg0.W) (t : Fin cfg0.N) :
    (dats m 0 c).leavesExact w t = owns (c : Thread nD τ) ((cfg0.win w).stage (cfg0.slots t w)) fullShare ((dats m 0 c).after w t) := by
  unfold Dat.leavesExact; rw [live]

/-- What is carried to a point gives what it needs, -/
theorem carried_needed (c : Dev nD) (t : Fin cfg0.N) :
    carried m c t.castSucc ⊢ iprop(needed m c t ∗ (∃ r, prngReg c r)) := by
  have hN : t.val < 184 := lt_of_lt_of_eq t.isLt points
  by_cases h0 : t.val = 0
  · have e : carried m c t.castSucc = Pipeline.ΦA spec0 c := dif_neg (by show ¬ (0 < t.val ∧ t.val < 184); omega)
    rw [e, launched, show needed m c t = anyScratch c from if_pos (by omega)]
  · have e : carried m c t.castSucc = iprop(kept m c (prev t) ∗ (∃ r, prngReg c r)) :=
      dif_pos (by show 0 < t.val ∧ t.val < 184; omega)
    rw [e]
    unfold needed
    split
    · iintro ⟨H, Hg⟩
      isplitl [H]; · iapply (kept_any m c (prev t)); iexact H
      iexact Hg
    · exact .rfl

/-- and what it keeps is carried on. -/
theorem kept_carried (c : Dev nD) (t : Fin cfg0.N) :
    iprop(kept m c t ∗ (∃ r, prngReg c r)) ⊢ carried m c t.succ := by
  have hN : t.val < 184 := lt_of_lt_of_eq t.isLt points
  by_cases h1 : t.val + 1 < 184
  · have e : carried m c t.succ = iprop(kept m c t ∗ (∃ r, prngReg c r)) :=
      dif_pos (by show 0 < t.val + 1 ∧ t.val + 1 < 184; omega)
    rw [e]
  · have e : carried m c t.succ = Pipeline.ΦA spec0 c := dif_neg (by show ¬ (0 < t.val + 1 ∧ t.val + 1 < 184); omega)
    rw [e, launched]
    iintro ⟨H, Hg⟩
    isplitl [H]; · iapply (kept_any m c t); iexact H
    iexact Hg

theorem carried_end (c : Dev nD) : carried m c (Fin.last cfg0.N) = Pipeline.ΦA spec0 c :=
  dif_neg (by show ¬ (0 < cfg0.N ∧ cfg0.N < 184); rw [points]; omega)

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it leaves. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t)

theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [found0, found1, found2, found3, found4]
  rw [show (dats m 0 c).Φ t.succ = carried m c t.succ from rfl, show (dats m 0 c).Φ t.castSucc = carried m c t.castSucc from rfl,
    show (dats m 0 c).owesAt () t.succ = (dats m 0 c).owesAt () t.castSucc from rfl]
  simp only [leaves_live, left0, left1, left2, left3, left4, left5]
  iintro ⟨HC, Ho, ⟨%d0, H0⟩, ⟨%d1, H1⟩, ⟨%d2, H2⟩, ⟨%d3, H3⟩, ⟨%d4, H4⟩, ⟨%d5, H5⟩⟩
  icases (carried_needed m c t) $$ HC with ⟨HN, Hg⟩
  iapply (body_point m c t ((dats m 0 c).before 5 t d5))
  isplitl [H0 H1 H2 H3 H4]
  · unfold inputs
    isplitl [H0]; · iexact H0
    isplitl [H1]; · iexact H1
    isplitl [H2]; · iexact H2
    isplitl [H3]; · iexact H3
    iexact H4
  isplitl [H5]; · iexact H5
  isplitl [HN]; · iexact HN
  unfold inputs
  iintro ⟨⟨H0, H1, H2, H3, H4⟩, H5, HK⟩
  isplitl [HK Hg]
  · iapply (kept_carried m c t)
    isplitl [HK]; · iexact HK
    iexact Hg
  isplitl [Ho]; · iexact Ho
  isplitl [H0]; · iexact H0
  isplitl [H1]; · iexact H1
  isplitl [H2]; · iexact H2
  isplitl [H3]; · iexact H3
  isplitl [H4]; · iexact H4
  iexact H5

/-- The body table's row at point `t`'s slots is the body on the point's staging buffers. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

-- the run's implicit arguments are found by unifying its conclusion with this one, which takes unfolding plain
-- definitions in a metavariable's type
set_option backward.isDefEq.respectTransparency.types false in
/-- Every run of the program ends, with every array staged as the pipeline leaves it, every other one as it was when
    the pipeline began, and no semaphore raised. -/
theorem run_quiescent : θ_run defs (onTc (τ := τ) (main (F := F))) (s₀ m ρ)
    (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl) (howed := fun _ _ => rfl) (V := V m)
    (hmain := hmain m Variants.none) (hA := A_eq m)
    (hin := fun c => by rw [show (dats m 0 c).Φ 0 = Pipeline.ΦA spec0 c from rfl])
    (hout := fun c => by rw [show (dats m 0 c).Φ (Fin.last cfg0.N) = Pipeline.ΦA spec0 c from carried_end m c])
    (hQ' := fun _ h => h)

/-- The arguments end as they were, and no semaphore raised. -/
theorem frame_of_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dats m) (A_eq m) ((θ_run defs _ _).mono (fun _ h => h.1) (run_quiescent m ρ)))
    ((θ_run defs _ _).mono (fun _ h => h.2) (run_quiescent m ρ))

end Cert.Proj

end
-- ==== Proof.ProjReal.lean ====
/-
  For real modulation, lane weights and weights the hidden states and the projection are real, and the kernel's mix of
  neighbouring rows is the reference's.
-/
module

public import proofs.«01_k».proof.Proof.ProjRow
public import proofs.«01_k».proof.Proof.Softmax

@[expose] public section

noncomputable section

namespace Cert.Proj

open Idealize.ShloMosaic Cert.Ffn Cert.Attn

theorem ofBits_one : Ideal.ofBits .f32 0x3F800000#32 = ((1 : ℝ) : EReal) := by
  simp [Ideal.ofBits, Ideal.ieee]; rw [← EReal.coe_mul]; norm_num

theorem ofBits_half : Ideal.ofBits .f32 0x3F000000#32 = ((1 / 2 : ℝ) : EReal) := by
  simp [Ideal.ofBits, Ideal.ieee]; rw [← EReal.coe_mul]; norm_num

theorem ofBits_lanes : Ideal.ofBits .f32 0x44800000#32 = ((1024 : ℝ) : EReal) := by
  simp [Ideal.ofBits, Ideal.ieee]; rw [← EReal.coe_mul]; norm_num

/-- The norm's small constant is a positive real. -/
theorem ofBits_eps : ∃ e : ℝ, 0 < e ∧ Ideal.ofBits .f32 0x358637BD#32 = (e : EReal) := by
  refine ⟨8796093 * (2 : ℝ) ^ (-43 : ℤ), by positivity, ?_⟩
  simp [Ideal.ofBits, Ideal.ieee]

theorem zero_real : IsReal 0 := ⟨0, rfl⟩

theorem sq_nonneg_ext (x : EReal) : 0 ≤ x * x := by
  induction x with
  | bot => rw [EReal.bot_mul_bot]; exact le_top
  | top => rw [EReal.top_mul_top]; exact le_top
  | coe r => rw [← EReal.coe_mul]; exact EReal.coe_nonneg.2 (mul_self_nonneg r)

/-- The sum of a row's squares is infinite if the row is not real. -/
theorem squares_top {x : Fin 1024 → EReal} (h : ¬∀ c, IsReal (x c)) : (∑ c, x c * x c) = ⊤ := by
  obtain ⟨c, hc⟩ := not_forall.1 h
  have ht : x c * x c = ⊤ := by
    induction hx : x c with
    | bot => exact EReal.bot_mul_bot
    | top => exact EReal.top_mul_top
    | coe r => exact absurd ⟨r, hx⟩ hc
  rw [← Finset.add_sum_erase _ _ (Finset.mem_univ c), ht]
  exact EReal.top_add_of_ne_bot (ne_of_gt (lt_of_lt_of_le EReal.bot_lt_zero (Finset.sum_nonneg fun c _ => sq_nonneg_ext (x c))))

/-- Every row over its norm is real: a row that is not real has an infinite norm, and what is divided by that is zero. -/
theorem normed_real (x : Fin 1024 → EReal) (d : Fin 1024) : IsReal (x d
    * Ideal.rsqrt (Ideal.div (∑ e, x e * x e) (Ideal.ofBits .f32 0x44800000#32) + Ideal.ofBits .f32 0x358637BD#32)) := by
  obtain ⟨e, he, h⟩ := ofBits_eps
  by_cases hx : ∀ c, IsReal (x c)
  · refine (hx d).mul ?_
    choose X hX using hx
    have hs : (∑ c, x c * x c) = ((∑ c, X c * X c : ℝ) : EReal) := by
      rw [coe_sum]
      exact Finset.sum_congr rfl fun c _ => by rw [hX, EReal.coe_mul]
    have hp : 0 < (∑ c, X c * X c) / 1024 + e :=
      add_pos_of_nonneg_of_pos (div_nonneg (Finset.sum_nonneg fun c _ => mul_self_nonneg _) (by norm_num)) he
    rw [h, hs, ofBits_lanes, div_real (by norm_num), ← EReal.coe_add, Ideal.rsqrt_coe, if_neg hp.not_gt, if_neg hp.ne']
    exact ⟨_, rfl⟩
  · have ht : Ideal.div ⊤ ((1024 : ℝ) : EReal) = ⊤ := by
      rw [Ideal.div_coe (by norm_num)]
      exact EReal.top_mul_coe_of_pos (by norm_num)
    rw [squares_top hx, h, ofBits_lanes, ht, EReal.top_add_coe, show Ideal.rsqrt ⊤ = 0 from rfl, mul_zero]
    exact zero_real

/-- A row's hidden lanes are real. -/
theorem hidRow_real {x g sc sh : Fin 1024 → EReal} (hg : ∀ c, IsReal (g c)) (hsc : ∀ c, IsReal (sc c))
    (hsh : ∀ c, IsReal (sh c)) (d : Fin 1024) : IsReal (hidRow x g sc sh d) := by
  unfold hidRow
  exact (((normed_real x d).mul (hg d)).mul (IsReal.add ⟨1, ofBits_one⟩ (hsc d))).add (hsh d)

theorem dotRow_real {h : Fin 2304 → Fin 1024 → EReal} {w : Fin 1024 → EReal} (hh : ∀ r d, IsReal (h r d)) (hw : ∀ d, IsReal (w d))
    (r : Fin 2304) : IsReal (dotRow h w r) := IsReal.sum _ fun d => (hh r d).mul (hw d)

theorem before_real {p : Fin 2304 → EReal} (h : ∀ r, IsReal (p r)) (r : Fin 2304) : IsReal (before p r) := by
  unfold before
  split
  · exact zero_real
  · exact h _

theorem next_real {p : Fin 2304 → EReal} (h : ∀ r, IsReal (p r)) (r : Fin 2304) : IsReal (next p r) := by
  unfold next
  split
  · exact zero_real
  · exact h _

/-- The two mixes of a row with its neighbours. -/
theorem mixes_equal {p : Fin 2304 → EReal} (h : ∀ r, IsReal (p r)) {u : EReal} (hu : IsReal u) (r : Fin 2304) :
    mixed2 p u r = mixed1 p u r := by
  obtain ⟨a, ha⟩ := h r
  obtain ⟨b, hb⟩ := before_real h r
  obtain ⟨n, hn⟩ := next_real h r
  obtain ⟨v, rfl⟩ := hu
  unfold mixed1 mixed2
  rw [ha, hb, hn, ofBits_one, ofBits_half]
  simp only [← EReal.coe_mul, ← EReal.coe_add, ← EReal.coe_sub]
  exact congrArg _ (by ring)

/-- A column of zeros projects to zeros, -/
theorem dotRow_zero (h : Fin 2304 → Fin 1024 → EReal) (r : Fin 2304) : dotRow h (fun _ => 0) r = 0 :=
  Finset.sum_eq_zero fun _ _ => mul_zero _

/-- and mixes to zeros. -/
theorem mixed2_zero (u : EReal) (r : Fin 2304) : mixed2 (fun _ => 0) u r = 0 := by
  unfold mixed2 before next
  simp

theorem column_real {w : Fin 1024 → Fin 11680 → EReal} (h : ∀ d c, IsReal (w d c)) (d : Fin 1024) (c : Fin 11776) : IsReal (column w d c) := by
  unfold column
  split
  · exact h _ _
  split
  · exact h _ _
  split
  · exact h _ _
  · exact zero_real

theorem muCol_real {mu : Fin 3488 → EReal} (h : ∀ c, IsReal (mu c)) (c : Fin 11776) : IsReal (muCol mu c) := by
  unfold muCol
  split
  · exact h _
  · exact zero_real

/-- What the kernel computes is the result. -/
theorem result_of_mixed2 {h : Fin 2304 → Fin 1024 → EReal} {w : Fin 1024 → Fin 11680 → EReal} {mu : Fin 3488 → EReal}
    (hh : ∀ r d, IsReal (h r d)) (hw : ∀ d c, IsReal (w d c)) (hmu : ∀ c, IsReal (mu c)) (r : Fin 2304) (c : Fin 11776)
    (hc : ¬c.val < 8192) : mixed2 (dotRow h fun d => column w d c) (muCol mu c) r = resultRow h w mu r c := by
  unfold resultRow
  rw [if_neg hc]
  by_cases h1 : c.val < 11680
  · rw [if_pos h1]
    exact mixes_equal (dotRow_real hh fun d => column_real hw d c) (muCol_real hmu c) r
  · rw [if_neg h1]
    have e : (fun d => column w d c) = fun _ => 0 := funext fun d => by
      unfold column; rw [dif_neg (by omega), dif_neg (by omega), dif_neg h1]
    rw [e, funext (dotRow_zero h)]
    exact mixed2_zero _ r

end Cert.Proj

end
-- ==== Proof.ProjFinal.lean ====
/-
  What the input projection leaves in its result array: the result's row of every batch entry and row of the joined stream, when
  the arguments other than the streams are real numbers.
-/
module

public import proofs.«01_k».proof.Proof.ProjEntry
public import proofs.«01_k».proof.Proof.ProjBody
public import proofs.«01_k».proof.Proof.ProjReal

@[expose] public section

set_option maxRecDepth 16384

noncomputable section

namespace Cert.Proj

open Idealize.ShloMosaic Idealize.ShloMosaic.TcCoe Idealize.ShloMosaic.Tactic
open Cert.Kernel3Ideal Cert.Kernel3Ideal.Gen Cert.Ffn Cert.Attn

variable (m : (ℓ : Loc nD τ sig) → Buf (Elt Ideal) ℓ) (c : Dev nD)

/-- The hidden states from the arguments, -/
def hiddenOf (b : Fin 8) (r : Fin 2304) (d : Fin 1024) : EReal :=
  hidden (fun b r l => arg0 m c (ix3 b r l)) (fun b r l => arg1 m c (ix3 b r l)) (fun b j => arg2 m c (ix2 b j))
    (fun j => arg3 m c (ix1 j)) (fun l => arg4 m c (ix1 l)) b r d

/-- the result -/
def result (b : Fin 8) (r : Fin 2304) (l : Fin 11776) : EReal :=
  resultRow (hiddenOf m c b) (fun d j => arg5 m c (ix2 d j)) (fun j => arg6 m c (ix1 j)) r l

/-- and the same as an array. -/
def resultArray : S8x2304x11776.Idx → EReal := fun i =>
  result m c ⟨(i 0).val, (i 0).isLt⟩ ⟨(i 1).val, (i 1).isLt⟩ ⟨(i 2).val, (i 2).isLt⟩

/-- The arguments other than the two streams are real numbers. -/
structure Reals : Prop where
  a2 : ∀ i, IsReal (arg2 m c i)
  a3 : ∀ i, IsReal (arg3 m c i)
  a4 : ∀ i, IsReal (arg4 m c i)
  a5 : ∀ i, IsReal (arg5 m c i)
  a6 : ∀ i, IsReal (arg6 m c i)

variable {m c}

theorem hiddenOf_real (H : Reals m c) (b : Fin 8) (r : Fin 2304) (d : Fin 1024) : IsReal (hiddenOf m c b r d) := by
  unfold hiddenOf hidden
  split
  · exact hidRow_real (fun _ => H.a4 _) (fun _ => H.a3 _) (fun _ => H.a3 _) d
  · exact hidRow_real (fun _ => H.a4 _) (fun _ => H.a2 _) (fun _ => H.a2 _) d

variable (m c)

/-- The hidden states that the points of a batch entry work on. -/
theorem hidAt_eq (t : Fin cfg0.N) (b : Fin 8) (hb : t.val / 23 = b.val) (r : Fin 2304) (d : Fin 1024) :
    (hidAt m c t (ix2 r d) : EReal) = hiddenOf m c b r d := by
  have hN : t.val < 184 := t.isLt
  have hs : (start t).val = t.val / 23 * 23 := rfl
  have hb' : (⟨(start t).val / 23, by omega⟩ : Fin 8) = b := Fin.ext (by dsimp only; omega)
  have hx (l : Fin 1024) : (iblk m c 0 (start t) (ix3 0 r l) : EReal) = V m c (Pipeline.arrRef spec0 0) (ix3 b r l) := by
    rw [← hb']; exact read0 (V m c (Pipeline.arrRef spec0 0)) (start t) r l
  have hm (j : Fin 12) (l : Fin 1024) : (iblk m c 1 (start t) (ix3 0 j l) : EReal) = V m c (Pipeline.arrRef spec0 1) (ix3 b j l) := by
    rw [← hb']; exact read1 (V m c (Pipeline.arrRef spec0 1)) (start t) j l
  have hg (l : Fin 1024) : (iblk m c 2 (start t) (ix2 0 l) : EReal) = arg4 m c (ix1 l) :=
    (read2 (V m c (Pipeline.arrRef spec0 2)) (start t) l).trans (entry_g m c l)
  unfold hidAt hiddenOf hidden
  refine (hid_apply _ _ _ r d).trans ?_
  by_cases h : r.val < 256
  · have hx' (l : Fin 1024) := (hx l).trans ((entry_x m c b r l).trans (dif_pos h))
    simp only [hx', hm, hg]
    simp only [if_pos h, dif_pos h, entry_mod m c b 1 (by omega) 0 2 rfl, entry_mod m c b 0 (by omega) 0 0 rfl, Fin.val_zero,
      zero_ne_one, if_false]
  · have hx' (l : Fin 1024) := (hx l).trans ((entry_x m c b r l).trans (dif_neg h))
    simp only [hx', hm, hg]
    simp only [if_neg h, dif_neg h, entry_mod m c b 1 (by omega) 1 3 rfl, entry_mod m c b 0 (by omega) 1 1 rfl, Fin.val_one, if_true]

variable {m c}

/-- The block that point `t` leaves. -/
theorem block_out (H : Reals m c) (t : Fin cfg0.N) (r : Fin 2304) (l : Fin 512) :
    ((dats m 0 c).after 5 t (ix3 0 r l) : EReal)
      = result m c ⟨t.val / 23, by have : t.val < 184 := t.isLt; omega⟩ r ⟨512 * (t.val % 23) + l.val, by omega⟩ := by
  have hN : t.val < 184 := t.isLt
  rw [left5]
  have hh (r : Fin 2304) (d : Fin 1024) := hidAt_eq m c t ⟨t.val / 23, by omega⟩ rfl r d
  have hw (d : Fin 1024) : (iblk m c 3 t (ix2 d l) : EReal)
      = column (fun d j => arg5 m c (ix2 d j)) d ⟨512 * (t.val % 23) + l.val, by omega⟩ :=
    (read3 (V m c (Pipeline.arrRef spec0 3)) t d l).trans (entry_w m c d _)
  have hu : (iblk m c 4 t (ix2 0 l) : EReal) = muCol (fun j => arg6 m c (ix1 j)) ⟨512 * (t.val % 23) + l.val, by omega⟩ :=
    (read4 (V m c (Pipeline.arrRef spec0 4)) t l).trans (entry_mu m c _)
  unfold result outAt
  by_cases h : t.val % 23 < 16
  · rw [if_pos h]
    refine (proj_apply _ _ r l).trans ?_
    unfold resultRow
    rw [if_pos (by dsimp only; omega)]
    simp only [hh, hw]
  · rw [if_neg h]
    refine (shifted_apply _ _ _ r l).trans ?_
    simp only [hh, hw, hu]
    exact result_of_mixed2 (hiddenOf_real H _) (fun _ _ => H.a5 _) (fun _ => H.a6 _) r _ (by dsimp only; omega)

theorem final_array (H : Reals m c) : (dats m 0 c).arrAt 5 cfg0.N = resultArray m c := by
  refine (dats m 0 c).arrAt_eq_of_covers 5 _ (by decide +kernel) fun t hf y => ?_
  have hN : t.val < 184 := t.isLt
  blk_simp
  have hy0 : (y 0).val < 1 := (y 0).isLt
  have hy1 : (y 1).val < 2304 := (y 1).isLt
  have hy2 : (y 2).val < 512 := (y 2).isLt
  have hy : y = ix3 (⟨0, by omega⟩ : Fin 1) (⟨(y 1).val, hy1⟩ : Fin 2304) (⟨(y 2).val, hy2⟩ : Fin 512) := by
    funext k; fin_cases k
    · exact Fin.ext (by show (y 0).val = 0; omega)
    · rfl
    · rfl
  have e0 : ((win0_5.blk t).view.emb y 0).val = t.val / 23 := by
    blk_simp [index5 t]
  have e1 : ((win0_5.blk t).view.emb y 1).val = (y 1).val := by
    blk_simp [index5 t]
  have e2 : ((win0_5.blk t).view.emb y 2).val = 512 * (t.val % 23) + (y 2).val := by
    blk_simp [index5 t]; omega
  refine (congrArg _ hy).trans ((block_out H t _ _).trans ?_)
  unfold resultArray
  congr 1
  · exact Fin.ext e0.symm
  · exact Fin.ext e1.symm
  · exact Fin.ext e2.symm

end Cert.Proj

end
-- ==== Proof.ProjSame.lean ====
/-
  The input projection on bit patterns and on real numbers is one program: the two are the same text.
-/
module

public import proofs.«01_k».proof.Defs
public import proofs.«01_k».proof.Proof.Gen.Kernel3
public import proofs.«01_k».proof.Proof.Gen.Kernel3Ideal

@[expose] public section

set_option maxRecDepth 100000

namespace Cert.Proj

open Idealize.ShloMosaic

/-- The body of one grid step. -/
theorem body_same : @Kernel3.cc0_proj_in Bits _ Kernel3.Gen.facts = @Kernel3Ideal.cc0_proj_in Bits _ Kernel3Ideal.Gen.facts := by
  unfold Kernel3.cc0_proj_in Kernel3Ideal.cc0_proj_in
  with_unfolding_all rfl

/-- The table of the bodies. -/
theorem table_same : @Kernel3.defs₀ Bits _ Kernel3.Gen.facts = @Kernel3Ideal.defs₀ Bits _ Kernel3Ideal.Gen.facts := by
  unfold Kernel3.defs₀ Kernel3Ideal.defs₀
  rw [body_same]
  refine congrArg Defs.onTc (funext fun l => funext fun a => ?_)
  match l, a with
  | 0, (t, s) => with_unfolding_all rfl

/-- The table with the pipeline's own entries. -/
theorem defs_same : @Kernel3.defs Bits _ Kernel3.Gen.facts = @Kernel3Ideal.defs Bits _ Kernel3Ideal.Gen.facts :=
  congrArg (Pipeline.defs (Kernel3Ideal.pcfgs (F := Bits))) table_same

end Cert.Proj
-- ==== Proof.ProjReads.lean ====
/-
  The reference's input projection, stage by stage: the modulated rows, the products and the result of the latents and of the
  context, read at an index.
-/
module

public import proofs.«01_k».proof.Proof.ProjRow
public import proofs.«01_k».proof.Proof.Base
public import proofs.«01_k».proof.Proof.Gen.Reference3Ideal.Read

@[expose] public section

set_option maxRecDepth 16384

noncomputable section

namespace Cert.Proj

open Idealize.ShloMosaic Idealize.ShloMosaic.Tactic
open Cert.Reference3Ideal Cert.Reference3Ideal.Gen Cert.Reference3Ideal.Read Cert.Ffn

variable (x0 : (⟨S8x2048x1024, .f32⟩ : BufTy).Contents (Elt Ideal)) (x1 : (⟨S8x256x1024, .f32⟩ : BufTy).Contents (Elt Ideal))
  (x2 : (⟨S8x6144, .f32⟩ : BufTy).Contents (Elt Ideal)) (x3 : (⟨S6144, .f32⟩ : BufTy).Contents (Elt Ideal))
  (x4 : (⟨S1024, .f32⟩ : BufTy).Contents (Elt Ideal)) (x5 : (⟨S1024x11680, .f32⟩ : BufTy).Contents (Elt Ideal))
  (x6 : (⟨S3488, .f32⟩ : BufTy).Contents (Elt Ideal))

/-- The result of a part of `n` rows whose products with the weights are `p`: its own rows are mixed with one another. -/
def partRow {n : ℕ} (p : Fin n → Fin 11680 → EReal) (u : Fin 3488 → EReal) (r : Fin n) (c : Fin 11776) : EReal :=
  if _h : c.val < 5120 then p r ⟨c.val, by omega⟩
  else if _h : c.val < 8192 then p r ⟨c.val + 3488, by omega⟩
  else if _h : c.val < 11680 then p r ⟨c.val - 3072, by omega⟩ + u ⟨c.val - 8192, by omega⟩ * (Ideal.ofBits .f32 0x3F000000#32
    * ((if _h : r.val = 0 then 0 else p ⟨r.val - 1, by omega⟩ ⟨c.val - 3072, by omega⟩)
      + if _h : r.val + 1 = n then 0 else p ⟨r.val + 1, by omega⟩ ⟨c.val - 3072, by omega⟩) - p r ⟨c.val - 3072, by omega⟩)
  else 0

/-- The zero that rows and columns are padded with. -/
theorem pad_zero : (FloatOps.sitofp (F := Ideal) .f32 0#32 : EReal) = 0 := by
  show (((0#32 : BitVec 32).toInt : ℝ) : EReal) = 0
  simp

/-- Rows padded in front and behind are the rows before and after. -/
theorem mix_eq {n k : ℕ} (hk : k + 1 = n) (h : Fin n → EReal) (r : Fin n) :
    ((if _h : 1 ≤ r.val ∧ r.val - 1 < k then h ⟨r.val - 1, by omega⟩ else (FloatOps.sitofp (F := Ideal) .f32 0#32 : EReal))
        + if _h : r.val < k then h ⟨1 + r.val, by omega⟩ else (FloatOps.sitofp (F := Ideal) .f32 0#32 : EReal))
      = (if _h : r.val = 0 then 0 else h ⟨r.val - 1, by omega⟩) + if _h : r.val + 1 = n then 0 else h ⟨r.val + 1, by omega⟩ := by
  have hr := r.isLt
  rw [pad_zero]
  congr 1
  · by_cases h0 : r.val = 0
    · rw [dif_pos h0, dif_neg (by omega)]
    · rw [dif_neg h0, dif_pos (by omega)]
  · by_cases h1 : r.val + 1 = n
    · rw [dif_pos h1, dif_neg (by omega)]
    · rw [dif_neg h1, dif_pos (by omega)]
      exact congrArg h (Fin.ext (Nat.add_comm 1 _))

/-- The parts of the columns in the result's order. -/
theorem part_eq {n : ℕ} (p : Fin n → Fin 11680 → EReal) (u : Fin 3488 → EReal) (r : Fin n) (q : Fin 3488 → EReal)
    (hq : ∀ j : Fin 3488, q j = p r ⟨5120 + j.val, by omega⟩ + u j * (Ideal.ofBits .f32 0x3F000000#32
      * ((if _h : r.val = 0 then 0 else p ⟨r.val - 1, by omega⟩ ⟨5120 + j.val, by omega⟩)
        + if _h : r.val + 1 = n then 0 else p ⟨r.val + 1, by omega⟩ ⟨5120 + j.val, by omega⟩) - p r ⟨5120 + j.val, by omega⟩))
    (c : Fin 11776) :
    (if _h : c.val < 11680 then
      if _h : c.val < 2048 then p r ⟨c.val, by omega⟩
      else if _h : c.val - 2048 < 3072 then p r ⟨2048 + (c.val - 2048), by omega⟩
      else if _h : c.val - 2048 - 3072 < 3072 then p r ⟨8608 + (c.val - 2048 - 3072), by omega⟩
      else q ⟨c.val - 2048 - 3072 - 3072, by omega⟩
    else (FloatOps.sitofp (F := Ideal) .f32 0#32 : EReal)) = partRow p u r c := by
  unfold partRow
  rw [pad_zero]
  by_cases h : c.val < 5120
  · rw [dif_pos h, dif_pos (by omega)]
    by_cases h' : c.val < 2048
    · rw [dif_pos h']
    · rw [dif_neg h', dif_pos (by omega)]
      exact congrArg (p r) (Fin.ext (by dsimp only; omega))
  · rw [dif_neg h]
    by_cases h8 : c.val < 8192
    · rw [dif_pos h8, dif_pos (by omega), dif_neg (by omega), dif_neg (by omega), dif_pos (by omega)]
      exact congrArg (p r) (Fin.ext (by dsimp only; omega))
    · rw [dif_neg h8]
      by_cases h11 : c.val < 11680
      · rw [dif_pos h11, dif_pos h11, dif_neg (by omega), dif_neg (by omega), dif_neg (by omega), hq]
        have e1 : (⟨5120 + (c.val - 2048 - 3072 - 3072), by omega⟩ : Fin 11680) = ⟨c.val - 3072, by omega⟩ :=
          Fin.ext (by dsimp only; omega)
        have e2 : (⟨c.val - 2048 - 3072 - 3072, by omega⟩ : Fin 3488) = ⟨c.val - 8192, by omega⟩ := Fin.ext (by dsimp only; omega)
        rw [e1, e2]
      · rw [dif_neg h11, dif_neg h11]

/-- The latents' modulated rows, -/
theorem lat_hid (b : Fin 8) (r : Fin 2048) (d : Fin 1024) :
    val_main_v31 (F := Ideal) x0 x2 x4 (ix3 b r d) = hidRow (fun d => x0 (ix3 b r d)) (fun d => x4 (ix1 d))
      (fun d => x2 (ix2 b ⟨1024 * 1 + d.val, by omega⟩)) (fun d => x2 (ix2 b ⟨1024 * 0 + d.val, by omega⟩)) d := by
  unfold hidRow
  unfold val_main_v31 val_main_v30 val_main_v29 val_main_v28 val_main_v27 val_main_v26 val_main_v25 val_main_v24 val_main_v23 val_main_v22
    val_main_v21 val_main_v20 val_main_v19 val_main_v18 val_main_v17 val_main_v16 val_main_v15 val_main_v14 val_main_v13
    val_main_cst val_main_cst_0 val_main_cst_1 val_main_cst_2
    val_main_v1 val_main_v2 val_main_v0
  pointwise

/-- the context's, -/
theorem ctx_hid (b : Fin 8) (r : Fin 256) (d : Fin 1024) :
    val_main_v52 (F := Ideal) x1 x3 x4 (ix3 b r d) = hidRow (fun d => x1 (ix3 b r d)) (fun d => x4 (ix1 d))
      (fun d => x3 (ix1 ⟨1024 * 1 + d.val, by omega⟩)) (fun d => x3 (ix1 ⟨1024 * 0 + d.val, by omega⟩)) d := by
  unfold hidRow
  unfold val_main_v52 val_main_v51 val_main_v50 val_main_v49 val_main_v48 val_main_v47 val_main_v46 val_main_v45 val_main_v44 val_main_v43
    val_main_v42 val_main_v41 val_main_v40 val_main_v39 val_main_v38 val_main_v37 val_main_v36 val_main_v35 val_main_v34 val_main_v33
    val_main_v32 val_main_cst_3 val_main_cst_4 val_main_cst_5 val_main_cst_6 val_main_v7 val_main_v8
  pointwise

/-- the products of the one -/
theorem lat_proj (b : Fin 8) (r : Fin 2048) (j : Fin 11680) :
    val_main_v72 (F := Ideal) x0 x2 x4 x5 (ix3 b r j) = ∑ d, val_main_v31 (F := Ideal) x0 x2 x4 (ix3 b r d) * x5 (ix2 d j) := by
  unfold val_main_v72
  generalize val_main_v31 (F := Ideal) x0 x2 x4 = h
  pointwise

/-- and of the other, -/
theorem ctx_proj (b : Fin 8) (r : Fin 256) (j : Fin 11680) :
    val_main_v53 (F := Ideal) x1 x3 x4 x5 (ix3 b r j) = ∑ d, val_main_v52 (F := Ideal) x1 x3 x4 (ix3 b r d) * x5 (ix2 d j) := by
  unfold val_main_v53
  generalize val_main_v52 (F := Ideal) x1 x3 x4 = h
  pointwise

/-- the context's shifted lanes -/
theorem ctx_mix (b : Fin 8) (r : Fin 256) (j : Fin 3488) (h : S8x256x3488.Idx → EReal) (hh : val_main_v56 (F := Ideal) x1 x3 x4 x5 = h) :
    val_main_v69 (F := Ideal) x1 x3 x4 x5 x6 (ix3 b r j) = h (ix3 b r j) + x6 (ix1 j) * (Ideal.ofBits .f32 0x3F000000#32
      * ((if _h : r.val = 0 then 0 else h (ix3 b ⟨r.val - 1, by omega⟩ j))
        + if _h : r.val + 1 = 256 then 0 else h (ix3 b ⟨r.val + 1, by omega⟩ j)) - h (ix3 b r j)) := by
  unfold val_main_v69 val_main_v68 val_main_v67 val_main_v66 val_main_v65 val_main_v64 val_main_v63 val_main_v62 val_main_v61 val_main_v60 val_main_v59 val_main_v58
    val_main_cst_8 val_main_call0_v0 val_main_call1_v0 val_main_c val_main_c_7
  rw [hh, ← mix_eq (n := 256) (k := 255) rfl (fun r => h (ix3 b r j)) r]
  pointwise

/-- and its result, the padding after it, -/
theorem ctx_out (b : Fin 8) (r : Fin 256) (c : Fin 11776) :
    val_main_v71 (F := Ideal) x1 x3 x4 x5 x6 (ix3 b r c)
      = partRow (fun r j => val_main_v53 (F := Ideal) x1 x3 x4 x5 (ix3 b r j)) (fun j => x6 (ix1 j)) r c := by
  have hm (j : Fin 3488) := ctx_mix x1 x3 x4 x5 x6 b r j _ rfl
  unfold val_main_v71 val_main_v70 val_main_call2_v0 val_main_c_9
  generalize val_main_v69 (F := Ideal) x1 x3 x4 x5 x6 = q at hm ⊢
  unfold val_main_v57 val_main_v56 val_main_v55 val_main_v54 at *
  generalize val_main_v53 (F := Ideal) x1 x3 x4 x5 = p at hm ⊢
  rw [← part_eq (fun r j => p (ix3 b r j)) (fun j => x6 (ix1 j)) r (fun j => q (ix3 b r j)) fun j => (hm j).trans (by pointwise) ]
  pointwise

/-- the latents' shifted lanes -/
theorem lat_mix (b : Fin 8) (r : Fin 2048) (j : Fin 3488) (h : S8x2048x3488.Idx → EReal) (hh : val_main_v75 (F := Ideal) x0 x2 x4 x5 = h) :
    val_main_v88 (F := Ideal) x0 x2 x4 x5 x6 (ix3 b r j) = h (ix3 b r j) + x6 (ix1 j) * (Ideal.ofBits .f32 0x3F000000#32
      * ((if _h : r.val = 0 then 0 else h (ix3 b ⟨r.val - 1, by omega⟩ j))
        + if _h : r.val + 1 = 2048 then 0 else h (ix3 b ⟨r.val + 1, by omega⟩ j)) - h (ix3 b r j)) := by
  unfold val_main_v88 val_main_v87 val_main_v86 val_main_v85 val_main_v84 val_main_v83 val_main_v82 val_main_v81 val_main_v80 val_main_v79 val_main_v78 val_main_v77
    val_main_cst_12 val_main_call3_v0 val_main_call4_v0 val_main_c_10 val_main_c_11
  rw [hh, ← mix_eq (n := 2048) (k := 2047) rfl (fun r => h (ix3 b r j)) r]
  pointwise

/-- and their result. -/
theorem lat_out (b : Fin 8) (r : Fin 2048) (c : Fin 11776) :
    val_main_v90 (F := Ideal) x0 x2 x4 x5 x6 (ix3 b r c)
      = partRow (fun r j => val_main_v72 (F := Ideal) x0 x2 x4 x5 (ix3 b r j)) (fun j => x6 (ix1 j)) r c := by
  have hm (j : Fin 3488) := lat_mix x0 x2 x4 x5 x6 b r j _ rfl
  unfold val_main_v90 val_main_v89 val_main_call5_v0 val_main_c_13
  generalize val_main_v88 (F := Ideal) x0 x2 x4 x5 x6 = q at hm ⊢
  unfold val_main_v76 val_main_v75 val_main_v74 val_main_v73 at *
  generalize val_main_v72 (F := Ideal) x0 x2 x4 x5 = p at hm ⊢
  rw [← part_eq (fun r j => p (ix3 b r j)) (fun j => x6 (ix1 j)) r (fun j => q (ix3 b r j)) fun j => (hm j).trans (by pointwise) ]
  pointwise

/-- A part's rows of the joined result: those past its first row `o` in the joined stream. -/
theorem partRow_result (h : Fin 2304 → Fin 1024 → EReal) (w : Fin 1024 → Fin 11680 → EReal) (u : Fin 3488 → EReal) {n o : ℕ}
    (hn : o = 0 ∧ n = 256 ∨ o = 256 ∧ n = 2048) (p : Fin n → Fin 11680 → EReal)
    (hp : ∀ (r : Fin n) j, p r j = ∑ d, h ⟨o + r.val, by omega⟩ d * w d j) (r : Fin n) (c : Fin 11776) (s : Fin 2304) (hs : s.val = o + r.val) :
    partRow p u r c = resultRow h w u s c := by
  have hr := r.isLt
  rw [show s = ⟨o + r.val, by omega⟩ from Fin.ext hs]
  unfold partRow resultRow
  by_cases h5 : c.val < 5120
  · rw [dif_pos h5, if_pos (by omega), hp]
    unfold dotRow column
    simp only [dif_pos h5]
  rw [dif_neg h5]
  by_cases h8 : c.val < 8192
  · rw [dif_pos h8, if_pos h8, hp]
    unfold dotRow column
    simp only [dif_neg h5, dif_pos h8]
  rw [dif_neg h8, if_neg h8]
  by_cases h11 : c.val < 11680
  · rw [dif_pos h11, if_pos h11]
    have e (r : Fin n) : p r ⟨c.val - 3072, by omega⟩ = dotRow h (fun d => column w d c) ⟨o + r.val, by omega⟩ := by
      rw [hp]
      unfold dotRow column
      simp only [dif_neg h5, dif_neg h8, dif_pos h11]
    simp only [e]
    generalize dotRow h (fun d => column w d c) = q
    have em : muCol u c = u ⟨c.val - 8192, by omega⟩ := by
      unfold muCol
      rw [dif_pos ⟨by omega, h11⟩]
    unfold mixed1 before next
    rw [em]
    have e0 : (if _h : r.val = 0 then 0 else q ⟨o + (r.val - 1), by omega⟩)
        = if _h : o + r.val = 0 ∨ o + r.val = 256 then 0 else q ⟨o + r.val - 1, by omega⟩ := by
      by_cases h0 : r.val = 0
      · rw [dif_pos h0, dif_pos (by omega)]
      · rw [dif_neg h0, dif_neg (by omega)]
        exact congrArg q (Fin.ext (by dsimp only; omega))
    have e1 : (if _h : r.val + 1 = n then 0 else q ⟨o + (r.val + 1), by omega⟩)
        = if _h : o + r.val = 255 ∨ o + r.val = 2303 then 0 else q ⟨o + r.val + 1, by omega⟩ := by
      by_cases h0 : r.val + 1 = n
      · rw [dif_pos h0, dif_pos (by omega)]
      · rw [dif_neg h0, dif_neg (by omega)]
        exact congrArg q (Fin.ext (by dsimp only; omega))
    exact congrArg₂ (fun a b => q _ + u _ * (_ * (a + b) - q _)) e0 e1
  · rw [dif_neg h11, if_neg h11]

/-- The reference's result: the context's rows, then the latents'. -/
theorem ref_out (b : Fin 8) (r : Fin 2304) (c : Fin 11776) :
    val_main_v92 (F := Ideal) x0 x1 x2 x3 x4 x5 x6 (ix3 b r c)
      = resultRow (hidden (fun b r l => x0 (ix3 b r l)) (fun b r l => x1 (ix3 b r l)) (fun b j => x2 (ix2 b j)) (fun j => x3 (ix1 j))
          (fun l => x4 (ix1 l)) b) (fun d j => x5 (ix2 d j)) (fun j => x6 (ix1 j)) r c := by
  have h : val_main_v92 (F := Ideal) x0 x1 x2 x3 x4 x5 x6 (ix3 b r c) = if hr : r.val < 256
      then val_main_v71 (F := Ideal) x1 x3 x4 x5 x6 (ix3 b ⟨r.val, hr⟩ c)
      else val_main_v90 (F := Ideal) x0 x2 x4 x5 x6 (ix3 b ⟨r.val - 256, by omega⟩ c) := by
    unfold val_main_v92 val_main_v91
    generalize val_main_v71 (F := Ideal) x1 x3 x4 x5 x6 = u
    generalize val_main_v90 (F := Ideal) x0 x2 x4 x5 x6 = v
    pointwise
  rw [h]
  split
  · rename_i hr
    refine (ctx_out x1 x3 x4 x5 x6 b _ c).trans (partRow_result _ _ _ (o := 0) (.inl ⟨rfl, rfl⟩) _ (fun r j => ?_) _ c r (Nat.zero_add _).symm)
    rw [ctx_proj]
    refine Finset.sum_congr rfl fun d _ => congrArg (· * x5 (ix2 d j)) ((ctx_hid x1 x3 x4 b r d).trans ?_)
    unfold hidden
    rw [dif_pos (show 0 + r.val < 256 by omega)]
    simp only [Nat.zero_add]
  · rename_i hr
    refine (lat_out x0 x2 x4 x5 x6 b _ c).trans (partRow_result _ _ _ (o := 256) (.inr ⟨rfl, rfl⟩) _ (fun r j => ?_) _ c r (by dsimp only; omega))
    rw [lat_proj]
    refine Finset.sum_congr rfl fun d _ => congrArg (· * x5 (ix2 d j)) ((lat_hid x0 x2 x4 b r d).trans ?_)
    unfold hidden
    rw [dif_neg (show ¬ 256 + r.val < 256 by omega)]
    simp only [Nat.add_sub_cancel_left]

end Cert.Proj

end
-- ==== Proof.ProjPre.lean ====
/-
  The precondition of the input projection read: every argument but the two streams is a real number.
-/
module

public import proofs.«01_k».proof.Defs
public import proofs.«01_k».proof.Proof.Gen.Pre_finite3
public import proofs.«01_k».proof.Proof.Pre

@[expose] public section

set_option maxRecDepth 16384

noncomputable section

namespace Cert.Proj

open Idealize.ShloMosaic Cert.Pre_finite3 Cert.Pre_finite3.Facts Cert.Attn

theorem reals_of_pre (a0 : FVec Ideal S8x2048x1024 .f32) (a1 : FVec Ideal S8x256x1024 .f32) (a2 : FVec Ideal S8x6144 .f32)
    (a3 : FVec Ideal S6144 .f32) (a4 : FVec Ideal S1024 .f32) (a5 : FVec Ideal S1024x11680 .f32) (a6 : FVec Ideal S3488 .f32)
    (h : Cert.Pre_finite3.fn (F := Ideal) a0 a1 a2 a3 a4 a5 a6 = fun _ => 1#1) :
    (∀ i, IsReal (a2 i)) ∧ (∀ i, IsReal (a3 i)) ∧ (∀ i, IsReal (a4 i))
      ∧ (∀ i, IsReal (a5 i)) ∧ ∀ i, IsReal (a6 i) := by
  have e : ∀ j, Cert.Pre_finite3.fn (F := Ideal) a0 a1 a2 a3 a4 a5 a6 j = 1#1 := fun j => congrFun h j
  unfold fn fn_part1 at e
  have j : S_.Idx := fun a => a.elim0
  obtain ⟨e, h6⟩ := IntOp.andi_eq_one.1 (e j)
  obtain ⟨e, h5⟩ := IntOp.andi_eq_one.1 e
  obtain ⟨e, h4⟩ := IntOp.andi_eq_one.1 e
  obtain ⟨h2, h3⟩ := IntOp.andi_eq_one.1 e
  exact ⟨isReal_all _ _ _ _ j h2, isReal_all _ _ _ _ j h3, isReal_all _ _ _ _ j h4,
    isReal_all _ _ _ _ j h5, isReal_all _ _ _ _ j h6⟩

end Cert.Proj

end
-- ==== Proof.ProjClaims.lean ====
/-
  The claims of the input projection, one by one.
-/
module

public import proofs.«01_k».proof.Defs
public import proofs.«01_k».proof.Proof.ProjFinal
public import proofs.«01_k».proof.Proof.ProjSame
public import proofs.«01_k».proof.Proof.ProjReads
public import proofs.«01_k».proof.Proof.ProjPre

@[expose] public section

set_option maxRecDepth 16384

noncomputable section

namespace Cert.Proj

open Idealize.ShloMosaic Idealize.ShloMosaic.TcCoe Idealize.SL.Sem Idealize.ShloMosaic.Tactic

theorem frame_kernel : Cert.quiescent_Kernel3 := by
  intro m ρ _
  rw [defs_same]
  exact frame_of_run (F := Bits) m ρ

theorem frame_ideal : Cert.quiescent_Kernel3Ideal := fun m ρ _ => frame_of_run (F := Ideal) m ρ

theorem frame_reference : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

open Cert.Kernel3Ideal Cert.Kernel3Ideal.Gen

/-- The arguments other than the streams are real numbers. -/
theorem holds_of_pre (m : (ℓ : Loc nD τ sig) → Buf (Elt Ideal) ℓ) (h : Cert.Pre_Kernel3Ideal_finite3 m) (c : Dev nD) : Reals m c := by
  obtain ⟨h2, h3, h4, h5, h6⟩ := reals_of_pre _ _ _ _ _ _ _ (h c)
  exact ⟨h2, h3, h4, h5, h6⟩

/-- The reference's result is the kernel's. -/
theorem results_equal (m : (ℓ : Loc nD τ sig) → Buf (Elt Ideal) ℓ) (h : Cert.Pre_Kernel3Ideal_finite3 m) (c : Dev nD) :
    Cert.Reference3Ideal.Read.val_main_v92 (F := Ideal) (arg0 m c) (arg1 m c) (arg2 m c) (arg3 m c) (arg4 m c) (arg5 m c) (arg6 m c)
      = (dats m 0 c).arrAt 5 cfg0.N := by
  rw [final_array (holds_of_pre m h c)]
  funext i
  have e : i = ix3 (⟨(i 0).val, (i 0).isLt⟩ : Fin 8) (⟨(i 1).val, (i 1).isLt⟩ : Fin 2304) (⟨(i 2).val, (i 2).isLt⟩ : Fin 11776) :=
    funext fun a => match a with | ⟨0, _⟩ => rfl | ⟨1, _⟩ => rfl | ⟨2, _⟩ => rfl
  exact (congrArg _ e).trans (ref_out _ _ _ _ _ _ _ _ _ _)

theorem equal : Cert.algebraic_Kernel3Ideal_Reference3Ideal_pre_finite3 := fun m g m' g' hpre hargs =>
  ⟨fun c => (dats m 0 c).arrAt 5 cfg0.N,
    (θ_run Cert.Kernel3Ideal.defs _ _).mono (fun r h c => ⟨h.1.1.out_eq c 5, h.2.1 c⟩)
      (θ_run_and (run_quiescent (F := Ideal) m g) (frame_of_run (F := Ideal) m g)),
    (θ_run Cert.Reference3Ideal.defs _ _).mono (fun r h c => ⟨(h c).1.trans (by
        obtain ⟨e0, e1, e2, e3, e4, e5, e6⟩ := hargs c
        rw [Cert.Reference3Ideal.Read.val_main_v92_eq, e0, e1, e2, e3, e4, e5, e6]
        exact results_equal m hpre c), (h c).2⟩)
      (Cert.Reference3Ideal.Value.run (F := Ideal) m' g')⟩

end Cert.Proj

end
-- ==== Proof.MergeRow.lean ====
/-
  The merge layer's rows over the extended reals: the group normalization of the two directions' sum, the bonus, the three gated
  branches and the result.
-/
module

public import proofs.«01_k».proof.Proof.Base

@[expose] public section

noncomputable section

namespace Cert.Merge

open Idealize.ShloMosaic

/-- Lane `k` of head `h`. -/
def lane (h : Fin 16) (k : Fin 64) : Fin 1024 := ⟨h.val * 64 + k.val, by omega⟩

/-- The head of a lane, -/
def headOf (c : Fin 1024) : Fin 16 := ⟨c.val / 64, by omega⟩

/-- and its place in it. -/
def posOf (c : Fin 1024) : Fin 64 := ⟨c.val % 64, by omega⟩

theorem lane_headOf (c : Fin 1024) : lane (headOf c) (posOf c) = c := Fin.ext (by unfold lane headOf posOf; dsimp only; omega)
theorem headOf_lane (h : Fin 16) (k : Fin 64) : headOf (lane h k) = h := Fin.ext (by unfold lane headOf; dsimp only; omega)
theorem posOf_lane (h : Fin 16) (k : Fin 64) : posOf (lane h k) = k := Fin.ext (by unfold lane posOf; dsimp only; omega)

/-- The sum of `f` over the 64 lanes of a head, -/
def headAt (f : Fin 1024 → EReal) (h : Fin 16) : EReal := ∑ k : Fin 64, f (lane h k)

/-- and of lane `c`'s head. -/
def headSum (f : Fin 1024 → EReal) (c : Fin 1024) : EReal := headAt f (headOf c)

theorem headSum_lane (f : Fin 1024 → EReal) (h : Fin 16) (k : Fin 64) : headSum f (lane h k) = headAt f h := by
  unfold headSum; rw [headOf_lane]

/-- The row minus the mean of each head. -/
def centred (y : Fin 1024 → EReal) (c : Fin 1024) : EReal := y c - Ideal.div (headSum y c) (Ideal.ofBits .f32 0x42800000#32)

/-- The row normalized head by head, weighed and shifted lane by lane. -/
def normRow (y w s : Fin 1024 → EReal) (c : Fin 1024) : EReal :=
  centred y c * Ideal.rsqrt (Ideal.div (headSum (fun d => centred y d * centred y d) c) (Ideal.ofBits .f32 0x42800000#32)
    + Ideal.ofBits .f32 0x3A27C5AC#32) * w c + s c

/-- The keys of the two directions together: each is the key scaled by its rate. -/
def keyRow (k a0 a1 ka : Fin 1024 → EReal) (c : Fin 1024) : EReal :=
  k c * (Ideal.ofBits .f32 0x3F800000#32 + (a0 c - Ideal.ofBits .f32 0x3F800000#32) * ka c)
    + k c * (Ideal.ofBits .f32 0x3F800000#32 + (a1 c - Ideal.ofBits .f32 0x3F800000#32) * ka c)

/-- The product whose sum over a head weighs the value. -/
def prodRow (r k a0 a1 ka rk : Fin 1024 → EReal) (c : Fin 1024) : EReal := r c * keyRow k a0 a1 ka c * rk c

/-- The bonus. -/
def bonusRow (r k v a0 a1 ka rk : Fin 1024 → EReal) (c : Fin 1024) : EReal := headSum (prodRow r k a0 a1 ka rk) c * v c

/-- The low-rank gate. -/
def lowRow (z : Fin 160 → EReal) (g : Fin 160 → Fin 1024 → EReal) (c : Fin 1024) : EReal := ∑ d, Ideal.logistic (z d) * g d c

/-- What one row of the layer reads. -/
structure Row where
  (x gt y r k v a0 a1 ga gb gc ba bb : Fin 1024 → EReal)
  (z : Fin 160 → EReal)

/-- The layer's weights. -/
structure Weights where
  (lnw lnb rk ka : Fin 1024 → EReal)
  (g : Fin 160 → Fin 1024 → EReal)
  (wa wb wc wo : Fin 1024 → Fin 1024 → EReal)

/-- The time mixing's branch. -/
def timeRow (W : Weights) (R : Row) (c : Fin 1024) : EReal :=
  (normRow R.y W.lnw W.lnb c + bonusRow R.r R.k R.v R.a0 R.a1 W.ka W.rk c) * lowRow R.z W.g c

/-- A branch taken through its weight and gated. -/
def gatedRow (g h : Fin 1024 → EReal) (w : Fin 1024 → Fin 1024 → EReal) (c : Fin 1024) : EReal := Ideal.logistic (g c) * ∑ d, h d * w d c

/-- The three branches together. -/
def sumRow (W : Weights) (R : Row) (c : Fin 1024) : EReal :=
  gatedRow R.ga R.ba W.wa c + gatedRow R.gb R.bb W.wb c + gatedRow R.gc (timeRow W R) W.wc c

/-- The result's row. -/
def outRow (W : Weights) (R : Row) (c : Fin 1024) : EReal := R.x c + R.gt c * ∑ d, sumRow W R d * W.wo d c

/-- The layer's arguments. -/
structure Args where
  x : Fin 8 → Fin 2048 → Fin 1024 → EReal
  xc : Fin 8 → Fin 256 → Fin 1024 → EReal
  ml : Fin 8 → Fin 6144 → EReal
  mc : Fin 6144 → EReal
  (yf yb : Fin 8 → Fin 2304 → Fin 1024 → EReal)
  a : Fin 8 → Fin 2304 → Fin 2 → Fin 1024 → EReal
  p : Fin 8 → Fin 2304 → Fin 11776 → EReal
  ba : Fin 8 → Fin 2304 → Fin 1024 → EReal
  bl : Fin 8 → Fin 2048 → Fin 1024 → EReal
  bc : Fin 8 → Fin 256 → Fin 1024 → EReal
  g : Fin 160 → Fin 1024 → EReal
  ka : Fin 1024 → EReal
  rk : Fin 16 → Fin 64 → EReal
  (lnw lnb : Fin 1024 → EReal)
  (wa wb wc wo : Fin 1024 → Fin 1024 → EReal)

/-- A row of the context or of the latents: the context's 256 rows come first. -/
def joined (xc : Fin 8 → Fin 256 → Fin 1024 → EReal) (x : Fin 8 → Fin 2048 → Fin 1024 → EReal) (b : Fin 8) (r : Fin 2304)
    (c : Fin 1024) : EReal := if h : r.val < 256 then xc b ⟨r.val, h⟩ c else x b ⟨r.val - 256, by omega⟩ c

/-- The modulation's gate on a row. -/
def gateOf (mc : Fin 6144 → EReal) (ml : Fin 8 → Fin 6144 → EReal) (b : Fin 8) (r : Fin 2304) (c : Fin 1024) : EReal :=
  if r.val < 256 then mc ⟨2048 + c.val, by omega⟩ else ml b ⟨2048 + c.val, by omega⟩

/-- What row `r` of batch `b` reads. -/
def Args.row (A : Args) (b : Fin 8) (r : Fin 2304) : Row where
  x := joined A.xc A.x b r
  gt := gateOf A.mc A.ml b r
  y c := A.yf b r c + A.yb b r c
  r c := A.p b r ⟨8192 + c.val, by omega⟩
  k c := A.p b r ⟨9216 + c.val, by omega⟩
  v c := A.p b r ⟨10240 + c.val, by omega⟩
  a0 := A.a b r 0
  a1 := A.a b r 1
  ga c := A.p b r ⟨5120 + c.val, by omega⟩
  gb c := A.p b r ⟨6144 + c.val, by omega⟩
  gc c := A.p b r ⟨7168 + c.val, by omega⟩
  ba := A.ba b r
  bb := joined A.bc A.bl b r
  z d := A.p b r ⟨11520 + d.val, by omega⟩

/-- The weights. -/
def Args.weights (A : Args) : Weights where
  lnw := A.lnw
  lnb := A.lnb
  rk c := A.rk (headOf c) (posOf c)
  ka := A.ka
  g := A.g
  wa := A.wa
  wb := A.wb
  wc := A.wc
  wo := A.wo

/-- The result. -/
def result (A : Args) (b : Fin 8) (r : Fin 2304) (c : Fin 1024) : EReal := outRow A.weights (A.row b r) c

end Cert.Merge

end
-- ==== Proof.MergeSpec.lean ====
/-
  What one grid point of the merge call computes from the blocks it holds, as one composition of the body's named steps.
-/
module

public import proofs.«01_k».proof.Proof.Gen.Kernel4Ideal.Frame.Runs
public import Idealize.ShloMosaic.Lib.Writes

@[expose] public section

set_option maxRecDepth 65536

noncomputable section

namespace Cert.Merge

open Idealize.ShloMosaic Idealize.ShloMosaic.TcCoe
open Cert.Kernel4Ideal Cert.Kernel4Ideal.Gen

variable {F : FTy → Type} [FloatOps F]

/-- A block of 256 rows read whole, -/
def rows {e : EltTy} (x : Vec F S1x256x1024 e) : Vec F S1x256x1024 e :=
  View.ld x (Rect.unit (s := S1x256x1024) ![0, 0, 0] S1x256x1024.size inb_S1x256x1024_S1x256x1024_0_0_0)

/-- a lane vector, -/
def lanes (x : Vec F S1x1024 .f32) : Vec F S1x1024 .f32 :=
  View.ld x (Rect.unit (s := S1x1024) ![0, 0] S1x1024.size inb_S1x1024_S1x1024_0_0)

/-- a weight matrix, -/
def mat (x : Vec F S1024x1024 .bf16) : Vec F S1024x1024 .bf16 :=
  View.ld x (Rect.unit (s := S1024x1024) ![0, 0] S1024x1024.size inb_S1024x1024_S1024x1024_0_0)

/-- the matrix that says which of 256 lanes share a head, -/
def same (x : Vec F S256x256 .bf16) : Vec F S256x256 .bf16 :=
  View.ld x (Rect.unit (s := S256x256) ![0, 0] S256x256.size inb_S256x256_S256x256_0_0)

/-- the low-rank gate's weight, -/
def low (x : Vec F S256x1024 .bf16) : Vec F S256x1024 .bf16 :=
  View.ld x (Rect.unit (s := S256x1024) ![0, 0] S256x1024.size inb_S256x1024_S256x1024_0_0)

/-- the second half of the gate's lanes, -/
def upper (x : Vec F S1x256x512 .bf16) : Vec F S1x256x256 .bf16 :=
  View.ld x (Rect.unit (s := S1x256x512) ![0, 0, 256] S1x256x256.size inb_S1x256x512_S1x256x256_0_0_256)

/-- the rates of the two directions, -/
def rate0 (x : Vec F S2x1x256x1024 .bf16) : Vec F S1x1x256x1024 .bf16 :=
  View.ld x (Rect.unit (s := S2x1x256x1024) ![0, 0, 0, 0] S1x1x256x1024.size inb_S2x1x256x1024_S1x1x256x1024_0_0_0_0)
def rate1 (x : Vec F S2x1x256x1024 .bf16) : Vec F S1x1x256x1024 .bf16 :=
  View.ld x (Rect.unit (s := S2x1x256x1024) ![1, 0, 0, 0] S1x1x256x1024.size inb_S2x1x256x1024_S1x1x256x1024_1_0_0_0)

/-- and the rows of the modulation block that gate the latents and the context. -/
def gateLat (x : Vec F S1x12x1024 .f32) : Vec F S1x1x1024 .f32 :=
  View.ld x (Rect.unit (s := S1x12x1024) ![0, 5, 0] S1x1x1024.size inb_S1x12x1024_S1x1x1024_0_5_0)
def gateCtx (x : Vec F S1x12x1024 .f32) : Vec F S1x1x1024 .f32 :=
  View.ld x (Rect.unit (s := S1x12x1024) ![0, 4, 0] S1x1x1024.size inb_S1x12x1024_S1x1x1024_0_4_0)

/-- The normalized rows of the two directions' sum. -/
def normed (yf yb : Vec F S1x256x1024 .f32) (lnw lnb : Vec F S1x1024 .f32) (bd : Vec F S256x256 .bf16) : FVec F S256x1024 .f32 :=
  k0_pay6 (k0_pay5 (k0_pay2 (same bd)) (k0_pay3 (rows yf) (rows yb)) (k0_pay4 (same bd) (rows yf) (rows yb)) (lanes lnw)) (lanes lnb)

/-- The bonus rows. -/
def bonus (a : Vec F S2x1x256x1024 .bf16) (r k v : Vec F S1x256x1024 .bf16) (rk ka : Vec F S1x1024 .f32) (bd : Vec F S256x256 .bf16) :
    FVec F S256x1024 .f32 :=
  k0_pay10 (k0_pay2 (same bd)) (k0_pay7 (rows k) (lanes ka) (rate0 a) (rate1 a)) (k0_pay8 (rows v)) (k0_pay9 (rows r)) (lanes rk)

/-- The gated rows of the time mixing. -/
def mixed (yf yb : Vec F S1x256x1024 .f32) (a : Vec F S2x1x256x1024 .bf16) (r k v : Vec F S1x256x1024 .bf16) (z : Vec F S1x256x512 .bf16)
    (lnw lnb rk ka : Vec F S1x1024 .f32) (g2 : Vec F S256x1024 .bf16) (bd : Vec F S256x256 .bf16) : FVec F S256x1024 .bf16 :=
  k0_pay12 (normed yf yb lnw lnb bd) (bonus a r k v rk ka bd) (k0_pay11 (upper z)) (low g2)

/-- The result's block, for the rows from `b` on. -/
def blockOut (b : BitVec 32) (x0 : Vec F S1x256x1024 .f32) (x1 : Vec F S1x12x1024 .f32) (x2 x3 : Vec F S1x256x1024 .f32)
    (x4 : Vec F S2x1x256x1024 .bf16) (x5 x6 x7 : Vec F S1x256x1024 .bf16) (x8 : Vec F S1x256x512 .bf16)
    (x9 x10 x11 x12 x13 x14 : Vec F S1x256x1024 .bf16) (x15 x16 x17 x18 : Vec F S1x1024 .f32) (x19 : Vec F S256x1024 .bf16)
    (x20 : Vec F S256x256 .bf16) (x21 x22 x23 x24 : Vec F S1024x1024 .bf16) : FVec F S1x256x1024 .f32 :=
  k0_pay1 b (mixed x2 x3 x4 x5 x6 x7 x8 x15 x16 x17 x18 x19 x20)
    (k0_pay13 b (rows x9) (rows x12) (mat x21) (rows x10) (rows x13) (rows x14) (mat x22)) (k0_pay14 (rows x11)) (mat x23) (mat x24)
    (rows x0) (gateLat x1) (gateCtx x1)

end Cert.Merge

end
-- ==== Proof.MergeEntry.lean ====
/-
  The operands of the merge call, read off the arguments.
-/
module

public import proofs.«01_k».proof.Proof.MergeRow
public import proofs.«01_k».proof.Proof.MergeSpec
public import Idealize.ShloMosaic.Lib.Pipeline.ValueKit

@[expose] public section

set_option maxRecDepth 16384

noncomputable section

namespace Cert.Merge

open Idealize.ShloMosaic Idealize.ShloMosaic.TcCoe Idealize.ShloMosaic.Tactic
open Cert.Kernel4Ideal Cert.Kernel4Ideal.Gen

variable (m : (ℓ : Loc nD τ sig) → Buf (Elt Ideal) ℓ) (c : Dev nD)

/-- The arguments as arrays of extended reals. -/
abbrev arg0 : S8x2048x1024.Idx → EReal := m ((c.tc : Thread nD τ).loc main_arg0)
abbrev arg1 : S8x256x1024.Idx → EReal := m ((c.tc : Thread nD τ).loc main_arg1)
abbrev arg2 : S8x6144.Idx → EReal := m ((c.tc : Thread nD τ).loc main_arg2)
abbrev arg3 : S6144.Idx → EReal := m ((c.tc : Thread nD τ).loc main_arg3)
abbrev arg4 : S8x2304x1024.Idx → EReal := m ((c.tc : Thread nD τ).loc main_arg4)
abbrev arg5 : S8x2304x1024.Idx → EReal := m ((c.tc : Thread nD τ).loc main_arg5)
abbrev arg6 : S8x2304x2x1024.Idx → EReal := m ((c.tc : Thread nD τ).loc main_arg6)
abbrev arg7 : S8x2304x11776.Idx → EReal := m ((c.tc : Thread nD τ).loc main_arg7)
abbrev arg8 : S8x2304x1024.Idx → EReal := m ((c.tc : Thread nD τ).loc main_arg8)
abbrev arg9 : S8x2048x1024.Idx → EReal := m ((c.tc : Thread nD τ).loc main_arg9)
abbrev arg10 : S8x256x1024.Idx → EReal := m ((c.tc : Thread nD τ).loc main_arg10)
abbrev arg11 : S160x1024.Idx → EReal := m ((c.tc : Thread nD τ).loc main_arg11)
abbrev arg12 : S1024.Idx → EReal := m ((c.tc : Thread nD τ).loc main_arg12)
abbrev arg13 : S16x64.Idx → EReal := m ((c.tc : Thread nD τ).loc main_arg13)
abbrev arg14 : S1024.Idx → EReal := m ((c.tc : Thread nD τ).loc main_arg14)
abbrev arg15 : S1024.Idx → EReal := m ((c.tc : Thread nD τ).loc main_arg15)
abbrev arg16 : S1024x1024.Idx → EReal := m ((c.tc : Thread nD τ).loc main_arg16)
abbrev arg17 : S1024x1024.Idx → EReal := m ((c.tc : Thread nD τ).loc main_arg17)
abbrev arg18 : S1024x1024.Idx → EReal := m ((c.tc : Thread nD τ).loc main_arg18)
abbrev arg19 : S1024x1024.Idx → EReal := m ((c.tc : Thread nD τ).loc main_arg19)

/-- The host's operations, in three parts. -/
theorem V_split (b : Ref sig .tc) : V m c b = StableHlo.after hostOps0_2 (StableHlo.after hostOps0_1 (StableHlo.after hostOps0 (fun b => m (c, b))))
    (Proc.devRef .tc b) := by
  unfold V
  simp only [List.flatten_cons, List.flatten_nil, List.append_nil, StableHlo.after_append]

theorem entry_x (b : Fin 8) (r : Fin 2304) (l : Fin 1024) :
    (V m c (Pipeline.arrRef spec0 0) (ix3 b r l) : EReal) = if hr : r.val < 256
      then arg1 m c (ix3 b ⟨r.val, hr⟩ l) else arg0 m c (ix3 b ⟨r.val - 256, by omega⟩ l) := by
  rw [V_split]
  entry_read
  pointwise

theorem entry_mod_at (b : Fin 8) (j : Fin 12) (l : Fin 1024) :
    (V m c (Pipeline.arrRef spec0 1) (ix3 b j l) : EReal) = if _h : j.val % 2 < 1
      then arg3 m c (ix1 ⟨j.val / 2 * 1024 + l.val, by omega⟩) else arg2 m c (ix2 b ⟨j.val / 2 * 1024 + l.val, by omega⟩) := by
  rw [V_split]
  entry_read
  pointwise

theorem entry_yf (b : Fin 8) (r : Fin 2304) (l : Fin 1024) :
    (V m c (Pipeline.arrRef spec0 2) (ix3 b r l) : EReal) = arg4 m c (ix3 b r l) := by
  rw [V_split]
  entry_read
  rfl

theorem entry_yb (b : Fin 8) (r : Fin 2304) (l : Fin 1024) :
    (V m c (Pipeline.arrRef spec0 3) (ix3 b r l) : EReal) = arg5 m c (ix3 b r l) := by
  rw [V_split]
  entry_read
  rfl

theorem entry_a (p : Fin 2) (b : Fin 8) (r : Fin 2304) (l : Fin 1024) :
    (V m c (Pipeline.arrRef spec0 4) (ix4 p b r l) : EReal) = arg6 m c (ix4 b r p l) := by
  rw [V_split]
  entry_read
  pointwise

theorem entry_p (b : Fin 8) (r : Fin 2304) (l : Fin 11776) :
    (V m c main_v19 (ix3 b r l) : EReal) = arg7 m c (ix3 b r l) := by
  rw [V_split]
  entry_read
  pointwise

theorem entry_ba (b : Fin 8) (r : Fin 2304) (l : Fin 1024) :
    (V m c (Pipeline.arrRef spec0 12) (ix3 b r l) : EReal) = arg8 m c (ix3 b r l) := by
  rw [V_split]
  entry_read
  pointwise

theorem entry_bc (b : Fin 8) (r : Fin 256) (l : Fin 1024) :
    (V m c (Pipeline.arrRef spec0 13) (ix3 b r l) : EReal) = arg10 m c (ix3 b r l) := by
  rw [V_split]
  entry_read
  pointwise

theorem entry_bl (b : Fin 8) (r : Fin 2048) (l : Fin 1024) :
    (V m c (Pipeline.arrRef spec0 14) (ix3 b r l) : EReal) = arg9 m c (ix3 b r l) := by
  rw [V_split]
  entry_read
  pointwise

theorem entry_lnw (l : Fin 1024) : (V m c (Pipeline.arrRef spec0 15) (ix2 0 l) : EReal) = arg14 m c (ix1 l) := by
  rw [V_split]
  entry_read
  pointwise

theorem entry_lnb (l : Fin 1024) : (V m c (Pipeline.arrRef spec0 16) (ix2 0 l) : EReal) = arg15 m c (ix1 l) := by
  rw [V_split]
  entry_read
  pointwise

theorem entry_rk (l : Fin 1024) : (V m c (Pipeline.arrRef spec0 17) (ix2 0 l) : EReal) = arg13 m c (ix2 (headOf l) (posOf l)) := by
  unfold headOf posOf
  rw [V_split]
  entry_read
  pointwise

theorem entry_ka (l : Fin 1024) : (V m c (Pipeline.arrRef spec0 18) (ix2 0 l) : EReal) = arg12 m c (ix1 l) := by
  rw [V_split]
  entry_read
  pointwise

theorem entry_g (d : Fin 256) (l : Fin 1024) :
    (V m c (Pipeline.arrRef spec0 19) (ix2 d l) : EReal) = if h : d.val < 160 then arg11 m c (ix2 ⟨d.val, h⟩ l) else 0 := by
  rw [V_split]
  entry_read
  pointwise

theorem entry_wa (d l : Fin 1024) : (V m c (Pipeline.arrRef spec0 21) (ix2 d l) : EReal) = arg16 m c (ix2 d l) := by
  rw [V_split]
  entry_read
  pointwise

theorem entry_wb (d l : Fin 1024) : (V m c (Pipeline.arrRef spec0 22) (ix2 d l) : EReal) = arg17 m c (ix2 d l) := by
  rw [V_split]
  entry_read
  pointwise

theorem entry_wc (d l : Fin 1024) : (V m c (Pipeline.arrRef spec0 23) (ix2 d l) : EReal) = arg18 m c (ix2 d l) := by
  rw [V_split]
  entry_read
  pointwise

theorem entry_wo (d l : Fin 1024) : (V m c (Pipeline.arrRef spec0 24) (ix2 d l) : EReal) = arg19 m c (ix2 d l) := by
  rw [V_split]
  entry_read
  pointwise

end Cert.Merge

end
-- ==== Proof.MergeBlocks.lean ====
/-
  The blocks that the windows of a grid point of the merge call hold: point `t` has batch `t / 9` and the 256 rows from
  `256 · (t % 9)` on.
-/
module

public import proofs.«01_k».proof.Proof.MergeEntry

@[expose] public section

set_option maxRecDepth 16384

noncomputable section

namespace Cert.Merge

open Idealize.ShloMosaic Idealize.ShloMosaic.TcCoe Idealize.ShloMosaic.Tactic
open Cert.Kernel4Ideal Cert.Kernel4Ideal.Gen

variable (m : (ℓ : Loc nD τ sig) → Buf (Elt Ideal) ℓ) (c : Dev nD)

/-! ## The windows' index maps -/

theorem index0 : ∀ t : Fin cfg0.N, win0_0.index t = ![t.val / 9, t.val % 9, 0] :=
  (by decide +kernel : ∀ t : Fin grid0.N, win0_0.index t = ![t.val / 9, t.val % 9, 0])
theorem index2 : ∀ t : Fin cfg0.N, win0_2.index t = ![t.val / 9, t.val % 9, 0] :=
  (by decide +kernel : ∀ t : Fin grid0.N, win0_2.index t = ![t.val / 9, t.val % 9, 0])
theorem index3 : ∀ t : Fin cfg0.N, win0_3.index t = ![t.val / 9, t.val % 9, 0] :=
  (by decide +kernel : ∀ t : Fin grid0.N, win0_3.index t = ![t.val / 9, t.val % 9, 0])
theorem index12 : ∀ t : Fin cfg0.N, win0_12.index t = ![t.val / 9, t.val % 9, 0] :=
  (by decide +kernel : ∀ t : Fin grid0.N, win0_12.index t = ![t.val / 9, t.val % 9, 0])
theorem index25 : ∀ t : Fin cfg0.N, win0_25.index t = ![t.val / 9, t.val % 9, 0] :=
  (by decide +kernel : ∀ t : Fin grid0.N, win0_25.index t = ![t.val / 9, t.val % 9, 0])
theorem index1 : ∀ t : Fin cfg0.N, win0_1.index t = ![t.val / 9, 0, 0] :=
  (by decide +kernel : ∀ t : Fin grid0.N, win0_1.index t = ![t.val / 9, 0, 0])
theorem index4 : ∀ t : Fin cfg0.N, win0_4.index t = ![0, t.val / 9, t.val % 9, 0] :=
  (by decide +kernel : ∀ t : Fin grid0.N, win0_4.index t = ![0, t.val / 9, t.val % 9, 0])
theorem index13 : ∀ t : Fin cfg0.N, win0_13.index t = ![t.val / 9, 0, 0] :=
  (by decide +kernel : ∀ t : Fin grid0.N, win0_13.index t = ![t.val / 9, 0, 0])
theorem index14 : ∀ t : Fin cfg0.N, win0_14.index t = ![t.val / 9, t.val % 9 - 1, 0] :=
  (by decide +kernel : ∀ t : Fin grid0.N, win0_14.index t = ![t.val / 9, t.val % 9 - 1, 0])
theorem index15 : ∀ t : Fin cfg0.N, win0_15.index t = ![0, 0] :=
  (by decide +kernel : ∀ t : Fin grid0.N, win0_15.index t = ![0, 0])
theorem index16 : ∀ t : Fin cfg0.N, win0_16.index t = ![0, 0] :=
  (by decide +kernel : ∀ t : Fin grid0.N, win0_16.index t = ![0, 0])
theorem index17 : ∀ t : Fin cfg0.N, win0_17.index t = ![0, 0] :=
  (by decide +kernel : ∀ t : Fin grid0.N, win0_17.index t = ![0, 0])
theorem index18 : ∀ t : Fin cfg0.N, win0_18.index t = ![0, 0] :=
  (by decide +kernel : ∀ t : Fin grid0.N, win0_18.index t = ![0, 0])
theorem index19 : ∀ t : Fin cfg0.N, win0_19.index t = ![0, 0] :=
  (by decide +kernel : ∀ t : Fin grid0.N, win0_19.index t = ![0, 0])
theorem index20 : ∀ t : Fin cfg0.N, win0_20.index t = ![0, 0] :=
  (by decide +kernel : ∀ t : Fin grid0.N, win0_20.index t = ![0, 0])
theorem index21 : ∀ t : Fin cfg0.N, win0_21.index t = ![0, 0] :=
  (by decide +kernel : ∀ t : Fin grid0.N, win0_21.index t = ![0, 0])
theorem index22 : ∀ t : Fin cfg0.N, win0_22.index t = ![0, 0] :=
  (by decide +kernel : ∀ t : Fin grid0.N, win0_22.index t = ![0, 0])
theorem index23 : ∀ t : Fin cfg0.N, win0_23.index t = ![0, 0] :=
  (by decide +kernel : ∀ t : Fin grid0.N, win0_23.index t = ![0, 0])
theorem index24 : ∀ t : Fin cfg0.N, win0_24.index t = ![0, 0] :=
  (by decide +kernel : ∀ t : Fin grid0.N, win0_24.index t = ![0, 0])
theorem index5 : ∀ t : Fin cfg0.N, win0_5.index t = ![t.val / 9, t.val % 9, 8] :=
  (by decide +kernel : ∀ t : Fin grid0.N, win0_5.index t = ![t.val / 9, t.val % 9, 8])
theorem index6 : ∀ t : Fin cfg0.N, win0_6.index t = ![t.val / 9, t.val % 9, 9] :=
  (by decide +kernel : ∀ t : Fin grid0.N, win0_6.index t = ![t.val / 9, t.val % 9, 9])
theorem index7 : ∀ t : Fin cfg0.N, win0_7.index t = ![t.val / 9, t.val % 9, 10] :=
  (by decide +kernel : ∀ t : Fin grid0.N, win0_7.index t = ![t.val / 9, t.val % 9, 10])
theorem index8 : ∀ t : Fin cfg0.N, win0_8.index t = ![t.val / 9, t.val % 9, 22] :=
  (by decide +kernel : ∀ t : Fin grid0.N, win0_8.index t = ![t.val / 9, t.val % 9, 22])
theorem index9 : ∀ t : Fin cfg0.N, win0_9.index t = ![t.val / 9, t.val % 9, 5] :=
  (by decide +kernel : ∀ t : Fin grid0.N, win0_9.index t = ![t.val / 9, t.val % 9, 5])
theorem index10 : ∀ t : Fin cfg0.N, win0_10.index t = ![t.val / 9, t.val % 9, 6] :=
  (by decide +kernel : ∀ t : Fin grid0.N, win0_10.index t = ![t.val / 9, t.val % 9, 6])
theorem index11 : ∀ t : Fin cfg0.N, win0_11.index t = ![t.val / 9, t.val % 9, 7] :=
  (by decide +kernel : ∀ t : Fin grid0.N, win0_11.index t = ![t.val / 9, t.val % 9, 7])
theorem coord1 : ∀ t : Fin cfg0.N, (grid0.coords t 1).val = t.val % 9 :=
  (by decide +kernel : ∀ t : Fin grid0.N, (grid0.coords t 1).val = t.val % 9)

/-! ## The blocks -/

theorem read0 (X : S8x2304x1024.Idx → EReal) (t : Fin cfg0.N) (i : Fin 256) (l : Fin 1024) :
    (win0_0.blk t).view.read (Elt Ideal) X (ix3 0 i l) = X (ix3 ⟨t.val / 9, by have : t.val < 72 := t.isLt; omega⟩ ⟨256 * (t.val % 9) + i.val, by omega⟩ l) := by
  have : t.val < 72 := t.isLt
  blk_ext [index0 t]

theorem read2 (X : S8x2304x1024.Idx → EReal) (t : Fin cfg0.N) (i : Fin 256) (l : Fin 1024) :
    (win0_2.blk t).view.read (Elt Ideal) X (ix3 0 i l) = X (ix3 ⟨t.val / 9, by have : t.val < 72 := t.isLt; omega⟩ ⟨256 * (t.val % 9) + i.val, by omega⟩ l) := by
  have : t.val < 72 := t.isLt
  blk_ext [index2 t]

theorem read3 (X : S8x2304x1024.Idx → EReal) (t : Fin cfg0.N) (i : Fin 256) (l : Fin 1024) :
    (win0_3.blk t).view.read (Elt Ideal) X (ix3 0 i l) = X (ix3 ⟨t.val / 9, by have : t.val < 72 := t.isLt; omega⟩ ⟨256 * (t.val % 9) + i.val, by omega⟩ l) := by
  have : t.val < 72 := t.isLt
  blk_ext [index3 t]

theorem read12 (X : S8x2304x1024.Idx → EReal) (t : Fin cfg0.N) (i : Fin 256) (l : Fin 1024) :
    (win0_12.blk t).view.read (Elt Ideal) X (ix3 0 i l) = X (ix3 ⟨t.val / 9, by have : t.val < 72 := t.isLt; omega⟩ ⟨256 * (t.val % 9) + i.val, by omega⟩ l) := by
  have : t.val < 72 := t.isLt
  blk_ext [index12 t]

theorem read1 (X : S8x12x1024.Idx → EReal) (t : Fin cfg0.N) (i : Fin 12) (l : Fin 1024) :
    (win0_1.blk t).view.read (Elt Ideal) X (ix3 0 i l) = X (ix3 ⟨t.val / 9, by have : t.val < 72 := t.isLt; omega⟩ i l) := by
  have : t.val < 72 := t.isLt
  blk_ext [index1 t]

theorem read4 (X : S2x8x2304x1024.Idx → EReal) (t : Fin cfg0.N) (p : Fin 2) (i : Fin 256) (l : Fin 1024) :
    (win0_4.blk t).view.read (Elt Ideal) X (ix4 p 0 i l) = X (ix4 p ⟨t.val / 9, by have : t.val < 72 := t.isLt; omega⟩ ⟨256 * (t.val % 9) + i.val, by omega⟩ l) := by
  have : t.val < 72 := t.isLt
  blk_ext [index4 t]

theorem read13 (X : S8x256x1024.Idx → EReal) (t : Fin cfg0.N) (i : Fin 256) (l : Fin 1024) :
    (win0_13.blk t).view.read (Elt Ideal) X (ix3 0 i l) = X (ix3 ⟨t.val / 9, by have : t.val < 72 := t.isLt; omega⟩ i l) := by
  have : t.val < 72 := t.isLt
  blk_ext [index13 t]

theorem read14 (X : S8x2048x1024.Idx → EReal) (t : Fin cfg0.N) (i : Fin 256) (l : Fin 1024) :
    (win0_14.blk t).view.read (Elt Ideal) X (ix3 0 i l) = X (ix3 ⟨t.val / 9, by have : t.val < 72 := t.isLt; omega⟩ ⟨256 * (t.val % 9 - 1) + i.val, by have : t.val < 72 := t.isLt; omega⟩ l) := by
  have : t.val < 72 := t.isLt
  blk_ext [index14 t]

theorem read15 (X : S1x1024.Idx → EReal) (t : Fin cfg0.N) (l : Fin 1024) :
    (win0_15.blk t).view.read (Elt Ideal) X (ix2 0 l) = X (ix2 0 l) := by
  have : t.val < 72 := t.isLt
  blk_ext [index15 t]

theorem read16 (X : S1x1024.Idx → EReal) (t : Fin cfg0.N) (l : Fin 1024) :
    (win0_16.blk t).view.read (Elt Ideal) X (ix2 0 l) = X (ix2 0 l) := by
  have : t.val < 72 := t.isLt
  blk_ext [index16 t]

theorem read17 (X : S1x1024.Idx → EReal) (t : Fin cfg0.N) (l : Fin 1024) :
    (win0_17.blk t).view.read (Elt Ideal) X (ix2 0 l) = X (ix2 0 l) := by
  have : t.val < 72 := t.isLt
  blk_ext [index17 t]

theorem read18 (X : S1x1024.Idx → EReal) (t : Fin cfg0.N) (l : Fin 1024) :
    (win0_18.blk t).view.read (Elt Ideal) X (ix2 0 l) = X (ix2 0 l) := by
  have : t.val < 72 := t.isLt
  blk_ext [index18 t]

theorem read19 (X : S256x1024.Idx → EReal) (t : Fin cfg0.N) (i : Fin 256) (l : Fin 1024) :
    (win0_19.blk t).view.read (Elt Ideal) X (ix2 i l) = X (ix2 i l) := by
  have : t.val < 72 := t.isLt
  blk_ext [index19 t]

theorem read20 (X : S256x256.Idx → EReal) (t : Fin cfg0.N) (i l : Fin 256) :
    (win0_20.blk t).view.read (Elt Ideal) X (ix2 i l) = X (ix2 i l) := by
  have : t.val < 72 := t.isLt
  blk_ext [index20 t]

theorem read21 (X : S1024x1024.Idx → EReal) (t : Fin cfg0.N) (i l : Fin 1024) :
    (win0_21.blk t).view.read (Elt Ideal) X (ix2 i l) = X (ix2 i l) := by
  have : t.val < 72 := t.isLt
  blk_ext [index21 t]

theorem read22 (X : S1024x1024.Idx → EReal) (t : Fin cfg0.N) (i l : Fin 1024) :
    (win0_22.blk t).view.read (Elt Ideal) X (ix2 i l) = X (ix2 i l) := by
  have : t.val < 72 := t.isLt
  blk_ext [index22 t]

theorem read23 (X : S1024x1024.Idx → EReal) (t : Fin cfg0.N) (i l : Fin 1024) :
    (win0_23.blk t).view.read (Elt Ideal) X (ix2 i l) = X (ix2 i l) := by
  have : t.val < 72 := t.isLt
  blk_ext [index23 t]

theorem read24 (X : S1024x1024.Idx → EReal) (t : Fin cfg0.N) (i l : Fin 1024) :
    (win0_24.blk t).view.read (Elt Ideal) X (ix2 i l) = X (ix2 i l) := by
  have : t.val < 72 := t.isLt
  blk_ext [index24 t]

/-! ## The blocks of columns of the projections -/

theorem read8 (X : S8x2304x11776.Idx → EReal) (t : Fin cfg0.N) (i : Fin 256) (l : Fin 512) :
    (win0_8.blk t).view.read (Elt Ideal) X (ix3 0 i l) = X (ix3 ⟨t.val / 9, by have : t.val < 72 := t.isLt; omega⟩ ⟨256 * (t.val % 9) + i.val, by omega⟩ ⟨11264 + l.val, by omega⟩) := by
  have : t.val < 72 := t.isLt
  blk_ext [index8 t]

theorem cut5 (t : Fin cfg0.N) (i : Fin 256) (l : Fin 1024) :
    (X0_5 m c t (ix3 0 i l) : EReal) = V m c main_v19 (ix3 ⟨t.val / 9, by have : t.val < 72 := t.isLt; omega⟩ ⟨256 * (t.val % 9) + i.val, by omega⟩ ⟨8192 + l.val, by omega⟩) := by
  have : t.val < 72 := t.isLt
  unfold X0_5 Pipeline.Window.fill
  rw [dif_pos (moved0_5 t _)]
  unfold iblk
  show (win0_5.blk t).view.read (Elt Ideal) (V m c main_v19) _ = _
  blk_ext [index5 t]

theorem cut6 (t : Fin cfg0.N) (i : Fin 256) (l : Fin 1024) :
    (X0_6 m c t (ix3 0 i l) : EReal) = V m c main_v19 (ix3 ⟨t.val / 9, by have : t.val < 72 := t.isLt; omega⟩ ⟨256 * (t.val % 9) + i.val, by omega⟩ ⟨9216 + l.val, by omega⟩) := by
  have : t.val < 72 := t.isLt
  unfold X0_6 Pipeline.Window.fill
  rw [dif_pos (moved0_6 t _)]
  unfold iblk
  show (win0_6.blk t).view.read (Elt Ideal) (V m c main_v19) _ = _
  blk_ext [index6 t]

theorem cut7 (t : Fin cfg0.N) (i : Fin 256) (l : Fin 1024) :
    (X0_7 m c t (ix3 0 i l) : EReal) = V m c main_v19 (ix3 ⟨t.val / 9, by have : t.val < 72 := t.isLt; omega⟩ ⟨256 * (t.val % 9) + i.val, by omega⟩ ⟨10240 + l.val, by omega⟩) := by
  have : t.val < 72 := t.isLt
  unfold X0_7 Pipeline.Window.fill
  rw [dif_pos (moved0_7 t _)]
  unfold iblk
  show (win0_7.blk t).view.read (Elt Ideal) (V m c main_v19) _ = _
  blk_ext [index7 t]

theorem cut9 (t : Fin cfg0.N) (i : Fin 256) (l : Fin 1024) :
    (X0_9 m c t (ix3 0 i l) : EReal) = V m c main_v19 (ix3 ⟨t.val / 9, by have : t.val < 72 := t.isLt; omega⟩ ⟨256 * (t.val % 9) + i.val, by omega⟩ ⟨5120 + l.val, by omega⟩) := by
  have : t.val < 72 := t.isLt
  unfold X0_9 Pipeline.Window.fill
  rw [dif_pos (moved0_9 t _)]
  unfold iblk
  show (win0_9.blk t).view.read (Elt Ideal) (V m c main_v19) _ = _
  blk_ext [index9 t]

theorem cut10 (t : Fin cfg0.N) (i : Fin 256) (l : Fin 1024) :
    (X0_10 m c t (ix3 0 i l) : EReal) = V m c main_v19 (ix3 ⟨t.val / 9, by have : t.val < 72 := t.isLt; omega⟩ ⟨256 * (t.val % 9) + i.val, by omega⟩ ⟨6144 + l.val, by omega⟩) := by
  have : t.val < 72 := t.isLt
  unfold X0_10 Pipeline.Window.fill
  rw [dif_pos (moved0_10 t _)]
  unfold iblk
  show (win0_10.blk t).view.read (Elt Ideal) (V m c main_v19) _ = _
  blk_ext [index10 t]

theorem cut11 (t : Fin cfg0.N) (i : Fin 256) (l : Fin 1024) :
    (X0_11 m c t (ix3 0 i l) : EReal) = V m c main_v19 (ix3 ⟨t.val / 9, by have : t.val < 72 := t.isLt; omega⟩ ⟨256 * (t.val % 9) + i.val, by omega⟩ ⟨7168 + l.val, by omega⟩) := by
  have : t.val < 72 := t.isLt
  unfold X0_11 Pipeline.Window.fill
  rw [dif_pos (moved0_11 t _)]
  unfold iblk
  show (win0_11.blk t).view.read (Elt Ideal) (V m c main_v19) _ = _
  blk_ext [index11 t]

end Cert.Merge

end
-- ==== Proof.MergeSums.lean ====
/-
  The body's sums over a head: a block of 256 lanes times the matrix that says which lanes share a head, with the block split into
  its low-precision part and the rest. On real rows this is the sum over the head's 64 lanes.
-/
module

public import proofs.«01_k».proof.Proof.MergeSpec
public import proofs.«01_k».proof.Proof.MergeRow
public import proofs.«01_k».proof.Proof.ProjReal
public import proofs.«01_k».proof.Proof.Tile

@[expose] public section

set_option maxRecDepth 16384

noncomputable section

namespace Cert.Merge

open Idealize.ShloMosaic Idealize.ShloMosaic.TcCoe
open Cert.Kernel4Ideal Cert.Kernel4Ideal.Gen
open Cert.Attn (IsReal)

/-- A block times `bd`, in two parts. -/
def splitDot {F : FTy → Type} [FloatOps F] (bd : FVec F S256x256 .bf16) (v : FVec F S256x256 .f32) : FVec F S256x256 .f32 :=
  addf (matmul dot_S256x256_S256x256_S256x256_1_0_0_1_n_n none (truncf .bf16 v bitsLt_bf16_f32) bd (constant S256x256 .f32 0x00000000#32))
    (matmul dot_S256x256_S256x256_S256x256_1_0_0_1_n_n none
      (truncf .bf16 (subf v (extf .f32 (truncf .bf16 v bitsLt_bf16_f32) bitsLt_bf16_f32)) bitsLt_bf16_f32) bd
      (constant S256x256 .f32 0x00000000#32))

/-- Four blocks side by side. -/
def join4 {F : FTy → Type} [FloatOps F] (s0 s1 s2 s3 : FVec F S256x256 .f32) : FVec F S256x1024 .f32 :=
  concatenate S256x1024 1 [⟨S256x256, s0⟩, ⟨S256x256, s1⟩, ⟨S256x256, s2⟩, ⟨S256x256, s3⟩]
    concatenates_S256x256_S256x256_S256x256_S256x256_S256x1024_d1

/-- All 1024 lanes, block by block. -/
def groupSum {F : FTy → Type} [FloatOps F] (bd : FVec F S256x256 .bf16) (x : FVec F S256x1024 .f32) : FVec F S256x1024 .f32 :=
  join4 (splitDot bd (extractStridedSlice S256x256 ![0, 0] x slices_S256x1024_o0_0_S256x256))
    (splitDot bd (extractStridedSlice S256x256 ![0, 256] x slices_S256x1024_o0_256_S256x256))
    (splitDot bd (extractStridedSlice S256x256 ![0, 512] x slices_S256x1024_o0_512_S256x256))
    (splitDot bd (extractStridedSlice S256x256 ![0, 768] x slices_S256x1024_o0_768_S256x256))

/-- The matrix that says which of 256 lanes share a head. -/
def IsSame (bd : FVec Ideal S256x256 .bf16) : Prop :=
  ∀ p q : Fin 256, (bd (ix2 p q) : EReal) = if p.val / 64 = q.val / 64 then 1 else 0

theorem sub_self_real {x : EReal} (h : IsReal x) : x - x = 0 := by
  obtain ⟨r, rfl⟩ := h
  rw [← EReal.coe_sub, sub_self]; rfl

theorem splitDot_apply {bd : FVec Ideal S256x256 .bf16} (v : FVec Ideal S256x256 .f32) (i q : Fin 256)
    (hv : ∀ d : Fin 256, IsReal (v (ix2 i d))) :
    splitDot bd v (ix2 i q) = ∑ d : Fin 256, (v (ix2 i d) : EReal) * bd (ix2 d q) := by
  have h : splitDot bd v (ix2 i q) = (∑ d : Fin 256, (v (ix2 i d) : EReal) * bd (ix2 d q))
      + ∑ d : Fin 256, ((v (ix2 i d) : EReal) - v (ix2 i d)) * bd (ix2 d q) := by
    unfold splitDot
    pointwise
  rw [h]
  simp only [sub_self_real (hv _), zero_mul, Finset.sum_const_zero, add_zero]

theorem join4_apply (s0 s1 s2 s3 : FVec Ideal S256x256 .f32) (i q : Fin 256) :
    join4 s0 s1 s2 s3 (ix2 i ⟨q.val, by omega⟩) = s0 (ix2 i q)
      ∧ join4 s0 s1 s2 s3 (ix2 i ⟨256 + q.val, by omega⟩) = s1 (ix2 i q)
      ∧ join4 s0 s1 s2 s3 (ix2 i ⟨512 + q.val, by omega⟩) = s2 (ix2 i q)
      ∧ join4 s0 s1 s2 s3 (ix2 i ⟨768 + q.val, by omega⟩) = s3 (ix2 i q) := by
  unfold join4
  refine ⟨?_, ?_, ?_, ?_⟩
  · pointwise
  · pointwise
  · pointwise
    rw [dif_neg (by omega), dif_neg (by omega), dif_pos (by omega)]
    exact congrArg (fun q => s2 (ix2 i q)) (Fin.ext (by dsimp only; omega))
  · pointwise
    rw [dif_neg (by omega), dif_neg (by omega), dif_neg (by omega)]
    exact congrArg (fun q => s3 (ix2 i q)) (Fin.ext (by dsimp only; omega))

/-- Of 256 lanes, those of one head remain. -/
theorem sum_head {bd : FVec Ideal S256x256 .bf16} (hbd : IsSame bd) (f : Fin 1024 → EReal) (n : Fin 4) (q : Fin 256) :
    ∑ d : Fin 256, f ⟨256 * n.val + d.val, by omega⟩ * bd (ix2 d q) = headSum f ⟨256 * n.val + q.val, by omega⟩ := by
  rw [Cert.Attn.sum_blocks 4 64 256 rfl, Finset.sum_eq_single (⟨q.val / 64, by omega⟩ : Fin 4)]
  · unfold headSum headAt lane headOf
    refine Finset.sum_congr rfl fun k _ => ?_
    rw [hbd, if_pos (by dsimp only; omega), mul_one]
    exact congrArg f (Fin.ext (by dsimp only; omega))
  · intro b _ hb
    refine Finset.sum_eq_zero fun k _ => ?_
    have hb' : b.val ≠ q.val / 64 := fun h => hb (Fin.ext h)
    rw [hbd, if_neg (by dsimp only; omega), mul_zero]
  · exact fun h => absurd (Finset.mem_univ _) h

/-- On a real row the body's sums are the sums over the heads. -/
theorem groupSum_apply {bd : FVec Ideal S256x256 .bf16} (hbd : IsSame bd) (x : FVec Ideal S256x1024 .f32) (f : Fin 1024 → EReal)
    (i : Fin 256) (hx : ∀ c, (x (ix2 i c) : EReal) = f c) (hf : ∀ c, IsReal (f c)) (c : Fin 1024) :
    groupSum bd x (ix2 i c) = headSum f c := by
  have e0 (d : Fin 256) : extractStridedSlice S256x256 ![0, 0] x slices_S256x1024_o0_0_S256x256 (ix2 i d) = f ⟨256 * 0 + d.val, by omega⟩ := by
    rw [← hx]
    pointwise
  have e1 (d : Fin 256) : extractStridedSlice S256x256 ![0, 256] x slices_S256x1024_o0_256_S256x256 (ix2 i d) = f ⟨256 * 1 + d.val, by omega⟩ := by
    rw [← hx]
    pointwise
  have e2 (d : Fin 256) : extractStridedSlice S256x256 ![0, 512] x slices_S256x1024_o0_512_S256x256 (ix2 i d) = f ⟨256 * 2 + d.val, by omega⟩ := by
    rw [← hx]
    pointwise
  have e3 (d : Fin 256) : extractStridedSlice S256x256 ![0, 768] x slices_S256x1024_o0_768_S256x256 (ix2 i d) = f ⟨256 * 3 + d.val, by omega⟩ := by
    rw [← hx]
    pointwise
  have j := join4_apply (splitDot bd (extractStridedSlice S256x256 ![0, 0] x slices_S256x1024_o0_0_S256x256))
    (splitDot bd (extractStridedSlice S256x256 ![0, 256] x slices_S256x1024_o0_256_S256x256))
    (splitDot bd (extractStridedSlice S256x256 ![0, 512] x slices_S256x1024_o0_512_S256x256))
    (splitDot bd (extractStridedSlice S256x256 ![0, 768] x slices_S256x1024_o0_768_S256x256)) i ⟨c.val % 256, by omega⟩
  obtain ⟨j0, j1, j2, j3⟩ := j
  rw [splitDot_apply _ _ _ fun d => by rw [e0]; exact hf _] at j0
  rw [splitDot_apply _ _ _ fun d => by rw [e1]; exact hf _] at j1
  rw [splitDot_apply _ _ _ fun d => by rw [e2]; exact hf _] at j2
  rw [splitDot_apply _ _ _ fun d => by rw [e3]; exact hf _] at j3
  simp only [e0, e1, e2, e3] at j0 j1 j2 j3
  have s0 := sum_head hbd f 0 ⟨c.val % 256, by omega⟩
  have s1 := sum_head hbd f 1 ⟨c.val % 256, by omega⟩
  have s2 := sum_head hbd f 2 ⟨c.val % 256, by omega⟩
  have s3 := sum_head hbd f 3 ⟨c.val % 256, by omega⟩
  unfold groupSum
  have hc : c.val / 256 = 0 ∨ c.val / 256 = 1 ∨ c.val / 256 = 2 ∨ c.val / 256 = 3 := by omega
  rcases hc with h | h | h | h
  · have e : c = ⟨c.val % 256, by omega⟩ := Fin.ext (by dsimp only; omega)
    exact (congrArg (fun q => join4 _ _ _ _ (ix2 i q)) e).trans (j0.trans (s0.trans (congrArg (headSum f) (Fin.ext (by simp; omega)))))
  · have e : c = ⟨256 + c.val % 256, by omega⟩ := Fin.ext (by dsimp only; omega)
    exact (congrArg (fun q => join4 _ _ _ _ (ix2 i q)) e).trans (j1.trans (s1.trans (congrArg (headSum f) (Fin.ext (by simp; omega)))))
  · have e : c = ⟨512 + c.val % 256, by omega⟩ := Fin.ext (by dsimp only; omega)
    exact (congrArg (fun q => join4 _ _ _ _ (ix2 i q)) e).trans (j2.trans (s2.trans (congrArg (headSum f) (Fin.ext (by simp; omega)))))
  · have e : c = ⟨768 + c.val % 256, by omega⟩ := Fin.ext (by dsimp only; omega)
    exact (congrArg (fun q => join4 _ _ _ _ (ix2 i q)) e).trans (j3.trans (s3.trans (congrArg (headSum f) (Fin.ext (by simp; omega)))))

end Cert.Merge

end
-- ==== Proof.MergeCols.lean ====
/-
  The block that a grid point of the merge call leaves, read at an index over the extended reals: every row is the layer's row of
  what the point holds, if the two directions' sum and the bonus's products are real there.
-/
module

public import proofs.«01_k».proof.Proof.MergeSums

@[expose] public section

set_option maxRecDepth 16384

noncomputable section

namespace Cert.Merge

open Idealize.ShloMosaic Idealize.ShloMosaic.TcCoe
open Cert.Kernel4Ideal Cert.Kernel4Ideal.Gen
open Cert.Attn (IsReal)

/-! ## The blocks as they are read -/

theorem rows_apply {e : EltTy} (x : Vec Ideal S1x256x1024 e) (i : Fin 256) (c : Fin 1024) : rows x (ix3 0 i c) = x (ix3 0 i c) := by
  unfold rows
  pointwise

theorem upper_apply (x : Vec Ideal S1x256x512 .bf16) (i : Fin 256) (d : Fin 256) :
    upper x (ix3 0 i d) = x (ix3 0 i ⟨256 + d.val, by omega⟩) := by
  unfold upper
  pointwise

theorem rate0_apply (x : Vec Ideal S2x1x256x1024 .bf16) (i : Fin 256) (c : Fin 1024) : rate0 x (ix4 0 0 i c) = x (ix4 0 0 i c) := by
  unfold rate0
  pointwise

theorem rate1_apply (x : Vec Ideal S2x1x256x1024 .bf16) (i : Fin 256) (c : Fin 1024) : rate1 x (ix4 0 0 i c) = x (ix4 1 0 i c) := by
  unfold rate1
  pointwise

theorem gateLat_apply (x : Vec Ideal S1x12x1024 .f32) (c : Fin 1024) : gateLat x (ix3 0 0 c) = x (ix3 0 5 c) := by
  unfold gateLat
  pointwise

theorem gateCtx_apply (x : Vec Ideal S1x12x1024 .f32) (c : Fin 1024) : gateCtx x (ix3 0 0 c) = x (ix3 0 4 c) := by
  unfold gateCtx
  pointwise

theorem lanes_apply (x : Vec Ideal S1x1024 .f32) (c : Fin 1024) : lanes x (ix2 0 c) = x (ix2 0 c) := by
  unfold lanes
  pointwise

theorem mat_apply (x : Vec Ideal S1024x1024 .bf16) (d c : Fin 1024) : mat x (ix2 d c) = x (ix2 d c) := by
  unfold mat
  pointwise

theorem low_apply (x : Vec Ideal S256x1024 .bf16) (d : Fin 256) (c : Fin 1024) : low x (ix2 d c) = x (ix2 d c) := by
  unfold low
  pointwise

theorem same_apply (x : Vec Ideal S256x256 .bf16) (p q : Fin 256) : k0_pay2 (same x) (ix2 p q) = x (ix2 p q) := by
  unfold k0_pay2 same
  pointwise

/-! ## The normalization -/

/-- The rows minus the heads' means. -/
def cen (y g : FVec Ideal S256x1024 .f32) : FVec Ideal S256x1024 .f32 :=
  subf y (mulf g (broadcast S256x1024 (Scalar.ofBits .f32 0x3C800000#32)))

theorem pay4_eq (v1 : Vec Ideal S256x256 .bf16) (v3 v5 : Vec Ideal S1x256x1024 .f32) :
    k0_pay4 v1 v3 v5 = groupSum (k0_pay2 v1) (k0_pay3 v3 v5) := rfl

theorem pay5_eq (v2 : FVec Ideal S256x256 .bf16) (v7 v40 : FVec Ideal S256x1024 .f32) (v84 : Vec Ideal S1x1024 .f32) :
    k0_pay5 v2 v7 v40 v84 = mulf (mulf (cen v7 v40) (rsqrt (addf (mulf (groupSum v2 (mulf (cen v7 v40) (cen v7 v40)))
      (broadcast S256x1024 (Scalar.ofBits .f32 0x3C800000#32))) (broadcast S256x1024 (Scalar.ofBits .f32 0x3A27C5AC#32)))))
      (broadcastTo S256x1024 (shapeCast S1x1024 v84 shapeCasts_S1x1024_S1x1024) broadcasts_S1x1024_S256x1024) := rfl

theorem ofBits_64 : Ideal.ofBits .f32 0x42800000#32 = ((64 : ℝ) : EReal) := by
  simp [Ideal.ofBits, Ideal.ieee]; rw [← EReal.coe_mul]; norm_num

theorem ofBits_64th : Ideal.ofBits .f32 0x3C800000#32 = ((1 / 64 : ℝ) : EReal) := by
  simp [Ideal.ofBits, Ideal.ieee]; rw [← EReal.coe_mul]; norm_num

theorem mul_64th (x : EReal) : x * Ideal.ofBits .f32 0x3C800000#32 = Ideal.div x (Ideal.ofBits .f32 0x42800000#32) := by
  rw [ofBits_64, ofBits_64th, Ideal.div_coe (by norm_num)]

theorem cen_apply (y g : FVec Ideal S256x1024 .f32) (i : Fin 256) (c : Fin 1024) :
    (cen y g (ix2 i c) : EReal) = y (ix2 i c) - Ideal.div (g (ix2 i c)) (Ideal.ofBits .f32 0x42800000#32) := by
  rw [← mul_64th]
  unfold cen
  pointwise

theorem pay5_apply (v2 : FVec Ideal S256x256 .bf16) (v7 v40 : FVec Ideal S256x1024 .f32) (v84 : Vec Ideal S1x1024 .f32)
    (i : Fin 256) (c : Fin 1024) :
    (k0_pay5 v2 v7 v40 v84 (ix2 i c) : EReal) = cen v7 v40 (ix2 i c) * Ideal.rsqrt (Ideal.div (groupSum v2 (mulf (cen v7 v40) (cen v7 v40)) (ix2 i c))
      (Ideal.ofBits .f32 0x42800000#32) + Ideal.ofBits .f32 0x3A27C5AC#32) * v84 (ix2 0 c) := by
  rw [← mul_64th, pay5_eq]
  generalize groupSum v2 (mulf (cen v7 v40) (cen v7 v40)) = s
  generalize cen v7 v40 = t
  pointwise

theorem pay3_apply (x y : Vec Ideal S1x256x1024 .f32) (i : Fin 256) (c : Fin 1024) :
    (k0_pay3 x y (ix2 i c) : EReal) = x (ix3 0 i c) + y (ix3 0 i c) := by
  unfold k0_pay3
  pointwise

theorem pay6_apply (x : FVec Ideal S256x1024 .f32) (y : Vec Ideal S1x1024 .f32) (i : Fin 256) (c : Fin 1024) :
    (k0_pay6 x y (ix2 i c) : EReal) = x (ix2 i c) + y (ix2 0 c) := by
  unfold k0_pay6
  pointwise

theorem headSum_real {f : Fin 1024 → EReal} (hf : ∀ c, IsReal (f c)) (c : Fin 1024) : IsReal (headSum f c) := by
  unfold headSum headAt
  exact IsReal.sum _ fun _ => hf _

theorem centred_real {y : Fin 1024 → EReal} (hy : ∀ c, IsReal (y c)) (c : Fin 1024) : IsReal (centred y c) := by
  unfold centred
  rw [← mul_64th, ofBits_64th]
  exact (hy c).sub ((headSum_real hy c).mul ⟨_, rfl⟩)

theorem normed_apply (yf yb : Vec Ideal S1x256x1024 .f32) (lnw lnb : Vec Ideal S1x1024 .f32) {bd : Vec Ideal S256x256 .bf16}
    (hbd : IsSame bd) (i : Fin 256) (y : Fin 1024 → EReal) (hy : ∀ c, (yf (ix3 0 i c) : EReal) + yb (ix3 0 i c) = y c)
    (hr : ∀ c, IsReal (y c)) (c : Fin 1024) :
    normed yf yb lnw lnb bd (ix2 i c) = normRow y (fun c => lnw (ix2 0 c)) (fun c => lnb (ix2 0 c)) c := by
  have hb : IsSame (k0_pay2 (same bd)) := fun p q => (same_apply bd p q).trans (hbd p q)
  have h3 (c : Fin 1024) : (k0_pay3 (rows yf) (rows yb) (ix2 i c) : EReal) = y c := by
    rw [pay3_apply, rows_apply, rows_apply, hy]
  have hc (c : Fin 1024) : (cen (k0_pay3 (rows yf) (rows yb)) (groupSum (k0_pay2 (same bd)) (k0_pay3 (rows yf) (rows yb))) (ix2 i c) : EReal)
      = centred y c := by
    rw [cen_apply, groupSum_apply hb _ y i h3 hr, h3]
    rfl
  unfold normed normRow
  rw [pay6_apply, pay5_apply, pay4_eq, hc, lanes_apply, lanes_apply,
    groupSum_apply hb _ (fun d => centred y d * centred y d) i (fun d => by rw [← hc]; rfl)
      (fun d => (centred_real hr d).mul (centred_real hr d))]

/-! ## The bonus -/

/-- The products before they are summed. -/
def prods (v117 : FVec Ideal S256x1024 .f32) (v122 : FVec Ideal S256x1024 .bf16) (v125 : Vec Ideal S1x1024 .f32) : FVec Ideal S256x1024 .f32 :=
  mulf (mulf (extf .f32 v122 bitsLt_bf16_f32) v117)
    (broadcastTo S256x1024 (shapeCast S1x1024 v125 shapeCasts_S1x1024_S1x1024) broadcasts_S1x1024_S256x1024)

theorem pay10_eq (v2 : FVec Ideal S256x256 .bf16) (v117 v120 : FVec Ideal S256x1024 .f32) (v122 : FVec Ideal S256x1024 .bf16)
    (v125 : Vec Ideal S1x1024 .f32) : k0_pay10 v2 v117 v120 v122 v125 = mulf (groupSum v2 (prods v117 v122 v125)) v120 := rfl

theorem prods_apply (v117 : FVec Ideal S256x1024 .f32) (v122 : FVec Ideal S256x1024 .bf16) (v125 : Vec Ideal S1x1024 .f32)
    (i : Fin 256) (c : Fin 1024) : (prods v117 v122 v125 (ix2 i c) : EReal) = (v122 (ix2 i c) : EReal) * v117 (ix2 i c) * v125 (ix2 0 c) := by
  unfold prods
  pointwise

theorem pay7_apply (k : Vec Ideal S1x256x1024 .bf16) (ka : Vec Ideal S1x1024 .f32) (a0 a1 : Vec Ideal S1x1x256x1024 .bf16)
    (i : Fin 256) (c : Fin 1024) : (k0_pay7 k ka a0 a1 (ix2 i c) : EReal)
      = keyRow (fun c => k (ix3 0 i c)) (fun c => a0 (ix4 0 0 i c)) (fun c => a1 (ix4 0 0 i c)) (fun c => ka (ix2 0 c)) c := by
  unfold keyRow k0_pay7
  pointwise

theorem pay8_apply (v : Vec Ideal S1x256x1024 .bf16) (i : Fin 256) (c : Fin 1024) : (k0_pay8 v (ix2 i c) : EReal) = v (ix3 0 i c) := by
  unfold k0_pay8
  pointwise

theorem pay9_apply (v : Vec Ideal S1x256x1024 .bf16) (i : Fin 256) (c : Fin 1024) : (k0_pay9 v (ix2 i c) : EReal) = v (ix3 0 i c) := by
  unfold k0_pay9
  pointwise

theorem bonus_apply (a : Vec Ideal S2x1x256x1024 .bf16) (r k v : Vec Ideal S1x256x1024 .bf16) (rk ka : Vec Ideal S1x1024 .f32)
    {bd : Vec Ideal S256x256 .bf16} (hbd : IsSame bd) (i : Fin 256)
    (hr : ∀ c, IsReal (prodRow (fun c => r (ix3 0 i c)) (fun c => k (ix3 0 i c)) (fun c => a (ix4 0 0 i c)) (fun c => a (ix4 1 0 i c))
      (fun c => ka (ix2 0 c)) (fun c => rk (ix2 0 c)) c)) (c : Fin 1024) :
    bonus a r k v rk ka bd (ix2 i c) = bonusRow (fun c => r (ix3 0 i c)) (fun c => k (ix3 0 i c)) (fun c => v (ix3 0 i c))
      (fun c => a (ix4 0 0 i c)) (fun c => a (ix4 1 0 i c)) (fun c => ka (ix2 0 c)) (fun c => rk (ix2 0 c)) c := by
  have hb : IsSame (k0_pay2 (same bd)) := fun p q => (same_apply bd p q).trans (hbd p q)
  have hm (x y : FVec Ideal S256x1024 .f32) (j : S256x1024.Idx) : (mulf x y j : EReal) = (x j : EReal) * y j := rfl
  unfold bonus bonusRow
  rw [pay10_eq, hm, groupSum_apply hb _ _ i (fun d => ?_) hr, pay8_apply, rows_apply]
  rw [prods_apply, pay9_apply, pay7_apply, rows_apply, lanes_apply]
  unfold prodRow
  simp only [rows_apply, lanes_apply, rate0_apply, rate1_apply]

/-! ## The low-rank gate -/

theorem sum_low (f : Fin 256 → EReal) (hf : ∀ d, 160 ≤ d.val → f d = 0) :
    ∑ d, f d = ∑ d : Fin 160, f ⟨d.val, by omega⟩ := by
  have h := Fin.sum_univ_add (a := 160) (b := 96) (f : Fin (160 + 96) → EReal)
  refine h.trans ?_
  rw [Finset.sum_eq_zero (f := fun d : Fin 96 => f (Fin.natAdd 160 d)) fun d _ => hf _ (Nat.le_add_right _ _), add_zero]
  rfl

theorem pay11_apply (z : Vec Ideal S1x256x256 .bf16) (i d : Fin 256) :
    (k0_pay11 z (ix2 i d) : EReal) = Ideal.logistic (z (ix3 0 i d)) := by
  unfold k0_pay11
  pointwise

theorem pay12_apply (n b : FVec Ideal S256x1024 .f32) (z : FVec Ideal S256x256 .bf16) (g : Vec Ideal S256x1024 .bf16)
    (i : Fin 256) (c : Fin 1024) : (k0_pay12 n b z g (ix2 i c) : EReal)
      = ((n (ix2 i c) : EReal) + b (ix2 i c)) * ∑ d : Fin 256, (z (ix2 i d) : EReal) * g (ix2 d c) := by
  unfold k0_pay12
  pointwise

/-! ## The branches and the result -/

theorem pay13_apply (b : BitVec 32) (ga ba : Vec Ideal S1x256x1024 .bf16) (wa : Vec Ideal S1024x1024 .bf16)
    (gb bc bl : Vec Ideal S1x256x1024 .bf16) (wb : Vec Ideal S1024x1024 .bf16) (i : Fin 256) (c : Fin 1024) :
    (k0_pay13 b ga ba wa gb bc bl wb (ix2 i c) : EReal) = Ideal.logistic (ga (ix3 0 i c)) * (∑ d : Fin 1024, (ba (ix3 0 i d) : EReal) * wa (ix2 d c))
      + Ideal.logistic (gb (ix3 0 i c))
        * (∑ d : Fin 1024, (Scalar.select (Scalar.cmpi .slt b 256#32) (bc (ix3 0 i d)) (bl (ix3 0 i d)) : EReal) * wb (ix2 d c)) := by
  unfold k0_pay13
  generalize Scalar.cmpi .slt b 256#32 = s
  by_cases hs : s = 1
  · have e {α : Type} (x y : α) : Scalar.select s x y = x := if_pos hs
    simp only [e]
    pointwise
  · have e {α : Type} (x y : α) : Scalar.select s x y = y := if_neg hs
    simp only [e]
    pointwise

theorem pay14_apply (v : Vec Ideal S1x256x1024 .bf16) (i : Fin 256) (c : Fin 1024) : (k0_pay14 v (ix2 i c) : EReal) = v (ix3 0 i c) := by
  unfold k0_pay14
  pointwise

theorem pay1_apply (b : BitVec 32) (t : FVec Ideal S256x1024 .bf16) (u g : FVec Ideal S256x1024 .f32) (wc wo : Vec Ideal S1024x1024 .bf16)
    (x : Vec Ideal S1x256x1024 .f32) (gl gc : Vec Ideal S1x1x1024 .f32) (i : Fin 256) (c : Fin 1024) :
    (k0_pay1 b t u g wc wo x gl gc (ix3 0 i c) : EReal) = (x (ix3 0 i c) : EReal)
      + Scalar.select (IntOp.cmpi .sge (b + BitVec.ofNat 32 i.val) 256#32) (gl (ix3 0 0 c) : EReal) (gc (ix3 0 0 c))
        * ∑ d : Fin 1024, ((u (ix2 i d) : EReal) + Ideal.logistic (g (ix2 i d)) * ∑ e : Fin 1024, (t (ix2 i e) : EReal) * wc (ix2 e d)) * wo (ix2 d c) := by
  unfold k0_pay1
  pointwise
  rfl

end Cert.Merge

end
-- ==== Proof.MergeBlock.lean ====
/-
  The whole block of the merge call at an index: if the blocks hold a row's values and the weights, the block's row is the layer's.
-/
module

public import proofs.«01_k».proof.Proof.MergeCols

@[expose] public section

set_option maxRecDepth 16384

noncomputable section

namespace Cert.Merge

open Idealize.ShloMosaic Idealize.ShloMosaic.TcCoe
open Cert.Kernel4Ideal Cert.Kernel4Ideal.Gen
open Cert.Attn (IsReal)

variable (b : BitVec 32) (x0 : Vec Ideal S1x256x1024 .f32) (x1 : Vec Ideal S1x12x1024 .f32) (x2 x3 : Vec Ideal S1x256x1024 .f32)
  (x4 : Vec Ideal S2x1x256x1024 .bf16) (x5 x6 x7 : Vec Ideal S1x256x1024 .bf16) (x8 : Vec Ideal S1x256x512 .bf16)
  (x9 x10 x11 x12 x13 x14 : Vec Ideal S1x256x1024 .bf16) (x15 x16 x17 x18 : Vec Ideal S1x1024 .f32) (x19 : Vec Ideal S256x1024 .bf16)
  (x20 : Vec Ideal S256x256 .bf16) (x21 x22 x23 x24 : Vec Ideal S1024x1024 .bf16)

/-- Row `i` of the blocks holds `R`, and the other blocks hold `W`. -/
structure Holds (W : Weights) (R : Row) (i : Fin 256) : Prop where
  x (c) : (x0 (ix3 0 i c) : EReal) = R.x c
  gt (c) : Scalar.select (IntOp.cmpi .sge (b + BitVec.ofNat 32 i.val) 256#32) (x1 (ix3 0 5 c) : EReal) (x1 (ix3 0 4 c)) = R.gt c
  y (c) : (x2 (ix3 0 i c) : EReal) + x3 (ix3 0 i c) = R.y c
  a0 (c) : (x4 (ix4 0 0 i c) : EReal) = R.a0 c
  a1 (c) : (x4 (ix4 1 0 i c) : EReal) = R.a1 c
  r (c) : (x5 (ix3 0 i c) : EReal) = R.r c
  k (c) : (x6 (ix3 0 i c) : EReal) = R.k c
  v (c) : (x7 (ix3 0 i c) : EReal) = R.v c
  z (d : Fin 160) : (x8 (ix3 0 i ⟨256 + d.val, by omega⟩) : EReal) = R.z d
  ga (c) : (x9 (ix3 0 i c) : EReal) = R.ga c
  gb (c) : (x10 (ix3 0 i c) : EReal) = R.gb c
  gc (c) : (x11 (ix3 0 i c) : EReal) = R.gc c
  ba (c) : (x12 (ix3 0 i c) : EReal) = R.ba c
  bb (c) : Scalar.select (Scalar.cmpi .slt b 256#32) (x13 (ix3 0 i c) : EReal) (x14 (ix3 0 i c)) = R.bb c
  lnw (c) : (x15 (ix2 0 c) : EReal) = W.lnw c
  lnb (c) : (x16 (ix2 0 c) : EReal) = W.lnb c
  rk (c) : (x17 (ix2 0 c) : EReal) = W.rk c
  ka (c) : (x18 (ix2 0 c) : EReal) = W.ka c
  g (d c) : (x19 (ix2 d c) : EReal) = if h : d.val < 160 then W.g ⟨d.val, h⟩ c else 0
  same : IsSame x20
  wa (d c) : (x21 (ix2 d c) : EReal) = W.wa d c
  wb (d c) : (x22 (ix2 d c) : EReal) = W.wb d c
  wc (d c) : (x23 (ix2 d c) : EReal) = W.wc d c
  wo (d c) : (x24 (ix2 d c) : EReal) = W.wo d c
  yReal (c) : IsReal (R.y c)
  prodReal (c) : IsReal (prodRow R.r R.k R.a0 R.a1 W.ka W.rk c)

variable {b x0 x1 x2 x3 x4 x5 x6 x7 x8 x9 x10 x11 x12 x13 x14 x15 x16 x17 x18 x19 x20 x21 x22 x23 x24}

/-- The time mixing's row. -/
theorem mixed_apply {W : Weights} {R : Row} {i : Fin 256}
    (h : Holds b x0 x1 x2 x3 x4 x5 x6 x7 x8 x9 x10 x11 x12 x13 x14 x15 x16 x17 x18 x19 x20 x21 x22 x23 x24 W R i) (c : Fin 1024) :
    (mixed x2 x3 x4 x5 x6 x7 x8 x15 x16 x17 x18 x19 x20 (ix2 i c) : EReal) = timeRow W R c := by
  have er := funext h.r
  have ek := funext h.k
  have ev := funext h.v
  have e0 := funext h.a0
  have e1 := funext h.a1
  have eka := funext h.ka
  have erk := funext h.rk
  have ew := funext h.lnw
  have eb := funext h.lnb
  have hn := normed_apply x2 x3 x15 x16 h.same i R.y h.y h.yReal c
  have hb := bonus_apply x4 x5 x6 x7 x17 x18 h.same i (by rw [er, ek, e0, e1, eka, erk]; exact h.prodReal) c
  rw [er, ek, ev, e0, e1, eka, erk] at hb
  rw [ew, eb] at hn
  unfold mixed timeRow lowRow
  rw [pay12_apply, hn, hb]
  refine congrArg (fun s : EReal => (normRow R.y W.lnw W.lnb c + bonusRow R.r R.k R.v R.a0 R.a1 W.ka W.rk c) * s) ?_
  rw [sum_low _ fun d hd => by rw [low_apply, h.g, dif_neg (by omega), mul_zero]]
  refine Finset.sum_congr rfl fun d _ => ?_
  rw [pay11_apply, upper_apply, low_apply, h.g, dif_pos d.isLt, h.z d]

/-- The result's row. -/
theorem blockOut_apply {W : Weights} {R : Row} {i : Fin 256}
    (h : Holds b x0 x1 x2 x3 x4 x5 x6 x7 x8 x9 x10 x11 x12 x13 x14 x15 x16 x17 x18 x19 x20 x21 x22 x23 x24 W R i) (c : Fin 1024) :
    (blockOut b x0 x1 x2 x3 x4 x5 x6 x7 x8 x9 x10 x11 x12 x13 x14 x15 x16 x17 x18 x19 x20 x21 x22 x23 x24 (ix3 0 i c) : EReal)
      = outRow W R c := by
  have ht := mixed_apply h
  unfold blockOut
  generalize mixed x2 x3 x4 x5 x6 x7 x8 x15 x16 x17 x18 x19 x20 = t at ht
  rw [pay1_apply, gateLat_apply, gateCtx_apply, h.gt, rows_apply, h.x]
  unfold outRow sumRow gatedRow
  refine congrArg (fun s => R.x c + R.gt c * s) (Finset.sum_congr rfl fun d _ => ?_)
  rw [pay13_apply, pay14_apply]
  simp only [rows_apply, mat_apply, ht, h.ga, h.gb, h.gc, h.ba, h.bb, h.wa, h.wb, h.wc, h.wo]

end Cert.Merge

end
-- ==== Proof.MergeSameLanes.lean ====
/-
  The operand that says which of 256 lanes share a head: the lanes' numbers over 64, compared.
-/
module

public import proofs.«01_k».proof.Proof.MergeEntry
public import proofs.«01_k».proof.Proof.MergeSums

@[expose] public section

set_option maxRecDepth 16384

noncomputable section

namespace Cert.Merge

open Idealize.ShloMosaic Idealize.ShloMosaic.TcCoe Idealize.ShloMosaic.Tactic
open Cert.Kernel4Ideal Cert.Kernel4Ideal.Gen

variable (m : (ℓ : Loc nD τ sig) → Buf (Elt Ideal) ℓ) (c : Dev nD)

/-- The sign of a number. -/
def sgn (x : BitVec 32) : BitVec 32 := if x = 0 then 0 else if x.msb then -1 else 1

/-- Division by 64, rounded down: the quotient, less one where the signs differ and something remains. -/
def over64 (x : BitVec 32) : BitVec 32 :=
  Scalar.select (IntOp.andi (IntOp.cmpi .ne (sgn x) (sgn 64#32)) (IntOp.cmpi .ne (IntOp.remsi .host x 64#32) 0#32))
    (IntOp.subi (IntOp.divsi .host x 64#32) 1#32) (IntOp.divsi .host x 64#32)

theorem over64_eq : ∀ p : Fin 256, over64 (BitVec.ofNat 32 p.val) = BitVec.ofNat 32 (p.val / 64) := by decide +kernel

theorem entry_group (p : Fin 256) : (V m c main_v4 (ix1 p) : BitVec 32) = BitVec.ofNat 32 (p.val / 64) := by
  rw [V_split]
  entry_read
  simp only [StableHlo.TRef.ofBuf, StableHlo.TRef.toBuf, cast_cast, cast_eq]
  refine Eq.trans ?_ (over64_eq p)
  unfold over64 sgn
  simp only [select, andi, cmpi, signi, subi, Host.divsi, Host.remsi, broadcastInDim, constantI, iotaInDim]
  rfl

theorem entry_bd_at (p q : Fin 256) : (V m c (Pipeline.arrRef spec0 20) (ix2 p q) : EReal)
    = FloatOps.uitofp (F := Ideal) .bf16 (IntOp.cmpi .eq (V m c main_v4 (ix1 p) : BitVec 32) (V m c main_v4 (ix1 q) : BitVec 32)) := by
  rw [V_split, V_split]
  generalize StableHlo.after hostOps0_1 (StableHlo.after hostOps0 (fun b => m (c, b))) = W
  entry_read
  pointwise

theorem heads_eq (a b : ℕ) (ha : a < 4) (hb : b < 4) :
    IntOp.cmpi .eq (BitVec.ofNat 32 a) (BitVec.ofNat 32 b) = if a = b then 1#1 else 0#1 := by
  have h : ∀ a b : Fin 4, IntOp.cmpi .eq (BitVec.ofNat 32 a.val) (BitVec.ofNat 32 b.val) = if a.val = b.val then 1#1 else 0#1 := by
    decide +kernel
  exact h ⟨a, ha⟩ ⟨b, hb⟩

theorem ofBit_one : (FloatOps.uitofp (F := Ideal) .bf16 1#1 : EReal) = 1 := by
  show (((1#1).toNat : ℝ) : EReal) = 1
  simp

theorem ofBit_zero : (FloatOps.uitofp (F := Ideal) .bf16 0#1 : EReal) = 0 := by
  show (((0#1).toNat : ℝ) : EReal) = 0
  simp

/-- The operand is the matrix that says which lanes share a head. -/
theorem entry_same (p q : Fin 256) : (V m c (Pipeline.arrRef spec0 20) (ix2 p q) : EReal) = (if p.val / 64 = q.val / 64 then 1 else 0 : EReal) := by
  rw [entry_bd_at, entry_group, entry_group, heads_eq _ _ (by omega) (by omega)]
  split
  · exact ofBit_one
  · exact ofBit_zero

end Cert.Merge

end
-- ==== Proof.MergeRun.lean ====
/-
  The body of the merge call run at a grid point: it leaves every input block as it was and the result's block in its output.
-/
module

public import proofs.«01_k».proof.Proof.MergeSpec
public import Idealize.ShloMosaic.Lib.VecWindow

@[expose] public section

set_option maxRecDepth 16384

noncomputable section

namespace Cert.Merge

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel4Ideal Cert.Kernel4Ideal.Gen

variable {F : FTy → Type} [FloatOps F]

local notation "𝕄" => MT nD τ sig Unit (Elt F) ℕ (UR sig nD τ) ℕ

set_option maxHeartbeats 16000000 in
set_option sl_exec.resultNames true in
theorem mergeRun (c : Dev nD) (i : grid0.Coords) (arg2 : Memref sig .tc .vmem S1x256x1024 .f32) (harg2 : arg2.IsWhole) (arg3 : Memref sig .tc .vmem S1x12x1024 .f32) (harg3 : arg3.IsWhole) (arg4 : Memref sig .tc .vmem S1x256x1024 .f32) (harg4 : arg4.IsWhole) (arg5 : Memref sig .tc .vmem S1x256x1024 .f32) (harg5 : arg5.IsWhole) (arg6 : Memref sig .tc .vmem S2x1x256x1024 .bf16) (harg6 : arg6.IsWhole) (arg7 : Memref sig .tc .vmem S1x256x1024 .bf16) (harg7 : arg7.IsWhole) (arg8 : Memref sig .tc .vmem S1x256x1024 .bf16) (harg8 : arg8.IsWhole) (arg9 : Memref sig .tc .vmem S1x256x1024 .bf16) (harg9 : arg9.IsWhole) (arg10 : Memref sig .tc .vmem S1x256x512 .bf16) (harg10 : arg10.IsWhole) (arg11 : Memref sig .tc .vmem S1x256x1024 .bf16) (harg11 : arg11.IsWhole) (arg12 : Memref sig .tc .vmem S1x256x1024 .bf16) (harg12 : arg12.IsWhole) (arg13 : Memref sig .tc .vmem S1x256x1024 .bf16) (harg13 : arg13.IsWhole) (arg14 : Memref sig .tc .vmem S1x256x1024 .bf16) (harg14 : arg14.IsWhole) (arg15 : Memref sig .tc .vmem S1x256x1024 .bf16) (harg15 : arg15.IsWhole) (arg16 : Memref sig .tc .vmem S1x256x1024 .bf16) (harg16 : arg16.IsWhole) (arg17 : Memref sig .tc .vmem S1x1024 .f32) (harg17 : arg17.IsWhole) (arg18 : Memref sig .tc .vmem S1x1024 .f32) (harg18 : arg18.IsWhole) (arg19 : Memref sig .tc .vmem S1x1024 .f32) (harg19 : arg19.IsWhole) (arg20 : Memref sig .tc .vmem S1x1024 .f32) (harg20 : arg20.IsWhole) (arg21 : Memref sig .tc .vmem S256x1024 .bf16) (harg21 : arg21.IsWhole) (arg22 : Memref sig .tc .vmem S256x256 .bf16) (harg22 : arg22.IsWhole) (arg23 : Memref sig .tc .vmem S1024x1024 .bf16) (harg23 : arg23.IsWhole) (arg24 : Memref sig .tc .vmem S1024x1024 .bf16) (harg24 : arg24.IsWhole) (arg25 : Memref sig .tc .vmem S1024x1024 .bf16) (harg25 : arg25.IsWhole) (arg26 : Memref sig .tc .vmem S1024x1024 .bf16) (harg26 : arg26.IsWhole) (arg27 : Memref sig .tc .vmem S1x256x1024 .f32) (harg27 : arg27.IsWhole)
    (x0 : Vec F S1x256x1024 .f32) (x1 : Vec F S1x12x1024 .f32) (x2 : Vec F S1x256x1024 .f32) (x3 : Vec F S1x256x1024 .f32) (x4 : Vec F S2x1x256x1024 .bf16) (x5 : Vec F S1x256x1024 .bf16) (x6 : Vec F S1x256x1024 .bf16) (x7 : Vec F S1x256x1024 .bf16) (x8 : Vec F S1x256x512 .bf16) (x9 : Vec F S1x256x1024 .bf16) (x10 : Vec F S1x256x1024 .bf16) (x11 : Vec F S1x256x1024 .bf16) (x12 : Vec F S1x256x1024 .bf16) (x13 : Vec F S1x256x1024 .bf16) (x14 : Vec F S1x256x1024 .bf16) (x15 : Vec F S1x1024 .f32) (x16 : Vec F S1x1024 .f32) (x17 : Vec F S1x1024 .f32) (x18 : Vec F S1x1024 .f32) (x19 : Vec F S256x1024 .bf16) (x20 : Vec F S256x256 .bf16) (x21 : Vec F S1024x1024 .bf16) (x22 : Vec F S1024x1024 .bf16) (x23 : Vec F S1024x1024 .bf16) (x24 : Vec F S1024x1024 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ owns (c : Thread nD τ) arg22 fullShare x20 ∗ owns (c : Thread nD τ) arg23 fullShare x21 ∗ owns (c : Thread nD τ) arg24 fullShare x22 ∗ owns (c : Thread nD τ) arg25 fullShare x23 ∗ owns (c : Thread nD τ) arg26 fullShare x24 ∗ (∃ d, owns (c : Thread nD τ) arg27 fullShare d)
          ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ owns (c : Thread nD τ) arg22 fullShare x20 ∗ owns (c : Thread nD τ) arg23 fullShare x21 ∗ owns (c : Thread nD τ) arg24 fullShare x22 ∗ owns (c : Thread nD τ) arg25 fullShare x23 ∗ owns (c : Thread nD τ) arg26 fullShare x24 ∗ owns (c : Thread nD τ) arg27 fullShare (blockOut (Scalar.muli (BitVec.ofNat 32 (i 1).val) 256#32) x0 x1 x2 x3 x4 x5 x6 x7 x8 x9 x10 x11 x12 x13 x14 x15 x16 x17 x18 x19 x20 x21 x22 x23 x24)) -∗ K ⟨⟩))
        ⊢ wp frame (wpE (defs₀ (F := F)) Variants.none c none) E (cc0_merge i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K := by
  simp only [cc0_merge_eq_skeleton]; unfold cc0_merge_skel
  simp only [k0_part1_eq_skeleton, k0_part2_eq_skeleton, k0_part3_eq_skeleton, k0_part4_eq_skeleton, k0_part5_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%d25, %f25, -, H25⟩, Hk⟩
  have hout : blockOut (Scalar.muli (BitVec.ofNat 32 (i 1).val) 256#32) (View.read (Elt F) arg2.view f0) (View.read (Elt F) arg3.view f1) (View.read (Elt F) arg4.view f2) (View.read (Elt F) arg5.view f3) (View.read (Elt F) arg6.view f4) (View.read (Elt F) arg7.view f5) (View.read (Elt F) arg8.view f6) (View.read (Elt F) arg9.view f7) (View.read (Elt F) arg10.view f8) (View.read (Elt F) arg11.view f9) (View.read (Elt F) arg12.view f10) (View.read (Elt F) arg13.view f11) (View.read (Elt F) arg14.view f12) (View.read (Elt F) arg15.view f13) (View.read (Elt F) arg16.view f14) (View.read (Elt F) arg17.view f15) (View.read (Elt F) arg18.view f16) (View.read (Elt F) arg19.view f17) (View.read (Elt F) arg20.view f18) (View.read (Elt F) arg21.view f19) (View.read (Elt F) arg22.view f20) (View.read (Elt F) arg23.view f21) (View.read (Elt F) arg24.view f22) (View.read (Elt F) arg25.view f23) (View.read (Elt F) arg26.view f24) = blockOut (Scalar.muli (BitVec.ofNat 32 (i 1).val) 256#32) x0 x1 x2 x3 x4 x5 x6 x7 x8 x9 x10 x11 x12 x13 x14 x15 x16 x17 x18 x19 x20 x21 x22 x23 x24 := by
    rw [hf0, hf1, hf2, hf3, hf4, hf5, hf6, hf7, hf8, hf9, hf10, hf11, hf12, hf13, hf14, hf15, hf16, hf17, hf18, hf19, hf20, hf21, hf22, hf23, hf24]
  sl_exec
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H7]
  · iexists _; isplitr; · ipureintro; exact hf7
    iexact H7
  isplitl [H8]
  · iexists _; isplitr; · ipureintro; exact hf8
    iexact H8
  isplitl [H9]
  · iexists _; isplitr; · ipureintro; exact hf9
    iexact H9
  isplitl [H10]
  · iexists _; isplitr; · ipureintro; exact hf10
    iexact H10
  isplitl [H11]
  · iexists _; isplitr; · ipureintro; exact hf11
    iexact H11
  isplitl [H12]
  · iexists _; isplitr; · ipureintro; exact hf12
    iexact H12
  isplitl [H13]
  · iexists _; isplitr; · ipureintro; exact hf13
    iexact H13
  isplitl [H14]
  · iexists _; isplitr; · ipureintro; exact hf14
    iexact H14
  isplitl [H15]
  · iexists _; isplitr; · ipureintro; exact hf15
    iexact H15
  isplitl [H16]
  · iexists _; isplitr; · ipureintro; exact hf16
    iexact H16
  isplitl [H17]
  · iexists _; isplitr; · ipureintro; exact hf17
    iexact H17
  isplitl [H18]
  · iexists _; isplitr; · ipureintro; exact hf18
    iexact H18
  isplitl [H19]
  · iexists _; isplitr; · ipureintro; exact hf19
    iexact H19
  isplitl [H20]
  · iexists _; isplitr; · ipureintro; exact hf20
    iexact H20
  isplitl [H21]
  · iexists _; isplitr; · ipureintro; exact hf21
    iexact H21
  isplitl [H22]
  · iexists _; isplitr; · ipureintro; exact hf22
    iexact H22
  isplitl [H23]
  · iexists _; isplitr; · ipureintro; exact hf23
    iexact H23
  isplitl [H24]
  · iexists _; isplitr; · ipureintro; exact hf24
    iexact H24
  iexists _; isplitr; swap; · iexact H25
  ipureintro
  refine (View.read_writes_full _ _ _ _ _).trans (Eq.trans ?_ hout)
  rfl

end Cert.Merge

end
-- ==== Proof.MergeFrame.lean ====
/-
  The whole call run: every grid point's body leaves its block in the output's buffer, and the run ends with the result array the
  points leave, every argument unchanged and every counter at zero.
-/
module

public import proofs.«01_k».proof.Proof.MergeRun
public import Idealize.ShloMosaic.Lib.Claim

@[expose] public section

set_option maxRecDepth 16384

noncomputable section

namespace Cert.Merge

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel4Ideal Cert.Kernel4Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the outputs hold after each point -/

/-- What the outputs' staging buffers hold after the body at point `t`: the body's block of the point's
    input blocks. -/
def outsAt0 (c : Dev nD) (t : Fin cfg0.N) : Vec F S1x256x1024 .f32 :=
  blockOut (Scalar.muli (BitVec.ofNat 32 (grid0.coords t 1).val) 256#32) (iblk m c 0 t) (iblk m c 1 t) (iblk m c 2 t) (iblk m c 3 t) (iblk m c 4 t) (X0_5 m c t) (X0_6 m c t) (X0_7 m c t) (iblk m c 8 t) (X0_9 m c t) (X0_10 m c t) (X0_11 m c t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t)

/-! ## The pipeline's proof data -/

/-- The arrays as the region finds them; after the body at a point each input's buffer at its block and the output's at `outsAt0`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => X0_5 m c t
    | ⟨6, _⟩ => X0_6 m c t
    | ⟨7, _⟩ => X0_7 m c t
    | ⟨8, _⟩ => iblk m c 8 t
    | ⟨9, _⟩ => X0_9 m c t
    | ⟨10, _⟩ => X0_10 m c t
    | ⟨11, _⟩ => X0_11 m c t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => iblk m c 24 t
    | ⟨25, _⟩ => (outsAt0 m c t)
    | ⟨_ + 26, h⟩ => absurd h (Nat.not_lt.2 (Nat.le_add_left _ _))
  Φ _ := Pipeline.ΦA spec0 c
  q w := Pipeline.shareOf spec0 w
  owed _ := 0

/-- The arrays are what the region finds. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = X0_5 m c t := by dsimp only [dats]
theorem after0_6 (c : Dev nD) (t : Fin cfg0.N) : (dats m 0 c).after 6 t = X0_6 m c t := by dsimp only [dats]
theorem after0_7 (c : Dev nD) (t : Fin cfg0.N) : (dats m 0 c).after 7 t = X0_7 m c t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = X0_9 m c t := by dsimp only [dats]
theorem after0_10 (c : Dev nD) (t : Fin cfg0.N) : (dats m 0 c).after 10 t = X0_10 m c t := by dsimp only [dats]
theorem after0_11 (c : Dev nD) (t : Fin cfg0.N) : (dats m 0 c).after 11 t = X0_11 m c t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = iblk m c 20 t := by dsimp only [dats]
theorem after0_21 (c : Dev nD) (t : Fin cfg0.N) : (dats m 0 c).after 21 t = iblk m c 21 t := by dsimp only [dats]
theorem after0_22 (c : Dev nD) (t : Fin cfg0.N) : (dats m 0 c).after 22 t = iblk m c 22 t := by dsimp only [dats]
theorem after0_23 (c : Dev nD) (t : Fin cfg0.N) : (dats m 0 c).after 23 t = iblk m c 23 t := by dsimp only [dats]
theorem after0_24 (c : Dev nD) (t : Fin cfg0.N) : (dats m 0 c).after 24 t = iblk m c 24 t := by dsimp only [dats]
theorem after0_25 (c : Dev nD) (t : Fin cfg0.N) : (dats m 0 c).after 25 t = (outsAt0 m c t) := by dsimp only [dats]

/-- Each input's staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = X0_5 m c t :=
  before0_5_of m (dats m 0 c) (A_eq m c 5) (after0_5 m c) t d
theorem before0_6 (c : Dev nD) (t : Fin cfg0.N) (d) : (dats m 0 c).before 6 t d = X0_6 m c t :=
  before0_6_of m (dats m 0 c) (A_eq m c 6) (after0_6 m c) t d
theorem before0_7 (c : Dev nD) (t : Fin cfg0.N) (d) : (dats m 0 c).before 7 t d = X0_7 m c t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = X0_9 m c t :=
  before0_9_of m (dats m 0 c) (A_eq m c 9) (after0_9 m c) t d
theorem before0_10 (c : Dev nD) (t : Fin cfg0.N) (d) : (dats m 0 c).before 10 t d = X0_10 m c t :=
  before0_10_of m (dats m 0 c) (A_eq m c 10) (after0_10 m c) t d
theorem before0_11 (c : Dev nD) (t : Fin cfg0.N) (d) : (dats m 0 c).before 11 t d = X0_11 m c t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
theorem before0_19 (c : Dev nD) (t : Fin cfg0.N) (d) : (dats m 0 c).before 19 t d = iblk m c 19 t :=
  before0_19_of m (dats m 0 c) (A_eq m c 19) (after0_19 m c) t d
theorem before0_20 (c : Dev nD) (t : Fin cfg0.N) (d) : (dats m 0 c).before 20 t d = iblk m c 20 t :=
  before0_20_of m (dats m 0 c) (A_eq m c 20) (after0_20 m c) t d
theorem before0_21 (c : Dev nD) (t : Fin cfg0.N) (d) : (dats m 0 c).before 21 t d = iblk m c 21 t :=
  before0_21_of m (dats m 0 c) (A_eq m c 21) (after0_21 m c) t d
theorem before0_22 (c : Dev nD) (t : Fin cfg0.N) (d) : (dats m 0 c).before 22 t d = iblk m c 22 t :=
  before0_22_of m (dats m 0 c) (A_eq m c 22) (after0_22 m c) t d
theorem before0_23 (c : Dev nD) (t : Fin cfg0.N) (d) : (dats m 0 c).before 23 t d = iblk m c 23 t :=
  before0_23_of m (dats m 0 c) (A_eq m c 23) (after0_23 m c) t d
theorem before0_24 (c : Dev nD) (t : Fin cfg0.N) (d) : (dats m 0 c).before 24 t d = iblk m c 24 t :=
  before0_24_of m (dats m 0 c) (A_eq m c 24) (after0_24 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d))
    ∗ (∃ d, owns (c : Thread nD τ) (ms0_24 t) fullShare ((dats m 0 c).before 24 t d))
    ∗ (∃ d, owns (c : Thread nD τ) (ms0_25 t) fullShare ((dats m 0 c).before 25 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t)
    ∗ owns (c : Thread nD τ) (ms0_23 t) fullShare ((dats m 0 c).after 23 t)
    ∗ owns (c : Thread nD τ) (ms0_24 t) fullShare ((dats m 0 c).after 24 t)
    ∗ owns (c : Thread nD τ) (ms0_25 t) fullShare ((dats m 0 c).after 25 t))

set_option maxHeartbeats 2400000 in
/-- The body at any point: the inputs' memrefs hold their blocks (`before0_W`); so the
    run applies; the invariant passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20, before0_21, before0_22, before0_23, before0_24]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25]
  unfold outsAt0
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩⟩
  iapply (mergeRun c (grid0.coords t) _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (X0_5 m c t) (X0_6 m c t) (X0_7 m c t) (iblk m c 8 t) (X0_9 m c t) (X0_10 m c t) (X0_11 m c t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexists _; iexact H25
  iintro ⟨H0, H1, H2, H3, H4, H5, H6, H7, H8, H9, H10, H11, H12, H13, H14, H15, H16, H17, H18, H19, H20, H21, H22, H23, H24, H25⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  iexact H25

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

set_option maxHeartbeats 4000000 in
/-- The body's obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
/-- The run, with every semaphore counter at zero in every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- Every execution ends, with every array of the pipeline at what the points leave and every other buffer as it was. -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  frame_of m ρ (dats m) (A_eq m) (run_main m ρ)

/-- The run leaves the arguments as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19))
      ∧ r.2.sem = fun _ => 0) :=
  θ_run_and (unchanged m ρ) ((θ_run defs _ _).mono (fun _ h => h.2) (run_main_quiescent m ρ))

/-- After the run the result array is what the points leave in it, block by block. -/
theorem run_blocks : θ_run defs (onTc (τ := τ) (main (F := F))) ⟨m, fun _ => 0, ρ⟩ fun r => ∀ c : Dev nD,
      r.2.mem ((c : Thread nD τ).loc main_v31) = (dats m 0 c).arrAt 25 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19) :=
  (θ_run defs _ _).mono (fun _ h c => ⟨(h.1 c).1 25, h.2 c⟩) (θ_run_and (run_main m ρ) (unchanged m ρ))

end Cert.Merge

end
-- ==== Proof.MergeReads.lean ====
/-
  The reference's merge layer, stage by stage: the normalization, the bonus, the gated branches and the result, read at an index.
-/
module

public import proofs.«01_k».proof.Proof.MergeRow
public import proofs.«01_k».proof.Proof.FfnReads
public import proofs.«01_k».proof.Proof.Gen.Reference4Ideal.Read

@[expose] public section

set_option maxRecDepth 16384

noncomputable section

namespace Cert.Merge

open Idealize.ShloMosaic Idealize.ShloMosaic.Tactic
open Cert.Reference4Ideal Cert.Reference4Ideal.Gen Cert.Reference4Ideal.Read

variable (x0 : (⟨S8x2048x1024, .f32⟩ : BufTy).Contents (Elt Ideal)) (x1 : (⟨S8x256x1024, .f32⟩ : BufTy).Contents (Elt Ideal))
  (x2 : (⟨S8x6144, .f32⟩ : BufTy).Contents (Elt Ideal)) (x3 : (⟨S6144, .f32⟩ : BufTy).Contents (Elt Ideal))
  (x4 x5 : (⟨S8x2304x1024, .f32⟩ : BufTy).Contents (Elt Ideal)) (x6 : (⟨S8x2304x2x1024, .f32⟩ : BufTy).Contents (Elt Ideal))
  (x7 : (⟨S8x2304x11776, .f32⟩ : BufTy).Contents (Elt Ideal)) (x8 : (⟨S8x2304x1024, .f32⟩ : BufTy).Contents (Elt Ideal))
  (x9 : (⟨S8x2048x1024, .f32⟩ : BufTy).Contents (Elt Ideal)) (x10 : (⟨S8x256x1024, .f32⟩ : BufTy).Contents (Elt Ideal))
  (x11 : (⟨S160x1024, .f32⟩ : BufTy).Contents (Elt Ideal)) (x12 : (⟨S1024, .f32⟩ : BufTy).Contents (Elt Ideal))
  (x13 : (⟨S16x64, .f32⟩ : BufTy).Contents (Elt Ideal)) (x14 x15 : (⟨S1024, .f32⟩ : BufTy).Contents (Elt Ideal))
  (x16 x17 x18 x19 : (⟨S1024x1024, .f32⟩ : BufTy).Contents (Elt Ideal))

/-- The arguments. -/
def refArgs : Args where
  x b r c := x0 (ix3 b r c)
  xc b r c := x1 (ix3 b r c)
  ml b j := x2 (ix2 b j)
  mc j := x3 (ix1 j)
  yf b r c := x4 (ix3 b r c)
  yb b r c := x5 (ix3 b r c)
  a b r p c := x6 (ix4 b r p c)
  p b r j := x7 (ix3 b r j)
  ba b r c := x8 (ix3 b r c)
  bl b r c := x9 (ix3 b r c)
  bc b r c := x10 (ix3 b r c)
  g d c := x11 (ix2 d c)
  ka c := x12 (ix1 c)
  rk h e := x13 (ix2 h e)
  lnw c := x14 (ix1 c)
  lnb c := x15 (ix1 c)
  wa d c := x16 (ix2 d c)
  wb d c := x17 (ix2 d c)
  wc d c := x18 (ix2 d c)
  wo d c := x19 (ix2 d c)

/-! ## The normalization -/

theorem ref_sums (b : Fin 8) (r : Fin 2304) (h : Fin 16) :
    val_main_v20 (F := Ideal) x4 x5 (ix3 b r h) = headAt (fun c => x4 (ix3 b r c) + x5 (ix3 b r c)) h := by
  unfold headAt lane val_main_v20 val_main_v19 val_main_v18 val_main_cst_1
  pointwise

theorem ref_centred (b : Fin 8) (r : Fin 2304) (h : Fin 16) (e : Fin 64) :
    val_main_v25 (F := Ideal) x4 x5 (ix4 b r h e) = centred (fun c => x4 (ix3 b r c) + x5 (ix3 b r c)) (lane h e) := by
  unfold centred
  rw [headSum_lane, ← ref_sums]
  unfold lane val_main_v25 val_main_v24 val_main_v23 val_main_v22 val_main_v21 val_main_cst_2 val_main_v19 val_main_v18
  generalize val_main_v20 (F := Ideal) x4 x5 = s
  pointwise

theorem ref_squares (b : Fin 8) (r : Fin 2304) (h : Fin 16) (y : Fin 1024 → EReal)
    (hy : y = fun c => x4 (ix3 b r c) + x5 (ix3 b r c)) :
    val_main_v27 (F := Ideal) x4 x5 (ix3 b r h) = headAt (fun d => centred y d * centred y d) h := by
  subst hy
  unfold headAt
  simp only [← ref_centred]
  unfold val_main_v27 val_main_v26 val_main_cst_3
  generalize val_main_v25 (F := Ideal) x4 x5 = s
  pointwise

theorem ref_norm (b : Fin 8) (r : Fin 2304) (c : Fin 1024) :
    val_main_v44 (F := Ideal) x4 x5 x14 x15 (ix3 b r c)
      = normRow (fun c => x4 (ix3 b r c) + x5 (ix3 b r c)) (fun c => x14 (ix1 c)) (fun c => x15 (ix1 c)) c := by
  have e32 : val_main_v32 (F := Ideal) x4 x5 = val_main_v25 (F := Ideal) x4 x5 := rfl
  have h37 (h : Fin 16) (e : Fin 64) : val_main_v37 (F := Ideal) x4 x5 (ix4 b r h e)
      = val_main_v25 (F := Ideal) x4 x5 (ix4 b r h e) * Ideal.rsqrt (Ideal.div (val_main_v27 (F := Ideal) x4 x5 (ix3 b r h))
        (Ideal.ofBits .f32 0x42800000#32) + Ideal.ofBits .f32 0x3A27C5AC#32) := by
    unfold val_main_v37 val_main_v36 val_main_v35 val_main_v34 val_main_v33 val_main_cst_5 val_main_v30 val_main_v29 val_main_v28
      val_main_cst_4
    rw [e32]
    generalize val_main_v25 (F := Ideal) x4 x5 = s
    generalize val_main_v27 (F := Ideal) x4 x5 = q
    pointwise
  have h44 : val_main_v44 (F := Ideal) x4 x5 x14 x15 (ix3 b r c)
      = val_main_v37 (F := Ideal) x4 x5 (ix4 b r (headOf c) (posOf c)) * x14 (ix1 c) + x15 (ix1 c) := by
    unfold headOf posOf val_main_v44 val_main_v43 val_main_v42 val_main_v41 val_main_v40 val_main_v39 val_main_v38
    generalize val_main_v37 (F := Ideal) x4 x5 = s
    pointwise
  unfold normRow
  rw [h44, h37, ref_centred, lane_headOf, ref_squares x4 x5 b r _ _ rfl]
  rfl

/-! ## The bonus -/

theorem ref_key (b : Fin 8) (r : Fin 2304) (c : Fin 1024) :
    val_main_v49 (F := Ideal) x6 x7 x12 (ix3 b r c) = keyRow (fun c => x7 (ix3 b r ⟨9216 + c.val, by omega⟩)) (fun c => x6 (ix4 b r 0 c))
      (fun c => x6 (ix4 b r 1 c)) (fun c => x12 (ix1 c)) c := by
  have h17 (p : Fin 2) : val_main_v17 (F := Ideal) x6 x7 x12 (ix4 b r p c) = x7 (ix3 b r ⟨9216 + c.val, by omega⟩)
      * (Ideal.ofBits .f32 0x3F800000#32 + (x6 (ix4 b r p c) - Ideal.ofBits .f32 0x3F800000#32) * x12 (ix1 c)) := by
    unfold val_main_v17 val_main_v16 val_main_v15 val_main_v14 val_main_cst_0 val_main_v13 val_main_v12 val_main_v11 val_main_v10
      val_main_v9 val_main_cst val_main_v8 val_main_v3 val_main_v1
    pointwise
    exact congrArg (fun q => x7 (ix3 b r q) * _) (Fin.ext (by dsimp only; omega))
  unfold keyRow
  rw [← h17, ← h17]
  unfold val_main_v49 val_main_v48 val_main_v47 val_main_v46 val_main_v45
  generalize val_main_v17 (F := Ideal) x6 x7 x12 = s
  pointwise

theorem ref_prod (b : Fin 8) (r : Fin 2304) (h : Fin 16) (e : Fin 64) :
    val_main_v54 (F := Ideal) x6 x7 x12 x13 (ix4 b r h e) = prodRow (fun c => x7 (ix3 b r ⟨8192 + c.val, by omega⟩))
      (fun c => x7 (ix3 b r ⟨9216 + c.val, by omega⟩)) (fun c => x6 (ix4 b r 0 c))
      (fun c => x6 (ix4 b r 1 c)) (fun c => x12 (ix1 c)) (fun c => x13 (ix2 (headOf c) (posOf c))) (lane h e) := by
  unfold prodRow
  dsimp only
  rw [headOf_lane, posOf_lane, ← ref_key]
  unfold lane val_main_v54 val_main_v53 val_main_v52 val_main_v51 val_main_v50 val_main_v6 val_main_v2 val_main_v1
  generalize val_main_v49 (F := Ideal) x6 x7 x12 = s
  pointwise

theorem ref_bonus (b : Fin 8) (r : Fin 2304) (c : Fin 1024) :
    val_main_v66 (F := Ideal) x6 x7 x12 x13 (ix3 b r c) = bonusRow (fun c => x7 (ix3 b r ⟨8192 + c.val, by omega⟩))
      (fun c => x7 (ix3 b r ⟨9216 + c.val, by omega⟩)) (fun c => x7 (ix3 b r ⟨10240 + c.val, by omega⟩)) (fun c => x6 (ix4 b r 0 c))
      (fun c => x6 (ix4 b r 1 c)) (fun c => x12 (ix1 c)) (fun c => x13 (ix2 (headOf c) (posOf c))) c := by
  have h55 (h : Fin 16) : val_main_v55 (F := Ideal) x6 x7 x12 x13 (ix3 b r h)
      = ∑ e : Fin 64, val_main_v54 (F := Ideal) x6 x7 x12 x13 (ix4 b r h e) := by
    unfold val_main_v55 val_main_cst_6
    generalize val_main_v54 (F := Ideal) x6 x7 x12 x13 = s
    pointwise
  have h66 : val_main_v66 (F := Ideal) x6 x7 x12 x13 (ix3 b r c)
      = val_main_v55 (F := Ideal) x6 x7 x12 x13 (ix3 b r (headOf c)) * x7 (ix3 b r ⟨10240 + c.val, by omega⟩) := by
    unfold headOf val_main_v66 val_main_v58 val_main_v57 val_main_v56 val_main_v7 val_main_v4 val_main_v1
    generalize val_main_v55 (F := Ideal) x6 x7 x12 x13 = s
    pointwise
    exact congrArg (fun q => _ * x7 (ix3 b r q)) (Fin.ext (by dsimp only; omega))
  rw [h66, h55]
  unfold bonusRow headSum headAt
  exact congrArg (· * _) (Finset.sum_congr rfl fun e _ => ref_prod x6 x7 x12 x13 b r _ e)

/-! ## The branches -/

theorem ref_low (b : Fin 8) (r : Fin 2304) (c : Fin 1024) :
    val_main_v65 (F := Ideal) x7 x11 (ix3 b r c)
      = lowRow (fun d => x7 (ix3 b r ⟨11520 + d.val, by omega⟩)) (fun d c => x11 (ix2 d c)) c := by
  unfold lowRow Ideal.logistic
  rw [← Cert.Ffn.ofBits_one]
  unfold val_main_v65 val_main_v64 val_main_v63 val_main_cst_8 val_main_v62 val_main_v61 val_main_cst_7 val_main_v60 val_main_v59
    val_main_v5
  pointwise

theorem ref_gate (b : Fin 8) (r : Fin 2304) (n : Fin 3) (c : Fin 1024) (j : Fin 11776) (hj : j.val = 5120 + (n.val * 1024 + c.val)) :
    val_main_v76 (F := Ideal) x7 (ix4 b r n c) = Ideal.logistic (x7 (ix3 b r j)) := by
  have e : j = ⟨5120 + (n.val * 1024 + c.val), by omega⟩ := Fin.ext hj
  rw [e]
  unfold Ideal.logistic
  rw [← Cert.Ffn.ofBits_one]
  unfold val_main_v76 val_main_v75 val_main_v74 val_main_cst_10 val_main_v73 val_main_v72 val_main_cst_9 val_main_v71 val_main_v70
    val_main_v0
  pointwise

theorem ref_sum (b : Fin 8) (r : Fin 2304) (c : Fin 1024) :
    val_main_v90 (F := Ideal) x4 x5 x6 x7 x8 x9 x10 x11 x12 x13 x14 x15 x16 x17 x18 (ix3 b r c)
      = sumRow (refArgs x0 x1 x2 x3 x4 x5 x6 x7 x8 x9 x10 x11 x12 x13 x14 x15 x16 x17 x18 x19).weights
        ((refArgs x0 x1 x2 x3 x4 x5 x6 x7 x8 x9 x10 x11 x12 x13 x14 x15 x16 x17 x18 x19).row b r) c := by
  have h68 (d : Fin 1024) : val_main_v68 (F := Ideal) x4 x5 x6 x7 x11 x12 x13 x14 x15 (ix3 b r d)
      = timeRow (refArgs x0 x1 x2 x3 x4 x5 x6 x7 x8 x9 x10 x11 x12 x13 x14 x15 x16 x17 x18 x19).weights
        ((refArgs x0 x1 x2 x3 x4 x5 x6 x7 x8 x9 x10 x11 x12 x13 x14 x15 x16 x17 x18 x19).row b r) d := by
    unfold timeRow Args.weights Args.row refArgs
    dsimp only
    rw [← ref_norm, ← ref_bonus, ← ref_low]
    rfl
  have h69 (d : Fin 1024) : val_main_v69 (F := Ideal) x9 x10 (ix3 b r d)
      = joined (fun b r c => x10 (ix3 b r c)) (fun b r c => x9 (ix3 b r c)) b r d := by
    unfold joined val_main_v69
    pointwise
  have h : val_main_v90 (F := Ideal) x4 x5 x6 x7 x8 x9 x10 x11 x12 x13 x14 x15 x16 x17 x18 (ix3 b r c)
      = val_main_v76 (F := Ideal) x7 (ix4 b r 0 c) * (∑ d : Fin 1024, x8 (ix3 b r d) * x16 (ix2 d c))
        + val_main_v76 (F := Ideal) x7 (ix4 b r 1 c) * (∑ d : Fin 1024, val_main_v69 (F := Ideal) x9 x10 (ix3 b r d) * x17 (ix2 d c))
        + val_main_v76 (F := Ideal) x7 (ix4 b r 2 c)
          * (∑ d : Fin 1024, val_main_v68 (F := Ideal) x4 x5 x6 x7 x11 x12 x13 x14 x15 (ix3 b r d) * x18 (ix2 d c)) := by
    unfold val_main_v90 val_main_v89 val_main_v88 val_main_v87 val_main_v86 val_main_v85 val_main_v84 val_main_v83 val_main_v82
      val_main_v81 val_main_v80 val_main_v79 val_main_v78 val_main_v77
    generalize val_main_v76 (F := Ideal) x7 = g
    generalize val_main_v69 (F := Ideal) x9 x10 = u
    generalize val_main_v68 (F := Ideal) x4 x5 x6 x7 x11 x12 x13 x14 x15 = v
    pointwise
  rw [h, ref_gate x7 b r 0 c ⟨5120 + c.val, by omega⟩ (by simp), ref_gate x7 b r 1 c ⟨6144 + c.val, by omega⟩ (by simp; omega),
    ref_gate x7 b r 2 c ⟨7168 + c.val, by omega⟩ (by simp; omega)]
  simp only [h68, h69]
  rfl

/-- The reference's result. -/
theorem ref_out (b : Fin 8) (r : Fin 2304) (c : Fin 1024) :
    val_main_v114 (F := Ideal) x0 x1 x2 x3 x4 x5 x6 x7 x8 x9 x10 x11 x12 x13 x14 x15 x16 x17 x18 x19 (ix3 b r c)
      = result (refArgs x0 x1 x2 x3 x4 x5 x6 x7 x8 x9 x10 x11 x12 x13 x14 x15 x16 x17 x18 x19) b r c := by
  have e (d : Fin 1024) := ref_sum x0 x1 x2 x3 x4 x5 x6 x7 x8 x9 x10 x11 x12 x13 x14 x15 x16 x17 x18 x19 b r d
  have h91 : val_main_v91 (F := Ideal) x4 x5 x6 x7 x8 x9 x10 x11 x12 x13 x14 x15 x16 x17 x18 x19 (ix3 b r c)
      = ∑ d : Fin 1024, val_main_v90 (F := Ideal) x4 x5 x6 x7 x8 x9 x10 x11 x12 x13 x14 x15 x16 x17 x18 (ix3 b r d) * x19 (ix2 d c) := by
    unfold val_main_v91
    generalize val_main_v90 (F := Ideal) x4 x5 x6 x7 x8 x9 x10 x11 x12 x13 x14 x15 x16 x17 x18 = s
    pointwise
  have h : val_main_v114 (F := Ideal) x0 x1 x2 x3 x4 x5 x6 x7 x8 x9 x10 x11 x12 x13 x14 x15 x16 x17 x18 x19 (ix3 b r c)
      = joined (fun b r c => x1 (ix3 b r c)) (fun b r c => x0 (ix3 b r c)) b r c + gateOf (fun j => x3 (ix1 j)) (fun b j => x2 (ix2 b j)) b r c
        * val_main_v91 (F := Ideal) x4 x5 x6 x7 x8 x9 x10 x11 x12 x13 x14 x15 x16 x17 x18 x19 (ix3 b r c) := by
    unfold val_main_v114 val_main_v113 val_main_v112 val_main_v111 val_main_v110 val_main_v109 val_main_v108 val_main_v107 val_main_v106
      val_main_v105 val_main_v101 val_main_v95 val_main_v92
    generalize val_main_v91 (F := Ideal) x4 x5 x6 x7 x8 x9 x10 x11 x12 x13 x14 x15 x16 x17 x18 x19 = s
    unfold joined gateOf
    by_cases hr : r.val < 256
    · rw [dif_pos hr, if_pos hr]
      pointwise
      rw [dif_pos hr]
    · rw [dif_neg hr, if_neg hr]
      pointwise
      rw [dif_neg hr]
      exact congrArg (fun q => _ + _ * s (ix3 b q c)) (Fin.ext (by dsimp only; omega))
  rw [h, h91]
  simp only [e]
  rfl

end Cert.Merge

end
-- ==== Proof.MergeFinal.lean ====
/-
  The merge call's array: each point's block is the rows of the result, so the array is the result.
-/
module

public import proofs.«01_k».proof.Proof.MergeBlocks
public import proofs.«01_k».proof.Proof.MergeBlock
public import proofs.«01_k».proof.Proof.MergeSameLanes
public import proofs.«01_k».proof.Proof.MergeFrame
public import proofs.«01_k».proof.Proof.MergeReads
public import proofs.«01_k».proof.Proof.ProjSpec

@[expose] public section

set_option maxRecDepth 16384

noncomputable section

namespace Cert.Merge

open Idealize.ShloMosaic Idealize.ShloMosaic.TcCoe Idealize.ShloMosaic.Tactic
open Cert.Kernel4Ideal Cert.Kernel4Ideal.Gen Cert.Attn

variable (m : (ℓ : Loc nD τ sig) → Buf (Elt Ideal) ℓ) (c : Dev nD)

/-- The arguments of the layer. -/
def args : Args := refArgs (arg0 m c) (arg1 m c) (arg2 m c) (arg3 m c) (arg4 m c) (arg5 m c) (arg6 m c) (arg7 m c) (arg8 m c) (arg9 m c)
  (arg10 m c) (arg11 m c) (arg12 m c) (arg13 m c) (arg14 m c) (arg15 m c) (arg16 m c) (arg17 m c) (arg18 m c) (arg19 m c)

/-- The result as an array. -/
def resultArray : S8x2304x1024.Idx → EReal := fun i =>
  result (args m c) ⟨(i 0).val, (i 0).isLt⟩ ⟨(i 1).val, (i 1).isLt⟩ ⟨(i 2).val, (i 2).isLt⟩

/-- What the two head by head sums are taken of is real numbers. -/
structure Reals : Prop where
  yf (i) : IsReal (arg4 m c i)
  yb (i) : IsReal (arg5 m c i)
  a (i) : IsReal (arg6 m c i)
  p (b : Fin 8) (r : Fin 2304) (j : Fin 2048) : IsReal (arg7 m c (ix3 b r ⟨8192 + j.val, by omega⟩))
  ka (i) : IsReal (arg12 m c i)
  rk (i) : IsReal (arg13 m c i)

/-- Whether row `i` of the rows of point `n` lies past the 256 context rows, -/
theorem latent_iff (n : ℕ) (hn : n < 9) (i : Fin 256) :
    IntOp.cmpi .sge (Scalar.muli (BitVec.ofNat 32 n) 256#32 + BitVec.ofNat 32 i.val) 256#32
      = if 256 * n + i.val < 256 then 0#1 else 1#1 := by
  have h : ∀ (n : Fin 9) (i : Fin 256), IntOp.cmpi .sge (Scalar.muli (BitVec.ofNat 32 n.val) 256#32 + BitVec.ofNat 32 i.val) 256#32
      = if 256 * n.val + i.val < 256 then 0#1 else 1#1 := by decide +kernel
  exact h ⟨n, hn⟩ i

/-- and whether the point's rows are the context's. -/
theorem context_iff (n : ℕ) (hn : n < 9) :
    Scalar.cmpi .slt (Scalar.muli (BitVec.ofNat 32 n) 256#32) 256#32 = if n = 0 then 1#1 else 0#1 := by
  have h : ∀ n : Fin 9, Scalar.cmpi .slt (Scalar.muli (BitVec.ofNat 32 n.val) 256#32) 256#32 = if n.val = 0 then 1#1 else 0#1 := by
    decide +kernel
  exact h ⟨n, hn⟩

theorem select_one (x y : EReal) : Scalar.select 1#1 x y = x := rfl
theorem select_zero (x y : EReal) : Scalar.select 0#1 x y = y := rfl

variable {m c}

theorem key_real {r k a0 a1 ka rk : Fin 1024 → EReal} {l : Fin 1024} (hr : IsReal (r l)) (hk : IsReal (k l)) (h0 : IsReal (a0 l))
    (h1 : IsReal (a1 l)) (hka : IsReal (ka l)) (hrk : IsReal (rk l)) : IsReal (prodRow r k a0 a1 ka rk l) := by
  have one : IsReal (Ideal.ofBits .f32 0x3F800000#32) := ⟨1, Cert.Proj.ofBits_one⟩
  unfold prodRow keyRow
  exact (hr.mul ((hk.mul (one.add ((h0.sub one).mul hka))).add (hk.mul (one.add ((h1.sub one).mul hka))))).mul hrk

/-- The gate of a row. -/
theorem gate_row (t : Fin cfg0.N) (i : Fin 256) (l : Fin 1024) (b : Fin 8) (hb : b.val = t.val / 9) :
    Scalar.select (IntOp.cmpi .sge (Scalar.muli (BitVec.ofNat 32 (t.val % 9)) 256#32 + BitVec.ofNat 32 i.val) 256#32)
        (iblk m c 1 t (ix3 0 5 l) : EReal) (iblk m c 1 t (ix3 0 4 l))
      = gateOf (args m c).mc (args m c).ml b ⟨256 * (t.val % 9) + i.val, by omega⟩ l := by
  have hN : t.val < 72 := t.isLt
  have hm (j : Fin 12) : (iblk m c 1 t (ix3 0 j l) : EReal) = V m c (Pipeline.arrRef spec0 1) (ix3 b j l) :=
    (read1 (V m c (Pipeline.arrRef spec0 1)) t j l).trans
      (congrArg (fun q => (V m c (Pipeline.arrRef spec0 1) (ix3 q j l) : EReal)) (Fin.ext hb.symm))
  have e5 : (iblk m c 1 t (ix3 0 5 l) : EReal) = arg2 m c (ix2 b ⟨2048 + l.val, by omega⟩) :=
    (hm 5).trans ((entry_mod_at m c b 5 l).trans (dif_neg (by decide)))
  have e4 : (iblk m c 1 t (ix3 0 4 l) : EReal) = arg3 m c (ix1 ⟨2048 + l.val, by omega⟩) :=
    (hm 4).trans ((entry_mod_at m c b 4 l).trans (dif_pos (by decide)))
  rw [latent_iff _ (by omega), e5, e4]
  show _ = if 256 * (t.val % 9) + i.val < 256 then arg3 m c (ix1 ⟨2048 + l.val, by omega⟩) else arg2 m c (ix2 b ⟨2048 + l.val, by omega⟩)
  by_cases h : 256 * (t.val % 9) + i.val < 256
  · rw [if_pos h, if_pos h, select_zero]
  · rw [if_neg h, if_neg h, select_one]

/-- The row of the second branch. -/
theorem branch_row (t : Fin cfg0.N) (i : Fin 256) (l : Fin 1024) :
    Scalar.select (Scalar.cmpi .slt (Scalar.muli (BitVec.ofNat 32 (t.val % 9)) 256#32) 256#32)
        (iblk m c 13 t (ix3 0 i l) : EReal) (iblk m c 14 t (ix3 0 i l))
      = joined (args m c).bc (args m c).bl ⟨t.val / 9, by have : t.val < 72 := t.isLt; omega⟩ ⟨256 * (t.val % 9) + i.val, by omega⟩ l := by
  have hN : t.val < 72 := t.isLt
  have ec : (iblk m c 13 t (ix3 0 i l) : EReal) = arg10 m c (ix3 ⟨t.val / 9, by omega⟩ i l) :=
    (read13 (V m c (Pipeline.arrRef spec0 13)) t i l).trans (entry_bc m c _ _ _)
  have el : (iblk m c 14 t (ix3 0 i l) : EReal) = arg9 m c (ix3 ⟨t.val / 9, by omega⟩ ⟨256 * (t.val % 9 - 1) + i.val, by omega⟩ l) :=
    (read14 (V m c (Pipeline.arrRef spec0 14)) t i l).trans (entry_bl m c _ _ _)
  rw [context_iff _ (by omega), ec, el]
  unfold joined
  by_cases h : t.val % 9 = 0
  · rw [if_pos h, dif_pos (by dsimp only; omega), select_one]
    exact congrArg (fun q => arg10 m c (ix3 _ q l)) (Fin.ext (by dsimp only; omega))
  · rw [if_neg h, dif_neg (by dsimp only; omega), select_zero]
    exact congrArg (fun q => arg9 m c (ix3 _ q l)) (Fin.ext (by dsimp only; omega))

/-- What point `t` reads for its row `i`. -/
theorem holds (hR : Reals m c) (t : Fin cfg0.N) (i : Fin 256) :
    Holds (Scalar.muli (BitVec.ofNat 32 (t.val % 9)) 256#32) (iblk m c 0 t) (iblk m c 1 t) (iblk m c 2 t) (iblk m c 3 t) (iblk m c 4 t)
      (X0_5 m c t) (X0_6 m c t) (X0_7 m c t) (iblk m c 8 t) (X0_9 m c t) (X0_10 m c t) (X0_11 m c t) (iblk m c 12 t) (iblk m c 13 t)
      (iblk m c 14 t) (iblk m c 15 t) (iblk m c 16 t) (iblk m c 17 t) (iblk m c 18 t) (iblk m c 19 t) (iblk m c 20 t) (iblk m c 21 t)
      (iblk m c 22 t) (iblk m c 23 t) (iblk m c 24 t) (args m c).weights
      ((args m c).row ⟨t.val / 9, by have : t.val < 72 := t.isLt; omega⟩ ⟨256 * (t.val % 9) + i.val, by omega⟩) i where
  x l := (read0 (V m c (Pipeline.arrRef spec0 0)) t i l).trans (entry_x m c _ _ _)
  gt l := gate_row t i l _ rfl
  y l := congrArg₂ (fun p q : EReal => p + q) ((read2 (V m c (Pipeline.arrRef spec0 2)) t i l).trans (entry_yf m c _ _ _))
    ((read3 (V m c (Pipeline.arrRef spec0 3)) t i l).trans (entry_yb m c _ _ _))
  a0 l := (read4 (V m c (Pipeline.arrRef spec0 4)) t 0 i l).trans (entry_a m c _ _ _ _)
  a1 l := (read4 (V m c (Pipeline.arrRef spec0 4)) t 1 i l).trans (entry_a m c _ _ _ _)
  r l := (cut5 m c t i l).trans (entry_p m c _ _ _)
  k l := (cut6 m c t i l).trans (entry_p m c _ _ _)
  v l := (cut7 m c t i l).trans (entry_p m c _ _ _)
  z d := ((read8 (V m c main_v19) t i ⟨256 + d.val, by omega⟩).trans (entry_p m c _ _ _)).trans
    (congrArg (fun q => arg7 m c (ix3 _ _ q)) (Fin.ext (by dsimp only; omega)))
  ga l := (cut9 m c t i l).trans (entry_p m c _ _ _)
  gb l := (cut10 m c t i l).trans (entry_p m c _ _ _)
  gc l := (cut11 m c t i l).trans (entry_p m c _ _ _)
  ba l := (read12 (V m c (Pipeline.arrRef spec0 12)) t i l).trans (entry_ba m c _ _ _)
  bb l := branch_row t i l
  lnw l := (read15 (V m c (Pipeline.arrRef spec0 15)) t l).trans (entry_lnw m c l)
  lnb l := (read16 (V m c (Pipeline.arrRef spec0 16)) t l).trans (entry_lnb m c l)
  rk l := (read17 (V m c (Pipeline.arrRef spec0 17)) t l).trans (entry_rk m c l)
  ka l := (read18 (V m c (Pipeline.arrRef spec0 18)) t l).trans (entry_ka m c l)
  g d l := (read19 (V m c (Pipeline.arrRef spec0 19)) t d l).trans (entry_g m c d l)
  same p q := (read20 (V m c (Pipeline.arrRef spec0 20)) t p q).trans (entry_same m c p q)
  wa d l := (read21 (V m c (Pipeline.arrRef spec0 21)) t d l).trans (entry_wa m c d l)
  wb d l := (read22 (V m c (Pipeline.arrRef spec0 22)) t d l).trans (entry_wb m c d l)
  wc d l := (read23 (V m c (Pipeline.arrRef spec0 23)) t d l).trans (entry_wc m c d l)
  wo d l := (read24 (V m c (Pipeline.arrRef spec0 24)) t d l).trans (entry_wo m c d l)
  yReal l := (hR.yf _).add (hR.yb _)
  prodReal l := key_real (hR.p _ _ ⟨l.val, by omega⟩)
    ((congrArg (fun q => IsReal (arg7 m c (ix3 _ _ q))) (Fin.ext (by dsimp only; omega))).mp (hR.p _ _ ⟨1024 + l.val, by omega⟩))
    (hR.a _) (hR.a _) (hR.ka _) (hR.rk _)

/-- The block that point `t` leaves. -/
theorem block_out (hR : Reals m c) (t : Fin cfg0.N) (i : Fin 256) (l : Fin 1024) :
    ((dats m 0 c).after 25 t (ix3 0 i l) : EReal)
      = result (args m c) ⟨t.val / 9, by have : t.val < 72 := t.isLt; omega⟩ ⟨256 * (t.val % 9) + i.val, by omega⟩ l := by
  rw [after0_25]
  unfold outsAt0
  rw [coord1]
  exact blockOut_apply (holds hR t i) l

theorem final_array (hR : Reals m c) : (dats m 0 c).arrAt 25 cfg0.N = resultArray m c := by
  refine (dats m 0 c).arrAt_eq_of_covers 25 _ (by decide +kernel) fun t hf y => ?_
  have hN : t.val < 72 := t.isLt
  blk_simp
  have hy0 : (y 0).val < 1 := (y 0).isLt
  have hy1 : (y 1).val < 256 := (y 1).isLt
  have hy2 : (y 2).val < 1024 := (y 2).isLt
  have hy : y = ix3 (⟨0, by omega⟩ : Fin 1) (⟨(y 1).val, hy1⟩ : Fin 256) (⟨(y 2).val, hy2⟩ : Fin 1024) := by
    funext k; fin_cases k
    · exact Fin.ext (by show (y 0).val = 0; omega)
    · rfl
    · rfl
  have e0 : ((win0_25.blk t).view.emb y 0).val = t.val / 9 := by
    blk_simp [index25 t]
  have e1 : ((win0_25.blk t).view.emb y 1).val = 256 * (t.val % 9) + (y 1).val := by
    blk_simp [index25 t]; omega
  have e2 : ((win0_25.blk t).view.emb y 2).val = (y 2).val := by
    blk_simp [index25 t]
  refine (congrArg _ hy).trans ((block_out hR t _ _).trans ?_)
  unfold resultArray
  congr 1
  · exact Fin.ext e0.symm
  · exact Fin.ext e1.symm
  · exact Fin.ext e2.symm

end Cert.Merge

end
-- ==== Proof.MergeSame.lean ====
/-
  The merge on bit patterns and on real numbers is one program: the two are the same text.
-/
module

public import proofs.«01_k».proof.Defs
public import proofs.«01_k».proof.Proof.Gen.Kernel4
public import proofs.«01_k».proof.Proof.Gen.Kernel4Ideal

@[expose] public section

set_option maxRecDepth 100000
set_option maxHeartbeats 8000000

namespace Cert.Merge

open Idealize.ShloMosaic

/-- The body of one grid step. -/
theorem body_same : @Kernel4.cc0_merge Bits _ Kernel4.Gen.facts = @Kernel4Ideal.cc0_merge Bits _ Kernel4Ideal.Gen.facts := by
  unfold Kernel4.cc0_merge Kernel4Ideal.cc0_merge
  with_unfolding_all rfl

/-- The table of the bodies. -/
theorem table_same : @Kernel4.defs₀ Bits _ Kernel4.Gen.facts = @Kernel4Ideal.defs₀ Bits _ Kernel4Ideal.Gen.facts := by
  unfold Kernel4.defs₀ Kernel4Ideal.defs₀
  rw [body_same]
  refine congrArg Defs.onTc (funext fun l => funext fun a => ?_)
  match l, a with
  | 0, (t, s) => with_unfolding_all rfl

/-- The table with the pipeline's own entries. -/
theorem defs_same : @Kernel4.defs Bits _ Kernel4.Gen.facts = @Kernel4Ideal.defs Bits _ Kernel4Ideal.Gen.facts :=
  congrArg (Pipeline.defs (Kernel4Ideal.pcfgs (F := Bits))) table_same

end Cert.Merge
-- ==== Proof.MergePre.lean ====
/-
  The precondition of the merge read: what the two head by head sums are taken of is real numbers.
-/
module

public import proofs.«01_k».proof.Defs
public import proofs.«01_k».proof.Proof.Gen.Pre_finite4
public import proofs.«01_k».proof.Proof.Pre
public import proofs.«01_k».proof.Proof.MergeReads

@[expose] public section

set_option maxRecDepth 16384

noncomputable section

namespace Cert.Merge

open Idealize.ShloMosaic Idealize.ShloMosaic.Tactic Cert.Pre_finite4 Cert.Pre_finite4.Facts Cert.Attn

theorem reals_of_pre (a0 : FVec Ideal S8x2048x1024 .f32) (a1 : FVec Ideal S8x256x1024 .f32) (a2 : FVec Ideal S8x6144 .f32) (a3 : FVec Ideal S6144 .f32) (a4 : FVec Ideal S8x2304x1024 .f32) (a5 : FVec Ideal S8x2304x1024 .f32) (a6 : FVec Ideal S8x2304x2x1024 .f32) (a7 : FVec Ideal S8x2304x11776 .f32) (a8 : FVec Ideal S8x2304x1024 .f32) (a9 : FVec Ideal S8x2048x1024 .f32) (a10 : FVec Ideal S8x256x1024 .f32) (a11 : FVec Ideal S160x1024 .f32) (a12 : FVec Ideal S1024 .f32) (a13 : FVec Ideal S16x64 .f32) (a14 : FVec Ideal S1024 .f32) (a15 : FVec Ideal S1024 .f32) (a16 : FVec Ideal S1024x1024 .f32) (a17 : FVec Ideal S1024x1024 .f32) (a18 : FVec Ideal S1024x1024 .f32) (a19 : FVec Ideal S1024x1024 .f32)
    (h : Cert.Pre_finite4.fn (F := Ideal) a0 a1 a2 a3 a4 a5 a6 a7 a8 a9 a10 a11 a12 a13 a14 a15 a16 a17 a18 a19 = fun _ => 1#1) :
    (∀ i, IsReal (a4 i)) ∧ (∀ i, IsReal (a5 i)) ∧ (∀ i, IsReal (a6 i))
      ∧ (∀ (b : Fin 8) (r : Fin 2304) (j : Fin 2048), IsReal (a7 (ix3 b r ⟨8192 + j.val, by omega⟩)))
      ∧ (∀ i, IsReal (a12 i)) ∧ ∀ i, IsReal (a13 i) := by
  have e : ∀ j, Cert.Pre_finite4.fn (F := Ideal) a0 a1 a2 a3 a4 a5 a6 a7 a8 a9 a10 a11 a12 a13 a14 a15 a16 a17 a18 a19 j = 1#1 := fun j => congrFun h j
  unfold fn fn_part1 at e
  have j : S_.Idx := fun a => a.elim0
  obtain ⟨e, h13⟩ := IntOp.andi_eq_one.1 (e j)
  obtain ⟨e, h12⟩ := IntOp.andi_eq_one.1 e
  obtain ⟨e, h7⟩ := IntOp.andi_eq_one.1 e
  obtain ⟨e, h6⟩ := IntOp.andi_eq_one.1 e
  obtain ⟨h4, h5⟩ := IntOp.andi_eq_one.1 e
  refine ⟨isReal_all _ _ _ _ j h4, isReal_all _ _ _ _ j h5, isReal_all _ _ _ _ j h6, fun b r l => ?_,
    isReal_all _ _ _ _ j h12, isReal_all _ _ _ _ j h13⟩
  have h := isReal_all _ _ _ _ j h7 (ix3 b r l)
  have hs : extractStridedSlice S8x2304x2048 ![0, 0, 8192] a7 slices_S8x2304x11776_S8x2304x2048_0_0_8192 (ix3 b r l)
      = a7 (ix3 b r ⟨8192 + l.val, by omega⟩) := by
    pointwise
  exact hs ▸ h

end Cert.Merge

end
-- ==== Proof.MergeClaims.lean ====
/-
  The claims of the merge call, one by one.
-/
module

public import proofs.«01_k».proof.Defs
public import proofs.«01_k».proof.Proof.MergeFinal
public import proofs.«01_k».proof.Proof.MergeSame
public import proofs.«01_k».proof.Proof.MergePre
public import proofs.«01_k».proof.Proof.Gen.Reference4Ideal

@[expose] public section

set_option maxRecDepth 16384

noncomputable section

namespace Cert.Merge

open Idealize.ShloMosaic Idealize.ShloMosaic.TcCoe Idealize.SL.Sem Idealize.ShloMosaic.Tactic

set_option maxHeartbeats 8000000 in
theorem frame_kernel : Cert.quiescent_Kernel4 := by
  intro m ρ _
  rw [defs_same]
  exact frame (F := Bits) m ρ

theorem frame_ideal : Cert.quiescent_Kernel4Ideal := fun m ρ _ => frame (F := Ideal) m ρ

theorem frame_reference : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

open Cert.Kernel4Ideal Cert.Kernel4Ideal.Gen

/-- What the head by head sums are taken of is real numbers. -/
theorem holds_of_pre (m : (ℓ : Loc nD τ sig) → Buf (Elt Ideal) ℓ) (h : Cert.Pre_Kernel4Ideal_finite4 m) (c : Dev nD) : Reals m c := by
  obtain ⟨h4, h5, h6, h7, h12, h13⟩ := reals_of_pre _ _ _ _ _ _ _ _ _ _ _ _ _ _ _ _ _ _ _ _ (h c)
  exact ⟨h4, h5, h6, h7, h12, h13⟩

/-- The reference's result is the kernel's. -/
theorem results_equal (m : (ℓ : Loc nD τ sig) → Buf (Elt Ideal) ℓ) (h : Cert.Pre_Kernel4Ideal_finite4 m) (c : Dev nD) :
    Cert.Reference4Ideal.Read.val_main_v114 (F := Ideal) (arg0 m c) (arg1 m c) (arg2 m c) (arg3 m c) (arg4 m c) (arg5 m c) (arg6 m c) (arg7 m c) (arg8 m c) (arg9 m c) (arg10 m c) (arg11 m c) (arg12 m c) (arg13 m c) (arg14 m c) (arg15 m c) (arg16 m c) (arg17 m c) (arg18 m c) (arg19 m c)
      = (dats m 0 c).arrAt 25 cfg0.N := by
  rw [final_array (holds_of_pre m h c)]
  funext i
  have e : i = ix3 (⟨(i 0).val, (i 0).isLt⟩ : Fin 8) (⟨(i 1).val, (i 1).isLt⟩ : Fin 2304) (⟨(i 2).val, (i 2).isLt⟩ : Fin 1024) :=
    funext fun a => match a with | ⟨0, _⟩ => rfl | ⟨1, _⟩ => rfl | ⟨2, _⟩ => rfl
  exact (congrArg _ e).trans (ref_out _ _ _ _ _ _ _ _ _ _ _ _ _ _ _ _ _ _ _ _ _ _ _)

theorem equal : Cert.algebraic_Kernel4Ideal_Reference4Ideal_pre_finite4 := fun m g m' g' hpre hargs =>
  ⟨fun c => (dats m 0 c).arrAt 25 cfg0.N, run_blocks (F := Ideal) m g,
    (θ_run Cert.Reference4Ideal.defs _ _).mono (fun r h c => ⟨(h c).1.trans (by
        obtain ⟨e0, e1, e2, e3, e4, e5, e6, e7, e8, e9, e10, e11, e12, e13, e14, e15, e16, e17, e18, e19⟩ := hargs c
        rw [Cert.Reference4Ideal.Read.val_main_v114_eq, e0, e1, e2, e3, e4, e5, e6, e7, e8, e9, e10, e11, e12, e13, e14, e15, e16, e17, e18, e19]
        exact results_equal m hpre c), (h c).2⟩)
      (Cert.Reference4Ideal.Value.run (F := Ideal) m' g')⟩

end Cert.Merge

end
-- ==== Proof.lean ====
/-
  The claims of the attention call, of the feed-forward call, of the input projection and of the merge: each runs to its end with its
  arguments unchanged and no semaphore raised, so does its reference, and the two end with equal results; for the attention
  from real queries, keys, values and lambda arguments, for the input projection from a real
  modulation, real weights and real mixing weights, for the merge from real numbers in the two sums over heads.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal.Run
public import proofs.«01_k».proof.Proof.Gen.ReferenceIdeal.Read
public import proofs.«01_k».proof.Proof.Gen.Pre_finite
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Loops
public import proofs.«01_k».proof.Proof.Gen.Reference3Ideal.Run
public import proofs.«01_k».proof.Proof.Gen.Reference3Ideal.Read
public import proofs.«01_k».proof.Proof.Gen.Pre_finite3
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Reference4Ideal.Run
public import proofs.«01_k».proof.Proof.Gen.Reference4Ideal.Read
public import proofs.«01_k».proof.Proof.Gen.Pre_finite4
public import proofs.«01_k».proof.Proof.Claims
public import proofs.«01_k».proof.Proof.FfnClaims
public import proofs.«01_k».proof.Proof.ProjClaims
public import proofs.«01_k».proof.Proof.MergeClaims
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Pre_finite.Gen.facts, Cert.Pre_finite3.Gen.facts, Cert.Pre_finite4.Gen.facts,
  Cert.Attn.frame_kernel, Cert.Attn.frame_ideal, fun m ρ _ => Cert.Attn.frame_ideal m ρ trivial, Cert.Attn.frame_reference,
  fun m ρ _ => Cert.Attn.frame_reference m ρ trivial, Cert.Ffn.frame_kernel, Cert.Ffn.frame_ideal, Cert.Ffn.frame_reference,
  Cert.Proj.frame_kernel, Cert.Proj.frame_ideal, fun m ρ _ => Cert.Proj.frame_ideal m ρ trivial, Cert.Proj.frame_reference,
  fun m ρ _ => Cert.Proj.frame_reference m ρ trivial,
  Cert.Merge.frame_kernel, Cert.Merge.frame_ideal, fun m ρ _ => Cert.Merge.frame_ideal m ρ trivial, Cert.Merge.frame_reference,
  fun m ρ _ => Cert.Merge.frame_reference m ρ trivial,
  trivial, Cert.Attn.equal, trivial, Cert.Ffn.equal, trivial, Cert.Proj.equal, trivial, Cert.Merge.equal⟩

end Cert.Proof

end
